-- ==== Defs.lean ====
def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1Ideal_finite1 [hPre_finite1 : Cert.Pre_finite1.Facts] (m : (ℓ : Loc Cert.Band1Ideal.nD Cert.Band1Ideal.τ Cert.Band1Ideal.sig) → Buf (Elt Ideal) ℓ) : Prop :=
  ∀ c : Dev Cert.Band1Ideal.nD,
    (Cert.Pre_finite1.fn (F := Ideal) (m ((c.tc : Thread Cert.Band1Ideal.nD Cert.Band1Ideal.τ).loc Cert.Band1Ideal.main_arg0))) = (fun _ => 1#1)

def Pre_Band1RefIdeal (m : (ℓ : Loc Cert.Band1RefIdeal.nD Cert.Band1RefIdeal.τ Cert.Band1RefIdeal.sig) → Buf (Elt Ideal) ℓ) : Prop :=
  True

def Pre_Band1RefIdeal_finite1 [hPre_finite1 : Cert.Pre_finite1.Facts] (m : (ℓ : Loc Cert.Band1RefIdeal.nD Cert.Band1RefIdeal.τ Cert.Band1RefIdeal.sig) → Buf (Elt Ideal) ℓ) : Prop :=
  ∀ c : Dev Cert.Band1RefIdeal.nD,
    (Cert.Pre_finite1.fn (F := Ideal) (m ((c.tc : Thread Cert.Band1RefIdeal.nD Cert.Band1RefIdeal.τ).loc Cert.Band1RefIdeal.main_arg0))) = (fun _ => 1#1)

def Pre_Band4 (m : (ℓ : Loc Cert.Band4.nD Cert.Band4.τ Cert.Band4.sig) → Buf (Elt Bits) ℓ) : Prop :=
  True

def Pre_Band4Ideal (m : (ℓ : Loc Cert.Band4Ideal.nD Cert.Band4Ideal.τ Cert.Band4Ideal.sig) → Buf (Elt Ideal) ℓ) : Prop :=
  True

def Pre_Band4Ideal_finite4 [hPre_finite4 : Cert.Pre_finite4.Facts] (m : (ℓ : Loc Cert.Band4Ideal.nD Cert.Band4Ideal.τ Cert.Band4Ideal.sig) → Buf (Elt Ideal) ℓ) : Prop :=
  ∀ c : Dev Cert.Band4Ideal.nD,
    (Cert.Pre_finite4.fn (F := Ideal) (m ((c.tc : Thread Cert.Band4Ideal.nD Cert.Band4Ideal.τ).loc Cert.Band4Ideal.main_arg0))) = (fun _ => 1#1)

def Pre_Band4RefIdeal (m : (ℓ : Loc Cert.Band4RefIdeal.nD Cert.Band4RefIdeal.τ Cert.Band4RefIdeal.sig) → Buf (Elt Ideal) ℓ) : Prop :=
  True

def Pre_Band4RefIdeal_finite4 [hPre_finite4 : Cert.Pre_finite4.Facts] (m : (ℓ : Loc Cert.Band4RefIdeal.nD Cert.Band4RefIdeal.τ Cert.Band4RefIdeal.sig) → Buf (Elt Ideal) ℓ) : Prop :=
  ∀ c : Dev Cert.Band4RefIdeal.nD,
    (Cert.Pre_finite4.fn (F := Ideal) (m ((c.tc : Thread Cert.Band4RefIdeal.nD Cert.Band4RefIdeal.τ).loc Cert.Band4RefIdeal.main_arg0))) = (fun _ => 1#1)

def Pre_Band16 (m : (ℓ : Loc Cert.Band16.nD Cert.Band16.τ Cert.Band16.sig) → Buf (Elt Bits) ℓ) : Prop :=
  True

def Pre_Band16Ideal (m : (ℓ : Loc Cert.Band16Ideal.nD Cert.Band16Ideal.τ Cert.Band16Ideal.sig) → Buf (Elt Ideal) ℓ) : Prop :=
  True

def Pre_Band16Ideal_finite16 [hPre_finite16 : Cert.Pre_finite16.Facts] (m : (ℓ : Loc Cert.Band16Ideal.nD Cert.Band16Ideal.τ Cert.Band16Ideal.sig) → Buf (Elt Ideal) ℓ) : Prop :=
  ∀ c : Dev Cert.Band16Ideal.nD,
    (Cert.Pre_finite16.fn (F := Ideal) (m ((c.tc : Thread Cert.Band16Ideal.nD Cert.Band16Ideal.τ).loc Cert.Band16Ideal.main_arg0))) = (fun _ => 1#1)

def Pre_Band16RefIdeal (m : (ℓ : Loc Cert.Band16RefIdeal.nD Cert.Band16RefIdeal.τ Cert.Band16RefIdeal.sig) → Buf (Elt Ideal) ℓ) : Prop :=
  True

def Pre_Band16RefIdeal_finite16 [hPre_finite16 : Cert.Pre_finite16.Facts] (m : (ℓ : Loc Cert.Band16RefIdeal.nD Cert.Band16RefIdeal.τ Cert.Band16RefIdeal.sig) → Buf (Elt Ideal) ℓ) : Prop :=
  ∀ c : Dev Cert.Band16RefIdeal.nD,
    (Cert.Pre_finite16.fn (F := Ideal) (m ((c.tc : Thread Cert.Band16RefIdeal.nD Cert.Band16RefIdeal.τ).loc Cert.Band16RefIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_Qkv4 (m : (ℓ : Loc Cert.Qkv4.nD Cert.Qkv4.τ Cert.Qkv4.sig) → Buf (Elt Bits) ℓ) : Prop :=
  True

def Pre_Qkv4Ideal (m : (ℓ : Loc Cert.Qkv4Ideal.nD Cert.Qkv4Ideal.τ Cert.Qkv4Ideal.sig) → Buf (Elt Ideal) ℓ) : Prop :=
  True

def Pre_Qkv4RefIdeal (m : (ℓ : Loc Cert.Qkv4RefIdeal.nD Cert.Qkv4RefIdeal.τ Cert.Qkv4RefIdeal.sig) → Buf (Elt Ideal) ℓ) : Prop :=
  True

def Pre_Qkv16 (m : (ℓ : Loc Cert.Qkv16.nD Cert.Qkv16.τ Cert.Qkv16.sig) → Buf (Elt Bits) ℓ) : Prop :=
  True

def Pre_Qkv16Ideal (m : (ℓ : Loc Cert.Qkv16Ideal.nD Cert.Qkv16Ideal.τ Cert.Qkv16Ideal.sig) → Buf (Elt Ideal) ℓ) : Prop :=
  True

def Pre_Qkv16RefIdeal (m : (ℓ : Loc Cert.Qkv16RefIdeal.nD Cert.Qkv16RefIdeal.τ Cert.Qkv16RefIdeal.sig) → Buf (Elt Ideal) ℓ) : Prop :=
  True

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ r.2.sem = fun _ => 0)

def quiescent_Band1Ideal_pre_finite1 [hBand1Ideal : Cert.Band1Ideal.Facts] [hPre_finite1 : Cert.Pre_finite1.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal_finite1 m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ r.2.sem = fun _ => 0)

def quiescent_Band1RefIdeal [hBand1RefIdeal : Cert.Band1RefIdeal.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0))
      ∧ r.2.sem = fun _ => 0)

def quiescent_Band1RefIdeal_pre_finite1 [hBand1RefIdeal : Cert.Band1RefIdeal.Facts] [hPre_finite1 : Cert.Pre_finite1.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal_finite1 m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0))
      ∧ r.2.sem = fun _ => 0)

def quiescent_Band4 [hBand4 : Cert.Band4.Facts] : Prop :=
  ∀ (m : (ℓ : Loc Cert.Band4.nD Cert.Band4.τ Cert.Band4.sig) → Buf (Elt Bits) ℓ) (g : Dev Cert.Band4.nD → PrngReg), Pre_Band4 m →
    θ_run (Cert.Band4.defs (F := Bits)) (onTc (τ := Cert.Band4.τ) (Cert.Band4.main (F := Bits))) ⟨m, fun _ => 0, g⟩ (fun r => (∀ c : Dev Cert.Band4.nD,
      r.2.mem ((c.tc : Thread Cert.Band4.nD Cert.Band4.τ).loc Cert.Band4.main_arg0) = m ((c.tc : Thread Cert.Band4.nD Cert.Band4.τ).loc Cert.Band4.main_arg0))
      ∧ r.2.sem = fun _ => 0)

def quiescent_Band4Ideal [hBand4Ideal : Cert.Band4Ideal.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ r.2.sem = fun _ => 0)

def quiescent_Band4Ideal_pre_finite4 [hBand4Ideal : Cert.Band4Ideal.Facts] [hPre_finite4 : Cert.Pre_finite4.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal_finite4 m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ r.2.sem = fun _ => 0)

def quiescent_Band4RefIdeal [hBand4RefIdeal : Cert.Band4RefIdeal.Facts] : Prop :=
  ∀ (m : (ℓ : Loc Cert.Band4RefIdeal.nD Cert.Band4RefIdeal.τ Cert.Band4RefIdeal.sig) → Buf (Elt Ideal) ℓ) (g : Dev Cert.Band4RefIdeal.nD → PrngReg), Pre_Band4RefIdeal m →
    θ_run (Cert.Band4RefIdeal.defs (F := Ideal)) (onTc (τ := Cert.Band4RefIdeal.τ) (Cert.Band4RefIdeal.main (F := Ideal))) ⟨m, fun _ => 0, g⟩ (fun r => (∀ c : Dev Cert.Band4RefIdeal.nD,
      r.2.mem ((c.tc : Thread Cert.Band4RefIdeal.nD Cert.Band4RefIdeal.τ).loc Cert.Band4RefIdeal.main_arg0) = m ((c.tc : Thread Cert.Band4RefIdeal.nD Cert.Band4RefIdeal.τ).loc Cert.Band4RefIdeal.main_arg0))
      ∧ r.2.sem = fun _ => 0)

def quiescent_Band4RefIdeal_pre_finite4 [hBand4RefIdeal : Cert.Band4RefIdeal.Facts] [hPre_finite4 : Cert.Pre_finite4.Facts] : Prop :=
  ∀ (m : (ℓ : Loc Cert.Band4RefIdeal.nD Cert.Band4RefIdeal.τ Cert.Band4RefIdeal.sig) → Buf (Elt Ideal) ℓ) (g : Dev Cert.Band4RefIdeal.nD → PrngReg), Pre_Band4RefIdeal_finite4 m →
    θ_run (Cert.Band4RefIdeal.defs (F := Ideal)) (onTc (τ := Cert.Band4RefIdeal.τ) (Cert.Band4RefIdeal.main (F := Ideal))) ⟨m, fun _ => 0, g⟩ (fun r => (∀ c : Dev Cert.Band4RefIdeal.nD,
      r.2.mem ((c.tc : Thread Cert.Band4RefIdeal.nD Cert.Band4RefIdeal.τ).loc Cert.Band4RefIdeal.main_arg0) = m ((c.tc : Thread Cert.Band4RefIdeal.nD Cert.Band4RefIdeal.τ).loc Cert.Band4RefIdeal.main_arg0))
      ∧ r.2.sem = fun _ => 0)

def quiescent_Band16 [hBand16 : Cert.Band16.Facts] : Prop :=
  ∀ (m : (ℓ : Loc Cert.Band16.nD Cert.Band16.τ Cert.Band16.sig) → Buf (Elt Bits) ℓ) (g : Dev Cert.Band16.nD → PrngReg), Pre_Band16 m →
    θ_run (Cert.Band16.defs (F := Bits)) (onTc (τ := Cert.Band16.τ) (Cert.Band16.main (F := Bits))) ⟨m, fun _ => 0, g⟩ (fun r => (∀ c : Dev Cert.Band16.nD,
      r.2.mem ((c.tc : Thread Cert.Band16.nD Cert.Band16.τ).loc Cert.Band16.main_arg0) = m ((c.tc : Thread Cert.Band16.nD Cert.Band16.τ).loc Cert.Band16.main_arg0))
      ∧ r.2.sem = fun _ => 0)

def quiescent_Band16Ideal [hBand16Ideal : Cert.Band16Ideal.Facts] : Prop :=
  ∀ (m : (ℓ : Loc Cert.Band16Ideal.nD Cert.Band16Ideal.τ Cert.Band16Ideal.sig) → Buf (Elt Ideal) ℓ) (g : Dev Cert.Band16Ideal.nD → PrngReg), Pre_Band16Ideal m →
    θ_run (Cert.Band16Ideal.defs (F := Ideal)) (onTc (τ := Cert.Band16Ideal.τ) (Cert.Band16Ideal.main (F := Ideal))) ⟨m, fun _ => 0, g⟩ (fun r => (∀ c : Dev Cert.Band16Ideal.nD,
      r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ r.2.sem = fun _ => 0)

def quiescent_Band16Ideal_pre_finite16 [hBand16Ideal : Cert.Band16Ideal.Facts] [hPre_finite16 : Cert.Pre_finite16.Facts] : Prop :=
  ∀ (m : (ℓ : Loc Cert.Band16Ideal.nD Cert.Band16Ideal.τ Cert.Band16Ideal.sig) → Buf (Elt Ideal) ℓ) (g : Dev Cert.Band16Ideal.nD → PrngReg), Pre_Band16Ideal_finite16 m →
    θ_run (Cert.Band16Ideal.defs (F := Ideal)) (onTc (τ := Cert.Band16Ideal.τ) (Cert.Band16Ideal.main (F := Ideal))) ⟨m, fun _ => 0, g⟩ (fun r => (∀ c : Dev Cert.Band16Ideal.nD,
      r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ r.2.sem = fun _ => 0)

def quiescent_Band16RefIdeal [hBand16RefIdeal : Cert.Band16RefIdeal.Facts] : Prop :=
  ∀ (m : (ℓ : Loc Cert.Band16RefIdeal.nD Cert.Band16RefIdeal.τ Cert.Band16RefIdeal.sig) → Buf (Elt Ideal) ℓ) (g : Dev Cert.Band16RefIdeal.nD → PrngReg), Pre_Band16RefIdeal m →
    θ_run (Cert.Band16RefIdeal.defs (F := Ideal)) (onTc (τ := Cert.Band16RefIdeal.τ) (Cert.Band16RefIdeal.main (F := Ideal))) ⟨m, fun _ => 0, g⟩ (fun r => (∀ c : Dev Cert.Band16RefIdeal.nD,
      r.2.mem ((c.tc : Thread Cert.Band16RefIdeal.nD Cert.Band16RefIdeal.τ).loc Cert.Band16RefIdeal.main_arg0) = m ((c.tc : Thread Cert.Band16RefIdeal.nD Cert.Band16RefIdeal.τ).loc Cert.Band16RefIdeal.main_arg0))
      ∧ r.2.sem = fun _ => 0)

def quiescent_Band16RefIdeal_pre_finite16 [hBand16RefIdeal : Cert.Band16RefIdeal.Facts] [hPre_finite16 : Cert.Pre_finite16.Facts] : Prop :=
  ∀ (m : (ℓ : Loc Cert.Band16RefIdeal.nD Cert.Band16RefIdeal.τ Cert.Band16RefIdeal.sig) → Buf (Elt Ideal) ℓ) (g : Dev Cert.Band16RefIdeal.nD → PrngReg), Pre_Band16RefIdeal_finite16 m →
    θ_run (Cert.Band16RefIdeal.defs (F := Ideal)) (onTc (τ := Cert.Band16RefIdeal.τ) (Cert.Band16RefIdeal.main (F := Ideal))) ⟨m, fun _ => 0, g⟩ (fun r => (∀ c : Dev Cert.Band16RefIdeal.nD,
      r.2.mem ((c.tc : Thread Cert.Band16RefIdeal.nD Cert.Band16RefIdeal.τ).loc Cert.Band16RefIdeal.main_arg0) = m ((c.tc : Thread Cert.Band16RefIdeal.nD Cert.Band16RefIdeal.τ).loc Cert.Band16RefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1)
      ∧ r.2.mem ((c.tc : Thread Cert.Qkv1RefIdeal.nD Cert.Qkv1RefIdeal.τ).loc Cert.Qkv1RefIdeal.main_arg2) = m ((c.tc : Thread Cert.Qkv1RefIdeal.nD Cert.Qkv1RefIdeal.τ).loc Cert.Qkv1RefIdeal.main_arg2))
      ∧ r.2.sem = fun _ => 0)

def quiescent_Qkv4 [hQkv4 : Cert.Qkv4.Facts] : Prop :=
  ∀ (m : (ℓ : Loc Cert.Qkv4.nD Cert.Qkv4.τ Cert.Qkv4.sig) → Buf (Elt Bits) ℓ) (g : Dev Cert.Qkv4.nD → PrngReg), Pre_Qkv4 m →
    θ_run (Cert.Qkv4.defs (F := Bits)) (onTc (τ := Cert.Qkv4.τ) (Cert.Qkv4.main (F := Bits))) ⟨m, fun _ => 0, g⟩ (fun r => (∀ c : Dev Cert.Qkv4.nD,
      r.2.mem ((c.tc : Thread Cert.Qkv4.nD Cert.Qkv4.τ).loc Cert.Qkv4.main_arg0) = m ((c.tc : Thread Cert.Qkv4.nD Cert.Qkv4.τ).loc Cert.Qkv4.main_arg0)
      ∧ r.2.mem ((c.tc : Thread Cert.Qkv4.nD Cert.Qkv4.τ).loc Cert.Qkv4.main_arg1) = m ((c.tc : Thread Cert.Qkv4.nD Cert.Qkv4.τ).loc Cert.Qkv4.main_arg1)
      ∧ r.2.mem ((c.tc : Thread Cert.Qkv4.nD Cert.Qkv4.τ).loc Cert.Qkv4.main_arg2) = m ((c.tc : Thread Cert.Qkv4.nD Cert.Qkv4.τ).loc Cert.Qkv4.main_arg2))
      ∧ r.2.sem = fun _ => 0)

def quiescent_Qkv4Ideal [hQkv4Ideal : Cert.Qkv4Ideal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg), Pre_Qkv4Ideal m →
    θ_run (Cert.Qkv4Ideal.defs (F := Ideal)) (onTc (τ := Cert.Qkv4Ideal.τ) (Cert.Qkv4Ideal.main (F := Ideal))) ⟨m, fun _ => 0, g⟩ (fun r => (∀ c : Dev Cert.Qkv4Ideal.nD,
      r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
      ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
      ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2))
      ∧ r.2.sem = fun _ => 0)

def quiescent_Qkv4RefIdeal [hQkv4RefIdeal : Cert.Qkv4RefIdeal.Facts] : Prop :=
  ∀ (m : (ℓ : Loc Cert.Qkv4RefIdeal.nD Cert.Qkv4RefIdeal.τ Cert.Qkv4RefIdeal.sig) → Buf (Elt Ideal) ℓ) (g : Dev Cert.Qkv4RefIdeal.nD → PrngReg), Pre_Qkv4RefIdeal m →
    θ_run (Cert.Qkv4RefIdeal.defs (F := Ideal)) (onTc (τ := Cert.Qkv4RefIdeal.τ) (Cert.Qkv4RefIdeal.main (F := Ideal))) ⟨m, fun _ => 0, g⟩ (fun r => (∀ c : Dev Cert.Qkv4RefIdeal.nD,
      r.2.mem ((c.tc : Thread Cert.Qkv4RefIdeal.nD Cert.Qkv4RefIdeal.τ).loc Cert.Qkv4RefIdeal.main_arg0) = m ((c.tc : Thread Cert.Qkv4RefIdeal.nD Cert.Qkv4RefIdeal.τ).loc Cert.Qkv4RefIdeal.main_arg0)
      ∧ r.2.mem ((c.tc : Thread Cert.Qkv4RefIdeal.nD Cert.Qkv4RefIdeal.τ).loc Cert.Qkv4RefIdeal.main_arg1) = m ((c.tc : Thread Cert.Qkv4RefIdeal.nD Cert.Qkv4RefIdeal.τ).loc Cert.Qkv4RefIdeal.main_arg1)
      ∧ r.2.mem ((c.tc : Thread Cert.Qkv4RefIdeal.nD Cert.Qkv4RefIdeal.τ).loc Cert.Qkv4RefIdeal.main_arg2) = m ((c.tc : Thread Cert.Qkv4RefIdeal.nD Cert.Qkv4RefIdeal.τ).loc Cert.Qkv4RefIdeal.main_arg2))
      ∧ r.2.sem = fun _ => 0)

def quiescent_Qkv16 [hQkv16 : Cert.Qkv16.Facts] : Prop :=
  ∀ (m : (ℓ : Loc Cert.Qkv16.nD Cert.Qkv16.τ Cert.Qkv16.sig) → Buf (Elt Bits) ℓ) (g : Dev Cert.Qkv16.nD → PrngReg), Pre_Qkv16 m →
    θ_run (Cert.Qkv16.defs (F := Bits)) (onTc (τ := Cert.Qkv16.τ) (Cert.Qkv16.main (F := Bits))) ⟨m, fun _ => 0, g⟩ (fun r => (∀ c : Dev Cert.Qkv16.nD,
      r.2.mem ((c.tc : Thread Cert.Qkv16.nD Cert.Qkv16.τ).loc Cert.Qkv16.main_arg0) = m ((c.tc : Thread Cert.Qkv16.nD Cert.Qkv16.τ).loc Cert.Qkv16.main_arg0)
      ∧ r.2.mem ((c.tc : Thread Cert.Qkv16.nD Cert.Qkv16.τ).loc Cert.Qkv16.main_arg1) = m ((c.tc : Thread Cert.Qkv16.nD Cert.Qkv16.τ).loc Cert.Qkv16.main_arg1)
      ∧ r.2.mem ((c.tc : Thread Cert.Qkv16.nD Cert.Qkv16.τ).loc Cert.Qkv16.main_arg2) = m ((c.tc : Thread Cert.Qkv16.nD Cert.Qkv16.τ).loc Cert.Qkv16.main_arg2))
      ∧ r.2.sem = fun _ => 0)

def quiescent_Qkv16Ideal [hQkv16Ideal : Cert.Qkv16Ideal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg), Pre_Qkv16Ideal m →
    θ_run (Cert.Qkv16Ideal.defs (F := Ideal)) (onTc (τ := Cert.Qkv16Ideal.τ) (Cert.Qkv16Ideal.main (F := Ideal))) ⟨m, fun _ => 0, g⟩ (fun r => (∀ c : Dev Cert.Qkv16Ideal.nD,
      r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
      ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
      ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2))
      ∧ r.2.sem = fun _ => 0)

def quiescent_Qkv16RefIdeal [hQkv16RefIdeal : Cert.Qkv16RefIdeal.Facts] : Prop :=
  ∀ (m : (ℓ : Loc Cert.Qkv16RefIdeal.nD Cert.Qkv16RefIdeal.τ Cert.Qkv16RefIdeal.sig) → Buf (Elt Ideal) ℓ) (g : Dev Cert.Qkv16RefIdeal.nD → PrngReg), Pre_Qkv16RefIdeal m →
    θ_run (Cert.Qkv16RefIdeal.defs (F := Ideal)) (onTc (τ := Cert.Qkv16RefIdeal.τ) (Cert.Qkv16RefIdeal.main (F := Ideal))) ⟨m, fun _ => 0, g⟩ (fun r => (∀ c : Dev Cert.Qkv16RefIdeal.nD,
      r.2.mem ((c.tc : Thread Cert.Qkv16RefIdeal.nD Cert.Qkv16RefIdeal.τ).loc Cert.Qkv16RefIdeal.main_arg0) = m ((c.tc : Thread Cert.Qkv16RefIdeal.nD Cert.Qkv16RefIdeal.τ).loc Cert.Qkv16RefIdeal.main_arg0)
      ∧ r.2.mem ((c.tc : Thread Cert.Qkv16RefIdeal.nD Cert.Qkv16RefIdeal.τ).loc Cert.Qkv16RefIdeal.main_arg1) = m ((c.tc : Thread Cert.Qkv16RefIdeal.nD Cert.Qkv16RefIdeal.τ).loc Cert.Qkv16RefIdeal.main_arg1)
      ∧ r.2.mem ((c.tc : Thread Cert.Qkv16RefIdeal.nD Cert.Qkv16RefIdeal.τ).loc Cert.Qkv16RefIdeal.main_arg2) = m ((c.tc : Thread Cert.Qkv16RefIdeal.nD Cert.Qkv16RefIdeal.τ).loc Cert.Qkv16RefIdeal.main_arg2))
      ∧ r.2.sem = fun _ => 0)

def preserves_Band1_Band1Ideal : Prop :=
  IdealRules.named_const.Statement Cert.Band1Ideal.κ "mask" .f32 0xF149F2CA#32 ⊥

def algebraic_Band1Ideal_Band1RefIdeal_pre_finite1 [hBand1Ideal : Cert.Band1Ideal.Facts] [hBand1RefIdeal : Cert.Band1RefIdeal.Facts] [hPre_finite1 : Cert.Pre_finite1.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.Band1RefIdeal.nD Cert.Band1RefIdeal.τ Cert.Band1RefIdeal.sig) → Buf (Elt Ideal) ℓ) (g' : Dev Cert.Band1RefIdeal.nD → PrngReg), Pre_Band1Ideal_finite1 m →
    (∀ c : Dev Cert.Band1Ideal.nD,
      m' ((c.tc : Thread Cert.Band1RefIdeal.nD Cert.Band1RefIdeal.τ).loc Cert.Band1RefIdeal.main_arg0) = m ((c.tc : Thread Cert.Band1Ideal.nD Cert.Band1Ideal.τ).loc Cert.Band1Ideal.main_arg0)) →
    ∃ (v0 : (c : Dev Cert.Band1Ideal.nD) → Buf (Elt Ideal) ((c.tc : Thread Cert.Band1Ideal.nD Cert.Band1Ideal.τ).loc Cert.Band1Ideal.main_v0_0)) (v1 : (c : Dev Cert.Band1Ideal.nD) → Buf (Elt Ideal) ((c.tc : Thread Cert.Band1Ideal.nD Cert.Band1Ideal.τ).loc Cert.Band1Ideal.main_v0_1)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v0_0) = v0 c
          ∧ r.2.mem ((c.tc : Thread Cert.Band1Ideal.nD Cert.Band1Ideal.τ).loc Cert.Band1Ideal.main_v0_1) = v1 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0))
      ∧ θ_run (Cert.Band1RefIdeal.defs (F := Ideal)) (onTc (τ := Cert.Band1RefIdeal.τ) (Cert.Band1RefIdeal.main (F := Ideal))) ⟨m', fun _ => 0, g'⟩ (fun r => ∀ c : Dev Cert.Band1RefIdeal.nD,
          r.2.mem ((c.tc : Thread Cert.Band1RefIdeal.nD Cert.Band1RefIdeal.τ).loc Cert.Band1RefIdeal.main_v71) = v0 c
          ∧ r.2.mem ((c.tc : Thread Cert.Band1RefIdeal.nD Cert.Band1RefIdeal.τ).loc Cert.Band1RefIdeal.main_v74) = v1 c
          ∧ r.2.mem ((c.tc : Thread Cert.Band1RefIdeal.nD Cert.Band1RefIdeal.τ).loc Cert.Band1RefIdeal.main_arg0) = m' ((c.tc : Thread Cert.Band1RefIdeal.nD Cert.Band1RefIdeal.τ).loc Cert.Band1RefIdeal.main_arg0))

def preserves_Band4_Band4Ideal : Prop :=
  IdealRules.named_const.Statement Cert.Band4Ideal.κ "mask" .f32 0xF149F2CA#32 ⊥

def algebraic_Band4Ideal_Band4RefIdeal_pre_finite4 [hBand4Ideal : Cert.Band4Ideal.Facts] [hBand4RefIdeal : Cert.Band4RefIdeal.Facts] [hPre_finite4 : Cert.Pre_finite4.Facts] : Prop :=
  ∀ (m : (ℓ : Loc Cert.Band4Ideal.nD Cert.Band4Ideal.τ Cert.Band4Ideal.sig) → Buf (Elt Ideal) ℓ) (g : Dev Cert.Band4Ideal.nD → PrngReg)
    (m' : (ℓ : Loc Cert.Band4RefIdeal.nD Cert.Band4RefIdeal.τ Cert.Band4RefIdeal.sig) → Buf (Elt Ideal) ℓ) (g' : Dev Cert.Band4RefIdeal.nD → PrngReg), Pre_Band4Ideal_finite4 m →
    (∀ c : Dev Cert.Band4Ideal.nD,
      m' ((c.tc : Thread Cert.Band4RefIdeal.nD Cert.Band4RefIdeal.τ).loc Cert.Band4RefIdeal.main_arg0) = m ((c.tc : Thread Cert.Band4Ideal.nD Cert.Band4Ideal.τ).loc Cert.Band4Ideal.main_arg0)) →
    ∃ (v0 : (c : Dev Cert.Band4Ideal.nD) → Buf (Elt Ideal) ((c.tc : Thread Cert.Band4Ideal.nD Cert.Band4Ideal.τ).loc Cert.Band4Ideal.main_v0_0)) (v1 : (c : Dev Cert.Band4Ideal.nD) → Buf (Elt Ideal) ((c.tc : Thread Cert.Band4Ideal.nD Cert.Band4Ideal.τ).loc Cert.Band4Ideal.main_v0_1)),
      θ_run (Cert.Band4Ideal.defs (F := Ideal)) (onTc (τ := Cert.Band4Ideal.τ) (Cert.Band4Ideal.main (F := Ideal))) ⟨m, fun _ => 0, g⟩ (fun r => ∀ c : Dev Cert.Band4Ideal.nD,
          r.2.mem ((c.tc : Thread Cert.Band4Ideal.nD Cert.Band4Ideal.τ).loc Cert.Band4Ideal.main_v0_0) = v0 c
          ∧ r.2.mem ((c.tc : Thread Cert.Band4Ideal.nD Cert.Band4Ideal.τ).loc Cert.Band4Ideal.main_v0_1) = v1 c
          ∧ r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0))
      ∧ θ_run (Cert.Band4RefIdeal.defs (F := Ideal)) (onTc (τ := Cert.Band4RefIdeal.τ) (Cert.Band4RefIdeal.main (F := Ideal))) ⟨m', fun _ => 0, g'⟩ (fun r => ∀ c : Dev Cert.Band4RefIdeal.nD,
          r.2.mem ((c.tc : Thread Cert.Band4RefIdeal.nD Cert.Band4RefIdeal.τ).loc Cert.Band4RefIdeal.main_v71) = v0 c
          ∧ r.2.mem ((c.tc : Thread Cert.Band4RefIdeal.nD Cert.Band4RefIdeal.τ).loc Cert.Band4RefIdeal.main_v74) = v1 c
          ∧ r.2.mem ((c.tc : Thread Cert.Band4RefIdeal.nD Cert.Band4RefIdeal.τ).loc Cert.Band4RefIdeal.main_arg0) = m' ((c.tc : Thread Cert.Band4RefIdeal.nD Cert.Band4RefIdeal.τ).loc Cert.Band4RefIdeal.main_arg0))

def preserves_Band16_Band16Ideal : Prop :=
  IdealRules.named_const.Statement Cert.Band16Ideal.κ "mask" .f32 0xF149F2CA#32 ⊥

def algebraic_Band16Ideal_Band16RefIdeal_pre_finite16 [hBand16Ideal : Cert.Band16Ideal.Facts] [hBand16RefIdeal : Cert.Band16RefIdeal.Facts] [hPre_finite16 : Cert.Pre_finite16.Facts] : Prop :=
  ∀ (m : (ℓ : Loc Cert.Band16Ideal.nD Cert.Band16Ideal.τ Cert.Band16Ideal.sig) → Buf (Elt Ideal) ℓ) (g : Dev Cert.Band16Ideal.nD → PrngReg)
    (m' : (ℓ : Loc Cert.Band16RefIdeal.nD Cert.Band16RefIdeal.τ Cert.Band16RefIdeal.sig) → Buf (Elt Ideal) ℓ) (g' : Dev Cert.Band16RefIdeal.nD → PrngReg), Pre_Band16Ideal_finite16 m →
    (∀ c : Dev Cert.Band16Ideal.nD,
      m' ((c.tc : Thread Cert.Band16RefIdeal.nD Cert.Band16RefIdeal.τ).loc Cert.Band16RefIdeal.main_arg0) = m ((c.tc : Thread Cert.Band16Ideal.nD Cert.Band16Ideal.τ).loc Cert.Band16Ideal.main_arg0)) →
    ∃ (v0 : (c : Dev Cert.Band16Ideal.nD) → Buf (Elt Ideal) ((c.tc : Thread Cert.Band16Ideal.nD Cert.Band16Ideal.τ).loc Cert.Band16Ideal.main_v0_0)) (v1 : (c : Dev Cert.Band16Ideal.nD) → Buf (Elt Ideal) ((c.tc : Thread Cert.Band16Ideal.nD Cert.Band16Ideal.τ).loc Cert.Band16Ideal.main_v0_1)),
      θ_run (Cert.Band16Ideal.defs (F := Ideal)) (onTc (τ := Cert.Band16Ideal.τ) (Cert.Band16Ideal.main (F := Ideal))) ⟨m, fun _ => 0, g⟩ (fun r => ∀ c : Dev Cert.Band16Ideal.nD,
          r.2.mem ((c.tc : Thread Cert.Band16Ideal.nD Cert.Band16Ideal.τ).loc Cert.Band16Ideal.main_v0_0) = v0 c
          ∧ r.2.mem ((c.tc : Thread Cert.Band16Ideal.nD Cert.Band16Ideal.τ).loc Cert.Band16Ideal.main_v0_1) = v1 c
          ∧ r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0))
      ∧ θ_run (Cert.Band16RefIdeal.defs (F := Ideal)) (onTc (τ := Cert.Band16RefIdeal.τ) (Cert.Band16RefIdeal.main (F := Ideal))) ⟨m', fun _ => 0, g'⟩ (fun r => ∀ c : Dev Cert.Band16RefIdeal.nD,
          r.2.mem ((c.tc : Thread Cert.Band16RefIdeal.nD Cert.Band16RefIdeal.τ).loc Cert.Band16RefIdeal.main_v71) = v0 c
          ∧ r.2.mem ((c.tc : Thread Cert.Band16RefIdeal.nD Cert.Band16RefIdeal.τ).loc Cert.Band16RefIdeal.main_v74) = v1 c
          ∧ r.2.mem ((c.tc : Thread Cert.Band16RefIdeal.nD Cert.Band16RefIdeal.τ).loc Cert.Band16RefIdeal.main_arg0) = m' ((c.tc : Thread Cert.Band16RefIdeal.nD Cert.Band16RefIdeal.τ).loc Cert.Band16RefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v4)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v4) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v34) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)
      ∧ m' ((c.tc : Thread Cert.Qkv1RefIdeal.nD Cert.Qkv1RefIdeal.τ).loc Cert.Qkv1RefIdeal.main_arg2) = m ((c.tc : Thread Cert.Qkv1Ideal.nD Cert.Qkv1Ideal.τ).loc Cert.Qkv1Ideal.main_arg2)) →
    ∃ (v0 : (c : Dev Cert.Qkv1Ideal.nD) → Buf (Elt Ideal) ((c.tc : Thread Cert.Qkv1Ideal.nD Cert.Qkv1Ideal.τ).loc Cert.Qkv1Ideal.main_v29)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v29) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v96) = v0 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1)
          ∧ r.2.mem ((c.tc : Thread Cert.Qkv1RefIdeal.nD Cert.Qkv1RefIdeal.τ).loc Cert.Qkv1RefIdeal.main_arg2) = m' ((c.tc : Thread Cert.Qkv1RefIdeal.nD Cert.Qkv1RefIdeal.τ).loc Cert.Qkv1RefIdeal.main_arg2))

def preserves_Qkv4_Qkv4Ideal : Prop :=
  True

def algebraic_Qkv4Ideal_Qkv4RefIdeal [hQkv4Ideal : Cert.Qkv4Ideal.Facts] [hQkv4RefIdeal : Cert.Qkv4RefIdeal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg)
    (m' : (ℓ : Loc Cert.Qkv4RefIdeal.nD Cert.Qkv4RefIdeal.τ Cert.Qkv4RefIdeal.sig) → Buf (Elt Ideal) ℓ) (g' : Dev Cert.Qkv4RefIdeal.nD → PrngReg), Pre_Qkv4Ideal m →
    (∀ c : Dev Cert.Qkv4Ideal.nD,
      m' ((c.tc : Thread Cert.Qkv4RefIdeal.nD Cert.Qkv4RefIdeal.τ).loc Cert.Qkv4RefIdeal.main_arg0) = m ((c.tc : Thread Cert.Qkv4Ideal.nD Cert.Qkv4Ideal.τ).loc Cert.Qkv4Ideal.main_arg0)
      ∧ m' ((c.tc : Thread Cert.Qkv4RefIdeal.nD Cert.Qkv4RefIdeal.τ).loc Cert.Qkv4RefIdeal.main_arg1) = m ((c.tc : Thread Cert.Qkv4Ideal.nD Cert.Qkv4Ideal.τ).loc Cert.Qkv4Ideal.main_arg1)
      ∧ m' ((c.tc : Thread Cert.Qkv4RefIdeal.nD Cert.Qkv4RefIdeal.τ).loc Cert.Qkv4RefIdeal.main_arg2) = m ((c.tc : Thread Cert.Qkv4Ideal.nD Cert.Qkv4Ideal.τ).loc Cert.Qkv4Ideal.main_arg2)) →
    ∃ (v0 : (c : Dev Cert.Qkv4Ideal.nD) → Buf (Elt Ideal) ((c.tc : Thread Cert.Qkv4Ideal.nD Cert.Qkv4Ideal.τ).loc Cert.Qkv4Ideal.main_v29)),
      θ_run (Cert.Qkv4Ideal.defs (F := Ideal)) (onTc (τ := Cert.Qkv4Ideal.τ) (Cert.Qkv4Ideal.main (F := Ideal))) ⟨m, fun _ => 0, g⟩ (fun r => ∀ c : Dev Cert.Qkv4Ideal.nD,
          r.2.mem ((c.tc : Thread Cert.Qkv4Ideal.nD Cert.Qkv4Ideal.τ).loc Cert.Qkv4Ideal.main_v29) = v0 c
          ∧ r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
          ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
          ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2))
      ∧ θ_run (Cert.Qkv4RefIdeal.defs (F := Ideal)) (onTc (τ := Cert.Qkv4RefIdeal.τ) (Cert.Qkv4RefIdeal.main (F := Ideal))) ⟨m', fun _ => 0, g'⟩ (fun r => ∀ c : Dev Cert.Qkv4RefIdeal.nD,
          r.2.mem ((c.tc : Thread Cert.Qkv4RefIdeal.nD Cert.Qkv4RefIdeal.τ).loc Cert.Qkv4RefIdeal.main_v96) = v0 c
          ∧ r.2.mem ((c.tc : Thread Cert.Qkv4RefIdeal.nD Cert.Qkv4RefIdeal.τ).loc Cert.Qkv4RefIdeal.main_arg0) = m' ((c.tc : Thread Cert.Qkv4RefIdeal.nD Cert.Qkv4RefIdeal.τ).loc Cert.Qkv4RefIdeal.main_arg0)
          ∧ r.2.mem ((c.tc : Thread Cert.Qkv4RefIdeal.nD Cert.Qkv4RefIdeal.τ).loc Cert.Qkv4RefIdeal.main_arg1) = m' ((c.tc : Thread Cert.Qkv4RefIdeal.nD Cert.Qkv4RefIdeal.τ).loc Cert.Qkv4RefIdeal.main_arg1)
          ∧ r.2.mem ((c.tc : Thread Cert.Qkv4RefIdeal.nD Cert.Qkv4RefIdeal.τ).loc Cert.Qkv4RefIdeal.main_arg2) = m' ((c.tc : Thread Cert.Qkv4RefIdeal.nD Cert.Qkv4RefIdeal.τ).loc Cert.Qkv4RefIdeal.main_arg2))

def preserves_Qkv16_Qkv16Ideal : Prop :=
  True

def algebraic_Qkv16Ideal_Qkv16RefIdeal [hQkv16Ideal : Cert.Qkv16Ideal.Facts] [hQkv16RefIdeal : Cert.Qkv16RefIdeal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg)
    (m' : (ℓ : Loc Cert.Qkv16RefIdeal.nD Cert.Qkv16RefIdeal.τ Cert.Qkv16RefIdeal.sig) → Buf (Elt Ideal) ℓ) (g' : Dev Cert.Qkv16RefIdeal.nD → PrngReg), Pre_Qkv16Ideal m →
    (∀ c : Dev Cert.Qkv16Ideal.nD,
      m' ((c.tc : Thread Cert.Qkv16RefIdeal.nD Cert.Qkv16RefIdeal.τ).loc Cert.Qkv16RefIdeal.main_arg0) = m ((c.tc : Thread Cert.Qkv16Ideal.nD Cert.Qkv16Ideal.τ).loc Cert.Qkv16Ideal.main_arg0)
      ∧ m' ((c.tc : Thread Cert.Qkv16RefIdeal.nD Cert.Qkv16RefIdeal.τ).loc Cert.Qkv16RefIdeal.main_arg1) = m ((c.tc : Thread Cert.Qkv16Ideal.nD Cert.Qkv16Ideal.τ).loc Cert.Qkv16Ideal.main_arg1)
      ∧ m' ((c.tc : Thread Cert.Qkv16RefIdeal.nD Cert.Qkv16RefIdeal.τ).loc Cert.Qkv16RefIdeal.main_arg2) = m ((c.tc : Thread Cert.Qkv16Ideal.nD Cert.Qkv16Ideal.τ).loc Cert.Qkv16Ideal.main_arg2)) →
    ∃ (v0 : (c : Dev Cert.Qkv16Ideal.nD) → Buf (Elt Ideal) ((c.tc : Thread Cert.Qkv16Ideal.nD Cert.Qkv16Ideal.τ).loc Cert.Qkv16Ideal.main_v29)),
      θ_run (Cert.Qkv16Ideal.defs (F := Ideal)) (onTc (τ := Cert.Qkv16Ideal.τ) (Cert.Qkv16Ideal.main (F := Ideal))) ⟨m, fun _ => 0, g⟩ (fun r => ∀ c : Dev Cert.Qkv16Ideal.nD,
          r.2.mem ((c.tc : Thread Cert.Qkv16Ideal.nD Cert.Qkv16Ideal.τ).loc Cert.Qkv16Ideal.main_v29) = v0 c
          ∧ r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
          ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
          ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2))
      ∧ θ_run (Cert.Qkv16RefIdeal.defs (F := Ideal)) (onTc (τ := Cert.Qkv16RefIdeal.τ) (Cert.Qkv16RefIdeal.main (F := Ideal))) ⟨m', fun _ => 0, g'⟩ (fun r => ∀ c : Dev Cert.Qkv16RefIdeal.nD,
          r.2.mem ((c.tc : Thread Cert.Qkv16RefIdeal.nD Cert.Qkv16RefIdeal.τ).loc Cert.Qkv16RefIdeal.main_v96) = v0 c
          ∧ r.2.mem ((c.tc : Thread Cert.Qkv16RefIdeal.nD Cert.Qkv16RefIdeal.τ).loc Cert.Qkv16RefIdeal.main_arg0) = m' ((c.tc : Thread Cert.Qkv16RefIdeal.nD Cert.Qkv16RefIdeal.τ).loc Cert.Qkv16RefIdeal.main_arg0)
          ∧ r.2.mem ((c.tc : Thread Cert.Qkv16RefIdeal.nD Cert.Qkv16RefIdeal.τ).loc Cert.Qkv16RefIdeal.main_arg1) = m' ((c.tc : Thread Cert.Qkv16RefIdeal.nD Cert.Qkv16RefIdeal.τ).loc Cert.Qkv16RefIdeal.main_arg1)
          ∧ r.2.mem ((c.tc : Thread Cert.Qkv16RefIdeal.nD Cert.Qkv16RefIdeal.τ).loc Cert.Qkv16RefIdeal.main_arg2) = m' ((c.tc : Thread Cert.Qkv16RefIdeal.nD Cert.Qkv16RefIdeal.τ).loc Cert.Qkv16RefIdeal.main_arg2))

def Claim : Prop :=
  ∃ (hBand1 : Cert.Band1.Facts) (hBand1Ideal : Cert.Band1Ideal.Facts) (hBand1RefIdeal : Cert.Band1RefIdeal.Facts) (hBand4 : Cert.Band4.Facts) (hBand4Ideal : Cert.Band4Ideal.Facts) (hBand4RefIdeal : Cert.Band4RefIdeal.Facts) (hBand16 : Cert.Band16.Facts) (hBand16Ideal : Cert.Band16Ideal.Facts) (hBand16RefIdeal : Cert.Band16RefIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hQkv1 : Cert.Qkv1.Facts) (hQkv1Ideal : Cert.Qkv1Ideal.Facts) (hQkv1RefIdeal : Cert.Qkv1RefIdeal.Facts) (hQkv4 : Cert.Qkv4.Facts) (hQkv4Ideal : Cert.Qkv4Ideal.Facts) (hQkv4RefIdeal : Cert.Qkv4RefIdeal.Facts) (hQkv16 : Cert.Qkv16.Facts) (hQkv16Ideal : Cert.Qkv16Ideal.Facts) (hQkv16RefIdeal : Cert.Qkv16RefIdeal.Facts) (hPre_finite1 : Cert.Pre_finite1.Facts) (hPre_finite4 : Cert.Pre_finite4.Facts) (hPre_finite16 : Cert.Pre_finite16.Facts),
    quiescent_Band1 (hBand1 := hBand1)
    ∧ quiescent_Band1Ideal (hBand1Ideal := hBand1Ideal)
    ∧ quiescent_Band1Ideal_pre_finite1 (hBand1Ideal := hBand1Ideal) (hPre_finite1 := hPre_finite1)
    ∧ quiescent_Band1RefIdeal (hBand1RefIdeal := hBand1RefIdeal)
    ∧ quiescent_Band1RefIdeal_pre_finite1 (hBand1RefIdeal := hBand1RefIdeal) (hPre_finite1 := hPre_finite1)
    ∧ quiescent_Band4 (hBand4 := hBand4)
    ∧ quiescent_Band4Ideal (hBand4Ideal := hBand4Ideal)
    ∧ quiescent_Band4Ideal_pre_finite4 (hBand4Ideal := hBand4Ideal) (hPre_finite4 := hPre_finite4)
    ∧ quiescent_Band4RefIdeal (hBand4RefIdeal := hBand4RefIdeal)
    ∧ quiescent_Band4RefIdeal_pre_finite4 (hBand4RefIdeal := hBand4RefIdeal) (hPre_finite4 := hPre_finite4)
    ∧ quiescent_Band16 (hBand16 := hBand16)
    ∧ quiescent_Band16Ideal (hBand16Ideal := hBand16Ideal)
    ∧ quiescent_Band16Ideal_pre_finite16 (hBand16Ideal := hBand16Ideal) (hPre_finite16 := hPre_finite16)
    ∧ quiescent_Band16RefIdeal (hBand16RefIdeal := hBand16RefIdeal)
    ∧ quiescent_Band16RefIdeal_pre_finite16 (hBand16RefIdeal := hBand16RefIdeal) (hPre_finite16 := hPre_finite16)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_Qkv4 (hQkv4 := hQkv4)
    ∧ quiescent_Qkv4Ideal (hQkv4Ideal := hQkv4Ideal)
    ∧ quiescent_Qkv4RefIdeal (hQkv4RefIdeal := hQkv4RefIdeal)
    ∧ quiescent_Qkv16 (hQkv16 := hQkv16)
    ∧ quiescent_Qkv16Ideal (hQkv16Ideal := hQkv16Ideal)
    ∧ quiescent_Qkv16RefIdeal (hQkv16RefIdeal := hQkv16RefIdeal)
    ∧ preserves_Band1_Band1Ideal
    ∧ algebraic_Band1Ideal_Band1RefIdeal_pre_finite1 (hBand1Ideal := hBand1Ideal) (hBand1RefIdeal := hBand1RefIdeal) (hPre_finite1 := hPre_finite1)
    ∧ preserves_Band4_Band4Ideal
    ∧ algebraic_Band4Ideal_Band4RefIdeal_pre_finite4 (hBand4Ideal := hBand4Ideal) (hBand4RefIdeal := hBand4RefIdeal) (hPre_finite4 := hPre_finite4)
    ∧ preserves_Band16_Band16Ideal
    ∧ algebraic_Band16Ideal_Band16RefIdeal_pre_finite16 (hBand16Ideal := hBand16Ideal) (hBand16RefIdeal := hBand16RefIdeal) (hPre_finite16 := hPre_finite16)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Qkv1_Qkv1Ideal
    ∧ algebraic_Qkv1Ideal_Qkv1RefIdeal (hQkv1Ideal := hQkv1Ideal) (hQkv1RefIdeal := hQkv1RefIdeal)
    ∧ preserves_Qkv4_Qkv4Ideal
    ∧ algebraic_Qkv4Ideal_Qkv4RefIdeal (hQkv4Ideal := hQkv4Ideal) (hQkv4RefIdeal := hQkv4RefIdeal)
    ∧ preserves_Qkv16_Qkv16Ideal
    ∧ algebraic_Qkv16Ideal_Qkv16RefIdeal (hQkv16Ideal := hQkv16Ideal) (hQkv16RefIdeal := hQkv16RefIdeal)
-- ==== Pre_finite1.lean ====
abbrev S2x1x8192x3072 : Shape := ⟨4, ![2, 1, 8192, 3072]⟩
abbrev S2x1x8192x2048 : Shape := ⟨4, ![2, 1, 8192, 2048]⟩
abbrev S_ : Shape := ⟨0, ![]⟩

class Facts : Prop where
  slices_S2x1x8192x3072_S2x1x8192x2048_0_0_0_0 : S2x1x8192x3072.Slices ![0, 0, 0, 0] S2x1x8192x2048
  bcast_S_S2x1x8192x2048 : S_.BroadcastsInDim S2x1x8192x2048 (![] : Fin 0 → Fin S2x1x8192x2048.rank)
  reducesTo_S2x1x8192x2048_S_d0_1_2_3 : S2x1x8192x2048.ReducesTo [0, 1, 2, 3] S_
  h_S_ : 0 < S_.numel

variable [Facts]

def fn {F : FTy → Type} [FloatOps F] (main_arg0 : FVec F S2x1x8192x3072 .f32) : IVec S_ 1 :=
  let main_v0 : FVec F S2x1x8192x2048 .f32 := (extractStridedSlice S2x1x8192x2048 ![0, 0, 0, 0] · slices_S2x1x8192x3072_S2x1x8192x2048_0_0_0_0) main_arg0
  let main_v1 : FVec F S2x1x8192x2048 .f32 := Host.absf main_v0
  let main_cst : FVec F S_ .f32 := constant S_ .f32 0x7F800000#32
  let main_v2 : FVec F S2x1x8192x2048 .f32 := broadcastInDim S2x1x8192x2048 ![] bcast_S_S2x1x8192x2048 main_cst
  let main_v3 : IVec S2x1x8192x2048 1 := cmpf .olt main_v1 main_v2
  let main_c : IVec S_ 1 := constantI S_ 1 1#1
  let main_v4 : IVec S_ 1 := (fun x v => Host.reduce IntOp.andi x v reducesTo_S2x1x8192x2048_S_d0_1_2_3 h_S_) main_v3 main_c
  main_v4
-- ==== Pre_finite16.lean ====
abbrev S2x16x512x3072 : Shape := ⟨4, ![2, 16, 512, 3072]⟩
abbrev S2x16x512x2048 : Shape := ⟨4, ![2, 16, 512, 2048]⟩
abbrev S_ : Shape := ⟨0, ![]⟩

class Facts : Prop where
  slices_S2x16x512x3072_S2x16x512x2048_0_0_0_0 : S2x16x512x3072.Slices ![0, 0, 0, 0] S2x16x512x2048
  bcast_S_S2x16x512x2048 : S_.BroadcastsInDim S2x16x512x2048 (![] : Fin 0 → Fin S2x16x512x2048.rank)
  reducesTo_S2x16x512x2048_S_d0_1_2_3 : S2x16x512x2048.ReducesTo [0, 1, 2, 3] S_
  h_S_ : 0 < S_.numel

variable [Facts]

def fn {F : FTy → Type} [FloatOps F] (main_arg0 : FVec F S2x16x512x3072 .f32) : IVec S_ 1 :=
  let main_v0 : FVec F S2x16x512x2048 .f32 := (extractStridedSlice S2x16x512x2048 ![0, 0, 0, 0] · slices_S2x16x512x3072_S2x16x512x2048_0_0_0_0) main_arg0
  let main_v1 : FVec F S2x16x512x2048 .f32 := Host.absf main_v0
  let main_cst : FVec F S_ .f32 := constant S_ .f32 0x7F800000#32
  let main_v2 : FVec F S2x16x512x2048 .f32 := broadcastInDim S2x16x512x2048 ![] bcast_S_S2x16x512x2048 main_cst
  let main_v3 : IVec S2x16x512x2048 1 := cmpf .olt main_v1 main_v2
  let main_c : IVec S_ 1 := constantI S_ 1 1#1
  let main_v4 : IVec S_ 1 := (fun x v => Host.reduce IntOp.andi x v reducesTo_S2x16x512x2048_S_d0_1_2_3 h_S_) main_v3 main_c
  main_v4
-- ==== Pre_finite4.lean ====
abbrev S2x4x2048x3072 : Shape := ⟨4, ![2, 4, 2048, 3072]⟩
abbrev S2x4x2048x2048 : Shape := ⟨4, ![2, 4, 2048, 2048]⟩
abbrev S_ : Shape := ⟨0, ![]⟩

class Facts : Prop where
  slices_S2x4x2048x3072_S2x4x2048x2048_0_0_0_0 : S2x4x2048x3072.Slices ![0, 0, 0, 0] S2x4x2048x2048
  bcast_S_S2x4x2048x2048 : S_.BroadcastsInDim S2x4x2048x2048 (![] : Fin 0 → Fin S2x4x2048x2048.rank)
  reducesTo_S2x4x2048x2048_S_d0_1_2_3 : S2x4x2048x2048.ReducesTo [0, 1, 2, 3] S_
  h_S_ : 0 < S_.numel

variable [Facts]

def fn {F : FTy → Type} [FloatOps F] (main_arg0 : FVec F S2x4x2048x3072 .f32) : IVec S_ 1 :=
  let main_v0 : FVec F S2x4x2048x2048 .f32 := (extractStridedSlice S2x4x2048x2048 ![0, 0, 0, 0] · slices_S2x4x2048x3072_S2x4x2048x2048_0_0_0_0) main_arg0
  let main_v1 : FVec F S2x4x2048x2048 .f32 := Host.absf main_v0
  let main_cst : FVec F S_ .f32 := constant S_ .f32 0x7F800000#32
  let main_v2 : FVec F S2x4x2048x2048 .f32 := broadcastInDim S2x4x2048x2048 ![] bcast_S_S2x4x2048x2048 main_cst
  let main_v3 : IVec S2x4x2048x2048 1 := cmpf .olt main_v1 main_v2
  let main_c : IVec S_ 1 := constantI S_ 1 1#1
  let main_v4 : IVec S_ 1 := (fun x v => Host.reduce IntOp.andi x v reducesTo_S2x4x2048x2048_S_d0_1_2_3 h_S_) main_v3 main_c
  main_v4
-- ==== Band1.lean ====
abbrev S2x1x8192x3072 : Shape := ⟨4, ![2, 1, 8192, 3072]⟩
abbrev S2x1x8192x1024 : Shape := ⟨4, ![2, 1, 8192, 1024]⟩
abbrev S2x1x8192x128 : Shape := ⟨4, ![2, 1, 8192, 128]⟩
abbrev S1x1x128x1024 : Shape := ⟨4, ![1, 1, 128, 1024]⟩
abbrev S1x1x128x128 : Shape := ⟨4, ![1, 1, 128, 128]⟩
abbrev S256x1024 : Shape := ⟨2, ![256, 1024]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 12
  | .smem => 0
  | _ => 0

abbrev bufTy : (tb : Table) → Fin (tcTables nBuf tb) → BufTy
  | .hbm, ⟨0, _⟩ => ⟨S2x1x8192x3072, .f32⟩
  | .hbm, ⟨1, _⟩ => ⟨S2x1x8192x1024, .f32⟩
  | .hbm, ⟨2, _⟩ => ⟨S2x1x8192x128, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x128, .f32⟩
  | .local _ .vmem, ⟨9, _⟩ => ⟨S1x1x128x128, .f32⟩
  | .local _ .vmem, ⟨10, _⟩ => ⟨S256x1024, .bf16⟩
  | .local _ .vmem, ⟨11, _⟩ => ⟨S256x1024, .bf16⟩
  | _, _ => ⟨S2x1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band1Ideal.lean ====
variable {F : FTy → Type} [FloatOps F] [Named F]
def κ : String → Option EReal := fun
  | "mask" => some ⊥
  | _ => none
-- ==== Band1RefIdeal.lean ====
abbrev S2x1x8192x3072 : Shape := ⟨4, ![2, 1, 8192, 3072]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S2x64x128x16x64 : Shape := ⟨5, ![2, 64, 128, 16, 64]⟩
abbrev S2x63x128x16x64 : Shape := ⟨5, ![2, 63, 128, 16, 64]⟩
abbrev S_ : Shape := ⟨0, ![]⟩
abbrev S2x64x256x16x64 : Shape := ⟨5, ![2, 64, 256, 16, 64]⟩
abbrev S2x64x16x128x256 : Shape := ⟨5, ![2, 64, 16, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x128x256 : Shape := ⟨5, ![1, 64, 1, 128, 256]⟩
abbrev S2x64x16x128 : Shape := ⟨4, ![2, 64, 16, 128]⟩
abbrev S2x64x16x128x1 : Shape := ⟨5, ![2, 64, 16, 128, 1]⟩
abbrev S2x64x16x64x128 : Shape := ⟨5, ![2, 64, 16, 64, 128]⟩
abbrev S2x64x128x16 : Shape := ⟨4, ![2, 64, 128, 16]⟩
abbrev S2x8192x16 : Shape := ⟨3, ![2, 8192, 16]⟩
abbrev S2x1x8192x1024 : Shape := ⟨4, ![2, 1, 8192, 1024]⟩
abbrev S2x8192x16x8 : Shape := ⟨4, ![2, 8192, 16, 8]⟩
abbrev S2x8192x128 : Shape := ⟨3, ![2, 8192, 128]⟩
abbrev S2x1x8192x128 : Shape := ⟨4, ![2, 1, 8192, 128]⟩

abbrev nBuf : Space → Nat
  | .hbm => 93
  | .vmem => 0
  | .smem => 0
  | _ => 0

abbrev bufTy : (tb : Table) → Fin (tcTables nBuf tb) → BufTy
  | .hbm, ⟨0, _⟩ => ⟨S2x1x8192x3072, .f32⟩
  | .hbm, ⟨1, _⟩ => ⟨S2x8192x3x16x64, .f32⟩
  | .hbm, ⟨2, _⟩ => ⟨S2x8192x1x16x64, .f32⟩
  | .hbm, ⟨3, _⟩ => ⟨S2x8192x16x64, .f32⟩
  | .hbm, ⟨4, _⟩ => ⟨S2x8192x1x16x64, .f32⟩
  | .hbm, ⟨5, _⟩ => ⟨S2x8192x16x64, .f32⟩
  | .hbm, ⟨6, _⟩ => ⟨S2x8192x1x16x64, .f32⟩
  | .hbm, ⟨7, _⟩ => ⟨S2x8192x16x64, .f32⟩
  | .hbm, ⟨8, _⟩ => ⟨S2x64x128x16x64, .f32⟩
  | .hbm, ⟨9, _⟩ => ⟨S2x64x128x16x64, .f32⟩
  | .hbm, ⟨10, _⟩ => ⟨S2x64x128x16x64, .f32⟩
  | .hbm, ⟨11, _⟩ => ⟨S2x63x128x16x64, .f32⟩
  | .hbm, ⟨12, _⟩ => ⟨S_, .i32⟩
  | .hbm, ⟨13, _⟩ => ⟨S_, .f32⟩
  | .hbm, ⟨14, _⟩ => ⟨S2x64x128x16x64, .f32⟩
  | .hbm, ⟨15, _⟩ => ⟨S2x64x256x16x64, .f32⟩
  | .hbm, ⟨16, _⟩ => ⟨S2x63x128x16x64, .f32⟩
  | .hbm, ⟨17, _⟩ => ⟨S_, .i32⟩
  | .hbm, ⟨18, _⟩ => ⟨S_, .f32⟩
  | .hbm, ⟨19, _⟩ => ⟨S2x64x128x16x64, .f32⟩
  | .hbm, ⟨20, _⟩ => ⟨S2x64x256x16x64, .f32⟩
  | .hbm, ⟨21, _⟩ => ⟨S2x64x16x128x256, .f32⟩
  | .hbm, ⟨22, _⟩ => ⟨S_, .f32⟩
  | .hbm, ⟨23, _⟩ => ⟨S2x64x16x128x256, .f32⟩
  | .hbm, ⟨24, _⟩ => ⟨S2x64x16x128x256, .f32⟩
  | .hbm, ⟨25, _⟩ => ⟨S128, .i32⟩
  | .hbm, ⟨26, _⟩ => ⟨S256, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S64, .i32⟩
  | .hbm, ⟨43, _⟩ => ⟨S64x1, .i32⟩
  | .hbm, ⟨44, _⟩ => ⟨S_, .i32⟩
  | .hbm, ⟨45, _⟩ => ⟨S64x1, .i32⟩
  | .hbm, ⟨46, _⟩ => ⟨S64x1, .i32⟩
  | .hbm, ⟨47, _⟩ => ⟨S_, .i32⟩
  | .hbm, ⟨48, _⟩ => ⟨S64x1, .i32⟩
  | .hbm, ⟨49, _⟩ => ⟨S64x1, .i32⟩
  | .hbm, ⟨50, _⟩ => ⟨S1x256, .i32⟩
  | .hbm, ⟨51, _⟩ => ⟨S64x256, .i32⟩
  | .hbm, ⟨52, _⟩ => ⟨S64x256, .i32⟩
  | .hbm, ⟨53, _⟩ => ⟨S64x256, .i32⟩
  | .hbm, ⟨54, _⟩ => ⟨S_, .i32⟩
  | .hbm, ⟨55, _⟩ => ⟨S64x256, .i32⟩
  | .hbm, ⟨56, _⟩ => ⟨S64x256, .i1⟩
  | .hbm, ⟨57, _⟩ => ⟨S1x128x256, .i1⟩
  | .hbm, ⟨58, _⟩ => ⟨S64x1x256, .i1⟩
  | .hbm, ⟨59, _⟩ => ⟨S64x128x256, .i1⟩
  | .hbm, ⟨60, _⟩ => ⟨S64x128x256, .i1⟩
  | .hbm, ⟨61, _⟩ => ⟨S64x128x256, .i1⟩
  | .hbm, ⟨62, _⟩ => ⟨S1x64x1x128x256, .i1⟩
  | .hbm, ⟨63, _⟩ => ⟨S_, .f32⟩
  | .hbm, ⟨64, _⟩ => ⟨S_, .f32⟩
  | .hbm, ⟨65, _⟩ => ⟨S2x64x16x128x256, .i1⟩
  | .hbm, ⟨66, _⟩ => ⟨S2x64x16x128x256, .f32⟩
  | .hbm, ⟨67, _⟩ => ⟨S2x64x16x128x256, .f32⟩
  | .hbm, ⟨68, _⟩ => ⟨S_, .f32⟩
  | .hbm, ⟨69, _⟩ => ⟨S2x64x16x128, .f32⟩
  | .hbm, ⟨70, _⟩ => ⟨S2x64x16x128x1, .f32⟩
  | .hbm, ⟨71, _⟩ => ⟨S2x64x16x128x256, .f32⟩
  | .hbm, ⟨72, _⟩ => ⟨S2x64x16x128x256, .f32⟩
  | .hbm, ⟨73, _⟩ => ⟨S2x64x16x128x256, .f32⟩
  | .hbm, ⟨74, _⟩ => ⟨S_, .f32⟩
  | .hbm, ⟨75, _⟩ => ⟨S2x64x16x128, .f32⟩
  | .hbm, ⟨76, _⟩ => ⟨S2x64x16x128x1, .f32⟩
  | .hbm, ⟨77, _⟩ => ⟨S2x64x16x128x1, .f32⟩
  | .hbm, ⟨78, _⟩ => ⟨S2x64x16x128x1, .f32⟩
  | .hbm, ⟨79, _⟩ => ⟨S2x64x16x128, .f32⟩
  | .hbm, ⟨80, _⟩ => ⟨S2x64x16x128x1, .f32⟩
  | .hbm, ⟨81, _⟩ => ⟨S2x64x16x128x256, .f32⟩
  | .hbm, ⟨82, _⟩ => ⟨S2x64x16x128x256, .f32⟩
  | .hbm, ⟨83, _⟩ => ⟨S2x64x16x128x256, .f32⟩
  | .hbm, ⟨84, _⟩ => ⟨S2x64x16x64x128, .f32⟩
  | .hbm, ⟨85, _⟩ => ⟨S2x64x128x16x64, .f32⟩
  | .hbm, ⟨86, _⟩ => ⟨S2x8192x16x64, .f32⟩
  | .hbm, ⟨87, _⟩ => ⟨S2x64x128x16, .f32⟩
  | .hbm, ⟨88, _⟩ => ⟨S2x8192x16, .f32⟩
  | .hbm, ⟨89, _⟩ => ⟨S2x1x8192x1024, .f32⟩
  | .hbm, ⟨90, _⟩ => ⟨S2x8192x16x8, .f32⟩
  | .hbm, ⟨91, _⟩ => ⟨S2x8192x128, .f32⟩
  | .hbm, ⟨92, _⟩ => ⟨S2x1x8192x128, .f32⟩
  | _, _ => ⟨S2x1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Band4.lean ====
abbrev S2x4x2048x3072 : Shape := ⟨4, ![2, 4, 2048, 3072]⟩
abbrev S2x4x2048x1024 : Shape := ⟨4, ![2, 4, 2048, 1024]⟩
abbrev S2x4x2048x128 : Shape := ⟨4, ![2, 4, 2048, 128]⟩
abbrev S1x1x128x1024 : Shape := ⟨4, ![1, 1, 128, 1024]⟩
abbrev S1x1x128x128 : Shape := ⟨4, ![1, 1, 128, 128]⟩
abbrev S256x1024 : Shape := ⟨2, ![256, 1024]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 12
  | .smem => 0
  | _ => 0

abbrev bufTy : (tb : Table) → Fin (tcTables nBuf tb) → BufTy
  | .hbm, ⟨0, _⟩ => ⟨S2x4x2048x3072, .f32⟩
  | .hbm, ⟨1, _⟩ => ⟨S2x4x2048x1024, .f32⟩
  | .hbm, ⟨2, _⟩ => ⟨S2x4x2048x128, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x128, .f32⟩
  | .local _ .vmem, ⟨9, _⟩ => ⟨S1x1x128x128, .f32⟩
  | .local _ .vmem, ⟨10, _⟩ => ⟨S256x1024, .bf16⟩
  | .local _ .vmem, ⟨11, _⟩ => ⟨S256x1024, .bf16⟩
  | _, _ => ⟨S2x4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band4Ideal.lean ====
variable {F : FTy → Type} [FloatOps F] [Named F]
def κ : String → Option EReal := fun
  | "mask" => some ⊥
  | _ => none
-- ==== Band4RefIdeal.lean ====
abbrev S2x4x2048x3072 : Shape := ⟨4, ![2, 4, 2048, 3072]⟩
abbrev S8x2048x3x16x64 : Shape := ⟨5, ![8, 2048, 3, 16, 64]⟩
abbrev S8x2048x1x16x64 : Shape := ⟨5, ![8, 2048, 1, 16, 64]⟩
abbrev S8x2048x16x64 : Shape := ⟨4, ![8, 2048, 16, 64]⟩
abbrev S8x16x128x16x64 : Shape := ⟨5, ![8, 16, 128, 16, 64]⟩
abbrev S8x15x128x16x64 : Shape := ⟨5, ![8, 15, 128, 16, 64]⟩
abbrev S_ : Shape := ⟨0, ![]⟩
abbrev S8x16x256x16x64 : Shape := ⟨5, ![8, 16, 256, 16, 64]⟩
abbrev S8x16x16x128x256 : Shape := ⟨5, ![8, 16, 16, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x128x256 : Shape := ⟨5, ![1, 16, 1, 128, 256]⟩
abbrev S8x16x16x128 : Shape := ⟨4, ![8, 16, 16, 128]⟩
abbrev S8x16x16x128x1 : Shape := ⟨5, ![8, 16, 16, 128, 1]⟩
abbrev S8x16x16x64x128 : Shape := ⟨5, ![8, 16, 16, 64, 128]⟩
abbrev S8x16x128x16 : Shape := ⟨4, ![8, 16, 128, 16]⟩
abbrev S8x2048x16 : Shape := ⟨3, ![8, 2048, 16]⟩
abbrev S2x4x2048x1024 : Shape := ⟨4, ![2, 4, 2048, 1024]⟩
abbrev S8x2048x16x8 : Shape := ⟨4, ![8, 2048, 16, 8]⟩
abbrev S8x2048x128 : Shape := ⟨3, ![8, 2048, 128]⟩
abbrev S2x4x2048x128 : Shape := ⟨4, ![2, 4, 2048, 128]⟩

abbrev nBuf : Space → Nat
  | .hbm => 93
  | .vmem => 0
  | .smem => 0
  | _ => 0

abbrev bufTy : (tb : Table) → Fin (tcTables nBuf tb) → BufTy
  | .hbm, ⟨0, _⟩ => ⟨S2x4x2048x3072, .f32⟩
  | .hbm, ⟨1, _⟩ => ⟨S8x2048x3x16x64, .f32⟩
  | .hbm, ⟨2, _⟩ => ⟨S8x2048x1x16x64, .f32⟩
  | .hbm, ⟨3, _⟩ => ⟨S8x2048x16x64, .f32⟩
  | .hbm, ⟨4, _⟩ => ⟨S8x2048x1x16x64, .f32⟩
  | .hbm, ⟨5, _⟩ => ⟨S8x2048x16x64, .f32⟩
  | .hbm, ⟨6, _⟩ => ⟨S8x2048x1x16x64, .f32⟩
  | .hbm, ⟨7, _⟩ => ⟨S8x2048x16x64, .f32⟩
  | .hbm, ⟨8, _⟩ => ⟨S8x16x128x16x64, .f32⟩
  | .hbm, ⟨9, _⟩ => ⟨S8x16x128x16x64, .f32⟩
  | .hbm, ⟨10, _⟩ => ⟨S8x16x128x16x64, .f32⟩
  | .hbm, ⟨11, _⟩ => ⟨S8x15x128x16x64, .f32⟩
  | .hbm, ⟨12, _⟩ => ⟨S_, .i32⟩
  | .hbm, ⟨13, _⟩ => ⟨S_, .f32⟩
  | .hbm, ⟨14, _⟩ => ⟨S8x16x128x16x64, .f32⟩
  | .hbm, ⟨15, _⟩ => ⟨S8x16x256x16x64, .f32⟩
  | .hbm, ⟨16, _⟩ => ⟨S8x15x128x16x64, .f32⟩
  | .hbm, ⟨17, _⟩ => ⟨S_, .i32⟩
  | .hbm, ⟨18, _⟩ => ⟨S_, .f32⟩
  | .hbm, ⟨19, _⟩ => ⟨S8x16x128x16x64, .f32⟩
  | .hbm, ⟨20, _⟩ => ⟨S8x16x256x16x64, .f32⟩
  | .hbm, ⟨21, _⟩ => ⟨S8x16x16x128x256, .f32⟩
  | .hbm, ⟨22, _⟩ => ⟨S_, .f32⟩
  | .hbm, ⟨23, _⟩ => ⟨S8x16x16x128x256, .f32⟩
  | .hbm, ⟨24, _⟩ => ⟨S8x16x16x128x256, .f32⟩
  | .hbm, ⟨25, _⟩ => ⟨S128, .i32⟩
  | .hbm, ⟨26, _⟩ => ⟨S256, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S16, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i32⟩
  | .hbm, ⟨47, _⟩ => ⟨S_, .i32⟩
  | .hbm, ⟨48, _⟩ => ⟨S16x1, .i32⟩
  | .hbm, ⟨49, _⟩ => ⟨S16x1, .i32⟩
  | .hbm, ⟨50, _⟩ => ⟨S1x256, .i32⟩
  | .hbm, ⟨51, _⟩ => ⟨S16x256, .i32⟩
  | .hbm, ⟨52, _⟩ => ⟨S16x256, .i32⟩
  | .hbm, ⟨53, _⟩ => ⟨S16x256, .i32⟩
  | .hbm, ⟨54, _⟩ => ⟨S_, .i32⟩
  | .hbm, ⟨55, _⟩ => ⟨S16x256, .i32⟩
  | .hbm, ⟨56, _⟩ => ⟨S16x256, .i1⟩
  | .hbm, ⟨57, _⟩ => ⟨S1x128x256, .i1⟩
  | .hbm, ⟨58, _⟩ => ⟨S16x1x256, .i1⟩
  | .hbm, ⟨59, _⟩ => ⟨S16x128x256, .i1⟩
  | .hbm, ⟨60, _⟩ => ⟨S16x128x256, .i1⟩
  | .hbm, ⟨61, _⟩ => ⟨S16x128x256, .i1⟩
  | .hbm, ⟨62, _⟩ => ⟨S1x16x1x128x256, .i1⟩
  | .hbm, ⟨63, _⟩ => ⟨S_, .f32⟩
  | .hbm, ⟨64, _⟩ => ⟨S_, .f32⟩
  | .hbm, ⟨65, _⟩ => ⟨S8x16x16x128x256, .i1⟩
  | .hbm, ⟨66, _⟩ => ⟨S8x16x16x128x256, .f32⟩
  | .hbm, ⟨67, _⟩ => ⟨S8x16x16x128x256, .f32⟩
  | .hbm, ⟨68, _⟩ => ⟨S_, .f32⟩
  | .hbm, ⟨69, _⟩ => ⟨S8x16x16x128, .f32⟩
  | .hbm, ⟨70, _⟩ => ⟨S8x16x16x128x1, .f32⟩
  | .hbm, ⟨71, _⟩ => ⟨S8x16x16x128x256, .f32⟩
  | .hbm, ⟨72, _⟩ => ⟨S8x16x16x128x256, .f32⟩
  | .hbm, ⟨73, _⟩ => ⟨S8x16x16x128x256, .f32⟩
  | .hbm, ⟨74, _⟩ => ⟨S_, .f32⟩
  | .hbm, ⟨75, _⟩ => ⟨S8x16x16x128, .f32⟩
  | .hbm, ⟨76, _⟩ => ⟨S8x16x16x128x1, .f32⟩
  | .hbm, ⟨77, _⟩ => ⟨S8x16x16x128x1, .f32⟩
  | .hbm, ⟨78, _⟩ => ⟨S8x16x16x128x1, .f32⟩
  | .hbm, ⟨79, _⟩ => ⟨S8x16x16x128, .f32⟩
  | .hbm, ⟨80, _⟩ => ⟨S8x16x16x128x1, .f32⟩
  | .hbm, ⟨81, _⟩ => ⟨S8x16x16x128x256, .f32⟩
  | .hbm, ⟨82, _⟩ => ⟨S8x16x16x128x256, .f32⟩
  | .hbm, ⟨83, _⟩ => ⟨S8x16x16x128x256, .f32⟩
  | .hbm, ⟨84, _⟩ => ⟨S8x16x16x64x128, .f32⟩
  | .hbm, ⟨85, _⟩ => ⟨S8x16x128x16x64, .f32⟩
  | .hbm, ⟨86, _⟩ => ⟨S8x2048x16x64, .f32⟩
  | .hbm, ⟨87, _⟩ => ⟨S8x16x128x16, .f32⟩
  | .hbm, ⟨88, _⟩ => ⟨S8x2048x16, .f32⟩
  | .hbm, ⟨89, _⟩ => ⟨S2x4x2048x1024, .f32⟩
  | .hbm, ⟨90, _⟩ => ⟨S8x2048x16x8, .f32⟩
  | .hbm, ⟨91, _⟩ => ⟨S8x2048x128, .f32⟩
  | .hbm, ⟨92, _⟩ => ⟨S2x4x2048x128, .f32⟩
  | _, _ => ⟨S2x4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Band16.lean ====
abbrev S2x16x512x3072 : Shape := ⟨4, ![2, 16, 512, 3072]⟩
abbrev S2x16x512x1024 : Shape := ⟨4, ![2, 16, 512, 1024]⟩
abbrev S2x16x512x128 : Shape := ⟨4, ![2, 16, 512, 128]⟩
abbrev S1x1x128x1024 : Shape := ⟨4, ![1, 1, 128, 1024]⟩
abbrev S1x1x128x128 : Shape := ⟨4, ![1, 1, 128, 128]⟩
abbrev S256x1024 : Shape := ⟨2, ![256, 1024]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 12
  | .smem => 0
  | _ => 0

abbrev bufTy : (tb : Table) → Fin (tcTables nBuf tb) → BufTy
  | .hbm, ⟨0, _⟩ => ⟨S2x16x512x3072, .f32⟩
  | .hbm, ⟨1, _⟩ => ⟨S2x16x512x1024, .f32⟩
  | .hbm, ⟨2, _⟩ => ⟨S2x16x512x128, .f32⟩
  | .local _ .vmem, ⟨0, _⟩ => ⟨S1x1x128x1024, .f32⟩
  | .local _ .vmem, ⟨1, _⟩ => ⟨S1x1x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x128, .f32⟩
  | .local _ .vmem, ⟨9, _⟩ => ⟨S1x1x128x128, .f32⟩
  | .local _ .vmem, ⟨10, _⟩ => ⟨S256x1024, .bf16⟩
  | .local _ .vmem, ⟨11, _⟩ => ⟨S256x1024, .bf16⟩
  | _, _ => ⟨S2x16x512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Band16Ideal.lean ====
variable {F : FTy → Type} [FloatOps F] [Named F]
def κ : String → Option EReal := fun
  | "mask" => some ⊥
  | _ => none
-- ==== Band16RefIdeal.lean ====
abbrev S2x16x512x3072 : Shape := ⟨4, ![2, 16, 512, 3072]⟩
abbrev S32x512x3x16x64 : Shape := ⟨5, ![32, 512, 3, 16, 64]⟩
abbrev S32x512x1x16x64 : Shape := ⟨5, ![32, 512, 1, 16, 64]⟩
abbrev S32x512x16x64 : Shape := ⟨4, ![32, 512, 16, 64]⟩
abbrev S32x4x128x16x64 : Shape := ⟨5, ![32, 4, 128, 16, 64]⟩
abbrev S32x3x128x16x64 : Shape := ⟨5, ![32, 3, 128, 16, 64]⟩
abbrev S_ : Shape := ⟨0, ![]⟩
abbrev S32x4x256x16x64 : Shape := ⟨5, ![32, 4, 256, 16, 64]⟩
abbrev S32x4x16x128x256 : Shape := ⟨5, ![32, 4, 16, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S4 : Shape := ⟨1, ![4]⟩
abbrev S4x1 : Shape := ⟨2, ![4, 1]⟩
abbrev S4x256 : Shape := ⟨2, ![4, 256]⟩
abbrev S1x128x256 : Shape := ⟨3, ![1, 128, 256]⟩
abbrev S4x1x256 : Shape := ⟨3, ![4, 1, 256]⟩
abbrev S4x128x256 : Shape := ⟨3, ![4, 128, 256]⟩
abbrev S1x4x1x128x256 : Shape := ⟨5, ![1, 4, 1, 128, 256]⟩
abbrev S32x4x16x128 : Shape := ⟨4, ![32, 4, 16, 128]⟩
abbrev S32x4x16x128x1 : Shape := ⟨5, ![32, 4, 16, 128, 1]⟩
abbrev S32x4x16x64x128 : Shape := ⟨5, ![32, 4, 16, 64, 128]⟩
abbrev S32x4x128x16 : Shape := ⟨4, ![32, 4, 128, 16]⟩
abbrev S32x512x16 : Shape := ⟨3, ![32, 512, 16]⟩
abbrev S2x16x512x1024 : Shape := ⟨4, ![2, 16, 512, 1024]⟩
abbrev S32x512x16x8 : Shape := ⟨4, ![32, 512, 16, 8]⟩
abbrev S32x512x128 : Shape := ⟨3, ![32, 512, 128]⟩
abbrev S2x16x512x128 : Shape := ⟨4, ![2, 16, 512, 128]⟩

abbrev nBuf : Space → Nat
  | .hbm => 93
  | .vmem => 0
  | .smem => 0
  | _ => 0

abbrev bufTy : (tb : Table) → Fin (tcTables nBuf tb) → BufTy
  | .hbm, ⟨0, _⟩ => ⟨S2x16x512x3072, .f32⟩
  | .hbm, ⟨1, _⟩ => ⟨S32x512x3x16x64, .f32⟩
  | .hbm, ⟨2, _⟩ => ⟨S32x512x1x16x64, .f32⟩
  | .hbm, ⟨3, _⟩ => ⟨S32x512x16x64, .f32⟩
  | .hbm, ⟨4, _⟩ => ⟨S32x512x1x16x64, .f32⟩
  | .hbm, ⟨5, _⟩ => ⟨S32x512x16x64, .f32⟩
  | .hbm, ⟨6, _⟩ => ⟨S32x512x1x16x64, .f32⟩
  | .hbm, ⟨7, _⟩ => ⟨S32x512x16x64, .f32⟩
  | .hbm, ⟨8, _⟩ => ⟨S32x4x128x16x64, .f32⟩
  | .hbm, ⟨9, _⟩ => ⟨S32x4x128x16x64, .f32⟩
  | .hbm, ⟨10, _⟩ => ⟨S32x4x128x16x64, .f32⟩
  | .hbm, ⟨11, _⟩ => ⟨S32x3x128x16x64, .f32⟩
  | .hbm, ⟨12, _⟩ => ⟨S_, .i32⟩
  | .hbm, ⟨13, _⟩ => ⟨S_, .f32⟩
  | .hbm, ⟨14, _⟩ => ⟨S32x4x128x16x64, .f32⟩
  | .hbm, ⟨15, _⟩ => ⟨S32x4x256x16x64, .f32⟩
  | .hbm, ⟨16, _⟩ => ⟨S32x3x128x16x64, .f32⟩
  | .hbm, ⟨17, _⟩ => ⟨S_, .i32⟩
  | .hbm, ⟨18, _⟩ => ⟨S_, .f32⟩
  | .hbm, ⟨19, _⟩ => ⟨S32x4x128x16x64, .f32⟩
  | .hbm, ⟨20, _⟩ => ⟨S32x4x256x16x64, .f32⟩
  | .hbm, ⟨21, _⟩ => ⟨S32x4x16x128x256, .f32⟩
  | .hbm, ⟨22, _⟩ => ⟨S_, .f32⟩
  | .hbm, ⟨23, _⟩ => ⟨S32x4x16x128x256, .f32⟩
  | .hbm, ⟨24, _⟩ => ⟨S32x4x16x128x256, .f32⟩
  | .hbm, ⟨25, _⟩ => ⟨S128, .i32⟩
  | .hbm, ⟨26, _⟩ => ⟨S256, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S4, .i32⟩
  | .hbm, ⟨43, _⟩ => ⟨S4x1, .i32⟩
  | .hbm, ⟨44, _⟩ => ⟨S_, .i32⟩
  | .hbm, ⟨45, _⟩ => ⟨S4x1, .i32⟩
  | .hbm, ⟨46, _⟩ => ⟨S4x1, .i32⟩
  | .hbm, ⟨47, _⟩ => ⟨S_, .i32⟩
  | .hbm, ⟨48, _⟩ => ⟨S4x1, .i32⟩
  | .hbm, ⟨49, _⟩ => ⟨S4x1, .i32⟩
  | .hbm, ⟨50, _⟩ => ⟨S1x256, .i32⟩
  | .hbm, ⟨51, _⟩ => ⟨S4x256, .i32⟩
  | .hbm, ⟨52, _⟩ => ⟨S4x256, .i32⟩
  | .hbm, ⟨53, _⟩ => ⟨S4x256, .i32⟩
  | .hbm, ⟨54, _⟩ => ⟨S_, .i32⟩
  | .hbm, ⟨55, _⟩ => ⟨S4x256, .i32⟩
  | .hbm, ⟨56, _⟩ => ⟨S4x256, .i1⟩
  | .hbm, ⟨57, _⟩ => ⟨S1x128x256, .i1⟩
  | .hbm, ⟨58, _⟩ => ⟨S4x1x256, .i1⟩
  | .hbm, ⟨59, _⟩ => ⟨S4x128x256, .i1⟩
  | .hbm, ⟨60, _⟩ => ⟨S4x128x256, .i1⟩
  | .hbm, ⟨61, _⟩ => ⟨S4x128x256, .i1⟩
  | .hbm, ⟨62, _⟩ => ⟨S1x4x1x128x256, .i1⟩
  | .hbm, ⟨63, _⟩ => ⟨S_, .f32⟩
  | .hbm, ⟨64, _⟩ => ⟨S_, .f32⟩
  | .hbm, ⟨65, _⟩ => ⟨S32x4x16x128x256, .i1⟩
  | .hbm, ⟨66, _⟩ => ⟨S32x4x16x128x256, .f32⟩
  | .hbm, ⟨67, _⟩ => ⟨S32x4x16x128x256, .f32⟩
  | .hbm, ⟨68, _⟩ => ⟨S_, .f32⟩
  | .hbm, ⟨69, _⟩ => ⟨S32x4x16x128, .f32⟩
  | .hbm, ⟨70, _⟩ => ⟨S32x4x16x128x1, .f32⟩
  | .hbm, ⟨71, _⟩ => ⟨S32x4x16x128x256, .f32⟩
  | .hbm, ⟨72, _⟩ => ⟨S32x4x16x128x256, .f32⟩
  | .hbm, ⟨73, _⟩ => ⟨S32x4x16x128x256, .f32⟩
  | .hbm, ⟨74, _⟩ => ⟨S_, .f32⟩
  | .hbm, ⟨75, _⟩ => ⟨S32x4x16x128, .f32⟩
  | .hbm, ⟨76, _⟩ => ⟨S32x4x16x128x1, .f32⟩
  | .hbm, ⟨77, _⟩ => ⟨S32x4x16x128x1, .f32⟩
  | .hbm, ⟨78, _⟩ => ⟨S32x4x16x128x1, .f32⟩
  | .hbm, ⟨79, _⟩ => ⟨S32x4x16x128, .f32⟩
  | .hbm, ⟨80, _⟩ => ⟨S32x4x16x128x1, .f32⟩
  | .hbm, ⟨81, _⟩ => ⟨S32x4x16x128x256, .f32⟩
  | .hbm, ⟨82, _⟩ => ⟨S32x4x16x128x256, .f32⟩
  | .hbm, ⟨83, _⟩ => ⟨S32x4x16x128x256, .f32⟩
  | .hbm, ⟨84, _⟩ => ⟨S32x4x16x64x128, .f32⟩
  | .hbm, ⟨85, _⟩ => ⟨S32x4x128x16x64, .f32⟩
  | .hbm, ⟨86, _⟩ => ⟨S32x512x16x64, .f32⟩
  | .hbm, ⟨87, _⟩ => ⟨S32x4x128x16, .f32⟩
  | .hbm, ⟨88, _⟩ => ⟨S32x512x16, .f32⟩
  | .hbm, ⟨89, _⟩ => ⟨S2x16x512x1024, .f32⟩
  | .hbm, ⟨90, _⟩ => ⟨S32x512x16x8, .f32⟩
  | .hbm, ⟨91, _⟩ => ⟨S32x512x128, .f32⟩
  | .hbm, ⟨92, _⟩ => ⟨S2x16x512x128, .f32⟩
  | _, _ => ⟨S2x16x512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== FfnFinal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFinalRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Qkv1.lean ====
abbrev S2x8192x1024 : Shape := ⟨3, ![2, 8192, 1024]⟩
abbrev S1024 : Shape := ⟨1, ![1024]⟩
abbrev S1024x9216 : Shape := ⟨2, ![1024, 9216]⟩
abbrev S8192 : Shape := ⟨1, ![8192]⟩
abbrev S16x512x1 : Shape := ⟨3, ![16, 512, 1]⟩
abbrev S16x1x512 : Shape := ⟨3, ![16, 1, 512]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S2x1x8192x3072 : Shape := ⟨4, ![2, 1, 8192, 3072]⟩
abbrev S1x512x1024 : Shape := ⟨3, ![1, 512, 1024]⟩
abbrev S1024x3072 : Shape := ⟨2, ![1024, 3072]⟩
abbrev S512x128 : Shape := ⟨2, ![512, 128]⟩
abbrev S1x1x512x3072 : Shape := ⟨4, ![1, 1, 512, 3072]⟩
abbrev S8x512x128 : Shape := ⟨3, ![8, 512, 128]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S1x1x512x1024 : Shape := ⟨4, ![1, 1, 512, 1024]⟩

abbrev nBuf : Space → Nat
  | .hbm => 35
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9216, .f32⟩
  | .hbm, ⟨3, _⟩ => ⟨S1024x9216, .bf16⟩
  | .hbm, ⟨4, _⟩ => ⟨S8192, .i32⟩
  | .hbm, ⟨5, _⟩ => ⟨S16x512x1, .i32⟩
  | .hbm, ⟨6, _⟩ => ⟨S16x1x512, .i32⟩
  | .hbm, ⟨7, _⟩ => ⟨S8192, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S8192x32, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S1x1024, .f32⟩
  | .hbm, ⟨34, _⟩ => ⟨S2x1x8192x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1x512x3072, .f32⟩
  | .local _ .vmem, ⟨9, _⟩ => ⟨S1x1x512x3072, .f32⟩
  | .local _ .vmem, ⟨10, _⟩ => ⟨S8x512x128, .f32⟩
  | .local _ .vmem, ⟨11, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Qkv1RefIdeal.lean ====
abbrev S2x8192x1024 : Shape := ⟨3, ![2, 8192, 1024]⟩
abbrev S1024 : Shape := ⟨1, ![1024]⟩
abbrev S1024x9216 : Shape := ⟨2, ![1024, 9216]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x9216 : Shape := ⟨3, ![2, 8192, 9216]⟩
abbrev S2x8192x3072 : Shape := ⟨3, ![2, 8192, 3072]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x8192x1x3072 : Shape := ⟨4, ![2, 8192, 1, 3072]⟩
abbrev S2x1x8192x3072 : Shape := ⟨4, ![2, 1, 8192, 3072]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9216, .f32⟩
  | .hbm, ⟨3, _⟩ => ⟨S8192, .i32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x9216, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S2x8192x3x16x64, .f32⟩
  | .hbm, ⟨25, _⟩ => ⟨S2x8192x1x16x64, .f32⟩
  | .hbm, ⟨26, _⟩ => ⟨S2x8192x16x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x1x32, .f32⟩
  | .hbm, ⟨43, _⟩ => ⟨S8192x32, .f32⟩
  | .hbm, ⟨44, _⟩ => ⟨S8192x1x32, .f32⟩
  | .hbm, ⟨45, _⟩ => ⟨S2x8192x16x32, .f32⟩
  | .hbm, ⟨46, _⟩ => ⟨S2x8192x16x32, .f32⟩
  | .hbm, ⟨47, _⟩ => ⟨S1x8192x1x32, .f32⟩
  | .hbm, ⟨48, _⟩ => ⟨S2x8192x16x32, .f32⟩
  | .hbm, ⟨49, _⟩ => ⟨S2x8192x16x32, .f32⟩
  | .hbm, ⟨50, _⟩ => ⟨S1x8192x1x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S1x8192x1x32, .f32⟩
  | .hbm, ⟨55, _⟩ => ⟨S2x8192x16x32, .f32⟩
  | .hbm, ⟨56, _⟩ => ⟨S2x8192x16x32, .f32⟩
  | .hbm, ⟨57, _⟩ => ⟨S1x8192x1x32, .f32⟩
  | .hbm, ⟨58, _⟩ => ⟨S2x8192x16x32, .f32⟩
  | .hbm, ⟨59, _⟩ => ⟨S2x8192x16x32, .f32⟩
  | .hbm, ⟨60, _⟩ => ⟨S2x8192x16x32, .f32⟩
  | .hbm, ⟨61, _⟩ => ⟨S2x8192x16x64, .f32⟩
  | .hbm, ⟨62, _⟩ => ⟨S2x8192x1x16x64, .f32⟩
  | .hbm, ⟨63, _⟩ => ⟨S2x8192x16x64, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S8192, .f32⟩
  | .hbm, ⟨73, _⟩ => ⟨S8192x1, .f32⟩
  | .hbm, ⟨74, _⟩ => ⟨S1x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S8192x1x32, .f32⟩
  | .hbm, ⟨80, _⟩ => ⟨S8192x32, .f32⟩
  | .hbm, ⟨81, _⟩ => ⟨S8192x1x32, .f32⟩
  | .hbm, ⟨82, _⟩ => ⟨S2x8192x16x32, .f32⟩
  | .hbm, ⟨83, _⟩ => ⟨S2x8192x16x32, .f32⟩
  | .hbm, ⟨84, _⟩ => ⟨S1x8192x1x32, .f32⟩
  | .hbm, ⟨85, _⟩ => ⟨S2x8192x16x32, .f32⟩
  | .hbm, ⟨86, _⟩ => ⟨S2x8192x16x32, .f32⟩
  | .hbm, ⟨87, _⟩ => ⟨S1x8192x1x32, .f32⟩
  | .hbm, ⟨88, _⟩ => ⟨S2x8192x16x32, .f32⟩
  | .hbm, ⟨89, _⟩ => ⟨S2x8192x16x32, .f32⟩
  | .hbm, ⟨90, _⟩ => ⟨S2x8192x16x32, .f32⟩
  | .hbm, ⟨91, _⟩ => ⟨S1x8192x1x32, .f32⟩
  | .hbm, ⟨92, _⟩ => ⟨S2x8192x16x32, .f32⟩
  | .hbm, ⟨93, _⟩ => ⟨S2x8192x16x32, .f32⟩
  | .hbm, ⟨94, _⟩ => ⟨S1x8192x1x32, .f32⟩
  | .hbm, ⟨95, _⟩ => ⟨S2x8192x16x32, .f32⟩
  | .hbm, ⟨96, _⟩ => ⟨S2x8192x16x32, .f32⟩
  | .hbm, ⟨97, _⟩ => ⟨S2x8192x16x32, .f32⟩
  | .hbm, ⟨98, _⟩ => ⟨S2x8192x16x64, .f32⟩
  | .hbm, ⟨99, _⟩ => ⟨S2x8192x1x16x64, .f32⟩
  | .hbm, ⟨100, _⟩ => ⟨S2x8192x16x64, .f32⟩
  | .hbm, ⟨101, _⟩ => ⟨S2x8192x1x16x64, .f32⟩
  | .hbm, ⟨102, _⟩ => ⟨S2x8192x1x16x64, .f32⟩
  | .hbm, ⟨103, _⟩ => ⟨S2x8192x1x16x64, .f32⟩
  | .hbm, ⟨104, _⟩ => ⟨S2x8192x3x16x64, .f32⟩
  | .hbm, ⟨105, _⟩ => ⟨S2x8192x1x3072, .f32⟩
  | .hbm, ⟨106, _⟩ => ⟨S2x1x8192x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩

abbrev nD : Nat := 1
abbrev τ : Topo := Topo.v7x

variable {F : FTy → Type} [FloatOps F]
-- ==== Qkv4.lean ====
abbrev S2x8192x1024 : Shape := ⟨3, ![2, 8192, 1024]⟩
abbrev S1024 : Shape := ⟨1, ![1024]⟩
abbrev S1024x9216 : Shape := ⟨2, ![1024, 9216]⟩
abbrev S8192 : Shape := ⟨1, ![8192]⟩
abbrev S16x128x4 : Shape := ⟨3, ![16, 128, 4]⟩
abbrev S16x4x128 : Shape := ⟨3, ![16, 4, 128]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S2x4x2048x3072 : Shape := ⟨4, ![2, 4, 2048, 3072]⟩
abbrev S1x512x1024 : Shape := ⟨3, ![1, 512, 1024]⟩
abbrev S1024x3072 : Shape := ⟨2, ![1024, 3072]⟩
abbrev S512x128 : Shape := ⟨2, ![512, 128]⟩
abbrev S1x4x128x3072 : Shape := ⟨4, ![1, 4, 128, 3072]⟩
abbrev S8x512x128 : Shape := ⟨3, ![8, 512, 128]⟩
abbrev S512x1024 : Shape := ⟨2, ![512, 1024]⟩
abbrev S512 : Shape := ⟨1, ![512]⟩
abbrev S512x1 : Shape := ⟨2, ![512, 1]⟩
abbrev S1x512x128 : Shape := ⟨3, ![1, 512, 128]⟩
abbrev S1x128x128 : Shape := ⟨3, ![1, 128, 128]⟩
abbrev S128x128 : Shape := ⟨2, ![128, 128]⟩
abbrev S512x3072 : Shape := ⟨2, ![512, 3072]⟩
abbrev S128x1024 : Shape := ⟨2, ![128, 1024]⟩
abbrev S1x1x128x1024 : Shape := ⟨4, ![1, 1, 128, 1024]⟩

abbrev nBuf : Space → Nat
  | .hbm => 35
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9216, .f32⟩
  | .hbm, ⟨3, _⟩ => ⟨S1024x9216, .bf16⟩
  | .hbm, ⟨4, _⟩ => ⟨S8192, .i32⟩
  | .hbm, ⟨5, _⟩ => ⟨S16x128x4, .i32⟩
  | .hbm, ⟨6, _⟩ => ⟨S16x4x128, .i32⟩
  | .hbm, ⟨7, _⟩ => ⟨S8192, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S8192x32, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S1x1024, .f32⟩
  | .hbm, ⟨34, _⟩ => ⟨S2x4x2048x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x4x128x3072, .f32⟩
  | .local _ .vmem, ⟨9, _⟩ => ⟨S1x4x128x3072, .f32⟩
  | .local _ .vmem, ⟨10, _⟩ => ⟨S8x512x128, .f32⟩
  | .local _ .vmem, ⟨11, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Qkv4RefIdeal.lean ====
abbrev S2x8192x1024 : Shape := ⟨3, ![2, 8192, 1024]⟩
abbrev S1024 : Shape := ⟨1, ![1024]⟩
abbrev S1024x9216 : Shape := ⟨2, ![1024, 9216]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x9216 : Shape := ⟨3, ![2, 8192, 9216]⟩
abbrev S2x8192x3072 : Shape := ⟨3, ![2, 8192, 3072]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x2048x4x3072 : Shape := ⟨4, ![2, 2048, 4, 3072]⟩
abbrev S2x4x2048x3072 : Shape := ⟨4, ![2, 4, 2048, 3072]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9216, .f32⟩
  | .hbm, ⟨3, _⟩ => ⟨S8192, .i32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x9216, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S2x8192x3x16x64, .f32⟩
  | .hbm, ⟨25, _⟩ => ⟨S2x8192x1x16x64, .f32⟩
  | .hbm, ⟨26, _⟩ => ⟨S2x8192x16x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x1x32, .f32⟩
  | .hbm, ⟨43, _⟩ => ⟨S8192x32, .f32⟩
  | .hbm, ⟨44, _⟩ => ⟨S8192x1x32, .f32⟩
  | .hbm, ⟨45, _⟩ => ⟨S2x8192x16x32, .f32⟩
  | .hbm, ⟨46, _⟩ => ⟨S2x8192x16x32, .f32⟩
  | .hbm, ⟨47, _⟩ => ⟨S1x8192x1x32, .f32⟩
  | .hbm, ⟨48, _⟩ => ⟨S2x8192x16x32, .f32⟩
  | .hbm, ⟨49, _⟩ => ⟨S2x8192x16x32, .f32⟩
  | .hbm, ⟨50, _⟩ => ⟨S1x8192x1x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S1x8192x1x32, .f32⟩
  | .hbm, ⟨55, _⟩ => ⟨S2x8192x16x32, .f32⟩
  | .hbm, ⟨56, _⟩ => ⟨S2x8192x16x32, .f32⟩
  | .hbm, ⟨57, _⟩ => ⟨S1x8192x1x32, .f32⟩
  | .hbm, ⟨58, _⟩ => ⟨S2x8192x16x32, .f32⟩
  | .hbm, ⟨59, _⟩ => ⟨S2x8192x16x32, .f32⟩
  | .hbm, ⟨60, _⟩ => ⟨S2x8192x16x32, .f32⟩
  | .hbm, ⟨61, _⟩ => ⟨S2x8192x16x64, .f32⟩
  | .hbm, ⟨62, _⟩ => ⟨S2x8192x1x16x64, .f32⟩
  | .hbm, ⟨63, _⟩ => ⟨S2x8192x16x64, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S8192, .f32⟩
  | .hbm, ⟨73, _⟩ => ⟨S8192x1, .f32⟩
  | .hbm, ⟨74, _⟩ => ⟨S1x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S8192x1x32, .f32⟩
  | .hbm, ⟨80, _⟩ => ⟨S8192x32, .f32⟩
  | .hbm, ⟨81, _⟩ => ⟨S8192x1x32, .f32⟩
  | .hbm, ⟨82, _⟩ => ⟨S2x8192x16x32, .f32⟩
  | .hbm, ⟨83, _⟩ => ⟨S2x8192x16x32, .f32⟩
  | .hbm, ⟨84, _⟩ => ⟨S1x8192x1x32, .f32⟩
  | .hbm, ⟨85, _⟩ => ⟨S2x8192x16x32, .f32⟩
  | .hbm, ⟨86, _⟩ => ⟨S2x8192x16x32, .f32⟩
  | .hbm, ⟨87, _⟩ => ⟨S1x8192x1x32, .f32⟩
  | .hbm, ⟨88, _⟩ => ⟨S2x8192x16x32, .f32⟩
  | .hbm, ⟨89, _⟩ => ⟨S2x8192x16x32, .f32⟩
  | .hbm, ⟨90, _⟩ => ⟨S2x8192x16x32, .f32⟩
  | .hbm, ⟨91, _⟩ => ⟨S1x8192x1x32, .f32⟩
  | .hbm, ⟨92, _⟩ => ⟨S2x8192x16x32, .f32⟩
  | .hbm, ⟨93, _⟩ => ⟨S2x8192x16x32, .f32⟩
  | .hbm, ⟨94, _⟩ => ⟨S1x8192x1x32, .f32⟩
  | .hbm, ⟨95, _⟩ => ⟨S2x8192x16x32, .f32⟩
  | .hbm, ⟨96, _⟩ => ⟨S2x8192x16x32, .f32⟩
  | .hbm, ⟨97, _⟩ => ⟨S2x8192x16x32, .f32⟩
  | .hbm, ⟨98, _⟩ => ⟨S2x8192x16x64, .f32⟩
  | .hbm, ⟨99, _⟩ => ⟨S2x8192x1x16x64, .f32⟩
  | .hbm, ⟨100, _⟩ => ⟨S2x8192x16x64, .f32⟩
  | .hbm, ⟨101, _⟩ => ⟨S2x8192x1x16x64, .f32⟩
  | .hbm, ⟨102, _⟩ => ⟨S2x8192x1x16x64, .f32⟩
  | .hbm, ⟨103, _⟩ => ⟨S2x8192x1x16x64, .f32⟩
  | .hbm, ⟨104, _⟩ => ⟨S2x8192x3x16x64, .f32⟩
  | .hbm, ⟨105, _⟩ => ⟨S2x2048x4x3072, .f32⟩
  | .hbm, ⟨106, _⟩ => ⟨S2x4x2048x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩

abbrev nD : Nat := 1
abbrev τ : Topo := Topo.v7x

variable {F : FTy → Type} [FloatOps F]
-- ==== Qkv16.lean ====
abbrev S2x8192x1024 : Shape := ⟨3, ![2, 8192, 1024]⟩
abbrev S1024 : Shape := ⟨1, ![1024]⟩
abbrev S1024x9216 : Shape := ⟨2, ![1024, 9216]⟩
abbrev S8192 : Shape := ⟨1, ![8192]⟩
abbrev S16x32x16 : Shape := ⟨3, ![16, 32, 16]⟩
abbrev S16x16x32 : Shape := ⟨3, ![16, 16, 32]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S2x16x512x3072 : Shape := ⟨4, ![2, 16, 512, 3072]⟩
abbrev S1x512x1024 : Shape := ⟨3, ![1, 512, 1024]⟩
abbrev S1024x3072 : Shape := ⟨2, ![1024, 3072]⟩
abbrev S512x128 : Shape := ⟨2, ![512, 128]⟩
abbrev S1x16x32x3072 : Shape := ⟨4, ![1, 16, 32, 3072]⟩
abbrev S8x512x128 : Shape := ⟨3, ![8, 512, 128]⟩
abbrev S512x1024 : Shape := ⟨2, ![512, 1024]⟩
abbrev S512 : Shape := ⟨1, ![512]⟩
abbrev S512x1 : Shape := ⟨2, ![512, 1]⟩
abbrev S1x512x128 : Shape := ⟨3, ![1, 512, 128]⟩
abbrev S1x32x128 : Shape := ⟨3, ![1, 32, 128]⟩
abbrev S32x128 : Shape := ⟨2, ![32, 128]⟩
abbrev S512x3072 : Shape := ⟨2, ![512, 3072]⟩
abbrev S32x1024 : Shape := ⟨2, ![32, 1024]⟩
abbrev S1x1x32x1024 : Shape := ⟨4, ![1, 1, 32, 1024]⟩

abbrev nBuf : Space → Nat
  | .hbm => 35
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9216, .f32⟩
  | .hbm, ⟨3, _⟩ => ⟨S1024x9216, .bf16⟩
  | .hbm, ⟨4, _⟩ => ⟨S8192, .i32⟩
  | .hbm, ⟨5, _⟩ => ⟨S16x32x16, .i32⟩
  | .hbm, ⟨6, _⟩ => ⟨S16x16x32, .i32⟩
  | .hbm, ⟨7, _⟩ => ⟨S8192, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S8192x32, .f32⟩
  | .hbm, ⟨29, _⟩ => ⟨S8192x64, .f32⟩
  | .hbm, ⟨30, _⟩ => ⟨S1x8192x1x64, .f32⟩
  | .hbm, ⟨31, _⟩ => ⟨S1x8192x2x64, .f32⟩
  | .hbm, ⟨32, _⟩ => ⟨S8192x128, .f32⟩
  | .hbm, ⟨33, _⟩ => ⟨S1x1024, .f32⟩
  | .hbm, ⟨34, _⟩ => ⟨S2x16x512x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x16x32x3072, .f32⟩
  | .local _ .vmem, ⟨9, _⟩ => ⟨S1x16x32x3072, .f32⟩
  | .local _ .vmem, ⟨10, _⟩ => ⟨S8x512x128, .f32⟩
  | .local _ .vmem, ⟨11, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x32x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Qkv16RefIdeal.lean ====
abbrev S2x8192x1024 : Shape := ⟨3, ![2, 8192, 1024]⟩
abbrev S1024 : Shape := ⟨1, ![1024]⟩
abbrev S1024x9216 : Shape := ⟨2, ![1024, 9216]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x9216 : Shape := ⟨3, ![2, 8192, 9216]⟩
abbrev S2x8192x3072 : Shape := ⟨3, ![2, 8192, 3072]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x512x16x3072 : Shape := ⟨4, ![2, 512, 16, 3072]⟩
abbrev S2x16x512x3072 : Shape := ⟨4, ![2, 16, 512, 3072]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9216, .f32⟩
  | .hbm, ⟨3, _⟩ => ⟨S8192, .i32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x9216, .f32⟩
  | .hbm, ⟨21, _⟩ => ⟨S2x8192x3072, .f32⟩
  | .hbm, ⟨22, _⟩ => ⟨S2x8192x3072, .f32⟩
  | .hbm, ⟨23, _⟩ => ⟨S2x8192x3072, .f32⟩
  | .hbm, ⟨24, _⟩ => ⟨S2x8192x3x16x64, .f32⟩
  | .hbm, ⟨25, _⟩ => ⟨S2x8192x1x16x64, .f32⟩
  | .hbm, ⟨26, _⟩ => ⟨S2x8192x16x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x1x32, .f32⟩
  | .hbm, ⟨43, _⟩ => ⟨S8192x32, .f32⟩
  | .hbm, ⟨44, _⟩ => ⟨S8192x1x32, .f32⟩
  | .hbm, ⟨45, _⟩ => ⟨S2x8192x16x32, .f32⟩
  | .hbm, ⟨46, _⟩ => ⟨S2x8192x16x32, .f32⟩
  | .hbm, ⟨47, _⟩ => ⟨S1x8192x1x32, .f32⟩
  | .hbm, ⟨48, _⟩ => ⟨S2x8192x16x32, .f32⟩
  | .hbm, ⟨49, _⟩ => ⟨S2x8192x16x32, .f32⟩
  | .hbm, ⟨50, _⟩ => ⟨S1x8192x1x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S1x8192x1x32, .f32⟩
  | .hbm, ⟨55, _⟩ => ⟨S2x8192x16x32, .f32⟩
  | .hbm, ⟨56, _⟩ => ⟨S2x8192x16x32, .f32⟩
  | .hbm, ⟨57, _⟩ => ⟨S1x8192x1x32, .f32⟩
  | .hbm, ⟨58, _⟩ => ⟨S2x8192x16x32, .f32⟩
  | .hbm, ⟨59, _⟩ => ⟨S2x8192x16x32, .f32⟩
  | .hbm, ⟨60, _⟩ => ⟨S2x8192x16x32, .f32⟩
  | .hbm, ⟨61, _⟩ => ⟨S2x8192x16x64, .f32⟩
  | .hbm, ⟨62, _⟩ => ⟨S2x8192x1x16x64, .f32⟩
  | .hbm, ⟨63, _⟩ => ⟨S2x8192x16x64, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S8192, .f32⟩
  | .hbm, ⟨73, _⟩ => ⟨S8192x1, .f32⟩
  | .hbm, ⟨74, _⟩ => ⟨S1x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S8192x1x32, .f32⟩
  | .hbm, ⟨80, _⟩ => ⟨S8192x32, .f32⟩
  | .hbm, ⟨81, _⟩ => ⟨S8192x1x32, .f32⟩
  | .hbm, ⟨82, _⟩ => ⟨S2x8192x16x32, .f32⟩
  | .hbm, ⟨83, _⟩ => ⟨S2x8192x16x32, .f32⟩
  | .hbm, ⟨84, _⟩ => ⟨S1x8192x1x32, .f32⟩
  | .hbm, ⟨85, _⟩ => ⟨S2x8192x16x32, .f32⟩
  | .hbm, ⟨86, _⟩ => ⟨S2x8192x16x32, .f32⟩
  | .hbm, ⟨87, _⟩ => ⟨S1x8192x1x32, .f32⟩
  | .hbm, ⟨88, _⟩ => ⟨S2x8192x16x32, .f32⟩
  | .hbm, ⟨89, _⟩ => ⟨S2x8192x16x32, .f32⟩
  | .hbm, ⟨90, _⟩ => ⟨S2x8192x16x32, .f32⟩
  | .hbm, ⟨91, _⟩ => ⟨S1x8192x1x32, .f32⟩
  | .hbm, ⟨92, _⟩ => ⟨S2x8192x16x32, .f32⟩
  | .hbm, ⟨93, _⟩ => ⟨S2x8192x16x32, .f32⟩
  | .hbm, ⟨94, _⟩ => ⟨S1x8192x1x32, .f32⟩
  | .hbm, ⟨95, _⟩ => ⟨S2x8192x16x32, .f32⟩
  | .hbm, ⟨96, _⟩ => ⟨S2x8192x16x32, .f32⟩
  | .hbm, ⟨97, _⟩ => ⟨S2x8192x16x32, .f32⟩
  | .hbm, ⟨98, _⟩ => ⟨S2x8192x16x64, .f32⟩
  | .hbm, ⟨99, _⟩ => ⟨S2x8192x1x16x64, .f32⟩
  | .hbm, ⟨100, _⟩ => ⟨S2x8192x16x64, .f32⟩
  | .hbm, ⟨101, _⟩ => ⟨S2x8192x1x16x64, .f32⟩
  | .hbm, ⟨102, _⟩ => ⟨S2x8192x1x16x64, .f32⟩
  | .hbm, ⟨103, _⟩ => ⟨S2x8192x1x16x64, .f32⟩
  | .hbm, ⟨104, _⟩ => ⟨S2x8192x3x16x64, .f32⟩
  | .hbm, ⟨105, _⟩ => ⟨S2x512x16x3072, .f32⟩
  | .hbm, ⟨106, _⟩ => ⟨S2x16x512x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩

abbrev nD : Nat := 1
abbrev τ : Topo := Topo.v7x

variable {F : FTy → Type} [FloatOps F]
-- ==== Proof.RefFrames.lean ====
/- Every reference runs to the end, leaves its argument as it was and every counter at zero. -/
module

public import proofs.«01_k».proof.Defs
public import proofs.«01_k».proof.Proof.Gen.Band1RefIdeal.Run
public import proofs.«01_k».proof.Proof.Gen.Band4RefIdeal.Run
public import proofs.«01_k».proof.Proof.Gen.Band16RefIdeal.Run
public import proofs.«01_k».proof.Proof.Gen.FfnRefIdeal.Run
public import proofs.«01_k».proof.Proof.Gen.FfnFinalRefIdeal.Run
public import proofs.«01_k».proof.Proof.Gen.Qkv1RefIdeal.Run
public import proofs.«01_k».proof.Proof.Gen.Qkv4RefIdeal.Run
public import proofs.«01_k».proof.Proof.Gen.Qkv16RefIdeal.Run
public import proofs.«01_k».proof.Proof.Gen.Pre_finite1
public import proofs.«01_k».proof.Proof.Gen.Pre_finite4
public import proofs.«01_k».proof.Proof.Gen.Pre_finite16
public import Idealize.ShloMosaic.Lib.Claim

@[expose] public section

set_option maxRecDepth 16384

namespace Cert.RefFrames

open Idealize.ShloMosaic Idealize.SL.Sem

theorem ffn : Cert.quiescent_FfnRefIdeal := fun m g _ =>
  θ_run_mono (Cert.FfnRefIdeal.Value.run m g) fun r h => ⟨fun c => (h c).2, funext fun s => nomatch s.2⟩

theorem ffnFinal : Cert.quiescent_FfnFinalRefIdeal := fun m g _ =>
  θ_run_mono (Cert.FfnFinalRefIdeal.Value.run m g) fun r h => ⟨fun c => (h c).2, funext fun s => nomatch s.2⟩

theorem qkv1 : Cert.quiescent_Qkv1RefIdeal := fun m g _ =>
  θ_run_mono (Cert.Qkv1RefIdeal.Value.run m g) fun r h => ⟨fun c => (h c).2, funext fun s => nomatch s.2⟩

theorem qkv4 : Cert.quiescent_Qkv4RefIdeal := fun m g _ =>
  θ_run_mono (Cert.Qkv4RefIdeal.Value.run m g) fun r h => ⟨fun c => (h c).2, funext fun s => nomatch s.2⟩

theorem qkv16 : Cert.quiescent_Qkv16RefIdeal := fun m g _ =>
  θ_run_mono (Cert.Qkv16RefIdeal.Value.run m g) fun r h => ⟨fun c => (h c).2, funext fun s => nomatch s.2⟩

theorem band1 : Cert.quiescent_Band1RefIdeal := fun m g _ =>
  θ_run_mono (Cert.Band1RefIdeal.Value.run m g) fun r h => ⟨fun c => (h c).2.2, funext fun s => nomatch s.2⟩

theorem band1_pre : Cert.quiescent_Band1RefIdeal_pre_finite1 := fun m g _ =>
  θ_run_mono (Cert.Band1RefIdeal.Value.run m g) fun r h => ⟨fun c => (h c).2.2, funext fun s => nomatch s.2⟩

theorem band4 : Cert.quiescent_Band4RefIdeal := fun m g _ =>
  θ_run_mono (Cert.Band4RefIdeal.Value.run m g) fun r h => ⟨fun c => (h c).2.2, funext fun s => nomatch s.2⟩

theorem band4_pre : Cert.quiescent_Band4RefIdeal_pre_finite4 := fun m g _ =>
  θ_run_mono (Cert.Band4RefIdeal.Value.run m g) fun r h => ⟨fun c => (h c).2.2, funext fun s => nomatch s.2⟩

theorem band16 : Cert.quiescent_Band16RefIdeal := fun m g _ =>
  θ_run_mono (Cert.Band16RefIdeal.Value.run m g) fun r h => ⟨fun c => (h c).2.2, funext fun s => nomatch s.2⟩

theorem band16_pre : Cert.quiescent_Band16RefIdeal_pre_finite16 := fun m g _ =>
  θ_run_mono (Cert.Band16RefIdeal.Value.run m g) fun r h => ⟨fun c => (h c).2.2, funext fun s => nomatch s.2⟩

end Cert.RefFrames

end
-- ==== Proof.Scalar.lean ====
/- Facts about sums and products of extended reals that the value proofs share. -/
module

public import Idealize.ShloMosaic.Lib.Pointwise

@[expose] public section

noncomputable section

namespace Cert.Lib

open Idealize.ShloMosaic

/-- Multiplication by a nonnegative real distributes over a finite sum of extended reals, whatever the terms. -/
theorem mul_sum_of_nonneg {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem sum_mul_of_nonneg {ι : Type*} (s : Finset ι) {c : ℝ} (hc : 0 ≤ c) (f : ι → EReal) :
    (∑ i ∈ s, f i) * (c : EReal) = ∑ i ∈ s, f i * (c : EReal) := by
  rw [mul_comm, mul_sum_of_nonneg s hc f]
  exact Finset.sum_congr rfl fun i _ => mul_comm _ _

/-- The word of one half, read as an extended real. -/
theorem half_eq : Ideal.ofBits .f32 0x3F000000#32 = (((1 / 2 : ℝ)) : EReal) := by
  simp [Ideal.ofBits, Ideal.ieee, -EReal.coe_mul]; norm_num

end Cert.Lib

end
-- ==== Proof.HeadPure.lean ====
/- One query row of one attention head over extended reals: masked scores, their softmax and its mixture of value rows. -/
module

public import proofs.«01_k».proof.Proof.Scalar

@[expose] public section

noncomputable section

namespace Cert.Head

open Idealize.ShloMosaic

/-- The scale of the scores, one eighth, as the programs write it. -/
abbrev eighth : EReal := Ideal.ofBits .f32 0x3E000000#32

theorem eighth_eq : eighth = ((1 / 8 : ℝ) : EReal) := by
  simp [eighth, Ideal.ofBits, Ideal.ieee, -EReal.coe_mul]; norm_num

theorem lowest_eq : Ideal.ofBits .f32 0xFF800000#32 = (⊥ : EReal) := by
  simp [Ideal.ofBits, Ideal.ieee]

/-- The scores of one query row against 256 key rows, minus infinity outside the mask. -/
def scores (ok : Fin 256 → Bool) (q : Fin 64 → EReal) (K : Fin 256 → Fin 64 → EReal) (k : Fin 256) : EReal :=
  if ok k then (∑ d, q d * K k d) * eighth else ⊥

def top (s : Fin 256 → EReal) : EReal := Finset.fold max (Ideal.ofBits .f32 0xFF800000#32) s Finset.univ

def den (s : Fin 256 → EReal) : EReal := ∑ k, Ideal.exp (s k - top s)

def lse (s : Fin 256 → EReal) : EReal := top s + Ideal.log (den s)

def mix (s v : Fin 256 → EReal) : EReal := Ideal.div (∑ k, Ideal.exp (s k - top s) * v k) (den s)

/-- Scaling the query before the product with the key is scaling the score. -/
theorem scaled (q k : Fin 64 → EReal) : ∑ d, q d * eighth * k d = (∑ d, q d * k d) * eighth := by
  rw [eighth_eq, Lib.sum_mul_of_nonneg _ (by norm_num)]
  exact Finset.sum_congr rfl fun d _ => mul_right_comm _ _ _

theorem top_ge (s : Fin 256 → EReal) (k : Fin 256) : s k ≤ top s :=
  (Finset.le_fold_max _).2 (Or.inr ⟨k, Finset.mem_univ _, le_refl _⟩)

theorem top_lt (s : Fin 256 → EReal) (hs : ∀ k, s k < ⊤) : top s < ⊤ := by
  refine (Finset.fold_max_lt _).2 ⟨?_, fun k _ => hs k⟩
  rw [lowest_eq]; exact bot_lt_top

theorem exp_bot : Ideal.exp ⊥ = 0 := rfl

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a score less a real maximum is a nonnegative real. -/
theorem exp_real (x : EReal) (hx : x < ⊤) (M : ℝ) :
    ∃ e : ℝ, 0 ≤ e ∧ Ideal.exp (x - (M : EReal)) = (e : EReal) ∧
      (x ≠ ⊥ → 0 < e) ∧
      ∀ D : ℝ, 0 < D → Ideal.exp (x - (((Real.log D : ℝ) : EReal) + (M : EReal))) = ((e * (1 / D) : ℝ) : EReal) := by
  induction x using EReal.rec with
  | bot =>
    refine ⟨0, le_refl _, ?_, fun h => absurd rfl h, fun D _ => ?_⟩
    · rw [EReal.bot_sub, exp_bot]; simp
    · rw [EReal.bot_sub, exp_bot]; simp
  | top => exact absurd hx (lt_irrefl _)
  | coe a =>
    refine ⟨Real.exp (a - M), (Real.exp_pos _).le, ?_, fun _ => Real.exp_pos _, fun D hD => ?_⟩
    · rw [← EReal.coe_sub]; rfl
    · rw [← EReal.coe_add, ← EReal.coe_sub]
      show ((Real.exp (a - (Real.log D + M)) : ℝ) : EReal) = _
      congr 1
      rw [show a - (Real.log D + M) = (a - M) - Real.log D by ring, Real.exp_sub, Real.exp_log hD]
      ring

/-- Weights taken against the log-sum-exp mix the values as the weights against the maximum do, once divided by their sum. -/
theorem mix_eq (s v : Fin 256 → EReal) (hs : ∀ k, s k < ⊤) (k0 : Fin 256) (h0 : s k0 ≠ ⊥) :
    ∑ k, v k * Ideal.exp (s k - (Ideal.log (den s) + top s)) = mix s v := by
  have hlt := top_lt s hs
  have hbot : top s ≠ ⊥ := fun h => h0 (le_bot_iff.1 (h ▸ top_ge s k0))
  obtain ⟨M, hM⟩ : ∃ M : ℝ, top s = (M : EReal) := ⟨(top s).toReal, (EReal.coe_toReal hlt.ne hbot).symm⟩
  choose e he hexp hpos hdiv using fun k => exp_real (s k) (hs k) M
  have hD : 0 < ∑ k, e k :=
    Finset.sum_pos' (fun k _ => he k) ⟨k0, Finset.mem_univ _, hpos k0 h0⟩
  have hden : den s = ((∑ k, e k : ℝ) : EReal) := by
    simp only [den, hM, hexp, coe_sum]
  have hlog : Ideal.log (den s) = ((Real.log (∑ k, e k) : ℝ) : EReal) := by
    rw [hden]
    show (if (∑ k, e k) ≤ 0 then (⊥ : EReal) else _) = _
    rw [if_neg (not_le.2 hD)]
  rw [hlog, mix, hden, Ideal.div_coe hD.ne', Lib.sum_mul_of_nonneg _ (by positivity)]
  refine Finset.sum_congr rfl fun k _ => ?_
  rw [hM, hdiv k _ hD, hexp k, EReal.coe_mul]
  rw [mul_comm, mul_right_comm]

/-- A sum of products of reals is a real. -/
theorem dot_real (q k : Fin 64 → EReal) (hq : ∀ d, ∃ a : ℝ, q d = (a : EReal)) (hk : ∀ d, ∃ a : ℝ, k d = (a : EReal)) :
    ∃ a : ℝ, (∑ d, q d * k d) * eighth = (a : EReal) := by
  choose a ha using hq
  choose b hb using hk
  refine ⟨(∑ d, a d * b d) * (1 / 8), ?_⟩
  rw [eighth_eq, EReal.coe_mul, coe_sum]
  simp only [ha, hb, EReal.coe_mul]

/-- The mask of row `r` of block `j`: the key rows no later than the query and at most 128 rows before it,
    the first 128 key rows being the block before, which the first block does not have. -/
def okay (j : ℕ) (r : Fin 128) (k : Fin 256) : Bool :=
  decide (r.val ≤ k.val ∧ k.val ≤ r.val + 128 ∧ (j = 0 → 128 ≤ k.val))

/-- The key or value rows a block sees: the rows of the block before (zeros for the first block), then its own. -/
def ext {L : ℕ} (f : Fin L → EReal) (n : ℕ) (hn : n * 128 + 128 ≤ L) (k : Fin 256) : EReal :=
  if h : k.val < 128 then
    if h0 : n = 0 then 0 else f ⟨(n - 1) * 128 + k.val, by omega⟩
  else f ⟨n * 128 + (k.val - 128), by omega⟩

theorem ext_real {L : ℕ} (f : Fin L → EReal) (n : ℕ) (hn : n * 128 + 128 ≤ L) (k : Fin 256)
    (hf : ∀ i, ∃ a : ℝ, f i = (a : EReal)) : ∃ a : ℝ, ext f n hn k = (a : EReal) := by
  unfold ext
  split
  · split
    · exact ⟨0, by simp⟩
    · exact hf _
  · exact hf _

/-- With real queries and keys the mixture against the log-sum-exp is the mixture. -/
theorem mix_of_real (j : ℕ) (r : Fin 128) (q : Fin 64 → EReal) (K : Fin 256 → Fin 64 → EReal) (v : Fin 256 → EReal)
    (hq : ∀ d, ∃ a : ℝ, q d = (a : EReal)) (hK : ∀ k d, ∃ a : ℝ, K k d = (a : EReal)) :
    ∑ k, v k * Ideal.exp (scores (okay j r) q K k - (Ideal.log (den (scores (okay j r) q K)) + top (scores (okay j r) q K)))
      = mix (scores (okay j r) q K) v := by
  refine mix_eq _ _ (fun k => ?_) ⟨128 + r.val, by omega⟩ ?_
  · unfold scores
    split
    · obtain ⟨a, ha⟩ := dot_real q (K k) hq (hK k)
      rw [ha]; exact EReal.coe_lt_top a
    · exact bot_lt_top
  · unfold scores
    rw [if_pos (by simp only [okay, decide_eq_true_eq]; omega)]
    obtain ⟨a, ha⟩ := dot_real q (K ⟨128 + r.val, by omega⟩) hq (hK _)
    rw [ha]; exact EReal.coe_ne_bot a

end Cert.Head

end
-- ==== Proof.HeadMask.lean ====
/- The mask's comparisons of words are the comparisons of row numbers. -/
module

public import proofs.«01_k».proof.Proof.HeadPure

@[expose] public section

set_option maxRecDepth 16384

namespace Cert.Head

open Idealize.ShloMosaic

theorem mask_words (z : BitVec 1) (j : ℕ) (hz : z = BitVec.ofBool (decide (0 < j))) (r : Fin 128) (k : Fin 256) :
    IntOp.ori (IntOp.andi (IntOp.cmpi .slt (BitVec.ofNat 32 k.val) 128#32) (IntOp.cmpi .sge (BitVec.ofNat 32 k.val) (IntOp.addi (BitVec.ofNat 32 r.val) (Scalar.select z 0#32 128#32))))
      (IntOp.andi (IntOp.cmpi .sge (BitVec.ofNat 32 k.val) 128#32) (IntOp.cmpi .sle (IntOp.subi (BitVec.ofNat 32 k.val) 128#32) (BitVec.ofNat 32 r.val)))
      = BitVec.ofBool (okay j r k) := by
  by_cases hj : j = 0
  · subst hj
    subst hz
    revert r k
    decide +kernel
  · have e : okay j r k = okay 1 r k := by unfold okay; simp [hj]
    rw [e, hz, decide_eq_true (by omega : 0 < j)]
    clear e
    revert r k
    decide +kernel

end Cert.Head
-- ==== Proof.Band1Read.lean ====
/- What the band attention's body computes from its blocks, read entry by entry: each head's mixture of values and log-sum-exp. -/
module

public import proofs.«01_k».proof.Proof.Gen.Band1Ideal.Value
public import proofs.«01_k».proof.Proof.HeadPure
public import Idealize.ShloMosaic.Lib.Pipeline.ValueKit

@[expose] public section

set_option maxRecDepth 16384

noncomputable section

namespace Cert.Band1Ideal.Pure

open Cert.Band1Ideal Cert.Band1Ideal.Gen Idealize.ShloMosaic Idealize.ShloMosaic.TcCoe Idealize.SL.Sem

/-- The query lanes of the second head of a chunk. -/
def hi (Q : Vec Ideal S1x1x128x128 .f32) : FVec Ideal S128x128 .f32 :=
  select k0_pay13 (broadcast S128x128 (Scalar.ofBits .f32 0x00000000#32)) (k0_pay16 Q)

/-- One head's mixture of the chunk's value lanes. -/
def res (M : IVec S128x256 1) (K V : Vec Ideal S256x128 .bf16) (q : FVec Ideal S128x128 .f32) : FVec Ideal S128x128 .f32 :=
  divf (matmul (φ₂ := .bf16) dot_S128x256_S256x128_S128x128_1_0_0_1_n_n none (truncf .bf16 (k0_pay20 M K q) bitsLt_bf16_f32) V (constant S128x128 .f32 0x00000000#32))
    (broadcastTo S128x128 (k0_pay21 M K q) broadcasts_S128x1_S128x128)

/-- The output of one chunk of 128 lanes. -/
def chunk (M : IVec S128x256 1) (K V : Vec Ideal S256x128 .bf16) (Q : Vec Ideal S1x1x128x128 .f32) : FVec Ideal S1x1x128x128 .f32 :=
  shapeCast S1x1x128x128 (select k0_pay13 (res M K V (k0_pay17 Q)) (res M K V (hi Q))) shapeCasts_S128x128_S1x1x128x128

/-- One head's log-sum-exp put into its lanes. -/
def slotted (n : BitVec 32) (M : IVec S128x256 1) (K : Vec Ideal S256x128 .bf16) (q : FVec Ideal S128x128 .f32) (L : FVec Ideal S128x128 .f32) : FVec Ideal S128x128 .f32 :=
  select (cmpi .eq k0_pay14 (broadcast S128x128 n))
    (broadcastTo S128x128 (shapeCast S128x1 (addf (k0_pay19 M K q) (log (k0_pay21 M K q))) shapeCasts_S128x1_S128x1) broadcasts_S128x1_S128x128) L

/-- Both heads of a chunk. -/
def both (n n' : BitVec 32) (M : IVec S128x256 1) (K : Vec Ideal S256x128 .bf16) (Q : Vec Ideal S1x1x128x128 .f32) (L : FVec Ideal S128x128 .f32) : FVec Ideal S128x128 .f32 :=
  slotted n' M K (hi Q) (slotted n M K (k0_pay17 Q) L)

section Chunks

variable (M : IVec S128x256 1) (K V : Vec Ideal S256x128 .bf16) (Q : Vec Ideal S1x1x128x128 .f32)

theorem chunk0 : k0_pay28 (k0_pay27 M k0_pay13 (k0_pay16 Q) K V (k0_pay17 Q) (FloatOps.ofBits FTy.f32 0#32)) = chunk M K V Q := rfl
theorem chunk1 : k0_pay42 M k0_pay13 V (k0_pay34 M k0_pay13 Q K V) (k0_pay36 k0_pay13 Q K) (Named.named κ "mask" 4048155338#32) = chunk M K V Q := rfl
theorem chunk2 : k0_pay54 M k0_pay13 K V (k0_pay44 k0_pay13 Q) (k0_pay45 M k0_pay13 Q K) = chunk M K V Q := rfl
theorem chunk3 : k0_pay67 k0_pay13 V (k0_pay60 M k0_pay13 Q K V) (k0_pay64 M k0_pay13 Q K) = chunk M K V Q := rfl
theorem chunk4 : k0_pay80 M k0_pay13 K V (k0_pay69 k0_pay13 Q) (k0_pay72 M k0_pay13 Q K) (k0_pay73 M k0_pay13 Q K) = chunk M K V Q := rfl
theorem chunk5 : k0_pay94 k0_pay13 (k0_pay86 M k0_pay13 (k0_pay81 Q) K V) (k0_pay92 M k0_pay13 (k0_pay81 Q) K V) = chunk M K V Q := rfl
theorem chunk6 : k0_pay108 M k0_pay13 K V (k0_pay96 k0_pay13 Q) (k0_pay101 M k0_pay13 Q K V) = chunk M K V Q := rfl
theorem chunk7 : k0_pay1 k0_pay13 (k0_pay115 M k0_pay13 (k0_pay109 Q) K V k0_pay110) (k0_pay120 M k0_pay13 (k0_pay109 Q) K V) = chunk M K V Q := rfl

end Chunks

/-- The log-sum-exp block of all sixteen heads. -/
def tower (M : IVec S128x256 1) (Q0 Q1 Q2 Q3 Q4 Q5 Q6 Q7 : Vec Ideal S1x1x128x128 .f32) (K0 K1 K2 K3 K4 K5 K6 K7 : Vec Ideal S256x128 .bf16) : FVec Ideal S128x128 .f32 :=
  both 14#32 15#32 M K7 Q7 (both 12#32 13#32 M K6 Q6 (both 10#32 11#32 M K5 Q5 (both 8#32 9#32 M K4 Q4
    (both 6#32 7#32 M K3 Q3 (both 4#32 5#32 M K2 Q2 (both 2#32 3#32 M K1 Q1 (both 0#32 1#32 M K0 Q0 k0_pay15)))))))

theorem tower_eq (M : IVec S128x256 1) (Q0 Q1 Q2 Q3 Q4 Q5 Q6 Q7 : Vec Ideal S1x1x128x128 .f32) (K0 K1 K2 K3 K4 K5 K6 K7 : Vec Ideal S256x128 .bf16) :
    k0_pay2 (k0_pay121 M k0_pay13 k0_pay14 (k0_pay107 M k0_pay14 (k0_pay93 k0_pay14 (k0_pay87 M k0_pay13 k0_pay14 (k0_pay79 M k0_pay14 (k0_pay66 k0_pay14 (k0_pay61 M k0_pay13 k0_pay14 (k0_pay53 M k0_pay14 (k0_pay41 M k0_pay14 (k0_pay35 M k0_pay13 k0_pay14 (k0_pay26 M k0_pay13 k0_pay14 k0_pay15 (k0_pay16 Q0) K0 (k0_pay17 Q0) (FloatOps.ofBits FTy.f32 0#32)) Q1 K1) (k0_pay36 k0_pay13 Q1 K1) (Named.named κ "mask" 4048155338#32)) K2 (k0_pay44 k0_pay13 Q2) (k0_pay45 M k0_pay13 Q2 K2)) Q3 K3) (k0_pay63 M k0_pay13 Q3 K3) (k0_pay64 M k0_pay13 Q3 K3)) K4 (k0_pay69 k0_pay13 Q4) (k0_pay71 M k0_pay13 Q4 K4) (k0_pay73 M k0_pay13 Q4 K4)) (k0_pay81 Q5) K5) (k0_pay89 M k0_pay13 (k0_pay81 Q5) K5) (k0_pay91 M k0_pay13 (k0_pay81 Q5) K5)) K6 (k0_pay96 k0_pay13 Q6) (k0_pay98 M k0_pay13 Q6 K6) (k0_pay100 M k0_pay13 Q6 K6) k0_pay102) (k0_pay109 Q7) K7 k0_pay110)
      = shapeCast S1x1x128x128 (tower M Q0 Q1 Q2 Q3 Q4 Q5 Q6 Q7 K0 K1 K2 K3 K4 K5 K6 K7) shapeCasts_S128x128_S1x1x128x128 := rfl

/- The values of the integer lanes. -/

theorem lo_at (r l : Fin 128) : (k0_pay13 : IVec S128x128 1) (ix2 r l) = BitVec.ofBool (decide (l.val < 64)) := by
  pointwise [k0_pay13]
  revert l
  decide +kernel

theorem slot_at (r l : Fin 128) : (k0_pay14 : IVec S128x128 32) (ix2 r l) = BitVec.ofNat 32 (l.val / 8) := by
  pointwise [k0_pay14]
  revert l
  decide +kernel

/- The scores of the two heads of a chunk. -/

/-- Query and key lanes of head `b` (first or second) of a chunk. -/
def qLane (b : Fin 2) (Q : Vec Ideal S1x1x128x128 .f32) (r : Fin 128) (d : Fin 64) : EReal := Q (ix4 0 0 r ⟨64 * b.val + d.val, by omega⟩)
def kLane (b : Fin 2) (K : Vec Ideal S256x128 .bf16) (k : Fin 256) (d : Fin 64) : EReal := K (ix2 k ⟨64 * b.val + d.val, by omega⟩)
def okRow (M : IVec S128x256 1) (r : Fin 128) (k : Fin 256) : Bool := M (ix2 r k) == 1#1

abbrev headScores (b : Fin 2) (M : IVec S128x256 1) (K : Vec Ideal S256x128 .bf16) (Q : Vec Ideal S1x1x128x128 .f32) (r : Fin 128) : Fin 256 → EReal :=
  Head.scores (okRow M r) (qLane b Q r) (kLane b K)

theorem mask_bot : (Named.named κ "mask" 4048155338#32 : Ideal .f32) = (⊥ : EReal) := rfl

theorem pay18_at (M : IVec S128x256 1) (K : Vec Ideal S256x128 .bf16) (q : FVec Ideal S128x128 .f32) (r : Fin 128) (k : Fin 256) :
    k0_pay18 M K q (ix2 r k) = if okRow M r k then ∑ x, q (ix2 r x) * K (ix2 k x) else (⊥ : EReal) := by
  pointwise [k0_pay18]
  rw [mask_bot]
  unfold okRow Scalar.select
  simp

theorem pay19_at (M : IVec S128x256 1) (K : Vec Ideal S256x128 .bf16) (q : FVec Ideal S128x128 .f32) (r : Fin 128) (z : Fin 1) :
    k0_pay19 M K q (ix2 r z) = Head.top (fun k => k0_pay18 M K q (ix2 r k)) := by
  pointwise [k0_pay19]
  rfl

theorem pay20_at (M : IVec S128x256 1) (K : Vec Ideal S256x128 .bf16) (q : FVec Ideal S128x128 .f32) (r : Fin 128) (k : Fin 256) :
    k0_pay20 M K q (ix2 r k) = Ideal.exp (k0_pay18 M K q (ix2 r k) - Head.top (fun k => k0_pay18 M K q (ix2 r k))) := by
  pointwise [k0_pay20]
  rw [pay19_at]

theorem pay21_at (M : IVec S128x256 1) (K : Vec Ideal S256x128 .bf16) (q : FVec Ideal S128x128 .f32) (r : Fin 128) (z : Fin 1) :
    k0_pay21 M K q (ix2 r z) = Head.den (fun k => k0_pay18 M K q (ix2 r k)) := by
  pointwise [k0_pay21]
  simp only [pay20_at]
  rfl

theorem res_at (M : IVec S128x256 1) (K V : Vec Ideal S256x128 .bf16) (q : FVec Ideal S128x128 .f32) (r l : Fin 128) :
    res M K V q (ix2 r l) = Head.mix (fun k => k0_pay18 M K q (ix2 r k)) (fun k => V (ix2 k l)) := by
  pointwise [res]
  simp only [pay20_at, pay21_at]
  rfl

/-- A sum over 128 lanes is the sum over its two halves. -/
theorem halves (f : Fin 128 → EReal) : ∑ x, f x = (∑ d : Fin 64, f ⟨d.val, by omega⟩) + ∑ d : Fin 64, f ⟨64 + d.val, by omega⟩ :=
  Fin.sum_univ_add (a := 64) (b := 64) f

theorem lo_lane (Q : Vec Ideal S1x1x128x128 .f32) (r x : Fin 128) :
    k0_pay17 Q (ix2 r x) = if x.val < 64 then Q (ix4 0 0 r x) * Head.eighth else (0 : EReal) := by
  pointwise [k0_pay17, k0_pay16]
  rw [lo_at]
  unfold Scalar.select
  by_cases h : x.val < 64 <;> simp [h]

theorem hi_lane (Q : Vec Ideal S1x1x128x128 .f32) (r x : Fin 128) :
    hi Q (ix2 r x) = if x.val < 64 then (0 : EReal) else Q (ix4 0 0 r x) * Head.eighth := by
  pointwise [hi, k0_pay16]
  rw [lo_at]
  unfold Scalar.select
  by_cases h : x.val < 64 <;> simp [h]

theorem lo_row (M : IVec S128x256 1) (K : Vec Ideal S256x128 .bf16) (Q : Vec Ideal S1x1x128x128 .f32) (r : Fin 128) :
    (fun k => k0_pay18 M K (k0_pay17 Q) (ix2 r k)) = headScores 0 M K Q r := by
  funext k
  rw [pay18_at]
  unfold headScores Head.scores
  congr 1
  rw [← Head.scaled, halves]
  simp only [lo_lane]
  rw [show (∑ d : Fin 64, (if (⟨64 + d.val, by omega⟩ : Fin 128).val < 64 then Q (ix4 0 0 r ⟨64 + d.val, by omega⟩) * Head.eighth else (0 : EReal)) * K (ix2 k ⟨64 + d.val, by omega⟩)) = 0 from
    Finset.sum_eq_zero fun d _ => by rw [if_neg (by simp), zero_mul], add_zero]
  refine Finset.sum_congr rfl fun d _ => ?_
  rw [if_pos d.isLt]
  unfold qLane kLane
  simp

theorem hi_row (M : IVec S128x256 1) (K : Vec Ideal S256x128 .bf16) (Q : Vec Ideal S1x1x128x128 .f32) (r : Fin 128) :
    (fun k => k0_pay18 M K (hi Q) (ix2 r k)) = headScores 1 M K Q r := by
  funext k
  rw [pay18_at]
  unfold headScores Head.scores
  congr 1
  rw [← Head.scaled, halves]
  simp only [hi_lane]
  rw [show (∑ d : Fin 64, (if (⟨d.val, by omega⟩ : Fin 128).val < 64 then (0 : EReal) else Q (ix4 0 0 r ⟨d.val, by omega⟩) * Head.eighth) * K (ix2 k ⟨d.val, by omega⟩)) = 0 from
    Finset.sum_eq_zero fun d _ => by rw [if_pos d.isLt, zero_mul], zero_add]
  refine Finset.sum_congr rfl fun d _ => ?_
  rw [if_neg (by simp)]
  unfold qLane kLane
  simp

/-- The output of a chunk at a lane is the mixture of the head the lane belongs to. -/
theorem chunk_at (M : IVec S128x256 1) (K V : Vec Ideal S256x128 .bf16) (Q : Vec Ideal S1x1x128x128 .f32) (a b : Fin 1) (r l : Fin 128) :
    chunk M K V Q (ix4 a b r l) = Head.mix (headScores ⟨l.val / 64, by omega⟩ M K Q r) (fun k => V (ix2 k l)) := by
  pointwise [chunk]
  rw [lo_at, res_at, res_at, lo_row, hi_row]
  unfold Scalar.select
  by_cases h : l.val < 64
  · rw [show (⟨l.val / 64, by omega⟩ : Fin 2) = 0 from Fin.ext (by simp; omega)]; simp [h]
  · rw [show (⟨l.val / 64, by omega⟩ : Fin 2) = 1 from Fin.ext (by simp; omega)]; simp [h]

theorem slotted_at (n : ℕ) (hn : n < 16) (M : IVec S128x256 1) (K : Vec Ideal S256x128 .bf16) (q : FVec Ideal S128x128 .f32) (L : FVec Ideal S128x128 .f32) (r l : Fin 128) :
    slotted (BitVec.ofNat 32 n) M K q L (ix2 r l) = if l.val / 8 = n then Head.lse (fun k => k0_pay18 M K q (ix2 r k)) else L (ix2 r l) := by
  pointwise [slotted]
  rw [slot_at, pay19_at, pay21_at]
  have : IntOp.cmpi .eq (BitVec.ofNat 32 (l.val / 8)) (BitVec.ofNat 32 n) = BitVec.ofBool (decide (l.val / 8 = n)) := by
    have hl : l.val / 8 < 16 := by omega
    generalize l.val / 8 = m at hl
    interval_cases m <;> interval_cases n <;> rfl
  rw [this]
  unfold Scalar.select
  by_cases h : l.val / 8 = n <;> simp [h, Head.lse]

theorem both_at (n : ℕ) (hn : n + 1 < 16) (M : IVec S128x256 1) (K : Vec Ideal S256x128 .bf16) (Q : Vec Ideal S1x1x128x128 .f32) (L : FVec Ideal S128x128 .f32) (r l : Fin 128) :
    both (BitVec.ofNat 32 n) (BitVec.ofNat 32 (n + 1)) M K Q L (ix2 r l)
      = if l.val / 8 = n + 1 then Head.lse (headScores 1 M K Q r) else if l.val / 8 = n then Head.lse (headScores 0 M K Q r) else L (ix2 r l) := by
  unfold both
  rw [slotted_at _ hn, slotted_at _ (by omega), lo_row, hi_row]

/-- The lane of the log-sum-exp block holds the value of its head. -/
theorem tower_at (M : IVec S128x256 1) (Q0 Q1 Q2 Q3 Q4 Q5 Q6 Q7 : Vec Ideal S1x1x128x128 .f32) (K0 K1 K2 K3 K4 K5 K6 K7 : Vec Ideal S256x128 .bf16)
    (a b : Fin 1) (r l : Fin 128) :
    shapeCast S1x1x128x128 (tower M Q0 Q1 Q2 Q3 Q4 Q5 Q6 Q7 K0 K1 K2 K3 K4 K5 K6 K7) shapeCasts_S128x128_S1x1x128x128 (ix4 a b r l)
      = Head.lse (headScores ⟨l.val / 8 % 2, by omega⟩ M (![K0, K1, K2, K3, K4, K5, K6, K7] ⟨l.val / 16, by omega⟩) (![Q0, Q1, Q2, Q3, Q4, Q5, Q6, Q7] ⟨l.val / 16, by omega⟩) r) := by
  pointwise []
  unfold tower
  rw [both_at 14 (by omega), both_at 12 (by omega), both_at 10 (by omega), both_at 8 (by omega), both_at 6 (by omega), both_at 4 (by omega), both_at 2 (by omega), both_at 0 (by omega)]
  have hl : l.val / 8 < 16 := by omega
  obtain ⟨m, hm⟩ : ∃ m : Fin 16, l.val / 8 = m.val := ⟨⟨_, hl⟩, rfl⟩
  rw [show (⟨l.val / 16, by omega⟩ : Fin 8) = ⟨m.val / 2, by omega⟩ from Fin.ext (by simp; omega),
    show (⟨l.val / 8 % 2, by omega⟩ : Fin 2) = ⟨m.val % 2, by omega⟩ from Fin.ext (by simp; omega)]
  simp only [hm]
  fin_cases m <;> rfl

end Cert.Band1Ideal.Pure

end
-- ==== Proof.Band1Final.lean ====
/- The blocks the band attention leaves: what its carried key and value rows hold, and both results as functions of the argument. -/
module

public import Idealize.ShloMosaic.Lib.Pipeline.ReadBack
public import proofs.«01_k».proof.Proof.HeadMask
public import proofs.«01_k».proof.Proof.Band1Read

@[expose] public section

set_option maxRecDepth 16384

noncomputable section

namespace Cert.Band1Ideal.Pure

open Cert.Band1Ideal Cert.Band1Ideal.Gen Idealize.ShloMosaic Idealize.ShloMosaic.TcCoe Idealize.SL.Sem
open Idealize.ShloMosaic.Pipeline (Dat)

/-- A read of what was just stored is a read of the stored contents. -/
theorem rd {sp : Space} {s : Shape} {e : EltTy} (v : View sig .tc sp s e) (L : List (View.Piece (Elt Ideal) s e)) (r : Rect s) :
    v.readCov L r.toLoadRect = View.ld (View.canon L) r := View.readCov_eq_canon' v L _

/-- Carried rows after the body: the block's own rows `A` below the rows `B` of the block before. -/
def two (A B : FVec Ideal S128x1024 .bf16) : Vec Ideal S256x1024 .bf16 :=
  View.canon [(⟨Rect.unit ![128, 0] ![128, 1024] inb_S256x1024_S128x1024_128_0, A⟩ : View.Piece (Elt Ideal) S256x1024 .bf16),
    (⟨Rect.unit ![0, 0] ![128, 1024] inb_S256x1024_S128x1024_0_0, B⟩ : View.Piece (Elt Ideal) S256x1024 .bf16)]

theorem two_eq (A B : FVec Ideal S128x1024 .bf16) :
    View.canon [(⟨Rect.unit ![128, 0] ![128, 1024] inb_S256x1024_S128x1024_128_0, A⟩ : View.Piece (Elt Ideal) S256x1024 .bf16),
      (⟨Rect.unit ![0, 0] ![128, 1024] inb_S256x1024_S128x1024_0_0, B⟩ : View.Piece (Elt Ideal) S256x1024 .bf16)] = two A B := rfl

theorem two_at (A B : FVec Ideal S128x1024 .bf16) (k : Fin 256) (l : Fin 1024) :
    two A B (ix2 k l) = if h : k.val < 128 then B (ix2 ⟨k.val, h⟩ l) else A (ix2 ⟨k.val - 128, by omega⟩ l) := by
  unfold two
  canon_tiles x h
  · rw [dif_neg (by simp at h0 ⊢; omega)]
    exact congrArg A ((eq_ix2 x).trans (congrArg₂ ix2 (Fin.ext (by simp at h0 ⊢; omega)) (Fin.ext (by simp at h1 ⊢; omega))))
  · rw [dif_pos (by simp at h0 ⊢; omega)]
    exact congrArg B ((eq_ix2 x).trans (congrArg₂ ix2 (Fin.ext (by simp at h0 ⊢; omega)) (Fin.ext (by simp at h1 ⊢; omega))))

/-- The scores of head `h` of a block of 128 query rows. -/
def blockScores (M : IVec S128x256 1) (Q : Vec Ideal S1x1x128x1024 .f32) (KK : Vec Ideal S256x1024 .bf16) (r : Fin 128) (h : Fin 16) : Fin 256 → EReal :=
  Head.scores (okRow M r) (fun d => Q (ix4 0 0 r ⟨64 * h.val + d.val, by omega⟩)) (fun k d => KK (ix2 k ⟨64 * h.val + d.val, by omega⟩))

theorem scores_chunk (c : ℕ) (hc : c < 8) (M : IVec S128x256 1) (Q : Vec Ideal S1x1x128x1024 .f32) (KK : Vec Ideal S256x1024 .bf16)
    (Q' : Vec Ideal S1x1x128x128 .f32) (K : Vec Ideal S256x128 .bf16)
    (hQ : ∀ r l : Fin 128, Q' (ix4 0 0 r l) = Q (ix4 0 0 r ⟨128 * c + l.val, by omega⟩))
    (hK : ∀ (k : Fin 256) (l : Fin 128), K (ix2 k l) = KK (ix2 k ⟨128 * c + l.val, by omega⟩))
    (b : Fin 2) (r : Fin 128) (h : Fin 16) (hh : h.val = 2 * c + b.val) :
    headScores b M K Q' r = blockScores M Q KK r h := by
  unfold headScores blockScores
  congr 1
  · funext d; unfold qLane; rw [hQ]; exact congrArg _ (congrArg (ix4 0 0 r) (Fin.ext (by simp; omega)))
  · funext k d; unfold kLane; rw [hK]; exact congrArg _ (congrArg (ix2 k) (Fin.ext (by simp; omega)))

theorem piece_at (c : ℕ) (hc : c < 8) (M : IVec S128x256 1) (Q : Vec Ideal S1x1x128x1024 .f32) (KK VV : Vec Ideal S256x1024 .bf16)
    (Q' : Vec Ideal S1x1x128x128 .f32) (K V : Vec Ideal S256x128 .bf16) (x : S1x1x128x128.Idx) (r : Fin 128) (l : Fin 1024)
    (hr : r.val = (x 2).val) (hl : l.val = 128 * c + (x 3).val)
    (hQ : ∀ r l : Fin 128, Q' (ix4 0 0 r l) = Q (ix4 0 0 r ⟨128 * c + l.val, by omega⟩))
    (hK : ∀ (k : Fin 256) (l : Fin 128), K (ix2 k l) = KK (ix2 k ⟨128 * c + l.val, by omega⟩))
    (hV : ∀ (k : Fin 256) (l : Fin 128), V (ix2 k l) = VV (ix2 k ⟨128 * c + l.val, by omega⟩)) :
    chunk M K V Q' x = Head.mix (blockScores M Q KK r ⟨l.val / 64, by omega⟩) (fun k => VV (ix2 k l)) := by
  obtain ⟨a, b, r', l', rfl⟩ : ∃ (a b : Fin 1) (r' l' : Fin 128), x = ix4 a b r' l' := ⟨x 0, x 1, x 2, x 3, eq_ix4 x⟩
  obtain rfl : r = r' := Fin.ext hr
  have hl' : l.val = 128 * c + l'.val := hl
  rw [chunk_at, scores_chunk c hc M Q KK Q' K hQ hK ⟨l'.val / 64, by omega⟩ r ⟨l.val / 64, by omega⟩ (by simp; omega)]
  refine congrArg _ (funext fun k => ?_)
  rw [hV]
  exact congrArg _ (congrArg (ix2 k) (Fin.ext (by simp; omega)))

/-- The eight stores of the output, read at one entry. -/
theorem out3_at (M : IVec S128x256 1) (Q : Vec Ideal S1x1x128x1024 .f32) (KK VV : Vec Ideal S256x1024 .bf16) (a b : Fin 1) (r : Fin 128) (l : Fin 1024) :
    View.canon [(⟨Rect.unit ![0, 0, 0, 896] ![1, 1, 128, 128] inb_S1x1x128x1024_S1x1x128x128_0_0_0_896, chunk M (View.ld KK (Rect.unit ![0, 896] ![256, 128] inb_S256x1024_S256x128_0_896)) (View.ld VV (Rect.unit ![0, 896] ![256, 128] inb_S256x1024_S256x128_0_896)) (View.ld Q (Rect.unit ![0, 0, 0, 896] ![1, 1, 128, 128] inb_S1x1x128x1024_S1x1x128x128_0_0_0_896))⟩ : View.Piece (Elt Ideal) S1x1x128x1024 .f32),
      (⟨Rect.unit ![0, 0, 0, 768] ![1, 1, 128, 128] inb_S1x1x128x1024_S1x1x128x128_0_0_0_768, chunk M (View.ld KK (Rect.unit ![0, 768] ![256, 128] inb_S256x1024_S256x128_0_768)) (View.ld VV (Rect.unit ![0, 768] ![256, 128] inb_S256x1024_S256x128_0_768)) (View.ld Q (Rect.unit ![0, 0, 0, 768] ![1, 1, 128, 128] inb_S1x1x128x1024_S1x1x128x128_0_0_0_768))⟩ : View.Piece (Elt Ideal) S1x1x128x1024 .f32),
      (⟨Rect.unit ![0, 0, 0, 640] ![1, 1, 128, 128] inb_S1x1x128x1024_S1x1x128x128_0_0_0_640, chunk M (View.ld KK (Rect.unit ![0, 640] ![256, 128] inb_S256x1024_S256x128_0_640)) (View.ld VV (Rect.unit ![0, 640] ![256, 128] inb_S256x1024_S256x128_0_640)) (View.ld Q (Rect.unit ![0, 0, 0, 640] ![1, 1, 128, 128] inb_S1x1x128x1024_S1x1x128x128_0_0_0_640))⟩ : View.Piece (Elt Ideal) S1x1x128x1024 .f32),
      (⟨Rect.unit ![0, 0, 0, 512] ![1, 1, 128, 128] inb_S1x1x128x1024_S1x1x128x128_0_0_0_512, chunk M (View.ld KK (Rect.unit ![0, 512] ![256, 128] inb_S256x1024_S256x128_0_512)) (View.ld VV (Rect.unit ![0, 512] ![256, 128] inb_S256x1024_S256x128_0_512)) (View.ld Q (Rect.unit ![0, 0, 0, 512] ![1, 1, 128, 128] inb_S1x1x128x1024_S1x1x128x128_0_0_0_512))⟩ : View.Piece (Elt Ideal) S1x1x128x1024 .f32),
      (⟨Rect.unit ![0, 0, 0, 384] ![1, 1, 128, 128] inb_S1x1x128x1024_S1x1x128x128_0_0_0_384, chunk M (View.ld KK (Rect.unit ![0, 384] ![256, 128] inb_S256x1024_S256x128_0_384)) (View.ld VV (Rect.unit ![0, 384] ![256, 128] inb_S256x1024_S256x128_0_384)) (View.ld Q (Rect.unit ![0, 0, 0, 384] ![1, 1, 128, 128] inb_S1x1x128x1024_S1x1x128x128_0_0_0_384))⟩ : View.Piece (Elt Ideal) S1x1x128x1024 .f32),
      (⟨Rect.unit ![0, 0, 0, 256] ![1, 1, 128, 128] inb_S1x1x128x1024_S1x1x128x128_0_0_0_256, chunk M (View.ld KK (Rect.unit ![0, 256] ![256, 128] inb_S256x1024_S256x128_0_256)) (View.ld VV (Rect.unit ![0, 256] ![256, 128] inb_S256x1024_S256x128_0_256)) (View.ld Q (Rect.unit ![0, 0, 0, 256] ![1, 1, 128, 128] inb_S1x1x128x1024_S1x1x128x128_0_0_0_256))⟩ : View.Piece (Elt Ideal) S1x1x128x1024 .f32),
      (⟨Rect.unit ![0, 0, 0, 128] ![1, 1, 128, 128] inb_S1x1x128x1024_S1x1x128x128_0_0_0_128, chunk M (View.ld KK (Rect.unit ![0, 128] ![256, 128] inb_S256x1024_S256x128_0_128)) (View.ld VV (Rect.unit ![0, 128] ![256, 128] inb_S256x1024_S256x128_0_128)) (View.ld Q (Rect.unit ![0, 0, 0, 128] ![1, 1, 128, 128] inb_S1x1x128x1024_S1x1x128x128_0_0_0_128))⟩ : View.Piece (Elt Ideal) S1x1x128x1024 .f32),
      (⟨Rect.unit ![0, 0, 0, 0] ![1, 1, 128, 128] inb_S1x1x128x1024_S1x1x128x128_0_0_0_0, chunk M (View.ld KK (Rect.unit ![0, 0] ![256, 128] inb_S256x1024_S256x128_0_0)) (View.ld VV (Rect.unit ![0, 0] ![256, 128] inb_S256x1024_S256x128_0_0)) (View.ld Q (Rect.unit ![0, 0, 0, 0] ![1, 1, 128, 128] inb_S1x1x128x1024_S1x1x128x128_0_0_0_0))⟩ : View.Piece (Elt Ideal) S1x1x128x1024 .f32)] (ix4 a b r l)
      = Head.mix (blockScores M Q KK r ⟨l.val / 64, by omega⟩) (fun k => VV (ix2 k l)) := by
  canon_tiles x h
  · exact piece_at 7 (by omega) M Q KK VV _ _ _ x r l h2 (by simpa using h3) (by intro r l; pointwise; blk_ext) (by intro r l; pointwise; blk_ext) (by intro r l; pointwise; blk_ext)
  · exact piece_at 6 (by omega) M Q KK VV _ _ _ x r l h2 (by simpa using h3) (by intro r l; pointwise; blk_ext) (by intro r l; pointwise; blk_ext) (by intro r l; pointwise; blk_ext)
  · exact piece_at 5 (by omega) M Q KK VV _ _ _ x r l h2 (by simpa using h3) (by intro r l; pointwise; blk_ext) (by intro r l; pointwise; blk_ext) (by intro r l; pointwise; blk_ext)
  · exact piece_at 4 (by omega) M Q KK VV _ _ _ x r l h2 (by simpa using h3) (by intro r l; pointwise; blk_ext) (by intro r l; pointwise; blk_ext) (by intro r l; pointwise; blk_ext)
  · exact piece_at 3 (by omega) M Q KK VV _ _ _ x r l h2 (by simpa using h3) (by intro r l; pointwise; blk_ext) (by intro r l; pointwise; blk_ext) (by intro r l; pointwise; blk_ext)
  · exact piece_at 2 (by omega) M Q KK VV _ _ _ x r l h2 (by simpa using h3) (by intro r l; pointwise; blk_ext) (by intro r l; pointwise; blk_ext) (by intro r l; pointwise; blk_ext)
  · exact piece_at 1 (by omega) M Q KK VV _ _ _ x r l h2 (by simpa using h3) (by intro r l; pointwise; blk_ext) (by intro r l; pointwise; blk_ext) (by intro r l; pointwise; blk_ext)
  · exact piece_at 0 (by omega) M Q KK VV _ _ _ x r l h2 (by simpa using h3) (by intro r l; pointwise; blk_ext) (by intro r l; pointwise; blk_ext) (by intro r l; pointwise; blk_ext)

/-- The one store of the log-sum-exp block, read at one entry. -/
theorem out4_at (M : IVec S128x256 1) (Q : Vec Ideal S1x1x128x1024 .f32) (KK : Vec Ideal S256x1024 .bf16) (a b : Fin 1) (r l : Fin 128) :
    shapeCast S1x1x128x128 (tower M (View.ld Q (Rect.unit ![0, 0, 0, 0] ![1, 1, 128, 128] inb_S1x1x128x1024_S1x1x128x128_0_0_0_0)) (View.ld Q (Rect.unit ![0, 0, 0, 128] ![1, 1, 128, 128] inb_S1x1x128x1024_S1x1x128x128_0_0_0_128)) (View.ld Q (Rect.unit ![0, 0, 0, 256] ![1, 1, 128, 128] inb_S1x1x128x1024_S1x1x128x128_0_0_0_256)) (View.ld Q (Rect.unit ![0, 0, 0, 384] ![1, 1, 128, 128] inb_S1x1x128x1024_S1x1x128x128_0_0_0_384)) (View.ld Q (Rect.unit ![0, 0, 0, 512] ![1, 1, 128, 128] inb_S1x1x128x1024_S1x1x128x128_0_0_0_512)) (View.ld Q (Rect.unit ![0, 0, 0, 640] ![1, 1, 128, 128] inb_S1x1x128x1024_S1x1x128x128_0_0_0_640)) (View.ld Q (Rect.unit ![0, 0, 0, 768] ![1, 1, 128, 128] inb_S1x1x128x1024_S1x1x128x128_0_0_0_768)) (View.ld Q (Rect.unit ![0, 0, 0, 896] ![1, 1, 128, 128] inb_S1x1x128x1024_S1x1x128x128_0_0_0_896)) (View.ld KK (Rect.unit ![0, 0] ![256, 128] inb_S256x1024_S256x128_0_0)) (View.ld KK (Rect.unit ![0, 128] ![256, 128] inb_S256x1024_S256x128_0_128)) (View.ld KK (Rect.unit ![0, 256] ![256, 128] inb_S256x1024_S256x128_0_256)) (View.ld KK (Rect.unit ![0, 384] ![256, 128] inb_S256x1024_S256x128_0_384)) (View.ld KK (Rect.unit ![0, 512] ![256, 128] inb_S256x1024_S256x128_0_512)) (View.ld KK (Rect.unit ![0, 640] ![256, 128] inb_S256x1024_S256x128_0_640)) (View.ld KK (Rect.unit ![0, 768] ![256, 128] inb_S256x1024_S256x128_0_768)) (View.ld KK (Rect.unit ![0, 896] ![256, 128] inb_S256x1024_S256x128_0_896))) shapeCasts_S128x128_S1x1x128x128 (ix4 a b r l)
      = Head.lse (blockScores M Q KK r ⟨l.val / 8, by omega⟩) := by
  rw [tower_at]
  congr 1
  refine scores_chunk (l.val / 16) (by omega) _ _ _ _ _ ?_ ?_ ⟨l.val / 8 % 2, by omega⟩ r ⟨l.val / 8, by omega⟩ (by simp; omega)
  · have : ∀ (j : Fin 8) (r l : Fin 128), (![(View.ld Q (Rect.unit ![0, 0, 0, 0] ![1, 1, 128, 128] inb_S1x1x128x1024_S1x1x128x128_0_0_0_0)), (View.ld Q (Rect.unit ![0, 0, 0, 128] ![1, 1, 128, 128] inb_S1x1x128x1024_S1x1x128x128_0_0_0_128)), (View.ld Q (Rect.unit ![0, 0, 0, 256] ![1, 1, 128, 128] inb_S1x1x128x1024_S1x1x128x128_0_0_0_256)), (View.ld Q (Rect.unit ![0, 0, 0, 384] ![1, 1, 128, 128] inb_S1x1x128x1024_S1x1x128x128_0_0_0_384)), (View.ld Q (Rect.unit ![0, 0, 0, 512] ![1, 1, 128, 128] inb_S1x1x128x1024_S1x1x128x128_0_0_0_512)), (View.ld Q (Rect.unit ![0, 0, 0, 640] ![1, 1, 128, 128] inb_S1x1x128x1024_S1x1x128x128_0_0_0_640)), (View.ld Q (Rect.unit ![0, 0, 0, 768] ![1, 1, 128, 128] inb_S1x1x128x1024_S1x1x128x128_0_0_0_768)), (View.ld Q (Rect.unit ![0, 0, 0, 896] ![1, 1, 128, 128] inb_S1x1x128x1024_S1x1x128x128_0_0_0_896))] j : Vec Ideal S1x1x128x128 .f32) (ix4 0 0 r l) = Q (ix4 0 0 r ⟨128 * j.val + l.val, by omega⟩) := by
      intro j r l
      fin_cases j <;> (simp only [Fin.mk_zero, Fin.isValue]; pointwise; blk_ext)
    exact fun r' l' => this ⟨l.val / 16, by omega⟩ r' l'
  · have : ∀ (j : Fin 8) (k : Fin 256) (l : Fin 128), (![(View.ld KK (Rect.unit ![0, 0] ![256, 128] inb_S256x1024_S256x128_0_0)), (View.ld KK (Rect.unit ![0, 128] ![256, 128] inb_S256x1024_S256x128_0_128)), (View.ld KK (Rect.unit ![0, 256] ![256, 128] inb_S256x1024_S256x128_0_256)), (View.ld KK (Rect.unit ![0, 384] ![256, 128] inb_S256x1024_S256x128_0_384)), (View.ld KK (Rect.unit ![0, 512] ![256, 128] inb_S256x1024_S256x128_0_512)), (View.ld KK (Rect.unit ![0, 640] ![256, 128] inb_S256x1024_S256x128_0_640)), (View.ld KK (Rect.unit ![0, 768] ![256, 128] inb_S256x1024_S256x128_0_768)), (View.ld KK (Rect.unit ![0, 896] ![256, 128] inb_S256x1024_S256x128_0_896))] j : Vec Ideal S256x128 .bf16) (ix2 k l) = KK (ix2 k ⟨128 * j.val + l.val, by omega⟩) := by
      intro j k l
      fin_cases j <;> (simp only [Fin.mk_zero, Fin.isValue]; pointwise; blk_ext)
    exact fun k' l' => this ⟨l.val / 16, by omega⟩ k' l'

variable (m : (ℓ : Loc nD τ sig) → Buf (Elt Ideal) ℓ)

/-- The mask of a grid point. -/
def maskOf (i : grid0.Coords) : IVec S128x256 1 :=
  k0_pay12 (iota .tc S128x256 32 [0] iota_S128x256_d0_w32) (iota .tc S128x256 32 [1] iota_S128x256_d1_w32) (k0_pay9 i) k0_pay10 k0_pay11

theorem okRow_mask (i : grid0.Coords) (r : Fin 128) : okRow (maskOf i) r = Head.okay (i 2).val r := by
  funext k
  have h : maskOf i (ix2 r k) = BitVec.ofBool (Head.okay (i 2).val r k) := by
    pointwise [maskOf, k0_pay12, k0_pay9, k0_pay10, k0_pay11]
    refine Head.mask_words _ _ ?_ r k
    generalize i 2 = j
    revert j
    decide +kernel
  unfold okRow
  rw [h]
  cases Head.okay (i 2).val r k <;> rfl

theorem keys_A (c : Dev nD) (t : Fin cfg0.N) (h0 : t.val % 64 = 0) (h1 : ¬1 ≤ t.val % 64) :
    (outsAt0 m c t.val t.isLt).2.2.1 = two (k0_pay7 (iblk m c 1 t)) k0_pay3 := by
  rw [outsAt0_A m c t h0 h1]; frame_out

theorem vals_A (c : Dev nD) (t : Fin cfg0.N) (h0 : t.val % 64 = 0) (h1 : ¬1 ≤ t.val % 64) :
    (outsAt0 m c t.val t.isLt).2.2.2 = two (k0_pay8 (iblk m c 2 t)) k0_pay4 := by
  rw [outsAt0_A m c t h0 h1]; frame_out

theorem keys_B (c : Dev nD) (t : Fin cfg0.N) (h0 : ¬t.val % 64 = 0) (h1 : 1 ≤ t.val % 64) :
    (outsAt0 m c t.val t.isLt).2.2.1 = two (k0_pay7 (iblk m c 1 t))
      (k0_pay5 (View.ld (outsAt0 m c (t.val - 1) (Nat.lt_of_le_of_lt (Nat.sub_le _ _) t.isLt)).2.2.1 (Rect.unit ![128, 0] ![128, 1024] inb_S256x1024_S128x1024_128_0))) := by
  rw [outsAt0_B m c t h0 h1]; frame_out
  rw [read_unread_whole]

theorem vals_B (c : Dev nD) (t : Fin cfg0.N) (h0 : ¬t.val % 64 = 0) (h1 : 1 ≤ t.val % 64) :
    (outsAt0 m c t.val t.isLt).2.2.2 = two (k0_pay8 (iblk m c 2 t))
      (k0_pay6 (View.ld (outsAt0 m c (t.val - 1) (Nat.lt_of_le_of_lt (Nat.sub_le _ _) t.isLt)).2.2.2 (Rect.unit ![128, 0] ![128, 1024] inb_S256x1024_S128x1024_128_0))) := by
  rw [outsAt0_B m c t h0 h1]; frame_out
  rw [read_unread_whole]

theorem block3_A (c : Dev nD) (t : Fin cfg0.N) (h0 : t.val % 64 = 0) (h1 : ¬1 ≤ t.val % 64) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  rw [keys_A m c t h0 h1, vals_A m c t h0 h1, outsAt0_A m c t h0 h1]; frame_out
  simp only [rd, two_eq, chunk0, chunk1, chunk2, chunk3, chunk4, chunk5, chunk6, chunk7]
  exact out3_at (maskOf (grid0.coords t)) (iblk m c 0 t) _ _ a b r l

theorem block4_A (c : Dev nD) (t : Fin cfg0.N) (h0 : t.val % 64 = 0) (h1 : ¬1 ≤ t.val % 64) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  rw [keys_A m c t h0 h1, outsAt0_A m c t h0 h1]; frame_out
  simp only [rd, two_eq]
  rw [tower_eq]
  exact out4_at (maskOf (grid0.coords t)) (iblk m c 0 t) _ a b r l

theorem block3_B (c : Dev nD) (t : Fin cfg0.N) (h0 : ¬t.val % 64 = 0) (h1 : 1 ≤ t.val % 64) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  rw [keys_B m c t h0 h1, vals_B m c t h0 h1, outsAt0_B m c t h0 h1]; frame_out
  simp only [rd, read_unread_whole, two_eq, chunk0, chunk1, chunk2, chunk3, chunk4, chunk5, chunk6, chunk7]
  exact out3_at (maskOf (grid0.coords t)) (iblk m c 0 t) _ _ a b r l

theorem block4_B (c : Dev nD) (t : Fin cfg0.N) (h0 : ¬t.val % 64 = 0) (h1 : 1 ≤ t.val % 64) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  rw [keys_B m c t h0 h1, outsAt0_B m c t h0 h1]; frame_out
  simp only [rd, read_unread_whole, two_eq]
  rw [tower_eq]
  exact out4_at (maskOf (grid0.coords t)) (iblk m c 0 t) _ a b r l

theorem block3 (c : Dev nD) (t : Fin cfg0.N) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  by_cases h : t.val % 64 = 0
  · exact block3_A m c t h (by omega) a b r l
  · exact block3_B m c t h (by omega) a b r l

theorem block4 (c : Dev nD) (t : Fin cfg0.N) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  by_cases h : t.val % 64 = 0
  · exact block4_A m c t h (by omega) a b r l
  · exact block4_B m c t h (by omega) a b r l

theorem idx : ∀ t : Fin cfg0.N, win0_0.index t = ![t.val / 64, t.val / 64 % 1, t.val % 64, 0]
    ∧ win0_1.index t = ![t.val / 64, t.val / 64 % 1, t.val % 64, 1] ∧ win0_2.index t = ![t.val / 64, t.val / 64 % 1, t.val % 64, 2]
    ∧ win0_3.index t = ![t.val / 64, t.val / 64 % 1, t.val % 64, 0] ∧ win0_4.index t = ![t.val / 64, t.val / 64 % 1, t.val % 64, 0]
    ∧ (grid0.coords t 2).val = t.val % 64 := (by decide +kernel : ∀ t : Fin grid0.N, _)

/-- The argument's row `i` of the stream a grid point belongs to, at lane `l`. -/
def row (c : Dev nD) (t : Fin cfg0.N) (l : Fin 3072) (i : Fin 8192) : EReal :=
  (m ((c : Thread nD τ).loc main_arg0) : Vec Ideal S2x1x8192x3072 .f32) (ix4 ⟨t.val / 64, by have := t.isLt; have : cfg0.N = 128 := N_0; omega⟩ ⟨t.val / 64 % 1, by omega⟩ i l)

theorem in0 (c : Dev nD) (t : Fin cfg0.N) (r : Fin 128) (l : Fin 1024) :
    (iblk m c 0 t : Vec Ideal S1x1x128x1024 .f32) (ix4 0 0 r l) = row m c t ⟨l.val, by omega⟩ ⟨t.val % 64 * 128 + r.val, by omega⟩ := by
  unfold row
  blk_point [iblk, V, idx t]

theorem in1 (c : Dev nD) (t : Fin cfg0.N) (r : Fin 128) (l : Fin 1024) :
    (iblk m c 1 t : Vec Ideal S1x1x128x1024 .f32) (ix4 0 0 r l) = row m c t ⟨1024 + l.val, by omega⟩ ⟨t.val % 64 * 128 + r.val, by omega⟩ := by
  unfold row
  blk_point [iblk, V, idx t]

theorem in2 (c : Dev nD) (t : Fin cfg0.N) (r : Fin 128) (l : Fin 1024) :
    (iblk m c 2 t : Vec Ideal S1x1x128x1024 .f32) (ix4 0 0 r l) = row m c t ⟨2048 + l.val, by omega⟩ ⟨t.val % 64 * 128 + r.val, by omega⟩ := by
  unfold row
  blk_point [iblk, V, idx t]

theorem keys_low (c : Dev nD) (t : Fin cfg0.N) (r : Fin 128) (l : Fin 1024) :
    (outsAt0 m c t.val t.isLt).2.2.1 (ix2 ⟨128 + r.val, by omega⟩ l) = row m c t ⟨1024 + l.val, by omega⟩ ⟨t.val % 64 * 128 + r.val, by omega⟩ := by
  have e : ∀ B, two (k0_pay7 (iblk m c 1 t)) B (ix2 ⟨128 + r.val, by omega⟩ l) = row m c t ⟨1024 + l.val, by omega⟩ ⟨t.val % 64 * 128 + r.val, by omega⟩ := by
    intro B
    rw [two_at, dif_neg (by simp), ← in1]
    pointwise [k0_pay7]
    blk_ext
  by_cases h : t.val % 64 = 0
  · rw [keys_A m c t h (by omega)]; exact e _
  · rw [keys_B m c t h (by omega)]; exact e _

theorem vals_low (c : Dev nD) (t : Fin cfg0.N) (r : Fin 128) (l : Fin 1024) :
    (outsAt0 m c t.val t.isLt).2.2.2 (ix2 ⟨128 + r.val, by omega⟩ l) = row m c t ⟨2048 + l.val, by omega⟩ ⟨t.val % 64 * 128 + r.val, by omega⟩ := by
  have e : ∀ B, two (k0_pay8 (iblk m c 2 t)) B (ix2 ⟨128 + r.val, by omega⟩ l) = row m c t ⟨2048 + l.val, by omega⟩ ⟨t.val % 64 * 128 + r.val, by omega⟩ := by
    intro B
    rw [two_at, dif_neg (by simp), ← in2]
    pointwise [k0_pay8]
    blk_ext
  by_cases h : t.val % 64 = 0
  · rw [vals_A m c t h (by omega)]; exact e _
  · rw [vals_B m c t h (by omega)]; exact e _

/-- The grid point before, in the same stream. -/
theorem row_prev (c : Dev nD) (t t' : Fin cfg0.N) (ht : t'.val = t.val - 1) (h : ¬t.val % 64 = 0) (l : Fin 3072) (i : Fin 8192) :
    row m c t' l i = row m c t l i := by
  unfold row
  exact congrArg _ (congrArg₂ (fun a b => ix4 a b i l) (Fin.ext (by simp <;> omega)) (Fin.ext (by simp <;> omega)))

/-- The carried keys: the rows of the block before, then the block's own. -/
theorem keys_at (c : Dev nD) (t : Fin cfg0.N) (k : Fin 256) (l : Fin 1024) :
    (outsAt0 m c t.val t.isLt).2.2.1 (ix2 k l) = Head.ext (row m c t ⟨1024 + l.val, by omega⟩) (t.val % 64) (by omega) k := by
  unfold Head.ext
  by_cases hk : k.val < 128
  · rw [dif_pos hk]
    by_cases h : t.val % 64 = 0
    · rw [dif_pos h, keys_A m c t h (by omega), two_at, dif_pos hk]
      pointwise [k0_pay3]
    · rw [dif_neg h, keys_B m c t h (by omega), two_at, dif_pos hk]
      refine Eq.trans ?_ ((keys_low m c ⟨t.val - 1, Nat.lt_of_le_of_lt (Nat.sub_le _ _) t.isLt⟩ ⟨k.val, hk⟩ l).trans ((row_prev m c t ⟨t.val - 1, Nat.lt_of_le_of_lt (Nat.sub_le _ _) t.isLt⟩ rfl h _ _).trans ?_))
      · pointwise [k0_pay5]
        blk_ext
      · exact congrArg _ (Fin.ext (by simp <;> omega))
  · rw [dif_neg hk]
    refine Eq.trans (congrArg (fun k' => (outsAt0 m c t.val t.isLt).2.2.1 (ix2 k' l)) (Fin.ext (by simp <;> omega))) (keys_low m c t ⟨k.val - 128, by omega⟩ l)

/-- The carried values likewise. -/
theorem vals_at (c : Dev nD) (t : Fin cfg0.N) (k : Fin 256) (l : Fin 1024) :
    (outsAt0 m c t.val t.isLt).2.2.2 (ix2 k l) = Head.ext (row m c t ⟨2048 + l.val, by omega⟩) (t.val % 64) (by omega) k := by
  unfold Head.ext
  by_cases hk : k.val < 128
  · rw [dif_pos hk]
    by_cases h : t.val % 64 = 0
    · rw [dif_pos h, vals_A m c t h (by omega), two_at, dif_pos hk]
      pointwise [k0_pay4]
    · rw [dif_neg h, vals_B m c t h (by omega), two_at, dif_pos hk]
      refine Eq.trans ?_ ((vals_low m c ⟨t.val - 1, Nat.lt_of_le_of_lt (Nat.sub_le _ _) t.isLt⟩ ⟨k.val, hk⟩ l).trans ((row_prev m c t ⟨t.val - 1, Nat.lt_of_le_of_lt (Nat.sub_le _ _) t.isLt⟩ rfl h _ _).trans ?_))
      · pointwise [k0_pay6]
        blk_ext
      · exact congrArg _ (Fin.ext (by simp <;> omega))
  · rw [dif_neg hk]
    refine Eq.trans (congrArg (fun k' => (outsAt0 m c t.val t.isLt).2.2.2 (ix2 k' l)) (Fin.ext (by simp <;> omega))) (vals_low m c t ⟨k.val - 128, by omega⟩ l)

/-- Lane `l` of the rows of one stream. -/
def strm (X : Vec Ideal S2x1x8192x3072 .f32) (b : Fin 2) (a : Fin 1) (l : Fin 3072) (i : Fin 8192) : EReal := X (ix4 b a i l)

/-- The masked scores of one query row of one head. -/
def rowScores (X : Vec Ideal S2x1x8192x3072 .f32) (b : Fin 2) (a : Fin 1) (n : Fin 64) (h : Fin 16) (r : Fin 128) : Fin 256 → EReal :=
  Head.scores (Head.okay n.val r) (fun d => strm X b a ⟨64 * h.val + d.val, by omega⟩ ⟨n.val * 128 + r.val, by omega⟩)
    (fun k d => Head.ext (strm X b a ⟨1024 + (64 * h.val + d.val), by omega⟩) n.val (by omega) k)

/-- Both results as functions of the argument. -/
def outv (X : Vec Ideal S2x1x8192x3072 .f32) (b : Fin 2) (a : Fin 1) (i : Fin 8192) (l : Fin 1024) : EReal :=
  Head.mix (rowScores X b a ⟨i.val / 128, by omega⟩ ⟨l.val / 64, by omega⟩ ⟨i.val % 128, by omega⟩) (fun k => Head.ext (strm X b a ⟨2048 + l.val, by omega⟩) (i.val / 128) (by omega) k)

def lsev (X : Vec Ideal S2x1x8192x3072 .f32) (b : Fin 2) (a : Fin 1) (i : Fin 8192) (l : Fin 128) : EReal :=
  Head.lse (rowScores X b a ⟨i.val / 128, by omega⟩ ⟨l.val / 8, by omega⟩ ⟨i.val % 128, by omega⟩)

abbrev arg (c : Dev nD) : Vec Ideal S2x1x8192x3072 .f32 := m ((c : Thread nD τ).loc main_arg0)

theorem block_scores (c : Dev nD) (t : Fin cfg0.N) (r : Fin 128) (h : Fin 16) :
    blockScores (maskOf (grid0.coords t)) (iblk m c 0 t) (outsAt0 m c t.val t.isLt).2.2.1 r h
      = rowScores (arg m c) ⟨t.val / 64, by have := t.isLt; have : cfg0.N = 128 := N_0; omega⟩ ⟨t.val / 64 % 1, by omega⟩ ⟨t.val % 64, by omega⟩ h r := by
  unfold blockScores rowScores
  rw [okRow_mask, (idx t).2.2.2.2.2]
  simp only [in0, keys_at]
  rfl

theorem out_entry (c : Dev nD) (t : Fin cfg0.N) (z w : Fin 1) (r : Fin 128) (l : Fin 1024) :
    (outsAt0 m c t.val t.isLt).1 (ix4 z w r l)
      = outv (arg m c) ⟨t.val / 64, by have := t.isLt; have : cfg0.N = 128 := N_0; omega⟩ ⟨t.val / 64 % 1, by omega⟩ ⟨t.val % 64 * 128 + r.val, by omega⟩ l := by
  rw [block3, block_scores]
  unfold outv
  have e1 : (⟨(t.val % 64 * 128 + r.val) / 128, by omega⟩ : Fin 64) = ⟨t.val % 64, by omega⟩ := Fin.ext (by simp <;> omega)
  have e2 : (⟨(t.val % 64 * 128 + r.val) % 128, by omega⟩ : Fin 128) = r := Fin.ext (by simp <;> omega)
  simp only [e2, vals_at]
  have e3 : (t.val % 64 * 128 + r.val) / 128 = t.val % 64 := by omega
  simp only [e3]
  rfl

theorem lse_entry (c : Dev nD) (t : Fin cfg0.N) (z w : Fin 1) (r l : Fin 128) :
    (outsAt0 m c t.val t.isLt).2.1 (ix4 z w r l)
      = lsev (arg m c) ⟨t.val / 64, by have := t.isLt; have : cfg0.N = 128 := N_0; omega⟩ ⟨t.val / 64 % 1, by omega⟩ ⟨t.val % 64 * 128 + r.val, by omega⟩ l := by
  rw [block4, block_scores]
  unfold lsev
  have e2 : (⟨(t.val % 64 * 128 + r.val) % 128, by omega⟩ : Fin 128) = r := Fin.ext (by simp <;> omega)
  have e3 : (t.val % 64 * 128 + r.val) / 128 = t.val % 64 := by omega
  simp only [e2, e3]

theorem final3 (c : Dev nD) : (dats m 0 c).arrAt 3 (cfgs 0).N = fun i => outv (arg m c) (i 0) (i 1) (i 2) (i 3) := by
  refine (dats m 0 c).arrAt_eq_of_covers 3 _ (by decide +kernel) fun t hf y => ?_
  blk_simp
  obtain ⟨z, w, r, l, rfl⟩ : ∃ (z w : Fin 1) (r : Fin 128) (l : Fin 1024), y = ix4 z w r l := ⟨y 0, y 1, y 2, y 3, eq_ix4 y⟩
  rw [after0_3]
  refine (out_entry m c t z w r l).trans ?_
  have hz : z = 0 := by omega
  have hw : w = 0 := by omega
  subst hz hw
  refine congr (congr (congr (congrArg (outv (arg m c)) (Fin.ext ?_)) (Fin.ext ?_)) (Fin.ext ?_)) (Fin.ext ?_)
  all_goals (blk_simp [idx t] <;> first | omega | simp)

theorem final4 (c : Dev nD) : (dats m 0 c).arrAt 4 (cfgs 0).N = fun i => lsev (arg m c) (i 0) (i 1) (i 2) (i 3) := by
  refine (dats m 0 c).arrAt_eq_of_covers 4 _ (by decide +kernel) fun t hf y => ?_
  blk_simp
  obtain ⟨z, w, r, l, rfl⟩ : ∃ (z w : Fin 1) (r : Fin 128) (l : Fin 128), y = ix4 z w r l := ⟨y 0, y 1, y 2, y 3, eq_ix4 y⟩
  rw [after0_4]
  refine (lse_entry m c t z w r l).trans ?_
  have hz : z = 0 := by omega
  have hw : w = 0 := by omega
  subst hz hw
  refine congr (congr (congr (congrArg (lsev (arg m c)) (Fin.ext ?_)) (Fin.ext ?_)) (Fin.ext ?_)) (Fin.ext ?_)
  all_goals (blk_simp [idx t] <;> first | omega | simp)

end Cert.Band1Ideal.Pure

end
-- ==== Proof.HeadBand.lean ====
/- The reference's mask: distances and positions compared as words are compared as numbers. -/
module

public import proofs.«01_k».proof.Proof.HeadPure

@[expose] public section

set_option maxRecDepth 16384

namespace Cert.Head

open Idealize.ShloMosaic

theorem near_words (r : Fin 128) (k : Fin 256) :
    IntOp.andi (IntOp.cmpi .sge (IntOp.subi (IntOp.addi (128#32) (BitVec.ofNat 32 r.val)) (BitVec.ofNat 32 k.val)) 0#32)
      (IntOp.cmpi .sle (IntOp.subi (IntOp.addi (128#32) (BitVec.ofNat 32 r.val)) (BitVec.ofNat 32 k.val)) 128#32)
      = BitVec.ofBool (decide (r.val ≤ k.val ∧ k.val ≤ r.val + 128)) := by
  revert r k
  decide +kernel

theorem there_words (n : Fin 64) (k : Fin 256) :
    IntOp.cmpi .sge (IntOp.addi (IntOp.subi (IntOp.muli (BitVec.ofNat 32 n.val) 128#32) 128#32) (BitVec.ofNat 32 k.val)) 0#32
      = BitVec.ofBool (decide (n.val = 0 → 128 ≤ k.val)) := by
  revert n k
  decide +kernel

theorem band_words (n : ℕ) (hn : n < 64) (r : Fin 128) (k : Fin 256) :
    IntOp.andi
      (IntOp.andi (IntOp.cmpi .sge (IntOp.subi (IntOp.addi (128#32) (BitVec.ofNat 32 r.val)) (BitVec.ofNat 32 k.val)) 0#32)
        (IntOp.cmpi .sle (IntOp.subi (IntOp.addi (128#32) (BitVec.ofNat 32 r.val)) (BitVec.ofNat 32 k.val)) 128#32))
      (IntOp.cmpi .sge (IntOp.addi (IntOp.subi (IntOp.muli (BitVec.ofNat 32 n) 128#32) 128#32) (BitVec.ofNat 32 k.val)) 0#32)
      = BitVec.ofBool (okay n r k) := by
  have h := there_words ⟨n, hn⟩ k
  simp only at h
  rw [near_words, h]
  have a : ∀ x y : Bool, IntOp.andi (BitVec.ofBool x) (BitVec.ofBool y) = BitVec.ofBool (x && y) := by decide
  rw [a, ← Bool.decide_and]
  unfold okay
  rw [decide_eq_decide.2 and_assoc]

end Cert.Head
-- ==== Proof.Band1Ref.lean ====
/- The banded attention's mathematics, read entry by entry: each head's mixture of values and log-sum-exp. -/
module

public import proofs.«01_k».proof.Proof.Gen.Band1RefIdeal.Read
public import proofs.«01_k».proof.Proof.HeadBand
public import Idealize.ShloMosaic.Lib.Pointwise

@[expose] public section

set_option maxRecDepth 16384

noncomputable section

namespace Cert.Band1RefIdeal.Pure

open Cert.Band1RefIdeal Cert.Band1RefIdeal.Gen Cert.Band1RefIdeal.Read Idealize.ShloMosaic Idealize.ShloMosaic.TcCoe

variable (x0 : (⟨S2x1x8192x3072, .f32⟩ : BufTy).Contents (Elt Ideal))

/-- Lane `l` of one sequence's rows. -/
def row (b : Fin 2) (l : Fin 3072) (i : Fin 8192) : EReal := x0 (ix4 b 0 i l)

theorem q_at (b : Fin 2) (n : Fin 64) (r : Fin 128) (h : Fin 16) (d : Fin 64) :
    val_main_v7 (F := Ideal) x0 (ix5 b n r h d) = row x0 b ⟨64 * h.val + d.val, by omega⟩ ⟨n.val * 128 + r.val, by omega⟩ := by
  unfold row
  pointwise! [val_main_v7, val_main_v2, val_main_v1, val_main_v0]

theorem k_at (b : Fin 2) (n : Fin 64) (r : Fin 128) (h : Fin 16) (d : Fin 64) :
    val_main_v8 (F := Ideal) x0 (ix5 b n r h d) = row x0 b ⟨1024 + (64 * h.val + d.val), by omega⟩ ⟨n.val * 128 + r.val, by omega⟩ := by
  unfold row
  pointwise! [val_main_v8, val_main_v4, val_main_v3, val_main_v0]

theorem v_at (b : Fin 2) (n : Fin 64) (r : Fin 128) (h : Fin 16) (d : Fin 64) :
    val_main_v9 (F := Ideal) x0 (ix5 b n r h d) = row x0 b ⟨2048 + (64 * h.val + d.val), by omega⟩ ⟨n.val * 128 + r.val, by omega⟩ := by
  unfold row
  pointwise! [val_main_v9, val_main_v6, val_main_v5, val_main_v0]

theorem zero_word : (FloatOps.sitofp FTy.f32 (0#32) : Ideal .f32) = (0 : EReal) := by
  simp [FloatOps.sitofp]

theorem keys_at (b : Fin 2) (n : Fin 64) (k : Fin 256) (h : Fin 16) (d : Fin 64) :
    val_main_v12 (F := Ideal) x0 (ix5 b n k h d) = Head.ext (row x0 b ⟨1024 + (64 * h.val + d.val), by omega⟩) n.val (by omega) k := by
  unfold Head.ext
  pointwise [val_main_v12, val_main_v11, val_main_v10, val_main_call0_v0, val_main_c]
  by_cases hk : k.val < 128
  · simp only [dif_pos hk]
    by_cases hn : n.val = 0
    · have h1 : ¬((1 ≤ n.val ∧ n.val - 1 < 63) ∧ k.val < 128) := by omega
      simp only [dif_pos hn, dif_neg h1]
      exact zero_word
    · have h1 : (1 ≤ n.val ∧ n.val - 1 < 63) ∧ k.val < 128 := by omega
      simp only [dif_neg hn, dif_pos h1]
      exact k_at x0 b ⟨n.val - 1, by omega⟩ ⟨k.val, hk⟩ h d
  · simp only [dif_neg hk]
    exact k_at x0 b n ⟨k.val - 128, by omega⟩ h d

theorem vals_at (b : Fin 2) (n : Fin 64) (k : Fin 256) (h : Fin 16) (d : Fin 64) :
    val_main_v15 (F := Ideal) x0 (ix5 b n k h d) = Head.ext (row x0 b ⟨2048 + (64 * h.val + d.val), by omega⟩) n.val (by omega) k := by
  unfold Head.ext
  pointwise [val_main_v15, val_main_v14, val_main_v13, val_main_call1_v0, val_main_c_0]
  by_cases hk : k.val < 128
  · simp only [dif_pos hk]
    by_cases hn : n.val = 0
    · have h1 : ¬((1 ≤ n.val ∧ n.val - 1 < 63) ∧ k.val < 128) := by omega
      simp only [dif_pos hn, dif_neg h1]
      exact zero_word
    · have h1 : (1 ≤ n.val ∧ n.val - 1 < 63) ∧ k.val < 128 := by omega
      simp only [dif_neg hn, dif_pos h1]
      exact v_at x0 b ⟨n.val - 1, by omega⟩ ⟨k.val, hk⟩ h d
  · simp only [dif_neg hk]
    exact v_at x0 b n ⟨k.val - 128, by omega⟩ h d

theorem ok_at (b : Fin 2) (n : Fin 64) (h : Fin 16) (r : Fin 128) (k : Fin 256) :
    val_main_call2_v1 (F := Ideal) (ix5 b n h r k) = BitVec.ofBool (Head.okay n.val r k) := by
  pointwise [val_main_call2_v1, val_main_v50, val_main_v49, val_main_v48, val_main_v47, val_main_v46, val_main_v45, val_main_v44, val_main_v43, val_main_c_6, val_main_v42, val_main_v41, val_main_v40,
    val_main_v39, val_main_v38, val_main_v37, val_main_c_5, val_main_v36, val_main_v35, val_main_c_4, val_main_v34, val_main_v33, val_main_v32, val_main_v31, val_main_v30, val_main_c_3, val_main_v29, val_main_v28, val_main_c_2,
    val_main_v27, val_main_v26, val_main_v25, val_main_v24, val_main_v23, val_main_v22, val_main_v21, val_main_c_1, val_main_v20, val_main_v19]
  exact Head.band_words n.val (by omega) r k

/-- The masked scores of one query row of one head. -/
def rowScores (b : Fin 2) (n : Fin 64) (h : Fin 16) (r : Fin 128) : Fin 256 → EReal :=
  Head.scores (Head.okay n.val r) (fun d => row x0 b ⟨64 * h.val + d.val, by omega⟩ ⟨n.val * 128 + r.val, by omega⟩)
    (fun k d => Head.ext (row x0 b ⟨1024 + (64 * h.val + d.val), by omega⟩) n.val (by omega) k)

theorem scores_at (b : Fin 2) (n : Fin 64) (h : Fin 16) (r : Fin 128) (k : Fin 256) :
    val_main_v51 (F := Ideal) x0 (ix5 b n h r k) = rowScores x0 b n h r k := by
  unfold rowScores Head.scores
  simp only [← q_at, ← keys_at]
  pointwise [val_main_v51, val_main_v18, val_main_v17, val_main_cst, val_main_v16, val_main_call2_v2, val_main_call2_v0, val_main_cst_7]
  rw [ok_at]
  unfold Scalar.select
  cases Head.okay n.val r k
  · simp
    exact Head.lowest_eq
  · simp

theorem lse_at (b : Fin 2) (n : Fin 64) (h : Fin 16) (r : Fin 128) (z : Fin 1) :
    val_main_v60 (F := Ideal) x0 (ix5 b n h r z) = Ideal.log (Head.den (rowScores x0 b n h r)) + Head.top (rowScores x0 b n h r) := by
  unfold Head.den Head.top
  simp only [← scores_at]
  pointwise [val_main_v60, val_main_v59, val_main_v58, val_main_v57, val_main_cst_9, val_main_v56, val_main_v55, val_main_v54, val_main_v53, val_main_v52, val_main_cst_8]

theorem weight_at (b : Fin 2) (n : Fin 64) (h : Fin 16) (r : Fin 128) (k : Fin 256) :
    val_main_v65 (F := Ideal) x0 (ix5 b n h r k) = Ideal.exp (rowScores x0 b n h r k - (Ideal.log (Head.den (rowScores x0 b n h r)) + Head.top (rowScores x0 b n h r))) := by
  rw [← scores_at, ← lse_at x0 b n h r 0]
  pointwise! [val_main_v65, val_main_v64, val_main_v63, val_main_v62, val_main_v61]

theorem out_at (b : Fin 2) (z : Fin 1) (i : Fin 8192) (l : Fin 1024) :
    val_main_v71 (F := Ideal) x0 (ix4 b z i l) = ∑ k, Head.ext (row x0 b ⟨2048 + l.val, by omega⟩) (i.val / 128) (by omega) k
      * Ideal.exp (rowScores x0 b ⟨i.val / 128, by omega⟩ ⟨l.val / 64, by omega⟩ ⟨i.val % 128, by omega⟩ k
        - (Ideal.log (Head.den (rowScores x0 b ⟨i.val / 128, by omega⟩ ⟨l.val / 64, by omega⟩ ⟨i.val % 128, by omega⟩))
          + Head.top (rowScores x0 b ⟨i.val / 128, by omega⟩ ⟨l.val / 64, by omega⟩ ⟨i.val % 128, by omega⟩))) := by
  simp only [← weight_at]
  have e : ∀ k, Head.ext (row x0 b ⟨2048 + l.val, by omega⟩) (i.val / 128) (by omega) k
      = val_main_v15 (F := Ideal) x0 (ix5 b ⟨i.val / 128, by omega⟩ k ⟨l.val / 64, by omega⟩ ⟨l.val % 64, by omega⟩) := by
    intro k
    rw [vals_at]
    congr 2
    exact Fin.ext (by simp; omega)
  simp only [e]
  pointwise! [val_main_v71, val_main_v68, val_main_v67, val_main_v66]

theorem outl_at (b : Fin 2) (z : Fin 1) (i : Fin 8192) (l : Fin 128) :
    val_main_v74 (F := Ideal) x0 (ix4 b z i l) = Ideal.log (Head.den (rowScores x0 b ⟨i.val / 128, by omega⟩ ⟨l.val / 8, by omega⟩ ⟨i.val % 128, by omega⟩))
          + Head.top (rowScores x0 b ⟨i.val / 128, by omega⟩ ⟨l.val / 8, by omega⟩ ⟨i.val % 128, by omega⟩) := by
  rw [← lse_at x0 b _ _ _ 0]
  pointwise! [val_main_v74, val_main_v73, val_main_v72, val_main_v70, val_main_v69, val_main_v61]

end Cert.Band1RefIdeal.Pure

end
-- ==== Proof.Band1Claim.lean ====
/- The band attention and its mathematics leave the same two results, the queries and keys being real numbers. -/
module

public import proofs.«01_k».proof.Proof.Band1Final
public import proofs.«01_k».proof.Proof.Band1Ref
public import proofs.«01_k».proof.Proof.Gen.Band1RefIdeal.Run
public import proofs.«01_k».proof.Proof.Gen.Pre_finite1
public import proofs.«01_k».proof.Defs
public import Idealize.ShloMosaic.Lib.ReduceAll
public import Idealize.ShloMosaic.Lib.Claim

@[expose] public section

set_option maxRecDepth 16384

noncomputable section

namespace Cert.Band1Claim

open Idealize.ShloMosaic Idealize.SL.Sem Cert.Band1Ideal

/-- An extended real whose absolute value is below infinity is a real. -/
theorem real_of (x : EReal) (h : FloatOps.cmpf (F := Ideal) CmpFPredicate.olt (FloatOps.absf (φ := .f32) x) (Ideal.ofBits .f32 0x7F800000#32) = 1#1) : ∃ a : ℝ, x = (a : EReal) := by
  have ht : Ideal.ofBits .f32 0x7F800000#32 = (⊤ : EReal) := by simp [Ideal.ofBits, Ideal.ieee]
  rw [ht] at h
  induction x using EReal.rec with
  | bot => simp [FloatOps.absf, FloatOps.cmpf, Ideal.cmp] at h
  | coe a => exact ⟨a, rfl⟩
  | top => simp [FloatOps.absf, FloatOps.cmpf, Ideal.cmp] at h

theorem real_at (X : Vec Ideal S2x1x8192x3072 .f32) (h : Cert.Pre_finite1.fn (F := Ideal) X = fun _ => 1#1)
    (b : Fin 2) (a : Fin 1) (i : Fin 8192) (l : Fin 3072) (hl : l.val < 2048) : ∃ y : ℝ, X (ix4 b a i l) = (y : EReal) := by
  have h1 := congrFun h ix0
  dsimp only [Cert.Pre_finite1.fn] at h1
  have h2 := Host.reduce_andi_all _ _ _ _ _ h1 (ix4 b a i ⟨l.val, hl⟩)
  obtain rfl : a = 0 := by omega
  have e : X (ix4 b 0 i l) = extractStridedSlice Cert.Pre_finite1.S2x1x8192x2048 ![0, 0, 0, 0] X Cert.Pre_finite1.Facts.slices_S2x1x8192x3072_S2x1x8192x2048_0_0_0_0 (ix4 b 0 i ⟨l.val, hl⟩) := by
    pointwise
  rw [e]
  exact real_of _ h2

/-- The reference's stream is the kernel's. -/
theorem scores_same (X : Vec Ideal S2x1x8192x3072 .f32) (b : Fin 2) (n : Fin 64) (h : Fin 16) (r : Fin 128) :
    Cert.Band1RefIdeal.Pure.rowScores X b n h r = Pure.rowScores X b 0 n h r := rfl

theorem out_same (X : Vec Ideal S2x1x8192x3072 .f32) (hX : Cert.Pre_finite1.fn (F := Ideal) X = fun _ => 1#1) :
    Cert.Band1RefIdeal.Read.val_main_v71 (F := Ideal) X = fun i => Pure.outv X (i 0) (i 1) (i 2) (i 3) := by
  funext i
  obtain ⟨b, z, t, l, rfl⟩ : ∃ (b : Fin 2) (z : Fin 1) (t : Fin 8192) (l : Fin 1024), i = ix4 b z t l := ⟨i 0, i 1, i 2, i 3, eq_ix4 i⟩
  obtain rfl : z = 0 := by omega
  refine (Cert.Band1RefIdeal.Pure.out_at X b 0 t l).trans ?_
  unfold Cert.Band1RefIdeal.Pure.rowScores
  refine (Head.mix_of_real _ _ _ _ _ (fun d => ?_) (fun k d => Head.ext_real _ _ _ _ fun i => ?_)).trans rfl
  · exact real_at X hX _ _ _ _ (by simp; omega)
  · exact real_at X hX _ _ _ _ (by simp; omega)

theorem lse_same (X : Vec Ideal S2x1x8192x3072 .f32) :
    Cert.Band1RefIdeal.Read.val_main_v74 (F := Ideal) X = fun i => Pure.lsev X (i 0) (i 1) (i 2) (i 3) := by
  funext i
  obtain ⟨b, z, t, l, rfl⟩ : ∃ (b : Fin 2) (z : Fin 1) (t : Fin 8192) (l : Fin 128), i = ix4 b z t l := ⟨i 0, i 1, i 2, i 3, eq_ix4 i⟩
  obtain rfl : z = 0 := by omega
  refine (Cert.Band1RefIdeal.Pure.outl_at X b 0 t l).trans ?_
  exact add_comm _ _

theorem same : Cert.algebraic_Band1Ideal_Band1RefIdeal_pre_finite1 := by
  pair_intro
  · run_from Cert.Band1Ideal.Gen.run_main m g
  · refine θ_run_mono (Cert.Band1RefIdeal.Value.run m' g') fun r h c => ⟨(h c).1.trans ?_, (h c).2.1.trans ?_, (h c).2.2⟩
    · rw [Cert.Band1RefIdeal.Read.val_main_v71_eq, hagree c, Pure.final3]
      exact out_same _ (hpre c)
    · rw [Cert.Band1RefIdeal.Read.val_main_v74_eq, hagree c, Pure.final4]
      exact lse_same _

end Cert.Band1Claim

end
-- ==== Proof.Band4Read.lean ====
/- What the band attention's body computes from its blocks, read entry by entry: each head's mixture of values and log-sum-exp. -/
module

public import proofs.«01_k».proof.Proof.Gen.Band4Ideal.Value
public import proofs.«01_k».proof.Proof.HeadPure
public import Idealize.ShloMosaic.Lib.Pipeline.ValueKit

@[expose] public section

set_option maxRecDepth 16384

noncomputable section

namespace Cert.Band4Ideal.Pure

open Cert.Band4Ideal Cert.Band4Ideal.Gen Idealize.ShloMosaic Idealize.ShloMosaic.TcCoe Idealize.SL.Sem

/-- The query lanes of the second head of a chunk. -/
def hi (Q : Vec Ideal S1x1x128x128 .f32) : FVec Ideal S128x128 .f32 :=
  select k0_pay13 (broadcast S128x128 (Scalar.ofBits .f32 0x00000000#32)) (k0_pay16 Q)

/-- One head's mixture of the chunk's value lanes. -/
def res (M : IVec S128x256 1) (K V : Vec Ideal S256x128 .bf16) (q : FVec Ideal S128x128 .f32) : FVec Ideal S128x128 .f32 :=
  divf (matmul (φ₂ := .bf16) dot_S128x256_S256x128_S128x128_1_0_0_1_n_n none (truncf .bf16 (k0_pay20 M K q) bitsLt_bf16_f32) V (constant S128x128 .f32 0x00000000#32))
    (broadcastTo S128x128 (k0_pay21 M K q) broadcasts_S128x1_S128x128)

/-- The output of one chunk of 128 lanes. -/
def chunk (M : IVec S128x256 1) (K V : Vec Ideal S256x128 .bf16) (Q : Vec Ideal S1x1x128x128 .f32) : FVec Ideal S1x1x128x128 .f32 :=
  shapeCast S1x1x128x128 (select k0_pay13 (res M K V (k0_pay17 Q)) (res M K V (hi Q))) shapeCasts_S128x128_S1x1x128x128

/-- One head's log-sum-exp put into its lanes. -/
def slotted (n : BitVec 32) (M : IVec S128x256 1) (K : Vec Ideal S256x128 .bf16) (q : FVec Ideal S128x128 .f32) (L : FVec Ideal S128x128 .f32) : FVec Ideal S128x128 .f32 :=
  select (cmpi .eq k0_pay14 (broadcast S128x128 n))
    (broadcastTo S128x128 (shapeCast S128x1 (addf (k0_pay19 M K q) (log (k0_pay21 M K q))) shapeCasts_S128x1_S128x1) broadcasts_S128x1_S128x128) L

/-- Both heads of a chunk. -/
def both (n n' : BitVec 32) (M : IVec S128x256 1) (K : Vec Ideal S256x128 .bf16) (Q : Vec Ideal S1x1x128x128 .f32) (L : FVec Ideal S128x128 .f32) : FVec Ideal S128x128 .f32 :=
  slotted n' M K (hi Q) (slotted n M K (k0_pay17 Q) L)

section Chunks

variable (M : IVec S128x256 1) (K V : Vec Ideal S256x128 .bf16) (Q : Vec Ideal S1x1x128x128 .f32)

theorem chunk0 : k0_pay28 (k0_pay27 M k0_pay13 (k0_pay16 Q) K V (k0_pay17 Q) (FloatOps.ofBits FTy.f32 0#32)) = chunk M K V Q := rfl
theorem chunk1 : k0_pay42 M k0_pay13 V (k0_pay34 M k0_pay13 Q K V) (k0_pay36 k0_pay13 Q K) (Named.named κ "mask" 4048155338#32) = chunk M K V Q := rfl
theorem chunk2 : k0_pay54 M k0_pay13 K V (k0_pay44 k0_pay13 Q) (k0_pay45 M k0_pay13 Q K) = chunk M K V Q := rfl
theorem chunk3 : k0_pay67 k0_pay13 V (k0_pay60 M k0_pay13 Q K V) (k0_pay64 M k0_pay13 Q K) = chunk M K V Q := rfl
theorem chunk4 : k0_pay80 M k0_pay13 K V (k0_pay69 k0_pay13 Q) (k0_pay72 M k0_pay13 Q K) (k0_pay73 M k0_pay13 Q K) = chunk M K V Q := rfl
theorem chunk5 : k0_pay94 k0_pay13 (k0_pay86 M k0_pay13 (k0_pay81 Q) K V) (k0_pay92 M k0_pay13 (k0_pay81 Q) K V) = chunk M K V Q := rfl
theorem chunk6 : k0_pay108 M k0_pay13 K V (k0_pay96 k0_pay13 Q) (k0_pay101 M k0_pay13 Q K V) = chunk M K V Q := rfl
theorem chunk7 : k0_pay1 k0_pay13 (k0_pay115 M k0_pay13 (k0_pay109 Q) K V k0_pay110) (k0_pay120 M k0_pay13 (k0_pay109 Q) K V) = chunk M K V Q := rfl

end Chunks

/-- The log-sum-exp block of all sixteen heads. -/
def tower (M : IVec S128x256 1) (Q0 Q1 Q2 Q3 Q4 Q5 Q6 Q7 : Vec Ideal S1x1x128x128 .f32) (K0 K1 K2 K3 K4 K5 K6 K7 : Vec Ideal S256x128 .bf16) : FVec Ideal S128x128 .f32 :=
  both 14#32 15#32 M K7 Q7 (both 12#32 13#32 M K6 Q6 (both 10#32 11#32 M K5 Q5 (both 8#32 9#32 M K4 Q4
    (both 6#32 7#32 M K3 Q3 (both 4#32 5#32 M K2 Q2 (both 2#32 3#32 M K1 Q1 (both 0#32 1#32 M K0 Q0 k0_pay15)))))))

theorem tower_eq (M : IVec S128x256 1) (Q0 Q1 Q2 Q3 Q4 Q5 Q6 Q7 : Vec Ideal S1x1x128x128 .f32) (K0 K1 K2 K3 K4 K5 K6 K7 : Vec Ideal S256x128 .bf16) :
    k0_pay2 (k0_pay121 M k0_pay13 k0_pay14 (k0_pay107 M k0_pay14 (k0_pay93 k0_pay14 (k0_pay87 M k0_pay13 k0_pay14 (k0_pay79 M k0_pay14 (k0_pay66 k0_pay14 (k0_pay61 M k0_pay13 k0_pay14 (k0_pay53 M k0_pay14 (k0_pay41 M k0_pay14 (k0_pay35 M k0_pay13 k0_pay14 (k0_pay26 M k0_pay13 k0_pay14 k0_pay15 (k0_pay16 Q0) K0 (k0_pay17 Q0) (FloatOps.ofBits FTy.f32 0#32)) Q1 K1) (k0_pay36 k0_pay13 Q1 K1) (Named.named κ "mask" 4048155338#32)) K2 (k0_pay44 k0_pay13 Q2) (k0_pay45 M k0_pay13 Q2 K2)) Q3 K3) (k0_pay63 M k0_pay13 Q3 K3) (k0_pay64 M k0_pay13 Q3 K3)) K4 (k0_pay69 k0_pay13 Q4) (k0_pay71 M k0_pay13 Q4 K4) (k0_pay73 M k0_pay13 Q4 K4)) (k0_pay81 Q5) K5) (k0_pay89 M k0_pay13 (k0_pay81 Q5) K5) (k0_pay91 M k0_pay13 (k0_pay81 Q5) K5)) K6 (k0_pay96 k0_pay13 Q6) (k0_pay98 M k0_pay13 Q6 K6) (k0_pay100 M k0_pay13 Q6 K6) k0_pay102) (k0_pay109 Q7) K7 k0_pay110)
      = shapeCast S1x1x128x128 (tower M Q0 Q1 Q2 Q3 Q4 Q5 Q6 Q7 K0 K1 K2 K3 K4 K5 K6 K7) shapeCasts_S128x128_S1x1x128x128 := rfl

/- The values of the integer lanes. -/

theorem lo_at (r l : Fin 128) : (k0_pay13 : IVec S128x128 1) (ix2 r l) = BitVec.ofBool (decide (l.val < 64)) := by
  pointwise [k0_pay13]
  revert l
  decide +kernel

theorem slot_at (r l : Fin 128) : (k0_pay14 : IVec S128x128 32) (ix2 r l) = BitVec.ofNat 32 (l.val / 8) := by
  pointwise [k0_pay14]
  revert l
  decide +kernel

/- The scores of the two heads of a chunk. -/

/-- Query and key lanes of head `b` (first or second) of a chunk. -/
def qLane (b : Fin 2) (Q : Vec Ideal S1x1x128x128 .f32) (r : Fin 128) (d : Fin 64) : EReal := Q (ix4 0 0 r ⟨64 * b.val + d.val, by omega⟩)
def kLane (b : Fin 2) (K : Vec Ideal S256x128 .bf16) (k : Fin 256) (d : Fin 64) : EReal := K (ix2 k ⟨64 * b.val + d.val, by omega⟩)
def okRow (M : IVec S128x256 1) (r : Fin 128) (k : Fin 256) : Bool := M (ix2 r k) == 1#1

abbrev headScores (b : Fin 2) (M : IVec S128x256 1) (K : Vec Ideal S256x128 .bf16) (Q : Vec Ideal S1x1x128x128 .f32) (r : Fin 128) : Fin 256 → EReal :=
  Head.scores (okRow M r) (qLane b Q r) (kLane b K)

theorem mask_bot : (Named.named κ "mask" 4048155338#32 : Ideal .f32) = (⊥ : EReal) := rfl

theorem pay18_at (M : IVec S128x256 1) (K : Vec Ideal S256x128 .bf16) (q : FVec Ideal S128x128 .f32) (r : Fin 128) (k : Fin 256) :
    k0_pay18 M K q (ix2 r k) = if okRow M r k then ∑ x, q (ix2 r x) * K (ix2 k x) else (⊥ : EReal) := by
  pointwise [k0_pay18]
  rw [mask_bot]
  unfold okRow Scalar.select
  simp

theorem pay19_at (M : IVec S128x256 1) (K : Vec Ideal S256x128 .bf16) (q : FVec Ideal S128x128 .f32) (r : Fin 128) (z : Fin 1) :
    k0_pay19 M K q (ix2 r z) = Head.top (fun k => k0_pay18 M K q (ix2 r k)) := by
  pointwise [k0_pay19]
  rfl

theorem pay20_at (M : IVec S128x256 1) (K : Vec Ideal S256x128 .bf16) (q : FVec Ideal S128x128 .f32) (r : Fin 128) (k : Fin 256) :
    k0_pay20 M K q (ix2 r k) = Ideal.exp (k0_pay18 M K q (ix2 r k) - Head.top (fun k => k0_pay18 M K q (ix2 r k))) := by
  pointwise [k0_pay20]
  rw [pay19_at]

theorem pay21_at (M : IVec S128x256 1) (K : Vec Ideal S256x128 .bf16) (q : FVec Ideal S128x128 .f32) (r : Fin 128) (z : Fin 1) :
    k0_pay21 M K q (ix2 r z) = Head.den (fun k => k0_pay18 M K q (ix2 r k)) := by
  pointwise [k0_pay21]
  simp only [pay20_at]
  rfl

theorem res_at (M : IVec S128x256 1) (K V : Vec Ideal S256x128 .bf16) (q : FVec Ideal S128x128 .f32) (r l : Fin 128) :
    res M K V q (ix2 r l) = Head.mix (fun k => k0_pay18 M K q (ix2 r k)) (fun k => V (ix2 k l)) := by
  pointwise [res]
  simp only [pay20_at, pay21_at]
  rfl

/-- A sum over 128 lanes is the sum over its two halves. -/
theorem halves (f : Fin 128 → EReal) : ∑ x, f x = (∑ d : Fin 64, f ⟨d.val, by omega⟩) + ∑ d : Fin 64, f ⟨64 + d.val, by omega⟩ :=
  Fin.sum_univ_add (a := 64) (b := 64) f

theorem lo_lane (Q : Vec Ideal S1x1x128x128 .f32) (r x : Fin 128) :
    k0_pay17 Q (ix2 r x) = if x.val < 64 then Q (ix4 0 0 r x) * Head.eighth else (0 : EReal) := by
  pointwise [k0_pay17, k0_pay16]
  rw [lo_at]
  unfold Scalar.select
  by_cases h : x.val < 64 <;> simp [h]

theorem hi_lane (Q : Vec Ideal S1x1x128x128 .f32) (r x : Fin 128) :
    hi Q (ix2 r x) = if x.val < 64 then (0 : EReal) else Q (ix4 0 0 r x) * Head.eighth := by
  pointwise [hi, k0_pay16]
  rw [lo_at]
  unfold Scalar.select
  by_cases h : x.val < 64 <;> simp [h]

theorem lo_row (M : IVec S128x256 1) (K : Vec Ideal S256x128 .bf16) (Q : Vec Ideal S1x1x128x128 .f32) (r : Fin 128) :
    (fun k => k0_pay18 M K (k0_pay17 Q) (ix2 r k)) = headScores 0 M K Q r := by
  funext k
  rw [pay18_at]
  unfold headScores Head.scores
  congr 1
  rw [← Head.scaled, halves]
  simp only [lo_lane]
  rw [show (∑ d : Fin 64, (if (⟨64 + d.val, by omega⟩ : Fin 128).val < 64 then Q (ix4 0 0 r ⟨64 + d.val, by omega⟩) * Head.eighth else (0 : EReal)) * K (ix2 k ⟨64 + d.val, by omega⟩)) = 0 from
    Finset.sum_eq_zero fun d _ => by rw [if_neg (by simp), zero_mul], add_zero]
  refine Finset.sum_congr rfl fun d _ => ?_
  rw [if_pos d.isLt]
  unfold qLane kLane
  simp

theorem hi_row (M : IVec S128x256 1) (K : Vec Ideal S256x128 .bf16) (Q : Vec Ideal S1x1x128x128 .f32) (r : Fin 128) :
    (fun k => k0_pay18 M K (hi Q) (ix2 r k)) = headScores 1 M K Q r := by
  funext k
  rw [pay18_at]
  unfold headScores Head.scores
  congr 1
  rw [← Head.scaled, halves]
  simp only [hi_lane]
  rw [show (∑ d : Fin 64, (if (⟨d.val, by omega⟩ : Fin 128).val < 64 then (0 : EReal) else Q (ix4 0 0 r ⟨d.val, by omega⟩) * Head.eighth) * K (ix2 k ⟨d.val, by omega⟩)) = 0 from
    Finset.sum_eq_zero fun d _ => by rw [if_pos d.isLt, zero_mul], zero_add]
  refine Finset.sum_congr rfl fun d _ => ?_
  rw [if_neg (by simp)]
  unfold qLane kLane
  simp

/-- The output of a chunk at a lane is the mixture of the head the lane belongs to. -/
theorem chunk_at (M : IVec S128x256 1) (K V : Vec Ideal S256x128 .bf16) (Q : Vec Ideal S1x1x128x128 .f32) (a b : Fin 1) (r l : Fin 128) :
    chunk M K V Q (ix4 a b r l) = Head.mix (headScores ⟨l.val / 64, by omega⟩ M K Q r) (fun k => V (ix2 k l)) := by
  pointwise [chunk]
  rw [lo_at, res_at, res_at, lo_row, hi_row]
  unfold Scalar.select
  by_cases h : l.val < 64
  · rw [show (⟨l.val / 64, by omega⟩ : Fin 2) = 0 from Fin.ext (by simp; omega)]; simp [h]
  · rw [show (⟨l.val / 64, by omega⟩ : Fin 2) = 1 from Fin.ext (by simp; omega)]; simp [h]

theorem slotted_at (n : ℕ) (hn : n < 16) (M : IVec S128x256 1) (K : Vec Ideal S256x128 .bf16) (q : FVec Ideal S128x128 .f32) (L : FVec Ideal S128x128 .f32) (r l : Fin 128) :
    slotted (BitVec.ofNat 32 n) M K q L (ix2 r l) = if l.val / 8 = n then Head.lse (fun k => k0_pay18 M K q (ix2 r k)) else L (ix2 r l) := by
  pointwise [slotted]
  rw [slot_at, pay19_at, pay21_at]
  have : IntOp.cmpi .eq (BitVec.ofNat 32 (l.val / 8)) (BitVec.ofNat 32 n) = BitVec.ofBool (decide (l.val / 8 = n)) := by
    have hl : l.val / 8 < 16 := by omega
    generalize l.val / 8 = m at hl
    interval_cases m <;> interval_cases n <;> rfl
  rw [this]
  unfold Scalar.select
  by_cases h : l.val / 8 = n <;> simp [h, Head.lse]

theorem both_at (n : ℕ) (hn : n + 1 < 16) (M : IVec S128x256 1) (K : Vec Ideal S256x128 .bf16) (Q : Vec Ideal S1x1x128x128 .f32) (L : FVec Ideal S128x128 .f32) (r l : Fin 128) :
    both (BitVec.ofNat 32 n) (BitVec.ofNat 32 (n + 1)) M K Q L (ix2 r l)
      = if l.val / 8 = n + 1 then Head.lse (headScores 1 M K Q r) else if l.val / 8 = n then Head.lse (headScores 0 M K Q r) else L (ix2 r l) := by
  unfold both
  rw [slotted_at _ hn, slotted_at _ (by omega), lo_row, hi_row]

/-- The lane of the log-sum-exp block holds the value of its head. -/
theorem tower_at (M : IVec S128x256 1) (Q0 Q1 Q2 Q3 Q4 Q5 Q6 Q7 : Vec Ideal S1x1x128x128 .f32) (K0 K1 K2 K3 K4 K5 K6 K7 : Vec Ideal S256x128 .bf16)
    (a b : Fin 1) (r l : Fin 128) :
    shapeCast S1x1x128x128 (tower M Q0 Q1 Q2 Q3 Q4 Q5 Q6 Q7 K0 K1 K2 K3 K4 K5 K6 K7) shapeCasts_S128x128_S1x1x128x128 (ix4 a b r l)
      = Head.lse (headScores ⟨l.val / 8 % 2, by omega⟩ M (![K0, K1, K2, K3, K4, K5, K6, K7] ⟨l.val / 16, by omega⟩) (![Q0, Q1, Q2, Q3, Q4, Q5, Q6, Q7] ⟨l.val / 16, by omega⟩) r) := by
  pointwise []
  unfold tower
  rw [both_at 14 (by omega), both_at 12 (by omega), both_at 10 (by omega), both_at 8 (by omega), both_at 6 (by omega), both_at 4 (by omega), both_at 2 (by omega), both_at 0 (by omega)]
  have hl : l.val / 8 < 16 := by omega
  obtain ⟨m, hm⟩ : ∃ m : Fin 16, l.val / 8 = m.val := ⟨⟨_, hl⟩, rfl⟩
  rw [show (⟨l.val / 16, by omega⟩ : Fin 8) = ⟨m.val / 2, by omega⟩ from Fin.ext (by simp; omega),
    show (⟨l.val / 8 % 2, by omega⟩ : Fin 2) = ⟨m.val % 2, by omega⟩ from Fin.ext (by simp; omega)]
  simp only [hm]
  fin_cases m <;> rfl

end Cert.Band4Ideal.Pure

end
-- ==== Proof.Band4Final.lean ====
/- The blocks the band attention leaves: what its carried key and value rows hold, and both results as functions of the argument. -/
module

public import Idealize.ShloMosaic.Lib.Pipeline.ReadBack
public import proofs.«01_k».proof.Proof.HeadMask
public import proofs.«01_k».proof.Proof.Band4Read

@[expose] public section

set_option maxRecDepth 16384

noncomputable section

namespace Cert.Band4Ideal.Pure

open Cert.Band4Ideal Cert.Band4Ideal.Gen Idealize.ShloMosaic Idealize.ShloMosaic.TcCoe Idealize.SL.Sem
open Idealize.ShloMosaic.Pipeline (Dat)

/-- A read of what was just stored is a read of the stored contents. -/
theorem rd {sp : Space} {s : Shape} {e : EltTy} (v : View sig .tc sp s e) (L : List (View.Piece (Elt Ideal) s e)) (r : Rect s) :
    v.readCov L r.toLoadRect = View.ld (View.canon L) r := View.readCov_eq_canon' v L _

/-- Carried rows after the body: the block's own rows `A` below the rows `B` of the block before. -/
def two (A B : FVec Ideal S128x1024 .bf16) : Vec Ideal S256x1024 .bf16 :=
  View.canon [(⟨Rect.unit ![128, 0] ![128, 1024] inb_S256x1024_S128x1024_128_0, A⟩ : View.Piece (Elt Ideal) S256x1024 .bf16),
    (⟨Rect.unit ![0, 0] ![128, 1024] inb_S256x1024_S128x1024_0_0, B⟩ : View.Piece (Elt Ideal) S256x1024 .bf16)]

theorem two_eq (A B : FVec Ideal S128x1024 .bf16) :
    View.canon [(⟨Rect.unit ![128, 0] ![128, 1024] inb_S256x1024_S128x1024_128_0, A⟩ : View.Piece (Elt Ideal) S256x1024 .bf16),
      (⟨Rect.unit ![0, 0] ![128, 1024] inb_S256x1024_S128x1024_0_0, B⟩ : View.Piece (Elt Ideal) S256x1024 .bf16)] = two A B := rfl

theorem two_at (A B : FVec Ideal S128x1024 .bf16) (k : Fin 256) (l : Fin 1024) :
    two A B (ix2 k l) = if h : k.val < 128 then B (ix2 ⟨k.val, h⟩ l) else A (ix2 ⟨k.val - 128, by omega⟩ l) := by
  unfold two
  canon_tiles x h
  · rw [dif_neg (by simp at h0 ⊢; omega)]
    exact congrArg A ((eq_ix2 x).trans (congrArg₂ ix2 (Fin.ext (by simp at h0 ⊢; omega)) (Fin.ext (by simp at h1 ⊢; omega))))
  · rw [dif_pos (by simp at h0 ⊢; omega)]
    exact congrArg B ((eq_ix2 x).trans (congrArg₂ ix2 (Fin.ext (by simp at h0 ⊢; omega)) (Fin.ext (by simp at h1 ⊢; omega))))

/-- The scores of head `h` of a block of 128 query rows. -/
def blockScores (M : IVec S128x256 1) (Q : Vec Ideal S1x1x128x1024 .f32) (KK : Vec Ideal S256x1024 .bf16) (r : Fin 128) (h : Fin 16) : Fin 256 → EReal :=
  Head.scores (okRow M r) (fun d => Q (ix4 0 0 r ⟨64 * h.val + d.val, by omega⟩)) (fun k d => KK (ix2 k ⟨64 * h.val + d.val, by omega⟩))

theorem scores_chunk (c : ℕ) (hc : c < 8) (M : IVec S128x256 1) (Q : Vec Ideal S1x1x128x1024 .f32) (KK : Vec Ideal S256x1024 .bf16)
    (Q' : Vec Ideal S1x1x128x128 .f32) (K : Vec Ideal S256x128 .bf16)
    (hQ : ∀ r l : Fin 128, Q' (ix4 0 0 r l) = Q (ix4 0 0 r ⟨128 * c + l.val, by omega⟩))
    (hK : ∀ (k : Fin 256) (l : Fin 128), K (ix2 k l) = KK (ix2 k ⟨128 * c + l.val, by omega⟩))
    (b : Fin 2) (r : Fin 128) (h : Fin 16) (hh : h.val = 2 * c + b.val) :
    headScores b M K Q' r = blockScores M Q KK r h := by
  unfold headScores blockScores
  congr 1
  · funext d; unfold qLane; rw [hQ]; exact congrArg _ (congrArg (ix4 0 0 r) (Fin.ext (by simp; omega)))
  · funext k d; unfold kLane; rw [hK]; exact congrArg _ (congrArg (ix2 k) (Fin.ext (by simp; omega)))

theorem piece_at (c : ℕ) (hc : c < 8) (M : IVec S128x256 1) (Q : Vec Ideal S1x1x128x1024 .f32) (KK VV : Vec Ideal S256x1024 .bf16)
    (Q' : Vec Ideal S1x1x128x128 .f32) (K V : Vec Ideal S256x128 .bf16) (x : S1x1x128x128.Idx) (r : Fin 128) (l : Fin 1024)
    (hr : r.val = (x 2).val) (hl : l.val = 128 * c + (x 3).val)
    (hQ : ∀ r l : Fin 128, Q' (ix4 0 0 r l) = Q (ix4 0 0 r ⟨128 * c + l.val, by omega⟩))
    (hK : ∀ (k : Fin 256) (l : Fin 128), K (ix2 k l) = KK (ix2 k ⟨128 * c + l.val, by omega⟩))
    (hV : ∀ (k : Fin 256) (l : Fin 128), V (ix2 k l) = VV (ix2 k ⟨128 * c + l.val, by omega⟩)) :
    chunk M K V Q' x = Head.mix (blockScores M Q KK r ⟨l.val / 64, by omega⟩) (fun k => VV (ix2 k l)) := by
  obtain ⟨a, b, r', l', rfl⟩ : ∃ (a b : Fin 1) (r' l' : Fin 128), x = ix4 a b r' l' := ⟨x 0, x 1, x 2, x 3, eq_ix4 x⟩
  obtain rfl : r = r' := Fin.ext hr
  have hl' : l.val = 128 * c + l'.val := hl
  rw [chunk_at, scores_chunk c hc M Q KK Q' K hQ hK ⟨l'.val / 64, by omega⟩ r ⟨l.val / 64, by omega⟩ (by simp; omega)]
  refine congrArg _ (funext fun k => ?_)
  rw [hV]
  exact congrArg _ (congrArg (ix2 k) (Fin.ext (by simp; omega)))

/-- The eight stores of the output, read at one entry. -/
theorem out3_at (M : IVec S128x256 1) (Q : Vec Ideal S1x1x128x1024 .f32) (KK VV : Vec Ideal S256x1024 .bf16) (a b : Fin 1) (r : Fin 128) (l : Fin 1024) :
    View.canon [(⟨Rect.unit ![0, 0, 0, 896] ![1, 1, 128, 128] inb_S1x1x128x1024_S1x1x128x128_0_0_0_896, chunk M (View.ld KK (Rect.unit ![0, 896] ![256, 128] inb_S256x1024_S256x128_0_896)) (View.ld VV (Rect.unit ![0, 896] ![256, 128] inb_S256x1024_S256x128_0_896)) (View.ld Q (Rect.unit ![0, 0, 0, 896] ![1, 1, 128, 128] inb_S1x1x128x1024_S1x1x128x128_0_0_0_896))⟩ : View.Piece (Elt Ideal) S1x1x128x1024 .f32),
      (⟨Rect.unit ![0, 0, 0, 768] ![1, 1, 128, 128] inb_S1x1x128x1024_S1x1x128x128_0_0_0_768, chunk M (View.ld KK (Rect.unit ![0, 768] ![256, 128] inb_S256x1024_S256x128_0_768)) (View.ld VV (Rect.unit ![0, 768] ![256, 128] inb_S256x1024_S256x128_0_768)) (View.ld Q (Rect.unit ![0, 0, 0, 768] ![1, 1, 128, 128] inb_S1x1x128x1024_S1x1x128x128_0_0_0_768))⟩ : View.Piece (Elt Ideal) S1x1x128x1024 .f32),
      (⟨Rect.unit ![0, 0, 0, 640] ![1, 1, 128, 128] inb_S1x1x128x1024_S1x1x128x128_0_0_0_640, chunk M (View.ld KK (Rect.unit ![0, 640] ![256, 128] inb_S256x1024_S256x128_0_640)) (View.ld VV (Rect.unit ![0, 640] ![256, 128] inb_S256x1024_S256x128_0_640)) (View.ld Q (Rect.unit ![0, 0, 0, 640] ![1, 1, 128, 128] inb_S1x1x128x1024_S1x1x128x128_0_0_0_640))⟩ : View.Piece (Elt Ideal) S1x1x128x1024 .f32),
      (⟨Rect.unit ![0, 0, 0, 512] ![1, 1, 128, 128] inb_S1x1x128x1024_S1x1x128x128_0_0_0_512, chunk M (View.ld KK (Rect.unit ![0, 512] ![256, 128] inb_S256x1024_S256x128_0_512)) (View.ld VV (Rect.unit ![0, 512] ![256, 128] inb_S256x1024_S256x128_0_512)) (View.ld Q (Rect.unit ![0, 0, 0, 512] ![1, 1, 128, 128] inb_S1x1x128x1024_S1x1x128x128_0_0_0_512))⟩ : View.Piece (Elt Ideal) S1x1x128x1024 .f32),
      (⟨Rect.unit ![0, 0, 0, 384] ![1, 1, 128, 128] inb_S1x1x128x1024_S1x1x128x128_0_0_0_384, chunk M (View.ld KK (Rect.unit ![0, 384] ![256, 128] inb_S256x1024_S256x128_0_384)) (View.ld VV (Rect.unit ![0, 384] ![256, 128] inb_S256x1024_S256x128_0_384)) (View.ld Q (Rect.unit ![0, 0, 0, 384] ![1, 1, 128, 128] inb_S1x1x128x1024_S1x1x128x128_0_0_0_384))⟩ : View.Piece (Elt Ideal) S1x1x128x1024 .f32),
      (⟨Rect.unit ![0, 0, 0, 256] ![1, 1, 128, 128] inb_S1x1x128x1024_S1x1x128x128_0_0_0_256, chunk M (View.ld KK (Rect.unit ![0, 256] ![256, 128] inb_S256x1024_S256x128_0_256)) (View.ld VV (Rect.unit ![0, 256] ![256, 128] inb_S256x1024_S256x128_0_256)) (View.ld Q (Rect.unit ![0, 0, 0, 256] ![1, 1, 128, 128] inb_S1x1x128x1024_S1x1x128x128_0_0_0_256))⟩ : View.Piece (Elt Ideal) S1x1x128x1024 .f32),
      (⟨Rect.unit ![0, 0, 0, 128] ![1, 1, 128, 128] inb_S1x1x128x1024_S1x1x128x128_0_0_0_128, chunk M (View.ld KK (Rect.unit ![0, 128] ![256, 128] inb_S256x1024_S256x128_0_128)) (View.ld VV (Rect.unit ![0, 128] ![256, 128] inb_S256x1024_S256x128_0_128)) (View.ld Q (Rect.unit ![0, 0, 0, 128] ![1, 1, 128, 128] inb_S1x1x128x1024_S1x1x128x128_0_0_0_128))⟩ : View.Piece (Elt Ideal) S1x1x128x1024 .f32),
      (⟨Rect.unit ![0, 0, 0, 0] ![1, 1, 128, 128] inb_S1x1x128x1024_S1x1x128x128_0_0_0_0, chunk M (View.ld KK (Rect.unit ![0, 0] ![256, 128] inb_S256x1024_S256x128_0_0)) (View.ld VV (Rect.unit ![0, 0] ![256, 128] inb_S256x1024_S256x128_0_0)) (View.ld Q (Rect.unit ![0, 0, 0, 0] ![1, 1, 128, 128] inb_S1x1x128x1024_S1x1x128x128_0_0_0_0))⟩ : View.Piece (Elt Ideal) S1x1x128x1024 .f32)] (ix4 a b r l)
      = Head.mix (blockScores M Q KK r ⟨l.val / 64, by omega⟩) (fun k => VV (ix2 k l)) := by
  canon_tiles x h
  · exact piece_at 7 (by omega) M Q KK VV _ _ _ x r l h2 (by simpa using h3) (by intro r l; pointwise; blk_ext) (by intro r l; pointwise; blk_ext) (by intro r l; pointwise; blk_ext)
  · exact piece_at 6 (by omega) M Q KK VV _ _ _ x r l h2 (by simpa using h3) (by intro r l; pointwise; blk_ext) (by intro r l; pointwise; blk_ext) (by intro r l; pointwise; blk_ext)
  · exact piece_at 5 (by omega) M Q KK VV _ _ _ x r l h2 (by simpa using h3) (by intro r l; pointwise; blk_ext) (by intro r l; pointwise; blk_ext) (by intro r l; pointwise; blk_ext)
  · exact piece_at 4 (by omega) M Q KK VV _ _ _ x r l h2 (by simpa using h3) (by intro r l; pointwise; blk_ext) (by intro r l; pointwise; blk_ext) (by intro r l; pointwise; blk_ext)
  · exact piece_at 3 (by omega) M Q KK VV _ _ _ x r l h2 (by simpa using h3) (by intro r l; pointwise; blk_ext) (by intro r l; pointwise; blk_ext) (by intro r l; pointwise; blk_ext)
  · exact piece_at 2 (by omega) M Q KK VV _ _ _ x r l h2 (by simpa using h3) (by intro r l; pointwise; blk_ext) (by intro r l; pointwise; blk_ext) (by intro r l; pointwise; blk_ext)
  · exact piece_at 1 (by omega) M Q KK VV _ _ _ x r l h2 (by simpa using h3) (by intro r l; pointwise; blk_ext) (by intro r l; pointwise; blk_ext) (by intro r l; pointwise; blk_ext)
  · exact piece_at 0 (by omega) M Q KK VV _ _ _ x r l h2 (by simpa using h3) (by intro r l; pointwise; blk_ext) (by intro r l; pointwise; blk_ext) (by intro r l; pointwise; blk_ext)

/-- The one store of the log-sum-exp block, read at one entry. -/
theorem out4_at (M : IVec S128x256 1) (Q : Vec Ideal S1x1x128x1024 .f32) (KK : Vec Ideal S256x1024 .bf16) (a b : Fin 1) (r l : Fin 128) :
    shapeCast S1x1x128x128 (tower M (View.ld Q (Rect.unit ![0, 0, 0, 0] ![1, 1, 128, 128] inb_S1x1x128x1024_S1x1x128x128_0_0_0_0)) (View.ld Q (Rect.unit ![0, 0, 0, 128] ![1, 1, 128, 128] inb_S1x1x128x1024_S1x1x128x128_0_0_0_128)) (View.ld Q (Rect.unit ![0, 0, 0, 256] ![1, 1, 128, 128] inb_S1x1x128x1024_S1x1x128x128_0_0_0_256)) (View.ld Q (Rect.unit ![0, 0, 0, 384] ![1, 1, 128, 128] inb_S1x1x128x1024_S1x1x128x128_0_0_0_384)) (View.ld Q (Rect.unit ![0, 0, 0, 512] ![1, 1, 128, 128] inb_S1x1x128x1024_S1x1x128x128_0_0_0_512)) (View.ld Q (Rect.unit ![0, 0, 0, 640] ![1, 1, 128, 128] inb_S1x1x128x1024_S1x1x128x128_0_0_0_640)) (View.ld Q (Rect.unit ![0, 0, 0, 768] ![1, 1, 128, 128] inb_S1x1x128x1024_S1x1x128x128_0_0_0_768)) (View.ld Q (Rect.unit ![0, 0, 0, 896] ![1, 1, 128, 128] inb_S1x1x128x1024_S1x1x128x128_0_0_0_896)) (View.ld KK (Rect.unit ![0, 0] ![256, 128] inb_S256x1024_S256x128_0_0)) (View.ld KK (Rect.unit ![0, 128] ![256, 128] inb_S256x1024_S256x128_0_128)) (View.ld KK (Rect.unit ![0, 256] ![256, 128] inb_S256x1024_S256x128_0_256)) (View.ld KK (Rect.unit ![0, 384] ![256, 128] inb_S256x1024_S256x128_0_384)) (View.ld KK (Rect.unit ![0, 512] ![256, 128] inb_S256x1024_S256x128_0_512)) (View.ld KK (Rect.unit ![0, 640] ![256, 128] inb_S256x1024_S256x128_0_640)) (View.ld KK (Rect.unit ![0, 768] ![256, 128] inb_S256x1024_S256x128_0_768)) (View.ld KK (Rect.unit ![0, 896] ![256, 128] inb_S256x1024_S256x128_0_896))) shapeCasts_S128x128_S1x1x128x128 (ix4 a b r l)
      = Head.lse (blockScores M Q KK r ⟨l.val / 8, by omega⟩) := by
  rw [tower_at]
  congr 1
  refine scores_chunk (l.val / 16) (by omega) _ _ _ _ _ ?_ ?_ ⟨l.val / 8 % 2, by omega⟩ r ⟨l.val / 8, by omega⟩ (by simp; omega)
  · have : ∀ (j : Fin 8) (r l : Fin 128), (![(View.ld Q (Rect.unit ![0, 0, 0, 0] ![1, 1, 128, 128] inb_S1x1x128x1024_S1x1x128x128_0_0_0_0)), (View.ld Q (Rect.unit ![0, 0, 0, 128] ![1, 1, 128, 128] inb_S1x1x128x1024_S1x1x128x128_0_0_0_128)), (View.ld Q (Rect.unit ![0, 0, 0, 256] ![1, 1, 128, 128] inb_S1x1x128x1024_S1x1x128x128_0_0_0_256)), (View.ld Q (Rect.unit ![0, 0, 0, 384] ![1, 1, 128, 128] inb_S1x1x128x1024_S1x1x128x128_0_0_0_384)), (View.ld Q (Rect.unit ![0, 0, 0, 512] ![1, 1, 128, 128] inb_S1x1x128x1024_S1x1x128x128_0_0_0_512)), (View.ld Q (Rect.unit ![0, 0, 0, 640] ![1, 1, 128, 128] inb_S1x1x128x1024_S1x1x128x128_0_0_0_640)), (View.ld Q (Rect.unit ![0, 0, 0, 768] ![1, 1, 128, 128] inb_S1x1x128x1024_S1x1x128x128_0_0_0_768)), (View.ld Q (Rect.unit ![0, 0, 0, 896] ![1, 1, 128, 128] inb_S1x1x128x1024_S1x1x128x128_0_0_0_896))] j : Vec Ideal S1x1x128x128 .f32) (ix4 0 0 r l) = Q (ix4 0 0 r ⟨128 * j.val + l.val, by omega⟩) := by
      intro j r l
      fin_cases j <;> (simp only [Fin.mk_zero, Fin.isValue]; pointwise; blk_ext)
    exact fun r' l' => this ⟨l.val / 16, by omega⟩ r' l'
  · have : ∀ (j : Fin 8) (k : Fin 256) (l : Fin 128), (![(View.ld KK (Rect.unit ![0, 0] ![256, 128] inb_S256x1024_S256x128_0_0)), (View.ld KK (Rect.unit ![0, 128] ![256, 128] inb_S256x1024_S256x128_0_128)), (View.ld KK (Rect.unit ![0, 256] ![256, 128] inb_S256x1024_S256x128_0_256)), (View.ld KK (Rect.unit ![0, 384] ![256, 128] inb_S256x1024_S256x128_0_384)), (View.ld KK (Rect.unit ![0, 512] ![256, 128] inb_S256x1024_S256x128_0_512)), (View.ld KK (Rect.unit ![0, 640] ![256, 128] inb_S256x1024_S256x128_0_640)), (View.ld KK (Rect.unit ![0, 768] ![256, 128] inb_S256x1024_S256x128_0_768)), (View.ld KK (Rect.unit ![0, 896] ![256, 128] inb_S256x1024_S256x128_0_896))] j : Vec Ideal S256x128 .bf16) (ix2 k l) = KK (ix2 k ⟨128 * j.val + l.val, by omega⟩) := by
      intro j k l
      fin_cases j <;> (simp only [Fin.mk_zero, Fin.isValue]; pointwise; blk_ext)
    exact fun k' l' => this ⟨l.val / 16, by omega⟩ k' l'

variable (m : (ℓ : Loc nD τ sig) → Buf (Elt Ideal) ℓ)

/-- The mask of a grid point. -/
def maskOf (i : grid0.Coords) : IVec S128x256 1 :=
  k0_pay12 (iota .tc S128x256 32 [0] iota_S128x256_d0_w32) (iota .tc S128x256 32 [1] iota_S128x256_d1_w32) (k0_pay9 i) k0_pay10 k0_pay11

theorem okRow_mask (i : grid0.Coords) (r : Fin 128) : okRow (maskOf i) r = Head.okay (i 2).val r := by
  funext k
  have h : maskOf i (ix2 r k) = BitVec.ofBool (Head.okay (i 2).val r k) := by
    pointwise [maskOf, k0_pay12, k0_pay9, k0_pay10, k0_pay11]
    refine Head.mask_words _ _ ?_ r k
    generalize i 2 = j
    revert j
    decide +kernel
  unfold okRow
  rw [h]
  cases Head.okay (i 2).val r k <;> rfl

theorem keys_A (c : Dev nD) (t : Fin cfg0.N) (h0 : t.val % 16 = 0) (h1 : ¬1 ≤ t.val % 16) :
    (outsAt0 m c t.val t.isLt).2.2.1 = two (k0_pay7 (iblk m c 1 t)) k0_pay3 := by
  rw [outsAt0_A m c t h0 h1]; frame_out

theorem vals_A (c : Dev nD) (t : Fin cfg0.N) (h0 : t.val % 16 = 0) (h1 : ¬1 ≤ t.val % 16) :
    (outsAt0 m c t.val t.isLt).2.2.2 = two (k0_pay8 (iblk m c 2 t)) k0_pay4 := by
  rw [outsAt0_A m c t h0 h1]; frame_out

theorem keys_B (c : Dev nD) (t : Fin cfg0.N) (h0 : ¬t.val % 16 = 0) (h1 : 1 ≤ t.val % 16) :
    (outsAt0 m c t.val t.isLt).2.2.1 = two (k0_pay7 (iblk m c 1 t))
      (k0_pay5 (View.ld (outsAt0 m c (t.val - 1) (Nat.lt_of_le_of_lt (Nat.sub_le _ _) t.isLt)).2.2.1 (Rect.unit ![128, 0] ![128, 1024] inb_S256x1024_S128x1024_128_0))) := by
  rw [outsAt0_B m c t h0 h1]; frame_out
  rw [read_unread_whole]

theorem vals_B (c : Dev nD) (t : Fin cfg0.N) (h0 : ¬t.val % 16 = 0) (h1 : 1 ≤ t.val % 16) :
    (outsAt0 m c t.val t.isLt).2.2.2 = two (k0_pay8 (iblk m c 2 t))
      (k0_pay6 (View.ld (outsAt0 m c (t.val - 1) (Nat.lt_of_le_of_lt (Nat.sub_le _ _) t.isLt)).2.2.2 (Rect.unit ![128, 0] ![128, 1024] inb_S256x1024_S128x1024_128_0))) := by
  rw [outsAt0_B m c t h0 h1]; frame_out
  rw [read_unread_whole]

theorem block3_A (c : Dev nD) (t : Fin cfg0.N) (h0 : t.val % 16 = 0) (h1 : ¬1 ≤ t.val % 16) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  rw [keys_A m c t h0 h1, vals_A m c t h0 h1, outsAt0_A m c t h0 h1]; frame_out
  simp only [rd, two_eq, chunk0, chunk1, chunk2, chunk3, chunk4, chunk5, chunk6, chunk7]
  exact out3_at (maskOf (grid0.coords t)) (iblk m c 0 t) _ _ a b r l

theorem block4_A (c : Dev nD) (t : Fin cfg0.N) (h0 : t.val % 16 = 0) (h1 : ¬1 ≤ t.val % 16) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  rw [keys_A m c t h0 h1, outsAt0_A m c t h0 h1]; frame_out
  simp only [rd, two_eq]
  rw [tower_eq]
  exact out4_at (maskOf (grid0.coords t)) (iblk m c 0 t) _ a b r l

theorem block3_B (c : Dev nD) (t : Fin cfg0.N) (h0 : ¬t.val % 16 = 0) (h1 : 1 ≤ t.val % 16) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  rw [keys_B m c t h0 h1, vals_B m c t h0 h1, outsAt0_B m c t h0 h1]; frame_out
  simp only [rd, read_unread_whole, two_eq, chunk0, chunk1, chunk2, chunk3, chunk4, chunk5, chunk6, chunk7]
  exact out3_at (maskOf (grid0.coords t)) (iblk m c 0 t) _ _ a b r l

theorem block4_B (c : Dev nD) (t : Fin cfg0.N) (h0 : ¬t.val % 16 = 0) (h1 : 1 ≤ t.val % 16) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  rw [keys_B m c t h0 h1, outsAt0_B m c t h0 h1]; frame_out
  simp only [rd, read_unread_whole, two_eq]
  rw [tower_eq]
  exact out4_at (maskOf (grid0.coords t)) (iblk m c 0 t) _ a b r l

theorem block3 (c : Dev nD) (t : Fin cfg0.N) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  by_cases h : t.val % 16 = 0
  · exact block3_A m c t h (by omega) a b r l
  · exact block3_B m c t h (by omega) a b r l

theorem block4 (c : Dev nD) (t : Fin cfg0.N) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  by_cases h : t.val % 16 = 0
  · exact block4_A m c t h (by omega) a b r l
  · exact block4_B m c t h (by omega) a b r l

theorem idx : ∀ t : Fin cfg0.N, win0_0.index t = ![t.val / 64, t.val / 16 % 4, t.val % 16, 0]
    ∧ win0_1.index t = ![t.val / 64, t.val / 16 % 4, t.val % 16, 1] ∧ win0_2.index t = ![t.val / 64, t.val / 16 % 4, t.val % 16, 2]
    ∧ win0_3.index t = ![t.val / 64, t.val / 16 % 4, t.val % 16, 0] ∧ win0_4.index t = ![t.val / 64, t.val / 16 % 4, t.val % 16, 0]
    ∧ (grid0.coords t 2).val = t.val % 16 := (by decide +kernel : ∀ t : Fin grid0.N, _)

/-- The argument's row `i` of the stream a grid point belongs to, at lane `l`. -/
def row (c : Dev nD) (t : Fin cfg0.N) (l : Fin 3072) (i : Fin 2048) : EReal :=
  (m ((c : Thread nD τ).loc main_arg0) : Vec Ideal S2x4x2048x3072 .f32) (ix4 ⟨t.val / 64, by have := t.isLt; have : cfg0.N = 128 := N_0; omega⟩ ⟨t.val / 16 % 4, by omega⟩ i l)

theorem in0 (c : Dev nD) (t : Fin cfg0.N) (r : Fin 128) (l : Fin 1024) :
    (iblk m c 0 t : Vec Ideal S1x1x128x1024 .f32) (ix4 0 0 r l) = row m c t ⟨l.val, by omega⟩ ⟨t.val % 16 * 128 + r.val, by omega⟩ := by
  unfold row
  blk_point [iblk, V, idx t]

theorem in1 (c : Dev nD) (t : Fin cfg0.N) (r : Fin 128) (l : Fin 1024) :
    (iblk m c 1 t : Vec Ideal S1x1x128x1024 .f32) (ix4 0 0 r l) = row m c t ⟨1024 + l.val, by omega⟩ ⟨t.val % 16 * 128 + r.val, by omega⟩ := by
  unfold row
  blk_point [iblk, V, idx t]

theorem in2 (c : Dev nD) (t : Fin cfg0.N) (r : Fin 128) (l : Fin 1024) :
    (iblk m c 2 t : Vec Ideal S1x1x128x1024 .f32) (ix4 0 0 r l) = row m c t ⟨2048 + l.val, by omega⟩ ⟨t.val % 16 * 128 + r.val, by omega⟩ := by
  unfold row
  blk_point [iblk, V, idx t]

theorem keys_low (c : Dev nD) (t : Fin cfg0.N) (r : Fin 128) (l : Fin 1024) :
    (outsAt0 m c t.val t.isLt).2.2.1 (ix2 ⟨128 + r.val, by omega⟩ l) = row m c t ⟨1024 + l.val, by omega⟩ ⟨t.val % 16 * 128 + r.val, by omega⟩ := by
  have e : ∀ B, two (k0_pay7 (iblk m c 1 t)) B (ix2 ⟨128 + r.val, by omega⟩ l) = row m c t ⟨1024 + l.val, by omega⟩ ⟨t.val % 16 * 128 + r.val, by omega⟩ := by
    intro B
    rw [two_at, dif_neg (by simp), ← in1]
    pointwise [k0_pay7]
    blk_ext
  by_cases h : t.val % 16 = 0
  · rw [keys_A m c t h (by omega)]; exact e _
  · rw [keys_B m c t h (by omega)]; exact e _

theorem vals_low (c : Dev nD) (t : Fin cfg0.N) (r : Fin 128) (l : Fin 1024) :
    (outsAt0 m c t.val t.isLt).2.2.2 (ix2 ⟨128 + r.val, by omega⟩ l) = row m c t ⟨2048 + l.val, by omega⟩ ⟨t.val % 16 * 128 + r.val, by omega⟩ := by
  have e : ∀ B, two (k0_pay8 (iblk m c 2 t)) B (ix2 ⟨128 + r.val, by omega⟩ l) = row m c t ⟨2048 + l.val, by omega⟩ ⟨t.val % 16 * 128 + r.val, by omega⟩ := by
    intro B
    rw [two_at, dif_neg (by simp), ← in2]
    pointwise [k0_pay8]
    blk_ext
  by_cases h : t.val % 16 = 0
  · rw [vals_A m c t h (by omega)]; exact e _
  · rw [vals_B m c t h (by omega)]; exact e _

/-- The grid point before, in the same stream. -/
theorem row_prev (c : Dev nD) (t t' : Fin cfg0.N) (ht : t'.val = t.val - 1) (h : ¬t.val % 16 = 0) (l : Fin 3072) (i : Fin 2048) :
    row m c t' l i = row m c t l i := by
  unfold row
  exact congrArg _ (congrArg₂ (fun a b => ix4 a b i l) (Fin.ext (by simp <;> omega)) (Fin.ext (by simp <;> omega)))

/-- The carried keys: the rows of the block before, then the block's own. -/
theorem keys_at (c : Dev nD) (t : Fin cfg0.N) (k : Fin 256) (l : Fin 1024) :
    (outsAt0 m c t.val t.isLt).2.2.1 (ix2 k l) = Head.ext (row m c t ⟨1024 + l.val, by omega⟩) (t.val % 16) (by omega) k := by
  unfold Head.ext
  by_cases hk : k.val < 128
  · rw [dif_pos hk]
    by_cases h : t.val % 16 = 0
    · rw [dif_pos h, keys_A m c t h (by omega), two_at, dif_pos hk]
      pointwise [k0_pay3]
    · rw [dif_neg h, keys_B m c t h (by omega), two_at, dif_pos hk]
      refine Eq.trans ?_ ((keys_low m c ⟨t.val - 1, Nat.lt_of_le_of_lt (Nat.sub_le _ _) t.isLt⟩ ⟨k.val, hk⟩ l).trans ((row_prev m c t ⟨t.val - 1, Nat.lt_of_le_of_lt (Nat.sub_le _ _) t.isLt⟩ rfl h _ _).trans ?_))
      · pointwise [k0_pay5]
        blk_ext
      · exact congrArg _ (Fin.ext (by simp <;> omega))
  · rw [dif_neg hk]
    refine Eq.trans (congrArg (fun k' => (outsAt0 m c t.val t.isLt).2.2.1 (ix2 k' l)) (Fin.ext (by simp <;> omega))) (keys_low m c t ⟨k.val - 128, by omega⟩ l)

/-- The carried values likewise. -/
theorem vals_at (c : Dev nD) (t : Fin cfg0.N) (k : Fin 256) (l : Fin 1024) :
    (outsAt0 m c t.val t.isLt).2.2.2 (ix2 k l) = Head.ext (row m c t ⟨2048 + l.val, by omega⟩) (t.val % 16) (by omega) k := by
  unfold Head.ext
  by_cases hk : k.val < 128
  · rw [dif_pos hk]
    by_cases h : t.val % 16 = 0
    · rw [dif_pos h, vals_A m c t h (by omega), two_at, dif_pos hk]
      pointwise [k0_pay4]
    · rw [dif_neg h, vals_B m c t h (by omega), two_at, dif_pos hk]
      refine Eq.trans ?_ ((vals_low m c ⟨t.val - 1, Nat.lt_of_le_of_lt (Nat.sub_le _ _) t.isLt⟩ ⟨k.val, hk⟩ l).trans ((row_prev m c t ⟨t.val - 1, Nat.lt_of_le_of_lt (Nat.sub_le _ _) t.isLt⟩ rfl h _ _).trans ?_))
      · pointwise [k0_pay6]
        blk_ext
      · exact congrArg _ (Fin.ext (by simp <;> omega))
  · rw [dif_neg hk]
    refine Eq.trans (congrArg (fun k' => (outsAt0 m c t.val t.isLt).2.2.2 (ix2 k' l)) (Fin.ext (by simp <;> omega))) (vals_low m c t ⟨k.val - 128, by omega⟩ l)

/-- Lane `l` of the rows of one stream. -/
def strm (X : Vec Ideal S2x4x2048x3072 .f32) (b : Fin 2) (a : Fin 4) (l : Fin 3072) (i : Fin 2048) : EReal := X (ix4 b a i l)

/-- The masked scores of one query row of one head. -/
def rowScores (X : Vec Ideal S2x4x2048x3072 .f32) (b : Fin 2) (a : Fin 4) (n : Fin 16) (h : Fin 16) (r : Fin 128) : Fin 256 → EReal :=
  Head.scores (Head.okay n.val r) (fun d => strm X b a ⟨64 * h.val + d.val, by omega⟩ ⟨n.val * 128 + r.val, by omega⟩)
    (fun k d => Head.ext (strm X b a ⟨1024 + (64 * h.val + d.val), by omega⟩) n.val (by omega) k)

/-- Both results as functions of the argument. -/
def outv (X : Vec Ideal S2x4x2048x3072 .f32) (b : Fin 2) (a : Fin 4) (i : Fin 2048) (l : Fin 1024) : EReal :=
  Head.mix (rowScores X b a ⟨i.val / 128, by omega⟩ ⟨l.val / 64, by omega⟩ ⟨i.val % 128, by omega⟩) (fun k => Head.ext (strm X b a ⟨2048 + l.val, by omega⟩) (i.val / 128) (by omega) k)

def lsev (X : Vec Ideal S2x4x2048x3072 .f32) (b : Fin 2) (a : Fin 4) (i : Fin 2048) (l : Fin 128) : EReal :=
  Head.lse (rowScores X b a ⟨i.val / 128, by omega⟩ ⟨l.val / 8, by omega⟩ ⟨i.val % 128, by omega⟩)

abbrev arg (c : Dev nD) : Vec Ideal S2x4x2048x3072 .f32 := m ((c : Thread nD τ).loc main_arg0)

theorem block_scores (c : Dev nD) (t : Fin cfg0.N) (r : Fin 128) (h : Fin 16) :
    blockScores (maskOf (grid0.coords t)) (iblk m c 0 t) (outsAt0 m c t.val t.isLt).2.2.1 r h
      = rowScores (arg m c) ⟨t.val / 64, by have := t.isLt; have : cfg0.N = 128 := N_0; omega⟩ ⟨t.val / 16 % 4, by omega⟩ ⟨t.val % 16, by omega⟩ h r := by
  unfold blockScores rowScores
  rw [okRow_mask, (idx t).2.2.2.2.2]
  simp only [in0, keys_at]
  rfl

theorem out_entry (c : Dev nD) (t : Fin cfg0.N) (z w : Fin 1) (r : Fin 128) (l : Fin 1024) :
    (outsAt0 m c t.val t.isLt).1 (ix4 z w r l)
      = outv (arg m c) ⟨t.val / 64, by have := t.isLt; have : cfg0.N = 128 := N_0; omega⟩ ⟨t.val / 16 % 4, by omega⟩ ⟨t.val % 16 * 128 + r.val, by omega⟩ l := by
  rw [block3, block_scores]
  unfold outv
  have e1 : (⟨(t.val % 16 * 128 + r.val) / 128, by omega⟩ : Fin 16) = ⟨t.val % 16, by omega⟩ := Fin.ext (by simp <;> omega)
  have e2 : (⟨(t.val % 16 * 128 + r.val) % 128, by omega⟩ : Fin 128) = r := Fin.ext (by simp <;> omega)
  simp only [e2, vals_at]
  have e3 : (t.val % 16 * 128 + r.val) / 128 = t.val % 16 := by omega
  simp only [e3]
  rfl

theorem lse_entry (c : Dev nD) (t : Fin cfg0.N) (z w : Fin 1) (r l : Fin 128) :
    (outsAt0 m c t.val t.isLt).2.1 (ix4 z w r l)
      = lsev (arg m c) ⟨t.val / 64, by have := t.isLt; have : cfg0.N = 128 := N_0; omega⟩ ⟨t.val / 16 % 4, by omega⟩ ⟨t.val % 16 * 128 + r.val, by omega⟩ l := by
  rw [block4, block_scores]
  unfold lsev
  have e2 : (⟨(t.val % 16 * 128 + r.val) % 128, by omega⟩ : Fin 128) = r := Fin.ext (by simp <;> omega)
  have e3 : (t.val % 16 * 128 + r.val) / 128 = t.val % 16 := by omega
  simp only [e2, e3]

theorem final3 (c : Dev nD) : (dats m 0 c).arrAt 3 (cfgs 0).N = fun i => outv (arg m c) (i 0) (i 1) (i 2) (i 3) := by
  refine (dats m 0 c).arrAt_eq_of_covers 3 _ (by decide +kernel) fun t hf y => ?_
  blk_simp
  obtain ⟨z, w, r, l, rfl⟩ : ∃ (z w : Fin 1) (r : Fin 128) (l : Fin 1024), y = ix4 z w r l := ⟨y 0, y 1, y 2, y 3, eq_ix4 y⟩
  rw [after0_3]
  refine (out_entry m c t z w r l).trans ?_
  have hz : z = 0 := by omega
  have hw : w = 0 := by omega
  subst hz hw
  refine congr (congr (congr (congrArg (outv (arg m c)) (Fin.ext ?_)) (Fin.ext ?_)) (Fin.ext ?_)) (Fin.ext ?_)
  all_goals (blk_simp [idx t] <;> first | omega | simp)

theorem final4 (c : Dev nD) : (dats m 0 c).arrAt 4 (cfgs 0).N = fun i => lsev (arg m c) (i 0) (i 1) (i 2) (i 3) := by
  refine (dats m 0 c).arrAt_eq_of_covers 4 _ (by decide +kernel) fun t hf y => ?_
  blk_simp
  obtain ⟨z, w, r, l, rfl⟩ : ∃ (z w : Fin 1) (r : Fin 128) (l : Fin 128), y = ix4 z w r l := ⟨y 0, y 1, y 2, y 3, eq_ix4 y⟩
  rw [after0_4]
  refine (lse_entry m c t z w r l).trans ?_
  have hz : z = 0 := by omega
  have hw : w = 0 := by omega
  subst hz hw
  refine congr (congr (congr (congrArg (lsev (arg m c)) (Fin.ext ?_)) (Fin.ext ?_)) (Fin.ext ?_)) (Fin.ext ?_)
  all_goals (blk_simp [idx t] <;> first | omega | simp)

end Cert.Band4Ideal.Pure

end
-- ==== Proof.Band4Ref.lean ====
/- The banded attention's mathematics, read entry by entry: each head's mixture of values and log-sum-exp. -/
module

public import proofs.«01_k».proof.Proof.Gen.Band4RefIdeal.Read
public import proofs.«01_k».proof.Proof.HeadBand
public import Idealize.ShloMosaic.Lib.Pointwise

@[expose] public section

set_option maxRecDepth 16384

noncomputable section

namespace Cert.Band4RefIdeal.Pure

open Cert.Band4RefIdeal Cert.Band4RefIdeal.Gen Cert.Band4RefIdeal.Read Idealize.ShloMosaic Idealize.ShloMosaic.TcCoe

variable (x0 : (⟨S2x4x2048x3072, .f32⟩ : BufTy).Contents (Elt Ideal))

/-- Lane `l` of one stream's rows. -/
def row (b : Fin 8) (l : Fin 3072) (i : Fin 2048) : EReal := x0 (ix4 ⟨b.val / 4, by omega⟩ ⟨b.val % 4, by omega⟩ i l)

theorem q_at (b : Fin 8) (n : Fin 16) (r : Fin 128) (h : Fin 16) (d : Fin 64) :
    val_main_v7 (F := Ideal) x0 (ix5 b n r h d) = row x0 b ⟨64 * h.val + d.val, by omega⟩ ⟨n.val * 128 + r.val, by omega⟩ := by
  unfold row
  pointwise! [val_main_v7, val_main_v2, val_main_v1, val_main_v0]

theorem k_at (b : Fin 8) (n : Fin 16) (r : Fin 128) (h : Fin 16) (d : Fin 64) :
    val_main_v8 (F := Ideal) x0 (ix5 b n r h d) = row x0 b ⟨1024 + (64 * h.val + d.val), by omega⟩ ⟨n.val * 128 + r.val, by omega⟩ := by
  unfold row
  pointwise! [val_main_v8, val_main_v4, val_main_v3, val_main_v0]

theorem v_at (b : Fin 8) (n : Fin 16) (r : Fin 128) (h : Fin 16) (d : Fin 64) :
    val_main_v9 (F := Ideal) x0 (ix5 b n r h d) = row x0 b ⟨2048 + (64 * h.val + d.val), by omega⟩ ⟨n.val * 128 + r.val, by omega⟩ := by
  unfold row
  pointwise! [val_main_v9, val_main_v6, val_main_v5, val_main_v0]

theorem zero_word : (FloatOps.sitofp FTy.f32 (0#32) : Ideal .f32) = (0 : EReal) := by
  simp [FloatOps.sitofp]

theorem keys_at (b : Fin 8) (n : Fin 16) (k : Fin 256) (h : Fin 16) (d : Fin 64) :
    val_main_v12 (F := Ideal) x0 (ix5 b n k h d) = Head.ext (row x0 b ⟨1024 + (64 * h.val + d.val), by omega⟩) n.val (by omega) k := by
  unfold Head.ext
  pointwise [val_main_v12, val_main_v11, val_main_v10, val_main_call0_v0, val_main_c]
  by_cases hk : k.val < 128
  · simp only [dif_pos hk]
    by_cases hn : n.val = 0
    · have h1 : ¬((1 ≤ n.val ∧ n.val - 1 < 15) ∧ k.val < 128) := by omega
      simp only [dif_pos hn, dif_neg h1]
      exact zero_word
    · have h1 : (1 ≤ n.val ∧ n.val - 1 < 15) ∧ k.val < 128 := by omega
      simp only [dif_neg hn, dif_pos h1]
      exact k_at x0 b ⟨n.val - 1, by omega⟩ ⟨k.val, hk⟩ h d
  · simp only [dif_neg hk]
    exact k_at x0 b n ⟨k.val - 128, by omega⟩ h d

theorem vals_at (b : Fin 8) (n : Fin 16) (k : Fin 256) (h : Fin 16) (d : Fin 64) :
    val_main_v15 (F := Ideal) x0 (ix5 b n k h d) = Head.ext (row x0 b ⟨2048 + (64 * h.val + d.val), by omega⟩) n.val (by omega) k := by
  unfold Head.ext
  pointwise [val_main_v15, val_main_v14, val_main_v13, val_main_call1_v0, val_main_c_0]
  by_cases hk : k.val < 128
  · simp only [dif_pos hk]
    by_cases hn : n.val = 0
    · have h1 : ¬((1 ≤ n.val ∧ n.val - 1 < 15) ∧ k.val < 128) := by omega
      simp only [dif_pos hn, dif_neg h1]
      exact zero_word
    · have h1 : (1 ≤ n.val ∧ n.val - 1 < 15) ∧ k.val < 128 := by omega
      simp only [dif_neg hn, dif_pos h1]
      exact v_at x0 b ⟨n.val - 1, by omega⟩ ⟨k.val, hk⟩ h d
  · simp only [dif_neg hk]
    exact v_at x0 b n ⟨k.val - 128, by omega⟩ h d

theorem ok_at (b : Fin 8) (n : Fin 16) (h : Fin 16) (r : Fin 128) (k : Fin 256) :
    val_main_call2_v1 (F := Ideal) (ix5 b n h r k) = BitVec.ofBool (Head.okay n.val r k) := by
  pointwise [val_main_call2_v1, val_main_v50, val_main_v49, val_main_v48, val_main_v47, val_main_v46, val_main_v45, val_main_v44, val_main_v43, val_main_c_6, val_main_v42, val_main_v41, val_main_v40,
    val_main_v39, val_main_v38, val_main_v37, val_main_c_5, val_main_v36, val_main_v35, val_main_c_4, val_main_v34, val_main_v33, val_main_v32, val_main_v31, val_main_v30, val_main_c_3, val_main_v29, val_main_v28, val_main_c_2,
    val_main_v27, val_main_v26, val_main_v25, val_main_v24, val_main_v23, val_main_v22, val_main_v21, val_main_c_1, val_main_v20, val_main_v19]
  exact Head.band_words n.val (by omega) r k

/-- The masked scores of one query row of one head. -/
def rowScores (b : Fin 8) (n : Fin 16) (h : Fin 16) (r : Fin 128) : Fin 256 → EReal :=
  Head.scores (Head.okay n.val r) (fun d => row x0 b ⟨64 * h.val + d.val, by omega⟩ ⟨n.val * 128 + r.val, by omega⟩)
    (fun k d => Head.ext (row x0 b ⟨1024 + (64 * h.val + d.val), by omega⟩) n.val (by omega) k)

theorem scores_at (b : Fin 8) (n : Fin 16) (h : Fin 16) (r : Fin 128) (k : Fin 256) :
    val_main_v51 (F := Ideal) x0 (ix5 b n h r k) = rowScores x0 b n h r k := by
  unfold rowScores Head.scores
  simp only [← q_at, ← keys_at]
  pointwise [val_main_v51, val_main_v18, val_main_v17, val_main_cst, val_main_v16, val_main_call2_v2, val_main_call2_v0, val_main_cst_7]
  rw [ok_at]
  unfold Scalar.select
  cases Head.okay n.val r k
  · simp
    exact Head.lowest_eq
  · simp

theorem lse_at (b : Fin 8) (n : Fin 16) (h : Fin 16) (r : Fin 128) (z : Fin 1) :
    val_main_v60 (F := Ideal) x0 (ix5 b n h r z) = Ideal.log (Head.den (rowScores x0 b n h r)) + Head.top (rowScores x0 b n h r) := by
  unfold Head.den Head.top
  simp only [← scores_at]
  pointwise [val_main_v60, val_main_v59, val_main_v58, val_main_v57, val_main_cst_9, val_main_v56, val_main_v55, val_main_v54, val_main_v53, val_main_v52, val_main_cst_8]

theorem weight_at (b : Fin 8) (n : Fin 16) (h : Fin 16) (r : Fin 128) (k : Fin 256) :
    val_main_v65 (F := Ideal) x0 (ix5 b n h r k) = Ideal.exp (rowScores x0 b n h r k - (Ideal.log (Head.den (rowScores x0 b n h r)) + Head.top (rowScores x0 b n h r))) := by
  rw [← scores_at, ← lse_at x0 b n h r 0]
  pointwise! [val_main_v65, val_main_v64, val_main_v63, val_main_v62, val_main_v61]

theorem out_at (b : Fin 2) (z : Fin 4) (i : Fin 2048) (l : Fin 1024) :
    val_main_v71 (F := Ideal) x0 (ix4 b z i l) = ∑ k, Head.ext (row x0 ⟨b.val * 4 + z.val, by omega⟩ ⟨2048 + l.val, by omega⟩) (i.val / 128) (by omega) k
      * Ideal.exp (rowScores x0 ⟨b.val * 4 + z.val, by omega⟩ ⟨i.val / 128, by omega⟩ ⟨l.val / 64, by omega⟩ ⟨i.val % 128, by omega⟩ k
        - (Ideal.log (Head.den (rowScores x0 ⟨b.val * 4 + z.val, by omega⟩ ⟨i.val / 128, by omega⟩ ⟨l.val / 64, by omega⟩ ⟨i.val % 128, by omega⟩))
          + Head.top (rowScores x0 ⟨b.val * 4 + z.val, by omega⟩ ⟨i.val / 128, by omega⟩ ⟨l.val / 64, by omega⟩ ⟨i.val % 128, by omega⟩))) := by
  simp only [← weight_at]
  have e : ∀ k, Head.ext (row x0 ⟨b.val * 4 + z.val, by omega⟩ ⟨2048 + l.val, by omega⟩) (i.val / 128) (by omega) k
      = val_main_v15 (F := Ideal) x0 (ix5 ⟨b.val * 4 + z.val, by omega⟩ ⟨i.val / 128, by omega⟩ k ⟨l.val / 64, by omega⟩ ⟨l.val % 64, by omega⟩) := by
    intro k
    rw [vals_at]
    congr 2
    exact Fin.ext (by simp; omega)
  simp only [e]
  pointwise! [val_main_v71, val_main_v68, val_main_v67, val_main_v66]

theorem outl_at (b : Fin 2) (z : Fin 4) (i : Fin 2048) (l : Fin 128) :
    val_main_v74 (F := Ideal) x0 (ix4 b z i l) = Ideal.log (Head.den (rowScores x0 ⟨b.val * 4 + z.val, by omega⟩ ⟨i.val / 128, by omega⟩ ⟨l.val / 8, by omega⟩ ⟨i.val % 128, by omega⟩))
          + Head.top (rowScores x0 ⟨b.val * 4 + z.val, by omega⟩ ⟨i.val / 128, by omega⟩ ⟨l.val / 8, by omega⟩ ⟨i.val % 128, by omega⟩) := by
  rw [← lse_at x0 ⟨b.val * 4 + z.val, by omega⟩ _ _ _ 0]
  pointwise! [val_main_v74, val_main_v73, val_main_v72, val_main_v70, val_main_v69, val_main_v61]

end Cert.Band4RefIdeal.Pure

end
-- ==== Proof.Band4Claim.lean ====
/- The band attention and its mathematics leave the same two results, the queries and keys being real numbers. -/
module

public import proofs.«01_k».proof.Proof.Band4Final
public import proofs.«01_k».proof.Proof.Band4Ref
public import proofs.«01_k».proof.Proof.Gen.Band4RefIdeal.Run
public import proofs.«01_k».proof.Proof.Gen.Pre_finite4
public import proofs.«01_k».proof.Defs
public import Idealize.ShloMosaic.Lib.ReduceAll
public import Idealize.ShloMosaic.Lib.Claim

@[expose] public section

set_option maxRecDepth 16384

noncomputable section

namespace Cert.Band4Claim

open Idealize.ShloMosaic Idealize.SL.Sem Cert.Band4Ideal

/-- An extended real whose absolute value is below infinity is a real. -/
theorem real_of (x : EReal) (h : FloatOps.cmpf (F := Ideal) CmpFPredicate.olt (FloatOps.absf (φ := .f32) x) (Ideal.ofBits .f32 0x7F800000#32) = 1#1) : ∃ a : ℝ, x = (a : EReal) := by
  have ht : Ideal.ofBits .f32 0x7F800000#32 = (⊤ : EReal) := by simp [Ideal.ofBits, Ideal.ieee]
  rw [ht] at h
  induction x using EReal.rec with
  | bot => simp [FloatOps.absf, FloatOps.cmpf, Ideal.cmp] at h
  | coe a => exact ⟨a, rfl⟩
  | top => simp [FloatOps.absf, FloatOps.cmpf, Ideal.cmp] at h

theorem real_at (X : Vec Ideal S2x4x2048x3072 .f32) (h : Cert.Pre_finite4.fn (F := Ideal) X = fun _ => 1#1)
    (b : Fin 2) (a : Fin 4) (i : Fin 2048) (l : Fin 3072) (hl : l.val < 2048) : ∃ y : ℝ, X (ix4 b a i l) = (y : EReal) := by
  have h1 := congrFun h ix0
  dsimp only [Cert.Pre_finite4.fn] at h1
  have h2 := Host.reduce_andi_all _ _ _ _ _ h1 (ix4 b a i ⟨l.val, hl⟩)
  have e : X (ix4 b a i l) = extractStridedSlice Cert.Pre_finite4.S2x4x2048x2048 ![0, 0, 0, 0] X Cert.Pre_finite4.Facts.slices_S2x4x2048x3072_S2x4x2048x2048_0_0_0_0 (ix4 b a i ⟨l.val, hl⟩) := by
    pointwise
  rw [e]
  exact real_of _ h2

/-- The reference's stream `b * 4 + a` is the kernel's stream `a` of batch `b`. -/
theorem row_same (X : Vec Ideal S2x4x2048x3072 .f32) (b : Fin 2) (a : Fin 4) (l : Fin 3072) :
    Cert.Band4RefIdeal.Pure.row X ⟨b.val * 4 + a.val, by omega⟩ l = Pure.strm X b a l := by
  funext i
  unfold Cert.Band4RefIdeal.Pure.row Pure.strm
  exact congrArg₂ (fun p q => X (ix4 p q i l)) (Fin.ext (by simp <;> omega)) (Fin.ext (by simp <;> omega))

theorem scores_same (X : Vec Ideal S2x4x2048x3072 .f32) (b : Fin 2) (a : Fin 4) (n : Fin 16) (h : Fin 16) (r : Fin 128) :
    Cert.Band4RefIdeal.Pure.rowScores X ⟨b.val * 4 + a.val, by omega⟩ n h r = Pure.rowScores X b a n h r := by
  unfold Cert.Band4RefIdeal.Pure.rowScores Pure.rowScores
  simp only [row_same]

theorem out_same (X : Vec Ideal S2x4x2048x3072 .f32) (hX : Cert.Pre_finite4.fn (F := Ideal) X = fun _ => 1#1) :
    Cert.Band4RefIdeal.Read.val_main_v71 (F := Ideal) X = fun i => Pure.outv X (i 0) (i 1) (i 2) (i 3) := by
  funext i
  obtain ⟨b, z, t, l, rfl⟩ : ∃ (b : Fin 2) (z : Fin 4) (t : Fin 2048) (l : Fin 1024), i = ix4 b z t l := ⟨i 0, i 1, i 2, i 3, eq_ix4 i⟩
  refine (Cert.Band4RefIdeal.Pure.out_at X b z t l).trans ?_
  simp only [scores_same, row_same]
  unfold Pure.rowScores
  refine (Head.mix_of_real _ _ _ _ _ (fun d => ?_) (fun k d => Head.ext_real _ _ _ _ fun i => ?_)).trans rfl
  · exact real_at X hX _ _ _ _ (by simp; omega)
  · exact real_at X hX _ _ _ _ (by simp; omega)

theorem lse_same (X : Vec Ideal S2x4x2048x3072 .f32) :
    Cert.Band4RefIdeal.Read.val_main_v74 (F := Ideal) X = fun i => Pure.lsev X (i 0) (i 1) (i 2) (i 3) := by
  funext i
  obtain ⟨b, z, t, l, rfl⟩ : ∃ (b : Fin 2) (z : Fin 4) (t : Fin 2048) (l : Fin 128), i = ix4 b z t l := ⟨i 0, i 1, i 2, i 3, eq_ix4 i⟩
  refine (Cert.Band4RefIdeal.Pure.outl_at X b z t l).trans ?_
  simp only [scores_same]
  exact add_comm _ _

theorem same : Cert.algebraic_Band4Ideal_Band4RefIdeal_pre_finite4 := by
  pair_intro
  · run_from Cert.Band4Ideal.Gen.run_main m g
  · refine θ_run_mono (Cert.Band4RefIdeal.Value.run m' g') fun r h c => ⟨(h c).1.trans ?_, (h c).2.1.trans ?_, (h c).2.2⟩
    · rw [Cert.Band4RefIdeal.Read.val_main_v71_eq, hagree c, Pure.final3]
      exact out_same _ (hpre c)
    · rw [Cert.Band4RefIdeal.Read.val_main_v74_eq, hagree c, Pure.final4]
      exact lse_same _

end Cert.Band4Claim

end
-- ==== Proof.Band16Read.lean ====
/- What the band attention's body computes from its blocks, read entry by entry: each head's mixture of values and log-sum-exp. -/
module

public import proofs.«01_k».proof.Proof.Gen.Band16Ideal.Value
public import proofs.«01_k».proof.Proof.HeadPure
public import Idealize.ShloMosaic.Lib.Pipeline.ValueKit

@[expose] public section

set_option maxRecDepth 16384

noncomputable section

namespace Cert.Band16Ideal.Pure

open Cert.Band16Ideal Cert.Band16Ideal.Gen Idealize.ShloMosaic Idealize.ShloMosaic.TcCoe Idealize.SL.Sem

/-- The query lanes of the second head of a chunk. -/
def hi (Q : Vec Ideal S1x1x128x128 .f32) : FVec Ideal S128x128 .f32 :=
  select k0_pay13 (broadcast S128x128 (Scalar.ofBits .f32 0x00000000#32)) (k0_pay16 Q)

/-- One head's mixture of the chunk's value lanes. -/
def res (M : IVec S128x256 1) (K V : Vec Ideal S256x128 .bf16) (q : FVec Ideal S128x128 .f32) : FVec Ideal S128x128 .f32 :=
  divf (matmul (φ₂ := .bf16) dot_S128x256_S256x128_S128x128_1_0_0_1_n_n none (truncf .bf16 (k0_pay20 M K q) bitsLt_bf16_f32) V (constant S128x128 .f32 0x00000000#32))
    (broadcastTo S128x128 (k0_pay21 M K q) broadcasts_S128x1_S128x128)

/-- The output of one chunk of 128 lanes. -/
def chunk (M : IVec S128x256 1) (K V : Vec Ideal S256x128 .bf16) (Q : Vec Ideal S1x1x128x128 .f32) : FVec Ideal S1x1x128x128 .f32 :=
  shapeCast S1x1x128x128 (select k0_pay13 (res M K V (k0_pay17 Q)) (res M K V (hi Q))) shapeCasts_S128x128_S1x1x128x128

/-- One head's log-sum-exp put into its lanes. -/
def slotted (n : BitVec 32) (M : IVec S128x256 1) (K : Vec Ideal S256x128 .bf16) (q : FVec Ideal S128x128 .f32) (L : FVec Ideal S128x128 .f32) : FVec Ideal S128x128 .f32 :=
  select (cmpi .eq k0_pay14 (broadcast S128x128 n))
    (broadcastTo S128x128 (shapeCast S128x1 (addf (k0_pay19 M K q) (log (k0_pay21 M K q))) shapeCasts_S128x1_S128x1) broadcasts_S128x1_S128x128) L

/-- Both heads of a chunk. -/
def both (n n' : BitVec 32) (M : IVec S128x256 1) (K : Vec Ideal S256x128 .bf16) (Q : Vec Ideal S1x1x128x128 .f32) (L : FVec Ideal S128x128 .f32) : FVec Ideal S128x128 .f32 :=
  slotted n' M K (hi Q) (slotted n M K (k0_pay17 Q) L)

section Chunks

variable (M : IVec S128x256 1) (K V : Vec Ideal S256x128 .bf16) (Q : Vec Ideal S1x1x128x128 .f32)

theorem chunk0 : k0_pay28 (k0_pay27 M k0_pay13 (k0_pay16 Q) K V (k0_pay17 Q) (FloatOps.ofBits FTy.f32 0#32)) = chunk M K V Q := rfl
theorem chunk1 : k0_pay42 M k0_pay13 V (k0_pay34 M k0_pay13 Q K V) (k0_pay36 k0_pay13 Q K) (Named.named κ "mask" 4048155338#32) = chunk M K V Q := rfl
theorem chunk2 : k0_pay54 M k0_pay13 K V (k0_pay44 k0_pay13 Q) (k0_pay45 M k0_pay13 Q K) = chunk M K V Q := rfl
theorem chunk3 : k0_pay67 k0_pay13 V (k0_pay60 M k0_pay13 Q K V) (k0_pay64 M k0_pay13 Q K) = chunk M K V Q := rfl
theorem chunk4 : k0_pay80 M k0_pay13 K V (k0_pay69 k0_pay13 Q) (k0_pay72 M k0_pay13 Q K) (k0_pay73 M k0_pay13 Q K) = chunk M K V Q := rfl
theorem chunk5 : k0_pay94 k0_pay13 (k0_pay86 M k0_pay13 (k0_pay81 Q) K V) (k0_pay92 M k0_pay13 (k0_pay81 Q) K V) = chunk M K V Q := rfl
theorem chunk6 : k0_pay108 M k0_pay13 K V (k0_pay96 k0_pay13 Q) (k0_pay101 M k0_pay13 Q K V) = chunk M K V Q := rfl
theorem chunk7 : k0_pay1 k0_pay13 (k0_pay115 M k0_pay13 (k0_pay109 Q) K V k0_pay110) (k0_pay120 M k0_pay13 (k0_pay109 Q) K V) = chunk M K V Q := rfl

end Chunks

/-- The log-sum-exp block of all sixteen heads. -/
def tower (M : IVec S128x256 1) (Q0 Q1 Q2 Q3 Q4 Q5 Q6 Q7 : Vec Ideal S1x1x128x128 .f32) (K0 K1 K2 K3 K4 K5 K6 K7 : Vec Ideal S256x128 .bf16) : FVec Ideal S128x128 .f32 :=
  both 14#32 15#32 M K7 Q7 (both 12#32 13#32 M K6 Q6 (both 10#32 11#32 M K5 Q5 (both 8#32 9#32 M K4 Q4
    (both 6#32 7#32 M K3 Q3 (both 4#32 5#32 M K2 Q2 (both 2#32 3#32 M K1 Q1 (both 0#32 1#32 M K0 Q0 k0_pay15)))))))

theorem tower_eq (M : IVec S128x256 1) (Q0 Q1 Q2 Q3 Q4 Q5 Q6 Q7 : Vec Ideal S1x1x128x128 .f32) (K0 K1 K2 K3 K4 K5 K6 K7 : Vec Ideal S256x128 .bf16) :
    k0_pay2 (k0_pay121 M k0_pay13 k0_pay14 (k0_pay107 M k0_pay14 (k0_pay93 k0_pay14 (k0_pay87 M k0_pay13 k0_pay14 (k0_pay79 M k0_pay14 (k0_pay66 k0_pay14 (k0_pay61 M k0_pay13 k0_pay14 (k0_pay53 M k0_pay14 (k0_pay41 M k0_pay14 (k0_pay35 M k0_pay13 k0_pay14 (k0_pay26 M k0_pay13 k0_pay14 k0_pay15 (k0_pay16 Q0) K0 (k0_pay17 Q0) (FloatOps.ofBits FTy.f32 0#32)) Q1 K1) (k0_pay36 k0_pay13 Q1 K1) (Named.named κ "mask" 4048155338#32)) K2 (k0_pay44 k0_pay13 Q2) (k0_pay45 M k0_pay13 Q2 K2)) Q3 K3) (k0_pay63 M k0_pay13 Q3 K3) (k0_pay64 M k0_pay13 Q3 K3)) K4 (k0_pay69 k0_pay13 Q4) (k0_pay71 M k0_pay13 Q4 K4) (k0_pay73 M k0_pay13 Q4 K4)) (k0_pay81 Q5) K5) (k0_pay89 M k0_pay13 (k0_pay81 Q5) K5) (k0_pay91 M k0_pay13 (k0_pay81 Q5) K5)) K6 (k0_pay96 k0_pay13 Q6) (k0_pay98 M k0_pay13 Q6 K6) (k0_pay100 M k0_pay13 Q6 K6) k0_pay102) (k0_pay109 Q7) K7 k0_pay110)
      = shapeCast S1x1x128x128 (tower M Q0 Q1 Q2 Q3 Q4 Q5 Q6 Q7 K0 K1 K2 K3 K4 K5 K6 K7) shapeCasts_S128x128_S1x1x128x128 := rfl

/- The values of the integer lanes. -/

theorem lo_at (r l : Fin 128) : (k0_pay13 : IVec S128x128 1) (ix2 r l) = BitVec.ofBool (decide (l.val < 64)) := by
  pointwise [k0_pay13]
  revert l
  decide +kernel

theorem slot_at (r l : Fin 128) : (k0_pay14 : IVec S128x128 32) (ix2 r l) = BitVec.ofNat 32 (l.val / 8) := by
  pointwise [k0_pay14]
  revert l
  decide +kernel

/- The scores of the two heads of a chunk. -/

/-- Query and key lanes of head `b` (first or second) of a chunk. -/
def qLane (b : Fin 2) (Q : Vec Ideal S1x1x128x128 .f32) (r : Fin 128) (d : Fin 64) : EReal := Q (ix4 0 0 r ⟨64 * b.val + d.val, by omega⟩)
def kLane (b : Fin 2) (K : Vec Ideal S256x128 .bf16) (k : Fin 256) (d : Fin 64) : EReal := K (ix2 k ⟨64 * b.val + d.val, by omega⟩)
def okRow (M : IVec S128x256 1) (r : Fin 128) (k : Fin 256) : Bool := M (ix2 r k) == 1#1

abbrev headScores (b : Fin 2) (M : IVec S128x256 1) (K : Vec Ideal S256x128 .bf16) (Q : Vec Ideal S1x1x128x128 .f32) (r : Fin 128) : Fin 256 → EReal :=
  Head.scores (okRow M r) (qLane b Q r) (kLane b K)

theorem mask_bot : (Named.named κ "mask" 4048155338#32 : Ideal .f32) = (⊥ : EReal) := rfl

theorem pay18_at (M : IVec S128x256 1) (K : Vec Ideal S256x128 .bf16) (q : FVec Ideal S128x128 .f32) (r : Fin 128) (k : Fin 256) :
    k0_pay18 M K q (ix2 r k) = if okRow M r k then ∑ x, q (ix2 r x) * K (ix2 k x) else (⊥ : EReal) := by
  pointwise [k0_pay18]
  rw [mask_bot]
  unfold okRow Scalar.select
  simp

theorem pay19_at (M : IVec S128x256 1) (K : Vec Ideal S256x128 .bf16) (q : FVec Ideal S128x128 .f32) (r : Fin 128) (z : Fin 1) :
    k0_pay19 M K q (ix2 r z) = Head.top (fun k => k0_pay18 M K q (ix2 r k)) := by
  pointwise [k0_pay19]
  rfl

theorem pay20_at (M : IVec S128x256 1) (K : Vec Ideal S256x128 .bf16) (q : FVec Ideal S128x128 .f32) (r : Fin 128) (k : Fin 256) :
    k0_pay20 M K q (ix2 r k) = Ideal.exp (k0_pay18 M K q (ix2 r k) - Head.top (fun k => k0_pay18 M K q (ix2 r k))) := by
  pointwise [k0_pay20]
  rw [pay19_at]

theorem pay21_at (M : IVec S128x256 1) (K : Vec Ideal S256x128 .bf16) (q : FVec Ideal S128x128 .f32) (r : Fin 128) (z : Fin 1) :
    k0_pay21 M K q (ix2 r z) = Head.den (fun k => k0_pay18 M K q (ix2 r k)) := by
  pointwise [k0_pay21]
  simp only [pay20_at]
  rfl

theorem res_at (M : IVec S128x256 1) (K V : Vec Ideal S256x128 .bf16) (q : FVec Ideal S128x128 .f32) (r l : Fin 128) :
    res M K V q (ix2 r l) = Head.mix (fun k => k0_pay18 M K q (ix2 r k)) (fun k => V (ix2 k l)) := by
  pointwise [res]
  simp only [pay20_at, pay21_at]
  rfl

/-- A sum over 128 lanes is the sum over its two halves. -/
theorem halves (f : Fin 128 → EReal) : ∑ x, f x = (∑ d : Fin 64, f ⟨d.val, by omega⟩) + ∑ d : Fin 64, f ⟨64 + d.val, by omega⟩ :=
  Fin.sum_univ_add (a := 64) (b := 64) f

theorem lo_lane (Q : Vec Ideal S1x1x128x128 .f32) (r x : Fin 128) :
    k0_pay17 Q (ix2 r x) = if x.val < 64 then Q (ix4 0 0 r x) * Head.eighth else (0 : EReal) := by
  pointwise [k0_pay17, k0_pay16]
  rw [lo_at]
  unfold Scalar.select
  by_cases h : x.val < 64 <;> simp [h]

theorem hi_lane (Q : Vec Ideal S1x1x128x128 .f32) (r x : Fin 128) :
    hi Q (ix2 r x) = if x.val < 64 then (0 : EReal) else Q (ix4 0 0 r x) * Head.eighth := by
  pointwise [hi, k0_pay16]
  rw [lo_at]
  unfold Scalar.select
  by_cases h : x.val < 64 <;> simp [h]

theorem lo_row (M : IVec S128x256 1) (K : Vec Ideal S256x128 .bf16) (Q : Vec Ideal S1x1x128x128 .f32) (r : Fin 128) :
    (fun k => k0_pay18 M K (k0_pay17 Q) (ix2 r k)) = headScores 0 M K Q r := by
  funext k
  rw [pay18_at]
  unfold headScores Head.scores
  congr 1
  rw [← Head.scaled, halves]
  simp only [lo_lane]
  rw [show (∑ d : Fin 64, (if (⟨64 + d.val, by omega⟩ : Fin 128).val < 64 then Q (ix4 0 0 r ⟨64 + d.val, by omega⟩) * Head.eighth else (0 : EReal)) * K (ix2 k ⟨64 + d.val, by omega⟩)) = 0 from
    Finset.sum_eq_zero fun d _ => by rw [if_neg (by simp), zero_mul], add_zero]
  refine Finset.sum_congr rfl fun d _ => ?_
  rw [if_pos d.isLt]
  unfold qLane kLane
  simp

theorem hi_row (M : IVec S128x256 1) (K : Vec Ideal S256x128 .bf16) (Q : Vec Ideal S1x1x128x128 .f32) (r : Fin 128) :
    (fun k => k0_pay18 M K (hi Q) (ix2 r k)) = headScores 1 M K Q r := by
  funext k
  rw [pay18_at]
  unfold headScores Head.scores
  congr 1
  rw [← Head.scaled, halves]
  simp only [hi_lane]
  rw [show (∑ d : Fin 64, (if (⟨d.val, by omega⟩ : Fin 128).val < 64 then (0 : EReal) else Q (ix4 0 0 r ⟨d.val, by omega⟩) * Head.eighth) * K (ix2 k ⟨d.val, by omega⟩)) = 0 from
    Finset.sum_eq_zero fun d _ => by rw [if_pos d.isLt, zero_mul], zero_add]
  refine Finset.sum_congr rfl fun d _ => ?_
  rw [if_neg (by simp)]
  unfold qLane kLane
  simp

/-- The output of a chunk at a lane is the mixture of the head the lane belongs to. -/
theorem chunk_at (M : IVec S128x256 1) (K V : Vec Ideal S256x128 .bf16) (Q : Vec Ideal S1x1x128x128 .f32) (a b : Fin 1) (r l : Fin 128) :
    chunk M K V Q (ix4 a b r l) = Head.mix (headScores ⟨l.val / 64, by omega⟩ M K Q r) (fun k => V (ix2 k l)) := by
  pointwise [chunk]
  rw [lo_at, res_at, res_at, lo_row, hi_row]
  unfold Scalar.select
  by_cases h : l.val < 64
  · rw [show (⟨l.val / 64, by omega⟩ : Fin 2) = 0 from Fin.ext (by simp; omega)]; simp [h]
  · rw [show (⟨l.val / 64, by omega⟩ : Fin 2) = 1 from Fin.ext (by simp; omega)]; simp [h]

theorem slotted_at (n : ℕ) (hn : n < 16) (M : IVec S128x256 1) (K : Vec Ideal S256x128 .bf16) (q : FVec Ideal S128x128 .f32) (L : FVec Ideal S128x128 .f32) (r l : Fin 128) :
    slotted (BitVec.ofNat 32 n) M K q L (ix2 r l) = if l.val / 8 = n then Head.lse (fun k => k0_pay18 M K q (ix2 r k)) else L (ix2 r l) := by
  pointwise [slotted]
  rw [slot_at, pay19_at, pay21_at]
  have : IntOp.cmpi .eq (BitVec.ofNat 32 (l.val / 8)) (BitVec.ofNat 32 n) = BitVec.ofBool (decide (l.val / 8 = n)) := by
    have hl : l.val / 8 < 16 := by omega
    generalize l.val / 8 = m at hl
    interval_cases m <;> interval_cases n <;> rfl
  rw [this]
  unfold Scalar.select
  by_cases h : l.val / 8 = n <;> simp [h, Head.lse]

theorem both_at (n : ℕ) (hn : n + 1 < 16) (M : IVec S128x256 1) (K : Vec Ideal S256x128 .bf16) (Q : Vec Ideal S1x1x128x128 .f32) (L : FVec Ideal S128x128 .f32) (r l : Fin 128) :
    both (BitVec.ofNat 32 n) (BitVec.ofNat 32 (n + 1)) M K Q L (ix2 r l)
      = if l.val / 8 = n + 1 then Head.lse (headScores 1 M K Q r) else if l.val / 8 = n then Head.lse (headScores 0 M K Q r) else L (ix2 r l) := by
  unfold both
  rw [slotted_at _ hn, slotted_at _ (by omega), lo_row, hi_row]

/-- The lane of the log-sum-exp block holds the value of its head. -/
theorem tower_at (M : IVec S128x256 1) (Q0 Q1 Q2 Q3 Q4 Q5 Q6 Q7 : Vec Ideal S1x1x128x128 .f32) (K0 K1 K2 K3 K4 K5 K6 K7 : Vec Ideal S256x128 .bf16)
    (a b : Fin 1) (r l : Fin 128) :
    shapeCast S1x1x128x128 (tower M Q0 Q1 Q2 Q3 Q4 Q5 Q6 Q7 K0 K1 K2 K3 K4 K5 K6 K7) shapeCasts_S128x128_S1x1x128x128 (ix4 a b r l)
      = Head.lse (headScores ⟨l.val / 8 % 2, by omega⟩ M (![K0, K1, K2, K3, K4, K5, K6, K7] ⟨l.val / 16, by omega⟩) (![Q0, Q1, Q2, Q3, Q4, Q5, Q6, Q7] ⟨l.val / 16, by omega⟩) r) := by
  pointwise []
  unfold tower
  rw [both_at 14 (by omega), both_at 12 (by omega), both_at 10 (by omega), both_at 8 (by omega), both_at 6 (by omega), both_at 4 (by omega), both_at 2 (by omega), both_at 0 (by omega)]
  have hl : l.val / 8 < 16 := by omega
  obtain ⟨m, hm⟩ : ∃ m : Fin 16, l.val / 8 = m.val := ⟨⟨_, hl⟩, rfl⟩
  rw [show (⟨l.val / 16, by omega⟩ : Fin 8) = ⟨m.val / 2, by omega⟩ from Fin.ext (by simp; omega),
    show (⟨l.val / 8 % 2, by omega⟩ : Fin 2) = ⟨m.val % 2, by omega⟩ from Fin.ext (by simp; omega)]
  simp only [hm]
  fin_cases m <;> rfl

end Cert.Band16Ideal.Pure

end
-- ==== Proof.Band16Final.lean ====
/- The blocks the band attention leaves: what its carried key and value rows hold, and both results as functions of the argument. -/
module

public import Idealize.ShloMosaic.Lib.Pipeline.ReadBack
public import proofs.«01_k».proof.Proof.HeadMask
public import proofs.«01_k».proof.Proof.Band16Read

@[expose] public section

set_option maxRecDepth 16384

noncomputable section

namespace Cert.Band16Ideal.Pure

open Cert.Band16Ideal Cert.Band16Ideal.Gen Idealize.ShloMosaic Idealize.ShloMosaic.TcCoe Idealize.SL.Sem
open Idealize.ShloMosaic.Pipeline (Dat)

/-- A read of what was just stored is a read of the stored contents. -/
theorem rd {sp : Space} {s : Shape} {e : EltTy} (v : View sig .tc sp s e) (L : List (View.Piece (Elt Ideal) s e)) (r : Rect s) :
    v.readCov L r.toLoadRect = View.ld (View.canon L) r := View.readCov_eq_canon' v L _

/-- Carried rows after the body: the block's own rows `A` below the rows `B` of the block before. -/
def two (A B : FVec Ideal S128x1024 .bf16) : Vec Ideal S256x1024 .bf16 :=
  View.canon [(⟨Rect.unit ![128, 0] ![128, 1024] inb_S256x1024_S128x1024_128_0, A⟩ : View.Piece (Elt Ideal) S256x1024 .bf16),
    (⟨Rect.unit ![0, 0] ![128, 1024] inb_S256x1024_S128x1024_0_0, B⟩ : View.Piece (Elt Ideal) S256x1024 .bf16)]

theorem two_eq (A B : FVec Ideal S128x1024 .bf16) :
    View.canon [(⟨Rect.unit ![128, 0] ![128, 1024] inb_S256x1024_S128x1024_128_0, A⟩ : View.Piece (Elt Ideal) S256x1024 .bf16),
      (⟨Rect.unit ![0, 0] ![128, 1024] inb_S256x1024_S128x1024_0_0, B⟩ : View.Piece (Elt Ideal) S256x1024 .bf16)] = two A B := rfl

theorem two_at (A B : FVec Ideal S128x1024 .bf16) (k : Fin 256) (l : Fin 1024) :
    two A B (ix2 k l) = if h : k.val < 128 then B (ix2 ⟨k.val, h⟩ l) else A (ix2 ⟨k.val - 128, by omega⟩ l) := by
  unfold two
  canon_tiles x h
  · rw [dif_neg (by simp at h0 ⊢; omega)]
    exact congrArg A ((eq_ix2 x).trans (congrArg₂ ix2 (Fin.ext (by simp at h0 ⊢; omega)) (Fin.ext (by simp at h1 ⊢; omega))))
  · rw [dif_pos (by simp at h0 ⊢; omega)]
    exact congrArg B ((eq_ix2 x).trans (congrArg₂ ix2 (Fin.ext (by simp at h0 ⊢; omega)) (Fin.ext (by simp at h1 ⊢; omega))))

/-- The scores of head `h` of a block of 128 query rows. -/
def blockScores (M : IVec S128x256 1) (Q : Vec Ideal S1x1x128x1024 .f32) (KK : Vec Ideal S256x1024 .bf16) (r : Fin 128) (h : Fin 16) : Fin 256 → EReal :=
  Head.scores (okRow M r) (fun d => Q (ix4 0 0 r ⟨64 * h.val + d.val, by omega⟩)) (fun k d => KK (ix2 k ⟨64 * h.val + d.val, by omega⟩))

theorem scores_chunk (c : ℕ) (hc : c < 8) (M : IVec S128x256 1) (Q : Vec Ideal S1x1x128x1024 .f32) (KK : Vec Ideal S256x1024 .bf16)
    (Q' : Vec Ideal S1x1x128x128 .f32) (K : Vec Ideal S256x128 .bf16)
    (hQ : ∀ r l : Fin 128, Q' (ix4 0 0 r l) = Q (ix4 0 0 r ⟨128 * c + l.val, by omega⟩))
    (hK : ∀ (k : Fin 256) (l : Fin 128), K (ix2 k l) = KK (ix2 k ⟨128 * c + l.val, by omega⟩))
    (b : Fin 2) (r : Fin 128) (h : Fin 16) (hh : h.val = 2 * c + b.val) :
    headScores b M K Q' r = blockScores M Q KK r h := by
  unfold headScores blockScores
  congr 1
  · funext d; unfold qLane; rw [hQ]; exact congrArg _ (congrArg (ix4 0 0 r) (Fin.ext (by simp; omega)))
  · funext k d; unfold kLane; rw [hK]; exact congrArg _ (congrArg (ix2 k) (Fin.ext (by simp; omega)))

theorem piece_at (c : ℕ) (hc : c < 8) (M : IVec S128x256 1) (Q : Vec Ideal S1x1x128x1024 .f32) (KK VV : Vec Ideal S256x1024 .bf16)
    (Q' : Vec Ideal S1x1x128x128 .f32) (K V : Vec Ideal S256x128 .bf16) (x : S1x1x128x128.Idx) (r : Fin 128) (l : Fin 1024)
    (hr : r.val = (x 2).val) (hl : l.val = 128 * c + (x 3).val)
    (hQ : ∀ r l : Fin 128, Q' (ix4 0 0 r l) = Q (ix4 0 0 r ⟨128 * c + l.val, by omega⟩))
    (hK : ∀ (k : Fin 256) (l : Fin 128), K (ix2 k l) = KK (ix2 k ⟨128 * c + l.val, by omega⟩))
    (hV : ∀ (k : Fin 256) (l : Fin 128), V (ix2 k l) = VV (ix2 k ⟨128 * c + l.val, by omega⟩)) :
    chunk M K V Q' x = Head.mix (blockScores M Q KK r ⟨l.val / 64, by omega⟩) (fun k => VV (ix2 k l)) := by
  obtain ⟨a, b, r', l', rfl⟩ : ∃ (a b : Fin 1) (r' l' : Fin 128), x = ix4 a b r' l' := ⟨x 0, x 1, x 2, x 3, eq_ix4 x⟩
  obtain rfl : r = r' := Fin.ext hr
  have hl' : l.val = 128 * c + l'.val := hl
  rw [chunk_at, scores_chunk c hc M Q KK Q' K hQ hK ⟨l'.val / 64, by omega⟩ r ⟨l.val / 64, by omega⟩ (by simp; omega)]
  refine congrArg _ (funext fun k => ?_)
  rw [hV]
  exact congrArg _ (congrArg (ix2 k) (Fin.ext (by simp; omega)))

/-- The eight stores of the output, read at one entry. -/
theorem out3_at (M : IVec S128x256 1) (Q : Vec Ideal S1x1x128x1024 .f32) (KK VV : Vec Ideal S256x1024 .bf16) (a b : Fin 1) (r : Fin 128) (l : Fin 1024) :
    View.canon [(⟨Rect.unit ![0, 0, 0, 896] ![1, 1, 128, 128] inb_S1x1x128x1024_S1x1x128x128_0_0_0_896, chunk M (View.ld KK (Rect.unit ![0, 896] ![256, 128] inb_S256x1024_S256x128_0_896)) (View.ld VV (Rect.unit ![0, 896] ![256, 128] inb_S256x1024_S256x128_0_896)) (View.ld Q (Rect.unit ![0, 0, 0, 896] ![1, 1, 128, 128] inb_S1x1x128x1024_S1x1x128x128_0_0_0_896))⟩ : View.Piece (Elt Ideal) S1x1x128x1024 .f32),
      (⟨Rect.unit ![0, 0, 0, 768] ![1, 1, 128, 128] inb_S1x1x128x1024_S1x1x128x128_0_0_0_768, chunk M (View.ld KK (Rect.unit ![0, 768] ![256, 128] inb_S256x1024_S256x128_0_768)) (View.ld VV (Rect.unit ![0, 768] ![256, 128] inb_S256x1024_S256x128_0_768)) (View.ld Q (Rect.unit ![0, 0, 0, 768] ![1, 1, 128, 128] inb_S1x1x128x1024_S1x1x128x128_0_0_0_768))⟩ : View.Piece (Elt Ideal) S1x1x128x1024 .f32),
      (⟨Rect.unit ![0, 0, 0, 640] ![1, 1, 128, 128] inb_S1x1x128x1024_S1x1x128x128_0_0_0_640, chunk M (View.ld KK (Rect.unit ![0, 640] ![256, 128] inb_S256x1024_S256x128_0_640)) (View.ld VV (Rect.unit ![0, 640] ![256, 128] inb_S256x1024_S256x128_0_640)) (View.ld Q (Rect.unit ![0, 0, 0, 640] ![1, 1, 128, 128] inb_S1x1x128x1024_S1x1x128x128_0_0_0_640))⟩ : View.Piece (Elt Ideal) S1x1x128x1024 .f32),
      (⟨Rect.unit ![0, 0, 0, 512] ![1, 1, 128, 128] inb_S1x1x128x1024_S1x1x128x128_0_0_0_512, chunk M (View.ld KK (Rect.unit ![0, 512] ![256, 128] inb_S256x1024_S256x128_0_512)) (View.ld VV (Rect.unit ![0, 512] ![256, 128] inb_S256x1024_S256x128_0_512)) (View.ld Q (Rect.unit ![0, 0, 0, 512] ![1, 1, 128, 128] inb_S1x1x128x1024_S1x1x128x128_0_0_0_512))⟩ : View.Piece (Elt Ideal) S1x1x128x1024 .f32),
      (⟨Rect.unit ![0, 0, 0, 384] ![1, 1, 128, 128] inb_S1x1x128x1024_S1x1x128x128_0_0_0_384, chunk M (View.ld KK (Rect.unit ![0, 384] ![256, 128] inb_S256x1024_S256x128_0_384)) (View.ld VV (Rect.unit ![0, 384] ![256, 128] inb_S256x1024_S256x128_0_384)) (View.ld Q (Rect.unit ![0, 0, 0, 384] ![1, 1, 128, 128] inb_S1x1x128x1024_S1x1x128x128_0_0_0_384))⟩ : View.Piece (Elt Ideal) S1x1x128x1024 .f32),
      (⟨Rect.unit ![0, 0, 0, 256] ![1, 1, 128, 128] inb_S1x1x128x1024_S1x1x128x128_0_0_0_256, chunk M (View.ld KK (Rect.unit ![0, 256] ![256, 128] inb_S256x1024_S256x128_0_256)) (View.ld VV (Rect.unit ![0, 256] ![256, 128] inb_S256x1024_S256x128_0_256)) (View.ld Q (Rect.unit ![0, 0, 0, 256] ![1, 1, 128, 128] inb_S1x1x128x1024_S1x1x128x128_0_0_0_256))⟩ : View.Piece (Elt Ideal) S1x1x128x1024 .f32),
      (⟨Rect.unit ![0, 0, 0, 128] ![1, 1, 128, 128] inb_S1x1x128x1024_S1x1x128x128_0_0_0_128, chunk M (View.ld KK (Rect.unit ![0, 128] ![256, 128] inb_S256x1024_S256x128_0_128)) (View.ld VV (Rect.unit ![0, 128] ![256, 128] inb_S256x1024_S256x128_0_128)) (View.ld Q (Rect.unit ![0, 0, 0, 128] ![1, 1, 128, 128] inb_S1x1x128x1024_S1x1x128x128_0_0_0_128))⟩ : View.Piece (Elt Ideal) S1x1x128x1024 .f32),
      (⟨Rect.unit ![0, 0, 0, 0] ![1, 1, 128, 128] inb_S1x1x128x1024_S1x1x128x128_0_0_0_0, chunk M (View.ld KK (Rect.unit ![0, 0] ![256, 128] inb_S256x1024_S256x128_0_0)) (View.ld VV (Rect.unit ![0, 0] ![256, 128] inb_S256x1024_S256x128_0_0)) (View.ld Q (Rect.unit ![0, 0, 0, 0] ![1, 1, 128, 128] inb_S1x1x128x1024_S1x1x128x128_0_0_0_0))⟩ : View.Piece (Elt Ideal) S1x1x128x1024 .f32)] (ix4 a b r l)
      = Head.mix (blockScores M Q KK r ⟨l.val / 64, by omega⟩) (fun k => VV (ix2 k l)) := by
  canon_tiles x h
  · exact piece_at 7 (by omega) M Q KK VV _ _ _ x r l h2 (by simpa using h3) (by intro r l; pointwise; blk_ext) (by intro r l; pointwise; blk_ext) (by intro r l; pointwise; blk_ext)
  · exact piece_at 6 (by omega) M Q KK VV _ _ _ x r l h2 (by simpa using h3) (by intro r l; pointwise; blk_ext) (by intro r l; pointwise; blk_ext) (by intro r l; pointwise; blk_ext)
  · exact piece_at 5 (by omega) M Q KK VV _ _ _ x r l h2 (by simpa using h3) (by intro r l; pointwise; blk_ext) (by intro r l; pointwise; blk_ext) (by intro r l; pointwise; blk_ext)
  · exact piece_at 4 (by omega) M Q KK VV _ _ _ x r l h2 (by simpa using h3) (by intro r l; pointwise; blk_ext) (by intro r l; pointwise; blk_ext) (by intro r l; pointwise; blk_ext)
  · exact piece_at 3 (by omega) M Q KK VV _ _ _ x r l h2 (by simpa using h3) (by intro r l; pointwise; blk_ext) (by intro r l; pointwise; blk_ext) (by intro r l; pointwise; blk_ext)
  · exact piece_at 2 (by omega) M Q KK VV _ _ _ x r l h2 (by simpa using h3) (by intro r l; pointwise; blk_ext) (by intro r l; pointwise; blk_ext) (by intro r l; pointwise; blk_ext)
  · exact piece_at 1 (by omega) M Q KK VV _ _ _ x r l h2 (by simpa using h3) (by intro r l; pointwise; blk_ext) (by intro r l; pointwise; blk_ext) (by intro r l; pointwise; blk_ext)
  · exact piece_at 0 (by omega) M Q KK VV _ _ _ x r l h2 (by simpa using h3) (by intro r l; pointwise; blk_ext) (by intro r l; pointwise; blk_ext) (by intro r l; pointwise; blk_ext)

/-- The one store of the log-sum-exp block, read at one entry. -/
theorem out4_at (M : IVec S128x256 1) (Q : Vec Ideal S1x1x128x1024 .f32) (KK : Vec Ideal S256x1024 .bf16) (a b : Fin 1) (r l : Fin 128) :
    shapeCast S1x1x128x128 (tower M (View.ld Q (Rect.unit ![0, 0, 0, 0] ![1, 1, 128, 128] inb_S1x1x128x1024_S1x1x128x128_0_0_0_0)) (View.ld Q (Rect.unit ![0, 0, 0, 128] ![1, 1, 128, 128] inb_S1x1x128x1024_S1x1x128x128_0_0_0_128)) (View.ld Q (Rect.unit ![0, 0, 0, 256] ![1, 1, 128, 128] inb_S1x1x128x1024_S1x1x128x128_0_0_0_256)) (View.ld Q (Rect.unit ![0, 0, 0, 384] ![1, 1, 128, 128] inb_S1x1x128x1024_S1x1x128x128_0_0_0_384)) (View.ld Q (Rect.unit ![0, 0, 0, 512] ![1, 1, 128, 128] inb_S1x1x128x1024_S1x1x128x128_0_0_0_512)) (View.ld Q (Rect.unit ![0, 0, 0, 640] ![1, 1, 128, 128] inb_S1x1x128x1024_S1x1x128x128_0_0_0_640)) (View.ld Q (Rect.unit ![0, 0, 0, 768] ![1, 1, 128, 128] inb_S1x1x128x1024_S1x1x128x128_0_0_0_768)) (View.ld Q (Rect.unit ![0, 0, 0, 896] ![1, 1, 128, 128] inb_S1x1x128x1024_S1x1x128x128_0_0_0_896)) (View.ld KK (Rect.unit ![0, 0] ![256, 128] inb_S256x1024_S256x128_0_0)) (View.ld KK (Rect.unit ![0, 128] ![256, 128] inb_S256x1024_S256x128_0_128)) (View.ld KK (Rect.unit ![0, 256] ![256, 128] inb_S256x1024_S256x128_0_256)) (View.ld KK (Rect.unit ![0, 384] ![256, 128] inb_S256x1024_S256x128_0_384)) (View.ld KK (Rect.unit ![0, 512] ![256, 128] inb_S256x1024_S256x128_0_512)) (View.ld KK (Rect.unit ![0, 640] ![256, 128] inb_S256x1024_S256x128_0_640)) (View.ld KK (Rect.unit ![0, 768] ![256, 128] inb_S256x1024_S256x128_0_768)) (View.ld KK (Rect.unit ![0, 896] ![256, 128] inb_S256x1024_S256x128_0_896))) shapeCasts_S128x128_S1x1x128x128 (ix4 a b r l)
      = Head.lse (blockScores M Q KK r ⟨l.val / 8, by omega⟩) := by
  rw [tower_at]
  congr 1
  refine scores_chunk (l.val / 16) (by omega) _ _ _ _ _ ?_ ?_ ⟨l.val / 8 % 2, by omega⟩ r ⟨l.val / 8, by omega⟩ (by simp; omega)
  · have : ∀ (j : Fin 8) (r l : Fin 128), (![(View.ld Q (Rect.unit ![0, 0, 0, 0] ![1, 1, 128, 128] inb_S1x1x128x1024_S1x1x128x128_0_0_0_0)), (View.ld Q (Rect.unit ![0, 0, 0, 128] ![1, 1, 128, 128] inb_S1x1x128x1024_S1x1x128x128_0_0_0_128)), (View.ld Q (Rect.unit ![0, 0, 0, 256] ![1, 1, 128, 128] inb_S1x1x128x1024_S1x1x128x128_0_0_0_256)), (View.ld Q (Rect.unit ![0, 0, 0, 384] ![1, 1, 128, 128] inb_S1x1x128x1024_S1x1x128x128_0_0_0_384)), (View.ld Q (Rect.unit ![0, 0, 0, 512] ![1, 1, 128, 128] inb_S1x1x128x1024_S1x1x128x128_0_0_0_512)), (View.ld Q (Rect.unit ![0, 0, 0, 640] ![1, 1, 128, 128] inb_S1x1x128x1024_S1x1x128x128_0_0_0_640)), (View.ld Q (Rect.unit ![0, 0, 0, 768] ![1, 1, 128, 128] inb_S1x1x128x1024_S1x1x128x128_0_0_0_768)), (View.ld Q (Rect.unit ![0, 0, 0, 896] ![1, 1, 128, 128] inb_S1x1x128x1024_S1x1x128x128_0_0_0_896))] j : Vec Ideal S1x1x128x128 .f32) (ix4 0 0 r l) = Q (ix4 0 0 r ⟨128 * j.val + l.val, by omega⟩) := by
      intro j r l
      fin_cases j <;> (simp only [Fin.mk_zero, Fin.isValue]; pointwise; blk_ext)
    exact fun r' l' => this ⟨l.val / 16, by omega⟩ r' l'
  · have : ∀ (j : Fin 8) (k : Fin 256) (l : Fin 128), (![(View.ld KK (Rect.unit ![0, 0] ![256, 128] inb_S256x1024_S256x128_0_0)), (View.ld KK (Rect.unit ![0, 128] ![256, 128] inb_S256x1024_S256x128_0_128)), (View.ld KK (Rect.unit ![0, 256] ![256, 128] inb_S256x1024_S256x128_0_256)), (View.ld KK (Rect.unit ![0, 384] ![256, 128] inb_S256x1024_S256x128_0_384)), (View.ld KK (Rect.unit ![0, 512] ![256, 128] inb_S256x1024_S256x128_0_512)), (View.ld KK (Rect.unit ![0, 640] ![256, 128] inb_S256x1024_S256x128_0_640)), (View.ld KK (Rect.unit ![0, 768] ![256, 128] inb_S256x1024_S256x128_0_768)), (View.ld KK (Rect.unit ![0, 896] ![256, 128] inb_S256x1024_S256x128_0_896))] j : Vec Ideal S256x128 .bf16) (ix2 k l) = KK (ix2 k ⟨128 * j.val + l.val, by omega⟩) := by
      intro j k l
      fin_cases j <;> (simp only [Fin.mk_zero, Fin.isValue]; pointwise; blk_ext)
    exact fun k' l' => this ⟨l.val / 16, by omega⟩ k' l'

variable (m : (ℓ : Loc nD τ sig) → Buf (Elt Ideal) ℓ)

/-- The mask of a grid point. -/
def maskOf (i : grid0.Coords) : IVec S128x256 1 :=
  k0_pay12 (iota .tc S128x256 32 [0] iota_S128x256_d0_w32) (iota .tc S128x256 32 [1] iota_S128x256_d1_w32) (k0_pay9 i) k0_pay10 k0_pay11

theorem okRow_mask (i : grid0.Coords) (r : Fin 128) : okRow (maskOf i) r = Head.okay (i 2).val r := by
  funext k
  have h : maskOf i (ix2 r k) = BitVec.ofBool (Head.okay (i 2).val r k) := by
    pointwise [maskOf, k0_pay12, k0_pay9, k0_pay10, k0_pay11]
    refine Head.mask_words _ _ ?_ r k
    generalize i 2 = j
    revert j
    decide +kernel
  unfold okRow
  rw [h]
  cases Head.okay (i 2).val r k <;> rfl

theorem keys_A (c : Dev nD) (t : Fin cfg0.N) (h0 : t.val % 4 = 0) (h1 : ¬1 ≤ t.val % 4) :
    (outsAt0 m c t.val t.isLt).2.2.1 = two (k0_pay7 (iblk m c 1 t)) k0_pay3 := by
  rw [outsAt0_A m c t h0 h1]; frame_out

theorem vals_A (c : Dev nD) (t : Fin cfg0.N) (h0 : t.val % 4 = 0) (h1 : ¬1 ≤ t.val % 4) :
    (outsAt0 m c t.val t.isLt).2.2.2 = two (k0_pay8 (iblk m c 2 t)) k0_pay4 := by
  rw [outsAt0_A m c t h0 h1]; frame_out

theorem keys_B (c : Dev nD) (t : Fin cfg0.N) (h0 : ¬t.val % 4 = 0) (h1 : 1 ≤ t.val % 4) :
    (outsAt0 m c t.val t.isLt).2.2.1 = two (k0_pay7 (iblk m c 1 t))
      (k0_pay5 (View.ld (outsAt0 m c (t.val - 1) (Nat.lt_of_le_of_lt (Nat.sub_le _ _) t.isLt)).2.2.1 (Rect.unit ![128, 0] ![128, 1024] inb_S256x1024_S128x1024_128_0))) := by
  rw [outsAt0_B m c t h0 h1]; frame_out
  rw [read_unread_whole]

theorem vals_B (c : Dev nD) (t : Fin cfg0.N) (h0 : ¬t.val % 4 = 0) (h1 : 1 ≤ t.val % 4) :
    (outsAt0 m c t.val t.isLt).2.2.2 = two (k0_pay8 (iblk m c 2 t))
      (k0_pay6 (View.ld (outsAt0 m c (t.val - 1) (Nat.lt_of_le_of_lt (Nat.sub_le _ _) t.isLt)).2.2.2 (Rect.unit ![128, 0] ![128, 1024] inb_S256x1024_S128x1024_128_0))) := by
  rw [outsAt0_B m c t h0 h1]; frame_out
  rw [read_unread_whole]

theorem block3_A (c : Dev nD) (t : Fin cfg0.N) (h0 : t.val % 4 = 0) (h1 : ¬1 ≤ t.val % 4) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  rw [keys_A m c t h0 h1, vals_A m c t h0 h1, outsAt0_A m c t h0 h1]; frame_out
  simp only [rd, two_eq, chunk0, chunk1, chunk2, chunk3, chunk4, chunk5, chunk6, chunk7]
  exact out3_at (maskOf (grid0.coords t)) (iblk m c 0 t) _ _ a b r l

theorem block4_A (c : Dev nD) (t : Fin cfg0.N) (h0 : t.val % 4 = 0) (h1 : ¬1 ≤ t.val % 4) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  rw [keys_A m c t h0 h1, outsAt0_A m c t h0 h1]; frame_out
  simp only [rd, two_eq]
  rw [tower_eq]
  exact out4_at (maskOf (grid0.coords t)) (iblk m c 0 t) _ a b r l

theorem block3_B (c : Dev nD) (t : Fin cfg0.N) (h0 : ¬t.val % 4 = 0) (h1 : 1 ≤ t.val % 4) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  rw [keys_B m c t h0 h1, vals_B m c t h0 h1, outsAt0_B m c t h0 h1]; frame_out
  simp only [rd, read_unread_whole, two_eq, chunk0, chunk1, chunk2, chunk3, chunk4, chunk5, chunk6, chunk7]
  exact out3_at (maskOf (grid0.coords t)) (iblk m c 0 t) _ _ a b r l

theorem block4_B (c : Dev nD) (t : Fin cfg0.N) (h0 : ¬t.val % 4 = 0) (h1 : 1 ≤ t.val % 4) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  rw [keys_B m c t h0 h1, outsAt0_B m c t h0 h1]; frame_out
  simp only [rd, read_unread_whole, two_eq]
  rw [tower_eq]
  exact out4_at (maskOf (grid0.coords t)) (iblk m c 0 t) _ a b r l

theorem block3 (c : Dev nD) (t : Fin cfg0.N) (a b : Fin 1) (r : Fin 128) (l : Fin 1024) :
    (outsAt0 m c t.val t.isLt).1 (ix4 a b r l) = Head.mix (blockScores (maskOf (grid0.coords t)) (iblk m c 0 t) (outsAt0 m c t.val t.isLt).2.2.1 r ⟨l.val / 64, by omega⟩)
      (fun k => (outsAt0 m c t.val t.isLt).2.2.2 (ix2 k l)) := by
  by_cases h : t.val % 4 = 0
  · exact block3_A m c t h (by omega) a b r l
  · exact block3_B m c t h (by omega) a b r l

theorem block4 (c : Dev nD) (t : Fin cfg0.N) (a b : Fin 1) (r l : Fin 128) :
    (outsAt0 m c t.val t.isLt).2.1 (ix4 a b r l) = Head.lse (blockScores (maskOf (grid0.coords t)) (iblk m c 0 t) (outsAt0 m c t.val t.isLt).2.2.1 r ⟨l.val / 8, by omega⟩) := by
  by_cases h : t.val % 4 = 0
  · exact block4_A m c t h (by omega) a b r l
  · exact block4_B m c t h (by omega) a b r l

theorem idx : ∀ t : Fin cfg0.N, win0_0.index t = ![t.val / 64, t.val / 4 % 16, t.val % 4, 0]
    ∧ win0_1.index t = ![t.val / 64, t.val / 4 % 16, t.val % 4, 1] ∧ win0_2.index t = ![t.val / 64, t.val / 4 % 16, t.val % 4, 2]
    ∧ win0_3.index t = ![t.val / 64, t.val / 4 % 16, t.val % 4, 0] ∧ win0_4.index t = ![t.val / 64, t.val / 4 % 16, t.val % 4, 0]
    ∧ (grid0.coords t 2).val = t.val % 4 := (by decide +kernel : ∀ t : Fin grid0.N, _)

/-- The argument's row `i` of the stream a grid point belongs to, at lane `l`. -/
def row (c : Dev nD) (t : Fin cfg0.N) (l : Fin 3072) (i : Fin 512) : EReal :=
  (m ((c : Thread nD τ).loc main_arg0) : Vec Ideal S2x16x512x3072 .f32) (ix4 ⟨t.val / 64, by have := t.isLt; have : cfg0.N = 128 := N_0; omega⟩ ⟨t.val / 4 % 16, by omega⟩ i l)

theorem in0 (c : Dev nD) (t : Fin cfg0.N) (r : Fin 128) (l : Fin 1024) :
    (iblk m c 0 t : Vec Ideal S1x1x128x1024 .f32) (ix4 0 0 r l) = row m c t ⟨l.val, by omega⟩ ⟨t.val % 4 * 128 + r.val, by omega⟩ := by
  unfold row
  blk_point [iblk, V, idx t]

theorem in1 (c : Dev nD) (t : Fin cfg0.N) (r : Fin 128) (l : Fin 1024) :
    (iblk m c 1 t : Vec Ideal S1x1x128x1024 .f32) (ix4 0 0 r l) = row m c t ⟨1024 + l.val, by omega⟩ ⟨t.val % 4 * 128 + r.val, by omega⟩ := by
  unfold row
  blk_point [iblk, V, idx t]

theorem in2 (c : Dev nD) (t : Fin cfg0.N) (r : Fin 128) (l : Fin 1024) :
    (iblk m c 2 t : Vec Ideal S1x1x128x1024 .f32) (ix4 0 0 r l) = row m c t ⟨2048 + l.val, by omega⟩ ⟨t.val % 4 * 128 + r.val, by omega⟩ := by
  unfold row
  blk_point [iblk, V, idx t]

theorem keys_low (c : Dev nD) (t : Fin cfg0.N) (r : Fin 128) (l : Fin 1024) :
    (outsAt0 m c t.val t.isLt).2.2.1 (ix2 ⟨128 + r.val, by omega⟩ l) = row m c t ⟨1024 + l.val, by omega⟩ ⟨t.val % 4 * 128 + r.val, by omega⟩ := by
  have e : ∀ B, two (k0_pay7 (iblk m c 1 t)) B (ix2 ⟨128 + r.val, by omega⟩ l) = row m c t ⟨1024 + l.val, by omega⟩ ⟨t.val % 4 * 128 + r.val, by omega⟩ := by
    intro B
    rw [two_at, dif_neg (by simp), ← in1]
    pointwise [k0_pay7]
    blk_ext
  by_cases h : t.val % 4 = 0
  · rw [keys_A m c t h (by omega)]; exact e _
  · rw [keys_B m c t h (by omega)]; exact e _

theorem vals_low (c : Dev nD) (t : Fin cfg0.N) (r : Fin 128) (l : Fin 1024) :
    (outsAt0 m c t.val t.isLt).2.2.2 (ix2 ⟨128 + r.val, by omega⟩ l) = row m c t ⟨2048 + l.val, by omega⟩ ⟨t.val % 4 * 128 + r.val, by omega⟩ := by
  have e : ∀ B, two (k0_pay8 (iblk m c 2 t)) B (ix2 ⟨128 + r.val, by omega⟩ l) = row m c t ⟨2048 + l.val, by omega⟩ ⟨t.val % 4 * 128 + r.val, by omega⟩ := by
    intro B
    rw [two_at, dif_neg (by simp), ← in2]
    pointwise [k0_pay8]
    blk_ext
  by_cases h : t.val % 4 = 0
  · rw [vals_A m c t h (by omega)]; exact e _
  · rw [vals_B m c t h (by omega)]; exact e _

/-- The grid point before, in the same stream. -/
theorem row_prev (c : Dev nD) (t t' : Fin cfg0.N) (ht : t'.val = t.val - 1) (h : ¬t.val % 4 = 0) (l : Fin 3072) (i : Fin 512) :
    row m c t' l i = row m c t l i := by
  unfold row
  exact congrArg _ (congrArg₂ (fun a b => ix4 a b i l) (Fin.ext (by simp <;> omega)) (Fin.ext (by simp <;> omega)))

/-- The carried keys: the rows of the block before, then the block's own. -/
theorem keys_at (c : Dev nD) (t : Fin cfg0.N) (k : Fin 256) (l : Fin 1024) :
    (outsAt0 m c t.val t.isLt).2.2.1 (ix2 k l) = Head.ext (row m c t ⟨1024 + l.val, by omega⟩) (t.val % 4) (by omega) k := by
  unfold Head.ext
  by_cases hk : k.val < 128
  · rw [dif_pos hk]
    by_cases h : t.val % 4 = 0
    · rw [dif_pos h, keys_A m c t h (by omega), two_at, dif_pos hk]
      pointwise [k0_pay3]
    · rw [dif_neg h, keys_B m c t h (by omega), two_at, dif_pos hk]
      refine Eq.trans ?_ ((keys_low m c ⟨t.val - 1, Nat.lt_of_le_of_lt (Nat.sub_le _ _) t.isLt⟩ ⟨k.val, hk⟩ l).trans ((row_prev m c t ⟨t.val - 1, Nat.lt_of_le_of_lt (Nat.sub_le _ _) t.isLt⟩ rfl h _ _).trans ?_))
      · pointwise [k0_pay5]
        blk_ext
      · exact congrArg _ (Fin.ext (by simp <;> omega))
  · rw [dif_neg hk]
    refine Eq.trans (congrArg (fun k' => (outsAt0 m c t.val t.isLt).2.2.1 (ix2 k' l)) (Fin.ext (by simp <;> omega))) (keys_low m c t ⟨k.val - 128, by omega⟩ l)

/-- The carried values likewise. -/
theorem vals_at (c : Dev nD) (t : Fin cfg0.N) (k : Fin 256) (l : Fin 1024) :
    (outsAt0 m c t.val t.isLt).2.2.2 (ix2 k l) = Head.ext (row m c t ⟨2048 + l.val, by omega⟩) (t.val % 4) (by omega) k := by
  unfold Head.ext
  by_cases hk : k.val < 128
  · rw [dif_pos hk]
    by_cases h : t.val % 4 = 0
    · rw [dif_pos h, vals_A m c t h (by omega), two_at, dif_pos hk]
      pointwise [k0_pay4]
    · rw [dif_neg h, vals_B m c t h (by omega), two_at, dif_pos hk]
      refine Eq.trans ?_ ((vals_low m c ⟨t.val - 1, Nat.lt_of_le_of_lt (Nat.sub_le _ _) t.isLt⟩ ⟨k.val, hk⟩ l).trans ((row_prev m c t ⟨t.val - 1, Nat.lt_of_le_of_lt (Nat.sub_le _ _) t.isLt⟩ rfl h _ _).trans ?_))
      · pointwise [k0_pay6]
        blk_ext
      · exact congrArg _ (Fin.ext (by simp <;> omega))
  · rw [dif_neg hk]
    refine Eq.trans (congrArg (fun k' => (outsAt0 m c t.val t.isLt).2.2.2 (ix2 k' l)) (Fin.ext (by simp <;> omega))) (vals_low m c t ⟨k.val - 128, by omega⟩ l)

/-- Lane `l` of the rows of one stream. -/
def strm (X : Vec Ideal S2x16x512x3072 .f32) (b : Fin 2) (a : Fin 16) (l : Fin 3072) (i : Fin 512) : EReal := X (ix4 b a i l)

/-- The masked scores of one query row of one head. -/
def rowScores (X : Vec Ideal S2x16x512x3072 .f32) (b : Fin 2) (a : Fin 16) (n : Fin 4) (h : Fin 16) (r : Fin 128) : Fin 256 → EReal :=
  Head.scores (Head.okay n.val r) (fun d => strm X b a ⟨64 * h.val + d.val, by omega⟩ ⟨n.val * 128 + r.val, by omega⟩)
    (fun k d => Head.ext (strm X b a ⟨1024 + (64 * h.val + d.val), by omega⟩) n.val (by omega) k)

/-- Both results as functions of the argument. -/
def outv (X : Vec Ideal S2x16x512x3072 .f32) (b : Fin 2) (a : Fin 16) (i : Fin 512) (l : Fin 1024) : EReal :=
  Head.mix (rowScores X b a ⟨i.val / 128, by omega⟩ ⟨l.val / 64, by omega⟩ ⟨i.val % 128, by omega⟩) (fun k => Head.ext (strm X b a ⟨2048 + l.val, by omega⟩) (i.val / 128) (by omega) k)

def lsev (X : Vec Ideal S2x16x512x3072 .f32) (b : Fin 2) (a : Fin 16) (i : Fin 512) (l : Fin 128) : EReal :=
  Head.lse (rowScores X b a ⟨i.val / 128, by omega⟩ ⟨l.val / 8, by omega⟩ ⟨i.val % 128, by omega⟩)

abbrev arg (c : Dev nD) : Vec Ideal S2x16x512x3072 .f32 := m ((c : Thread nD τ).loc main_arg0)

theorem block_scores (c : Dev nD) (t : Fin cfg0.N) (r : Fin 128) (h : Fin 16) :
    blockScores (maskOf (grid0.coords t)) (iblk m c 0 t) (outsAt0 m c t.val t.isLt).2.2.1 r h
      = rowScores (arg m c) ⟨t.val / 64, by have := t.isLt; have : cfg0.N = 128 := N_0; omega⟩ ⟨t.val / 4 % 16, by omega⟩ ⟨t.val % 4, by omega⟩ h r := by
  unfold blockScores rowScores
  rw [okRow_mask, (idx t).2.2.2.2.2]
  simp only [in0, keys_at]
  rfl

theorem out_entry (c : Dev nD) (t : Fin cfg0.N) (z w : Fin 1) (r : Fin 128) (l : Fin 1024) :
    (outsAt0 m c t.val t.isLt).1 (ix4 z w r l)
      = outv (arg m c) ⟨t.val / 64, by have := t.isLt; have : cfg0.N = 128 := N_0; omega⟩ ⟨t.val / 4 % 16, by omega⟩ ⟨t.val % 4 * 128 + r.val, by omega⟩ l := by
  rw [block3, block_scores]
  unfold outv
  have e1 : (⟨(t.val % 4 * 128 + r.val) / 128, by omega⟩ : Fin 4) = ⟨t.val % 4, by omega⟩ := Fin.ext (by simp <;> omega)
  have e2 : (⟨(t.val % 4 * 128 + r.val) % 128, by omega⟩ : Fin 128) = r := Fin.ext (by simp <;> omega)
  simp only [e2, vals_at]
  have e3 : (t.val % 4 * 128 + r.val) / 128 = t.val % 4 := by omega
  simp only [e3]
  rfl

theorem lse_entry (c : Dev nD) (t : Fin cfg0.N) (z w : Fin 1) (r l : Fin 128) :
    (outsAt0 m c t.val t.isLt).2.1 (ix4 z w r l)
      = lsev (arg m c) ⟨t.val / 64, by have := t.isLt; have : cfg0.N = 128 := N_0; omega⟩ ⟨t.val / 4 % 16, by omega⟩ ⟨t.val % 4 * 128 + r.val, by omega⟩ l := by
  rw [block4, block_scores]
  unfold lsev
  have e2 : (⟨(t.val % 4 * 128 + r.val) % 128, by omega⟩ : Fin 128) = r := Fin.ext (by simp <;> omega)
  have e3 : (t.val % 4 * 128 + r.val) / 128 = t.val % 4 := by omega
  simp only [e2, e3]

theorem final3 (c : Dev nD) : (dats m 0 c).arrAt 3 (cfgs 0).N = fun i => outv (arg m c) (i 0) (i 1) (i 2) (i 3) := by
  refine (dats m 0 c).arrAt_eq_of_covers 3 _ (by decide +kernel) fun t hf y => ?_
  blk_simp
  obtain ⟨z, w, r, l, rfl⟩ : ∃ (z w : Fin 1) (r : Fin 128) (l : Fin 1024), y = ix4 z w r l := ⟨y 0, y 1, y 2, y 3, eq_ix4 y⟩
  rw [after0_3]
  refine (out_entry m c t z w r l).trans ?_
  have hz : z = 0 := by omega
  have hw : w = 0 := by omega
  subst hz hw
  refine congr (congr (congr (congrArg (outv (arg m c)) (Fin.ext ?_)) (Fin.ext ?_)) (Fin.ext ?_)) (Fin.ext ?_)
  all_goals (blk_simp [idx t] <;> first | omega | simp)

theorem final4 (c : Dev nD) : (dats m 0 c).arrAt 4 (cfgs 0).N = fun i => lsev (arg m c) (i 0) (i 1) (i 2) (i 3) := by
  refine (dats m 0 c).arrAt_eq_of_covers 4 _ (by decide +kernel) fun t hf y => ?_
  blk_simp
  obtain ⟨z, w, r, l, rfl⟩ : ∃ (z w : Fin 1) (r : Fin 128) (l : Fin 128), y = ix4 z w r l := ⟨y 0, y 1, y 2, y 3, eq_ix4 y⟩
  rw [after0_4]
  refine (lse_entry m c t z w r l).trans ?_
  have hz : z = 0 := by omega
  have hw : w = 0 := by omega
  subst hz hw
  refine congr (congr (congr (congrArg (lsev (arg m c)) (Fin.ext ?_)) (Fin.ext ?_)) (Fin.ext ?_)) (Fin.ext ?_)
  all_goals (blk_simp [idx t] <;> first | omega | simp)

end Cert.Band16Ideal.Pure

end
-- ==== Proof.Band16Ref.lean ====
/- The banded attention's mathematics, read entry by entry: each head's mixture of values and log-sum-exp. -/
module

public import proofs.«01_k».proof.Proof.Gen.Band16RefIdeal.Read
public import proofs.«01_k».proof.Proof.HeadBand
public import Idealize.ShloMosaic.Lib.Pointwise

@[expose] public section

set_option maxRecDepth 16384

noncomputable section

namespace Cert.Band16RefIdeal.Pure

open Cert.Band16RefIdeal Cert.Band16RefIdeal.Gen Cert.Band16RefIdeal.Read Idealize.ShloMosaic Idealize.ShloMosaic.TcCoe

variable (x0 : (⟨S2x16x512x3072, .f32⟩ : BufTy).Contents (Elt Ideal))

/-- Lane `l` of one stream's rows. -/
def row (b : Fin 32) (l : Fin 3072) (i : Fin 512) : EReal := x0 (ix4 ⟨b.val / 16, by omega⟩ ⟨b.val % 16, by omega⟩ i l)

theorem q_at (b : Fin 32) (n : Fin 4) (r : Fin 128) (h : Fin 16) (d : Fin 64) :
    val_main_v7 (F := Ideal) x0 (ix5 b n r h d) = row x0 b ⟨64 * h.val + d.val, by omega⟩ ⟨n.val * 128 + r.val, by omega⟩ := by
  unfold row
  pointwise! [val_main_v7, val_main_v2, val_main_v1, val_main_v0]

theorem k_at (b : Fin 32) (n : Fin 4) (r : Fin 128) (h : Fin 16) (d : Fin 64) :
    val_main_v8 (F := Ideal) x0 (ix5 b n r h d) = row x0 b ⟨1024 + (64 * h.val + d.val), by omega⟩ ⟨n.val * 128 + r.val, by omega⟩ := by
  unfold row
  pointwise! [val_main_v8, val_main_v4, val_main_v3, val_main_v0]

theorem v_at (b : Fin 32) (n : Fin 4) (r : Fin 128) (h : Fin 16) (d : Fin 64) :
    val_main_v9 (F := Ideal) x0 (ix5 b n r h d) = row x0 b ⟨2048 + (64 * h.val + d.val), by omega⟩ ⟨n.val * 128 + r.val, by omega⟩ := by
  unfold row
  pointwise! [val_main_v9, val_main_v6, val_main_v5, val_main_v0]

theorem zero_word : (FloatOps.sitofp FTy.f32 (0#32) : Ideal .f32) = (0 : EReal) := by
  simp [FloatOps.sitofp]

theorem keys_at (b : Fin 32) (n : Fin 4) (k : Fin 256) (h : Fin 16) (d : Fin 64) :
    val_main_v12 (F := Ideal) x0 (ix5 b n k h d) = Head.ext (row x0 b ⟨1024 + (64 * h.val + d.val), by omega⟩) n.val (by omega) k := by
  unfold Head.ext
  pointwise [val_main_v12, val_main_v11, val_main_v10, val_main_call0_v0, val_main_c]
  by_cases hk : k.val < 128
  · simp only [dif_pos hk]
    by_cases hn : n.val = 0
    · have h1 : ¬((1 ≤ n.val ∧ n.val - 1 < 3) ∧ k.val < 128) := by omega
      simp only [dif_pos hn, dif_neg h1]
      exact zero_word
    · have h1 : (1 ≤ n.val ∧ n.val - 1 < 3) ∧ k.val < 128 := by omega
      simp only [dif_neg hn, dif_pos h1]
      exact k_at x0 b ⟨n.val - 1, by omega⟩ ⟨k.val, hk⟩ h d
  · simp only [dif_neg hk]
    exact k_at x0 b n ⟨k.val - 128, by omega⟩ h d

theorem vals_at (b : Fin 32) (n : Fin 4) (k : Fin 256) (h : Fin 16) (d : Fin 64) :
    val_main_v15 (F := Ideal) x0 (ix5 b n k h d) = Head.ext (row x0 b ⟨2048 + (64 * h.val + d.val), by omega⟩) n.val (by omega) k := by
  unfold Head.ext
  pointwise [val_main_v15, val_main_v14, val_main_v13, val_main_call1_v0, val_main_c_0]
  by_cases hk : k.val < 128
  · simp only [dif_pos hk]
    by_cases hn : n.val = 0
    · have h1 : ¬((1 ≤ n.val ∧ n.val - 1 < 3) ∧ k.val < 128) := by omega
      simp only [dif_pos hn, dif_neg h1]
      exact zero_word
    · have h1 : (1 ≤ n.val ∧ n.val - 1 < 3) ∧ k.val < 128 := by omega
      simp only [dif_neg hn, dif_pos h1]
      exact v_at x0 b ⟨n.val - 1, by omega⟩ ⟨k.val, hk⟩ h d
  · simp only [dif_neg hk]
    exact v_at x0 b n ⟨k.val - 128, by omega⟩ h d

theorem ok_at (b : Fin 32) (n : Fin 4) (h : Fin 16) (r : Fin 128) (k : Fin 256) :
    val_main_call2_v1 (F := Ideal) (ix5 b n h r k) = BitVec.ofBool (Head.okay n.val r k) := by
  pointwise [val_main_call2_v1, val_main_v50, val_main_v49, val_main_v48, val_main_v47, val_main_v46, val_main_v45, val_main_v44, val_main_v43, val_main_c_6, val_main_v42, val_main_v41, val_main_v40,
    val_main_v39, val_main_v38, val_main_v37, val_main_c_5, val_main_v36, val_main_v35, val_main_c_4, val_main_v34, val_main_v33, val_main_v32, val_main_v31, val_main_v30, val_main_c_3, val_main_v29, val_main_v28, val_main_c_2,
    val_main_v27, val_main_v26, val_main_v25, val_main_v24, val_main_v23, val_main_v22, val_main_v21, val_main_c_1, val_main_v20, val_main_v19]
  exact Head.band_words n.val (by omega) r k

/-- The masked scores of one query row of one head. -/
def rowScores (b : Fin 32) (n : Fin 4) (h : Fin 16) (r : Fin 128) : Fin 256 → EReal :=
  Head.scores (Head.okay n.val r) (fun d => row x0 b ⟨64 * h.val + d.val, by omega⟩ ⟨n.val * 128 + r.val, by omega⟩)
    (fun k d => Head.ext (row x0 b ⟨1024 + (64 * h.val + d.val), by omega⟩) n.val (by omega) k)

theorem scores_at (b : Fin 32) (n : Fin 4) (h : Fin 16) (r : Fin 128) (k : Fin 256) :
    val_main_v51 (F := Ideal) x0 (ix5 b n h r k) = rowScores x0 b n h r k := by
  unfold rowScores Head.scores
  simp only [← q_at, ← keys_at]
  pointwise [val_main_v51, val_main_v18, val_main_v17, val_main_cst, val_main_v16, val_main_call2_v2, val_main_call2_v0, val_main_cst_7]
  rw [ok_at]
  unfold Scalar.select
  cases Head.okay n.val r k
  · simp
    exact Head.lowest_eq
  · simp

theorem lse_at (b : Fin 32) (n : Fin 4) (h : Fin 16) (r : Fin 128) (z : Fin 1) :
    val_main_v60 (F := Ideal) x0 (ix5 b n h r z) = Ideal.log (Head.den (rowScores x0 b n h r)) + Head.top (rowScores x0 b n h r) := by
  unfold Head.den Head.top
  simp only [← scores_at]
  pointwise [val_main_v60, val_main_v59, val_main_v58, val_main_v57, val_main_cst_9, val_main_v56, val_main_v55, val_main_v54, val_main_v53, val_main_v52, val_main_cst_8]

theorem weight_at (b : Fin 32) (n : Fin 4) (h : Fin 16) (r : Fin 128) (k : Fin 256) :
    val_main_v65 (F := Ideal) x0 (ix5 b n h r k) = Ideal.exp (rowScores x0 b n h r k - (Ideal.log (Head.den (rowScores x0 b n h r)) + Head.top (rowScores x0 b n h r))) := by
  rw [← scores_at, ← lse_at x0 b n h r 0]
  pointwise! [val_main_v65, val_main_v64, val_main_v63, val_main_v62, val_main_v61]

theorem out_at (b : Fin 2) (z : Fin 16) (i : Fin 512) (l : Fin 1024) :
    val_main_v71 (F := Ideal) x0 (ix4 b z i l) = ∑ k, Head.ext (row x0 ⟨b.val * 16 + z.val, by omega⟩ ⟨2048 + l.val, by omega⟩) (i.val / 128) (by omega) k
      * Ideal.exp (rowScores x0 ⟨b.val * 16 + z.val, by omega⟩ ⟨i.val / 128, by omega⟩ ⟨l.val / 64, by omega⟩ ⟨i.val % 128, by omega⟩ k
        - (Ideal.log (Head.den (rowScores x0 ⟨b.val * 16 + z.val, by omega⟩ ⟨i.val / 128, by omega⟩ ⟨l.val / 64, by omega⟩ ⟨i.val % 128, by omega⟩))
          + Head.top (rowScores x0 ⟨b.val * 16 + z.val, by omega⟩ ⟨i.val / 128, by omega⟩ ⟨l.val / 64, by omega⟩ ⟨i.val % 128, by omega⟩))) := by
  simp only [← weight_at]
  have e : ∀ k, Head.ext (row x0 ⟨b.val * 16 + z.val, by omega⟩ ⟨2048 + l.val, by omega⟩) (i.val / 128) (by omega) k
      = val_main_v15 (F := Ideal) x0 (ix5 ⟨b.val * 16 + z.val, by omega⟩ ⟨i.val / 128, by omega⟩ k ⟨l.val / 64, by omega⟩ ⟨l.val % 64, by omega⟩) := by
    intro k
    rw [vals_at]
    congr 2
    exact Fin.ext (by simp; omega)
  simp only [e]
  pointwise! [val_main_v71, val_main_v68, val_main_v67, val_main_v66]

theorem outl_at (b : Fin 2) (z : Fin 16) (i : Fin 512) (l : Fin 128) :
    val_main_v74 (F := Ideal) x0 (ix4 b z i l) = Ideal.log (Head.den (rowScores x0 ⟨b.val * 16 + z.val, by omega⟩ ⟨i.val / 128, by omega⟩ ⟨l.val / 8, by omega⟩ ⟨i.val % 128, by omega⟩))
          + Head.top (rowScores x0 ⟨b.val * 16 + z.val, by omega⟩ ⟨i.val / 128, by omega⟩ ⟨l.val / 8, by omega⟩ ⟨i.val % 128, by omega⟩) := by
  rw [← lse_at x0 ⟨b.val * 16 + z.val, by omega⟩ _ _ _ 0]
  pointwise! [val_main_v74, val_main_v73, val_main_v72, val_main_v70, val_main_v69, val_main_v61]

end Cert.Band16RefIdeal.Pure

end
-- ==== Proof.Band16Claim.lean ====
/- The band attention and its mathematics leave the same two results, the queries and keys being real numbers. -/
module

public import proofs.«01_k».proof.Proof.Band16Final
public import proofs.«01_k».proof.Proof.Band16Ref
public import proofs.«01_k».proof.Proof.Gen.Band16RefIdeal.Run
public import proofs.«01_k».proof.Proof.Gen.Pre_finite16
public import proofs.«01_k».proof.Defs
public import Idealize.ShloMosaic.Lib.ReduceAll
public import Idealize.ShloMosaic.Lib.Claim

@[expose] public section

set_option maxRecDepth 16384

noncomputable section

namespace Cert.Band16Claim

open Idealize.ShloMosaic Idealize.SL.Sem Cert.Band16Ideal

/-- An extended real whose absolute value is below infinity is a real. -/
theorem real_of (x : EReal) (h : FloatOps.cmpf (F := Ideal) CmpFPredicate.olt (FloatOps.absf (φ := .f32) x) (Ideal.ofBits .f32 0x7F800000#32) = 1#1) : ∃ a : ℝ, x = (a : EReal) := by
  have ht : Ideal.ofBits .f32 0x7F800000#32 = (⊤ : EReal) := by simp [Ideal.ofBits, Ideal.ieee]
  rw [ht] at h
  induction x using EReal.rec with
  | bot => simp [FloatOps.absf, FloatOps.cmpf, Ideal.cmp] at h
  | coe a => exact ⟨a, rfl⟩
  | top => simp [FloatOps.absf, FloatOps.cmpf, Ideal.cmp] at h

theorem real_at (X : Vec Ideal S2x16x512x3072 .f32) (h : Cert.Pre_finite16.fn (F := Ideal) X = fun _ => 1#1)
    (b : Fin 2) (a : Fin 16) (i : Fin 512) (l : Fin 3072) (hl : l.val < 2048) : ∃ y : ℝ, X (ix4 b a i l) = (y : EReal) := by
  have h1 := congrFun h ix0
  dsimp only [Cert.Pre_finite16.fn] at h1
  have h2 := Host.reduce_andi_all _ _ _ _ _ h1 (ix4 b a i ⟨l.val, hl⟩)
  have e : X (ix4 b a i l) = extractStridedSlice Cert.Pre_finite16.S2x16x512x2048 ![0, 0, 0, 0] X Cert.Pre_finite16.Facts.slices_S2x16x512x3072_S2x16x512x2048_0_0_0_0 (ix4 b a i ⟨l.val, hl⟩) := by
    pointwise
  rw [e]
  exact real_of _ h2

/-- The reference's stream `b * 16 + a` is the kernel's stream `a` of batch `b`. -/
theorem row_same (X : Vec Ideal S2x16x512x3072 .f32) (b : Fin 2) (a : Fin 16) (l : Fin 3072) :
    Cert.Band16RefIdeal.Pure.row X ⟨b.val * 16 + a.val, by omega⟩ l = Pure.strm X b a l := by
  funext i
  unfold Cert.Band16RefIdeal.Pure.row Pure.strm
  exact congrArg₂ (fun p q => X (ix4 p q i l)) (Fin.ext (by simp <;> omega)) (Fin.ext (by simp <;> omega))

theorem scores_same (X : Vec Ideal S2x16x512x3072 .f32) (b : Fin 2) (a : Fin 16) (n : Fin 4) (h : Fin 16) (r : Fin 128) :
    Cert.Band16RefIdeal.Pure.rowScores X ⟨b.val * 16 + a.val, by omega⟩ n h r = Pure.rowScores X b a n h r := by
  unfold Cert.Band16RefIdeal.Pure.rowScores Pure.rowScores
  simp only [row_same]

theorem out_same (X : Vec Ideal S2x16x512x3072 .f32) (hX : Cert.Pre_finite16.fn (F := Ideal) X = fun _ => 1#1) :
    Cert.Band16RefIdeal.Read.val_main_v71 (F := Ideal) X = fun i => Pure.outv X (i 0) (i 1) (i 2) (i 3) := by
  funext i
  obtain ⟨b, z, t, l, rfl⟩ : ∃ (b : Fin 2) (z : Fin 16) (t : Fin 512) (l : Fin 1024), i = ix4 b z t l := ⟨i 0, i 1, i 2, i 3, eq_ix4 i⟩
  refine (Cert.Band16RefIdeal.Pure.out_at X b z t l).trans ?_
  simp only [scores_same, row_same]
  unfold Pure.rowScores
  refine (Head.mix_of_real _ _ _ _ _ (fun d => ?_) (fun k d => Head.ext_real _ _ _ _ fun i => ?_)).trans rfl
  · exact real_at X hX _ _ _ _ (by simp; omega)
  · exact real_at X hX _ _ _ _ (by simp; omega)

theorem lse_same (X : Vec Ideal S2x16x512x3072 .f32) :
    Cert.Band16RefIdeal.Read.val_main_v74 (F := Ideal) X = fun i => Pure.lsev X (i 0) (i 1) (i 2) (i 3) := by
  funext i
  obtain ⟨b, z, t, l, rfl⟩ : ∃ (b : Fin 2) (z : Fin 16) (t : Fin 512) (l : Fin 128), i = ix4 b z t l := ⟨i 0, i 1, i 2, i 3, eq_ix4 i⟩
  refine (Cert.Band16RefIdeal.Pure.outl_at X b z t l).trans ?_
  simp only [scores_same]
  exact add_comm _ _

theorem same : Cert.algebraic_Band16Ideal_Band16RefIdeal_pre_finite16 := by
  pair_intro
  · run_from Cert.Band16Ideal.Gen.run_main m g
  · refine θ_run_mono (Cert.Band16RefIdeal.Value.run m' g') fun r h c => ⟨(h c).1.trans ?_, (h c).2.1.trans ?_, (h c).2.2⟩
    · rw [Cert.Band16RefIdeal.Read.val_main_v71_eq, hagree c, Pure.final3]
      exact out_same _ (hpre c)
    · rw [Cert.Band16RefIdeal.Read.val_main_v74_eq, hagree c, Pure.final4]
      exact lse_same _

end Cert.Band16Claim

end
-- ==== Proof.FfnPure.lean ====
/- The feed-forward half layer as plain mathematics: one row of the result, as a function of that row of the input, the
   norm's weights and the two weight matrices (`Row.out`). The kernel adds the hidden units in eleven chunks and halves
   each unit's product, the reference adds all of them at once and halves the sum (`Row.out_eq_chunks`). -/
module

public import proofs.«01_k».proof.Proof.Scalar

@[expose] public section

noncomputable section

namespace Cert.Row

open Idealize.ShloMosaic

/-- A row over its root mean square, times the norm's weights. -/
def norm (x g : Fin 1024 → EReal) (k : Fin 1024) : EReal :=
  x k * Ideal.rsqrt (Ideal.div (∑ l, x l * x l) (Ideal.ofBits .f32 0x44800000#32) + Ideal.ofBits .f32 0x358637BD#32) * g k

/-- The gate's and the up projection's value at one hidden unit. -/
def dot (y : Fin 1024 → EReal) (w : Fin 1024 → EReal) : EReal := ∑ l, y l * w l

/-- SwiGLU of a gate and an up value. -/
def swiglu (a b : EReal) : EReal := a * Ideal.div 1 (1 + Ideal.exp (-a)) * b

/-- The result's row: the input plus one half of the feed-forward network of the normed input. -/
def out (x g : Fin 1024 → EReal) (wu : Fin 1024 → Fin 5632 → EReal) (wd : Fin 2816 → Fin 1024 → EReal) (q : Fin 1024) : EReal :=
  x q + Ideal.ofBits .f32 0x3F000000#32 *
    ∑ f : Fin 2816, swiglu (dot (norm x g) fun l => wu l ⟨f.val, by omega⟩) (dot (norm x g) fun l => wu l ⟨2816 + f.val, by omega⟩) * wd f q

/-- What one chunk of 256 hidden units adds, of the chunk's gate columns `G`, up columns `U` and down rows `D`. -/
def part (y : Fin 1024 → EReal) (G U : Fin 1024 → Fin 256 → EReal) (D : Fin 256 → EReal) : EReal :=
  ∑ k : Fin 256, dot y (fun l => G l k) * Ideal.logistic (dot y fun l => G l k)
    * (Ideal.ofBits .f32 0x3F000000#32 * dot y fun l => U l k) * D k

/-- What chunk `j` adds. -/
def chunk (x g : Fin 1024 → EReal) (wu : Fin 1024 → Fin 5632 → EReal) (wd : Fin 2816 → Fin 1024 → EReal) (q : Fin 1024) (j : Fin 11) : EReal :=
  part (norm x g) (fun l k => wu l ⟨j.val * 256 + k.val, by omega⟩) (fun l k => wu l ⟨2816 + (j.val * 256 + k.val), by omega⟩)
    (fun k => wd ⟨j.val * 256 + k.val, by omega⟩ q)

theorem halved (h a b d : EReal) : h * (swiglu a b * d) = a * Ideal.logistic a * (h * b) * d := by
  unfold swiglu Ideal.logistic
  ac_rfl

theorem out_eq_chunks (x g : Fin 1024 → EReal) (wu : Fin 1024 → Fin 5632 → EReal) (wd : Fin 2816 → Fin 1024 → EReal) (q : Fin 1024) :
    out x g wu wd q = x q + ∑ j, chunk x g wu wd q j := by
  unfold out chunk part
  rw [Lib.half_eq, Lib.mul_sum_of_nonneg _ (by norm_num), Fin.sum_univ_tiles 11 256 rfl]
  congr 1
  refine Finset.sum_congr rfl fun j _ => Finset.sum_congr rfl fun k _ => ?_
  exact halved _ _ _ _

end Cert.Row

end
-- ==== Proof.FfnRead.lean ====
module

public import proofs.«01_k».proof.Proof.FfnPure
public import proofs.«01_k».proof.Proof.Gen.FfnIdeal.Skeleton
public import proofs.«01_k».proof.Proof.Gen.FfnRefIdeal.Run

@[expose] public section

set_option maxRecDepth 16384

noncomputable section

open Idealize.ShloMosaic

namespace Cert.FfnIdeal.Pure

open Cert.FfnIdeal Cert.FfnIdeal.Gen

theorem norm_at (X : Vec Ideal S512x1024 .f32) (g : Vec Ideal S1x1024 .f32) (r : Fin 512) (k : Fin 1024) :
    k0_pay2 (F := Ideal) X g (ix2 r k) = Row.norm (fun l => X (ix2 r l)) (fun l => g (ix2 0 l)) k := by
  unfold Row.norm
  pointwise! [k0_pay2]

theorem first_at (Y : Vec Ideal S512x1024 .bf16) (G U : Vec Ideal S1024x256 .bf16) (D : Vec Ideal S256x1024 .bf16) (r : Fin 512) (q : Fin 1024) :
    k0_pay3 (F := Ideal) Y G U D (ix2 r q)
      = Row.part (fun l => Y (ix2 r l)) (fun l k => G (ix2 l k)) (fun l k => U (ix2 l k)) (fun k => D (ix2 k q)) := by
  unfold Row.part Row.dot
  pointwise! [k0_pay3]

theorem next_at (Y : Vec Ideal S512x1024 .bf16) (G U : Vec Ideal S1024x256 .bf16) (D : Vec Ideal S256x1024 .bf16)
    (acc : Vec Ideal S512x1024 .f32) (r : Fin 512) (q : Fin 1024) :
    k0_pay5 (F := Ideal) Y G U D acc (ix2 r q)
      = acc (ix2 r q) + Row.part (fun l => Y (ix2 r l)) (fun l k => G (ix2 l k)) (fun l k => U (ix2 l k)) (fun k => D (ix2 k q)) := by
  unfold Row.part Row.dot
  pointwise! [k0_pay5]

/-! The other chunks' payloads are the second's, cut at other places. -/
section
variable (Y : Vec Ideal S512x1024 .bf16) (G U : Vec Ideal S1024x256 .bf16) (D : Vec Ideal S256x1024 .bf16) (acc : Vec Ideal S512x1024 .f32)

theorem eq3 : k0_pay8 (F := Ideal) (k0_pay6 Y U) (k0_pay7 Y G) D acc = k0_pay5 Y G U D acc := rfl
theorem eq4 : k0_pay9 (F := Ideal) Y G U D acc = k0_pay5 Y G U D acc := rfl
theorem eq5 : k0_pay10 (F := Ideal) Y G U D acc = k0_pay5 Y G U D acc := rfl
theorem eq6 : k0_pay13 (F := Ideal) (k0_pay11 Y G U) (k0_pay12 D) acc = k0_pay5 Y G U D acc := rfl
theorem eq7 : k0_pay14 (F := Ideal) Y G U D acc = k0_pay5 Y G U D acc := rfl
theorem eq8 : k0_pay16 (F := Ideal) Y (k0_pay15 Y G) U D acc = k0_pay5 Y G U D acc := rfl
theorem eq9 : k0_pay17 (F := Ideal) Y G U D acc = k0_pay5 Y G U D acc := rfl
theorem eq10 : k0_pay18 (F := Ideal) Y G U D acc = k0_pay5 Y G U D acc := rfl
theorem eq11 : k0_pay1 (F := Ideal) (k0_pay19 Y G U) D acc = k0_pay5 Y G U D acc := rfl
end

end Cert.FfnIdeal.Pure

end
-- ==== Proof.FfnFinal.lean ====
module

public import proofs.«01_k».proof.Proof.FfnRead
public import proofs.«01_k».proof.Proof.Gen.FfnIdeal.Value
public import Idealize.ShloMosaic.Lib.Pipeline.ValueKit

@[expose] public section

set_option maxRecDepth 16384

noncomputable section

namespace Cert.FfnIdeal.Pure

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_5.index t = ![t.val, 0] := (by decide +kernel : ∀ t : Fin grid0.N, _)

section
variable (X : Vec Ideal S512x1024 .f32) (g : Vec Ideal S1x1024 .f32) (Wu : Vec Ideal S1024x5632 .bf16) (Wd : Vec Ideal S2816x1024 .bf16)
  (r : Fin 512) (q : Fin 1024)

/-- What chunk `j` adds to row `r`, column `q` of a block. -/
def part (j : ℕ) : EReal := if h : j < 11 then
  Row.chunk (fun k => X (ix2 r k)) (fun k => g (ix2 0 k)) (fun l f => Wu (ix2 l f)) (fun f q => Wd (ix2 f q)) q ⟨j, h⟩ else 0

/-- The block after the first `j` chunks. -/
def upto (j : ℕ) : EReal := X (ix2 r q) + ∑ i ∈ Finset.range j, part X g Wu Wd r q i

theorem upto_all : upto X g Wu Wd r q 11
    = Row.out (fun k => X (ix2 r k)) (fun k => g (ix2 0 k)) (fun l f => Wu (ix2 l f)) (fun f q => Wd (ix2 f q)) q := by
  rw [Row.out_eq_chunks, upto, Finset.sum_range]
  exact congrArg _ (Finset.sum_congr rfl fun j _ => by rw [part, dif_pos j.isLt])

theorem part_eq (j : ℕ) (hj : j < 11) (G U : Vec Ideal S1024x256 .bf16) (D : Vec Ideal S256x1024 .bf16)
    (hG : ∀ (l : Fin 1024) (k : Fin 256), G (ix2 l k) = Wu (ix2 l ⟨j * 256 + k.val, by omega⟩))
    (hU : ∀ (l : Fin 1024) (k : Fin 256), U (ix2 l k) = Wu (ix2 l ⟨2816 + (j * 256 + k.val), by omega⟩))
    (hD : ∀ (k : Fin 256) (q : Fin 1024), D (ix2 k q) = Wd (ix2 ⟨j * 256 + k.val, by omega⟩ q)) :
    Row.part (fun l => k0_pay2 (F := Ideal) X g (ix2 r l)) (fun l k => G (ix2 l k)) (fun l k => U (ix2 l k)) (fun k => D (ix2 k q))
      = part X g Wu Wd r q j := by
  rw [part, dif_pos hj, Row.chunk]
  simp only [norm_at, hG, hU, hD]

theorem first (G U : Vec Ideal S1024x256 .bf16) (D : Vec Ideal S256x1024 .bf16)
    (hG : ∀ (l : Fin 1024) (k : Fin 256), G (ix2 l k) = Wu (ix2 l ⟨0 * 256 + k.val, by omega⟩))
    (hU : ∀ (l : Fin 1024) (k : Fin 256), U (ix2 l k) = Wu (ix2 l ⟨2816 + (0 * 256 + k.val), by omega⟩))
    (hD : ∀ (k : Fin 256) (q : Fin 1024), D (ix2 k q) = Wd (ix2 ⟨0 * 256 + k.val, by omega⟩ q)) :
    k0_pay4 (F := Ideal) (k0_pay3 (k0_pay2 X g) G U D) X (ix2 r q) = upto X g Wu Wd r q 1 := by
  refine Eq.trans (b := X (ix2 r q) + k0_pay3 (F := Ideal) (k0_pay2 X g) G U D (ix2 r q)) rfl ?_
  rw [first_at, part_eq X g Wu Wd r q 0 (by omega) G U D hG hU hD, upto, Finset.sum_range_one]

theorem step (j : ℕ) (hj : j < 11) (G U : Vec Ideal S1024x256 .bf16) (D : Vec Ideal S256x1024 .bf16) (acc : Vec Ideal S512x1024 .f32)
    (hG : ∀ (l : Fin 1024) (k : Fin 256), G (ix2 l k) = Wu (ix2 l ⟨j * 256 + k.val, by omega⟩))
    (hU : ∀ (l : Fin 1024) (k : Fin 256), U (ix2 l k) = Wu (ix2 l ⟨2816 + (j * 256 + k.val), by omega⟩))
    (hD : ∀ (k : Fin 256) (q : Fin 1024), D (ix2 k q) = Wd (ix2 ⟨j * 256 + k.val, by omega⟩ q))
    (hacc : acc (ix2 r q) = upto X g Wu Wd r q j) :
    k0_pay5 (F := Ideal) (k0_pay2 X g) G U D acc (ix2 r q) = upto X g Wu Wd r q (j + 1) := by
  rw [next_at, part_eq X g Wu Wd r q j hj G U D hG hU hD, hacc, upto, upto, Finset.sum_range_succ, add_assoc]

end

/-- The payload the last store writes, at a row and a column: all the chunks' sum. -/
theorem block (c : Dev nD) (t : Fin cfg0.N) (r : Fin 512) (q : Fin 1024) :
    outsAt0 m c t (ix2 r q) = upto (iblk m c 0 t) (iblk m c 1 t) (iblk m c 2 t) (iblk m c 3 t) r q 11 := by
  unfold outsAt0; frame_out
  simp only [eq3, eq4, eq5, eq6, eq7, eq8, eq9, eq10, eq11]
  refine step _ _ _ _ _ _ 10 (by omega) _ _ _ _ ?_ ?_ ?_ <|
    step _ _ _ _ _ _ 9 (by omega) _ _ _ _ ?_ ?_ ?_ <| step _ _ _ _ _ _ 8 (by omega) _ _ _ _ ?_ ?_ ?_ <|
    step _ _ _ _ _ _ 7 (by omega) _ _ _ _ ?_ ?_ ?_ <| step _ _ _ _ _ _ 6 (by omega) _ _ _ _ ?_ ?_ ?_ <|
    step _ _ _ _ _ _ 5 (by omega) _ _ _ _ ?_ ?_ ?_ <| step _ _ _ _ _ _ 4 (by omega) _ _ _ _ ?_ ?_ ?_ <|
    step _ _ _ _ _ _ 3 (by omega) _ _ _ _ ?_ ?_ ?_ <| step _ _ _ _ _ _ 2 (by omega) _ _ _ _ ?_ ?_ ?_ <|
    step _ _ _ _ _ _ 1 (by omega) _ _ _ _ ?_ ?_ ?_ <| first _ _ _ _ _ _ _ _ _ ?_ ?_ ?_
  all_goals (intro l k; pointwise; blk_ext)

theorem in0 (c : Dev nD) (t : Fin cfg0.N) (r : Fin 512) (k : Fin 1024) :
    (iblk m c 0 t : Vec Ideal S512x1024 .f32) (ix2 r k) = m ((c : Thread nD τ).loc main_arg0) (ix2 ⟨t.val * 512 + r.val, by have := t.isLt; have : cfg0.N = 32 := N_0; omega⟩ k) := by
  blk_point [iblk, V, idx t]

theorem in1 (c : Dev nD) (t : Fin cfg0.N) (k : Fin 1024) :
    (iblk m c 1 t : Vec Ideal S1x1024 .f32) (ix2 0 k) = m ((c : Thread nD τ).loc main_arg1) (ix1 k) := by
  blk_point [iblk, idx t]

theorem in2 (c : Dev nD) (t : Fin cfg0.N) (l : Fin 1024) (f : Fin 5632) :
    (iblk m c 2 t : Vec Ideal S1024x5632 .bf16) (ix2 l f) = m ((c : Thread nD τ).loc main_arg2) (ix2 l f) := by
  blk_point [iblk, idx t]

theorem in3 (c : Dev nD) (t : Fin cfg0.N) (f : Fin 2816) (q : Fin 1024) :
    (iblk m c 3 t : Vec Ideal S2816x1024 .bf16) (ix2 f q) = m ((c : Thread nD τ).loc main_arg3) (ix2 f q) := by
  blk_point [iblk, idx t]

theorem final (c : Dev nD) : (dats m 0 c).arrAt 5 (cfgs 0).N = fun i =>
    Row.out (fun k => m ((c : Thread nD τ).loc main_arg0) (ix2 (i 0) k)) (fun k => m ((c : Thread nD τ).loc main_arg1) (ix1 k))
      (fun l f => m ((c : Thread nD τ).loc main_arg2) (ix2 l f)) (fun f q => m ((c : Thread nD τ).loc main_arg3) (ix2 f q)) (i 1) := by
  refine (dats m 0 c).arrAt_eq_of_covers 5 _ (by decide +kernel) fun t hf y => ?_
  blk_simp
  obtain ⟨r, q, rfl⟩ : ∃ (r : Fin 512) (q : Fin 1024), y = ix2 r q := ⟨y 0, y 1, eq_ix2 y⟩
  rw [after0_5]
  refine (block m c t r q).trans ?_
  rw [upto_all]
  simp only [in0, in1, in2, in3]
  refine congrArg₂ (fun (a : Fin 16384) (b : Fin 1024) => Row.out (fun k => m ((c : Thread nD τ).loc main_arg0) (ix2 a k))
    (fun k => m ((c : Thread nD τ).loc main_arg1) (ix1 k)) (fun l f => m ((c : Thread nD τ).loc main_arg2) (ix2 l f))
    (fun f q => m ((c : Thread nD τ).loc main_arg3) (ix2 f q)) b) (Fin.ext ?_) (Fin.ext ?_)
  all_goals (blk_simp [idx t] <;> try omega)

end Cert.FfnIdeal.Pure

end
-- ==== Proof.FfnRef.lean ====
module

public import proofs.«01_k».proof.Proof.FfnPure
public import proofs.«01_k».proof.Proof.Gen.FfnRefIdeal.Read

@[expose] public section

set_option maxRecDepth 16384

noncomputable section

namespace Cert.FfnRefIdeal.Pure

open Cert.FfnRefIdeal Cert.FfnRefIdeal.Gen Cert.FfnRefIdeal.Read Idealize.ShloMosaic

variable (x0 : FVec Ideal S16384x1024 .f32) (x1 : FVec Ideal S1024 .f32) (x2 : FVec Ideal S1024x5632 .f32) (x3 : FVec Ideal S2816x1024 .f32)

theorem norm_at (r : Fin 16384) (k : Fin 1024) :
    val_main_v12 (F := Ideal) x0 x1 (ix2 r k) = Row.norm (fun l => x0 (ix2 r l)) (fun l => x1 (ix1 l)) k := by
  unfold Row.norm
  pointwise! [val_main_v12, val_main_v11, val_main_v10, val_main_v9, val_main_v8, val_main_v7, val_main_v6, val_main_v5,
    val_main_cst_1, val_main_v4, val_main_v3, val_main_cst_0, val_main_v2, val_main_v1, val_main_cst, val_main_v0]

theorem proj_at (r : Fin 16384) (f : Fin 5632) : val_main_v13 (F := Ideal) x0 x1 x2 (ix2 r f)
    = Row.dot (Row.norm (fun l => x0 (ix2 r l)) fun l => x1 (ix1 l)) fun l => x2 (ix2 l f) := by
  unfold Row.dot
  simp only [← norm_at]
  pointwise! [val_main_v13]

theorem hidden_at (r : Fin 16384) (f : Fin 2816) : val_main_v17 (F := Ideal) x0 x1 x2 (ix2 r f)
    = Row.swiglu (Row.dot (Row.norm (fun l => x0 (ix2 r l)) fun l => x1 (ix1 l)) fun l => x2 (ix2 l ⟨f.val, by omega⟩))
        (Row.dot (Row.norm (fun l => x0 (ix2 r l)) fun l => x1 (ix1 l)) fun l => x2 (ix2 l ⟨2816 + f.val, by omega⟩)) := by
  unfold Row.swiglu
  simp only [← proj_at]
  pointwise! [val_main_v17, val_main_v16, val_main_call0_v5, val_main_call0_v4, val_main_call0_cst_0, val_main_call0_v3,
    val_main_call0_v2, val_main_call0_cst, val_main_call0_v1, val_main_call0_v0, val_main_v15, val_main_v14]

theorem ref_at (r : Fin 16384) (q : Fin 1024) : val_main_v21 (F := Ideal) x0 x1 x2 x3 (ix2 r q)
    = Row.out (fun l => x0 (ix2 r l)) (fun l => x1 (ix1 l)) (fun l f => x2 (ix2 l f)) (fun f q => x3 (ix2 f q)) q := by
  unfold Row.out
  simp only [← hidden_at]
  pointwise! [val_main_v21, val_main_v20, val_main_v19, val_main_cst_2, val_main_v18]

/-- The reference's result as one function of its arguments. -/
theorem ref_eq : val_main_v21 (F := Ideal) x0 x1 x2 x3 = fun i =>
    Row.out (fun l => x0 (ix2 (i 0) l)) (fun l => x1 (ix1 l)) (fun l f => x2 (ix2 l f)) (fun f q => x3 (ix2 f q)) (i 1) := by
  funext i
  rw [eq_ix2 i]
  exact ref_at x0 x1 x2 x3 (i 0) (i 1)

end Cert.FfnRefIdeal.Pure

end
-- ==== Proof.FfnClaim.lean ====
module

public import proofs.«01_k».proof.Proof.FfnFinal
public import proofs.«01_k».proof.Proof.FfnRef
public import proofs.«01_k».proof.Defs

@[expose] public section

set_option maxRecDepth 16384

noncomputable section

namespace Cert.FfnClaim

open Idealize.ShloMosaic Idealize.SL.Sem

/-- The kernel's result and the reference's are the same function of the arguments. -/
theorem same : Cert.algebraic_FfnIdeal_FfnRefIdeal := by
  pair_intro
  · run_from Cert.FfnIdeal.Gen.run_main m g
  · hlo_run
    rw [Cert.FfnIdeal.Pure.final]
    exact Cert.FfnRefIdeal.Pure.ref_eq _ _ _ _

end Cert.FfnClaim

end
-- ==== Proof.FfnFinalRead.lean ====
module

public import proofs.«01_k».proof.Proof.FfnPure
public import proofs.«01_k».proof.Proof.Gen.FfnFinalIdeal.Skeleton

@[expose] public section

set_option maxRecDepth 16384

noncomputable section

open Idealize.ShloMosaic

namespace Cert.FfnFinalIdeal.Pure

open Cert.FfnFinalIdeal Cert.FfnFinalIdeal.Gen

theorem norm_at (X : Vec Ideal S512x1024 .f32) (g : Vec Ideal S1x1024 .f32) (r : Fin 512) (k : Fin 1024) :
    k0_pay3 (F := Ideal) X g (ix2 r k) = Row.norm (fun l => X (ix2 r l)) (fun l => g (ix2 0 l)) k := by
  unfold Row.norm
  pointwise! [k0_pay3]

theorem first_at (Y : Vec Ideal S512x1024 .bf16) (G U : Vec Ideal S1024x256 .bf16) (D : Vec Ideal S256x1024 .bf16) (r : Fin 512) (q : Fin 1024) :
    k0_pay4 (F := Ideal) Y G U D (ix2 r q)
      = Row.part (fun l => Y (ix2 r l)) (fun l k => G (ix2 l k)) (fun l k => U (ix2 l k)) (fun k => D (ix2 k q)) := by
  unfold Row.part Row.dot
  pointwise! [k0_pay4]

theorem next_at (Y : Vec Ideal S512x1024 .bf16) (G U : Vec Ideal S1024x256 .bf16) (D : Vec Ideal S256x1024 .bf16)
    (acc : Vec Ideal S512x1024 .f32) (r : Fin 512) (q : Fin 1024) :
    k0_pay6 (F := Ideal) Y G U D acc (ix2 r q)
      = acc (ix2 r q) + Row.part (fun l => Y (ix2 r l)) (fun l k => G (ix2 l k)) (fun l k => U (ix2 l k)) (fun k => D (ix2 k q)) := by
  unfold Row.part Row.dot
  pointwise! [k0_pay6]

theorem last_at (A : Vec Ideal S512x1024 .f32) (g : Vec Ideal S1x1024 .f32) (r : Fin 512) (k : Fin 1024) :
    k0_pay2 (F := Ideal) A g (ix2 r k) = Row.norm (fun l => A (ix2 r l)) (fun l => g (ix2 0 l)) k := by
  unfold Row.norm
  pointwise! [k0_pay2]

/-! The other chunks' payloads are the second's, cut at other places. -/
section
variable (Y : Vec Ideal S512x1024 .bf16) (G U : Vec Ideal S1024x256 .bf16) (D : Vec Ideal S256x1024 .bf16) (acc : Vec Ideal S512x1024 .f32)

theorem eq3 : k0_pay9 (F := Ideal) (k0_pay7 Y U) (k0_pay8 Y G) D acc = k0_pay6 Y G U D acc := rfl
theorem eq4 : k0_pay10 (F := Ideal) Y G U D acc = k0_pay6 Y G U D acc := rfl
theorem eq5 : k0_pay11 (F := Ideal) Y G U D acc = k0_pay6 Y G U D acc := rfl
theorem eq6 : k0_pay14 (F := Ideal) (k0_pay12 Y G U) (k0_pay13 D) acc = k0_pay6 Y G U D acc := rfl
theorem eq7 : k0_pay15 (F := Ideal) Y G U D acc = k0_pay6 Y G U D acc := rfl
theorem eq8 : k0_pay17 (F := Ideal) Y (k0_pay16 Y G) U D acc = k0_pay6 Y G U D acc := rfl
theorem eq9 : k0_pay18 (F := Ideal) Y G U D acc = k0_pay6 Y G U D acc := rfl
theorem eq10 : k0_pay19 (F := Ideal) Y G U D acc = k0_pay6 Y G U D acc := rfl
theorem eq11 : k0_pay1 (F := Ideal) (k0_pay20 Y G U) D acc = k0_pay6 Y G U D acc := rfl
end

end Cert.FfnFinalIdeal.Pure

end
-- ==== Proof.FfnFinalFinal.lean ====
module

public import proofs.«01_k».proof.Proof.FfnFinalRead
public import proofs.«01_k».proof.Proof.Gen.FfnFinalIdeal.Value
public import Idealize.ShloMosaic.Lib.Pipeline.ValueKit

@[expose] public section

set_option maxRecDepth 16384

noncomputable section

namespace Cert.FfnFinalIdeal.Pure

open Cert.FfnFinalIdeal Cert.FfnFinalIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] := (by decide +kernel : ∀ t : Fin grid0.N, _)

section
variable (X : Vec Ideal S512x1024 .f32) (g : Vec Ideal S1x1024 .f32) (Wu : Vec Ideal S1024x5632 .bf16) (Wd : Vec Ideal S2816x1024 .bf16)
  (r : Fin 512) (q : Fin 1024)

/-- What chunk `j` adds to row `r`, column `q` of a block. -/
def part (j : ℕ) : EReal := if h : j < 11 then
  Row.chunk (fun k => X (ix2 r k)) (fun k => g (ix2 0 k)) (fun l f => Wu (ix2 l f)) (fun f q => Wd (ix2 f q)) q ⟨j, h⟩ else 0

/-- The block after the first `j` chunks. -/
def upto (j : ℕ) : EReal := X (ix2 r q) + ∑ i ∈ Finset.range j, part X g Wu Wd r q i

theorem upto_all : upto X g Wu Wd r q 11
    = Row.out (fun k => X (ix2 r k)) (fun k => g (ix2 0 k)) (fun l f => Wu (ix2 l f)) (fun f q => Wd (ix2 f q)) q := by
  rw [Row.out_eq_chunks, upto, Finset.sum_range]
  exact congrArg _ (Finset.sum_congr rfl fun j _ => by rw [part, dif_pos j.isLt])

theorem part_eq (j : ℕ) (hj : j < 11) (G U : Vec Ideal S1024x256 .bf16) (D : Vec Ideal S256x1024 .bf16)
    (hG : ∀ (l : Fin 1024) (k : Fin 256), G (ix2 l k) = Wu (ix2 l ⟨j * 256 + k.val, by omega⟩))
    (hU : ∀ (l : Fin 1024) (k : Fin 256), U (ix2 l k) = Wu (ix2 l ⟨2816 + (j * 256 + k.val), by omega⟩))
    (hD : ∀ (k : Fin 256) (q : Fin 1024), D (ix2 k q) = Wd (ix2 ⟨j * 256 + k.val, by omega⟩ q)) :
    Row.part (fun l => k0_pay3 (F := Ideal) X g (ix2 r l)) (fun l k => G (ix2 l k)) (fun l k => U (ix2 l k)) (fun k => D (ix2 k q))
      = part X g Wu Wd r q j := by
  rw [part, dif_pos hj, Row.chunk]
  simp only [norm_at, hG, hU, hD]

theorem first (G U : Vec Ideal S1024x256 .bf16) (D : Vec Ideal S256x1024 .bf16)
    (hG : ∀ (l : Fin 1024) (k : Fin 256), G (ix2 l k) = Wu (ix2 l ⟨0 * 256 + k.val, by omega⟩))
    (hU : ∀ (l : Fin 1024) (k : Fin 256), U (ix2 l k) = Wu (ix2 l ⟨2816 + (0 * 256 + k.val), by omega⟩))
    (hD : ∀ (k : Fin 256) (q : Fin 1024), D (ix2 k q) = Wd (ix2 ⟨0 * 256 + k.val, by omega⟩ q)) :
    k0_pay5 (F := Ideal) (k0_pay4 (k0_pay3 X g) G U D) X (ix2 r q) = upto X g Wu Wd r q 1 := by
  refine Eq.trans (b := X (ix2 r q) + k0_pay4 (F := Ideal) (k0_pay3 X g) G U D (ix2 r q)) rfl ?_
  rw [first_at, part_eq X g Wu Wd r q 0 (by omega) G U D hG hU hD, upto, Finset.sum_range_one]

theorem step (j : ℕ) (hj : j < 11) (G U : Vec Ideal S1024x256 .bf16) (D : Vec Ideal S256x1024 .bf16) (acc : Vec Ideal S512x1024 .f32)
    (hG : ∀ (l : Fin 1024) (k : Fin 256), G (ix2 l k) = Wu (ix2 l ⟨j * 256 + k.val, by omega⟩))
    (hU : ∀ (l : Fin 1024) (k : Fin 256), U (ix2 l k) = Wu (ix2 l ⟨2816 + (j * 256 + k.val), by omega⟩))
    (hD : ∀ (k : Fin 256) (q : Fin 1024), D (ix2 k q) = Wd (ix2 ⟨j * 256 + k.val, by omega⟩ q))
    (hacc : acc (ix2 r q) = upto X g Wu Wd r q j) :
    k0_pay6 (F := Ideal) (k0_pay3 X g) G U D acc (ix2 r q) = upto X g Wu Wd r q (j + 1) := by
  rw [next_at, part_eq X g Wu Wd r q j hj G U D hG hU hD, hacc, upto, upto, Finset.sum_range_succ, add_assoc]

end

/-- The payload the last store writes, at a row and a column: the norm of all the chunks' sums. -/
theorem block (c : Dev nD) (t : Fin cfg0.N) (r : Fin 512) (q : Fin 1024) :
    outsAt0 m c t (ix2 r q) = Row.norm (fun l => upto (iblk m c 0 t) (iblk m c 1 t) (iblk m c 2 t) (iblk m c 3 t) r l 11) (fun l => (iblk m c 4 t : Vec Ideal S1x1024 .f32) (ix2 0 l)) q := by
  unfold outsAt0; frame_out
  simp only [eq3, eq4, eq5, eq6, eq7, eq8, eq9, eq10, eq11]
  refine (last_at _ _ r q).trans (congrArg₂ (fun z w => Row.norm z w q) (funext fun l => ?_) (funext fun l => by pointwise <;> blk_ext))
  refine step _ _ _ _ _ _ 10 (by omega) _ _ _ _ ?_ ?_ ?_ <|
    step _ _ _ _ _ _ 9 (by omega) _ _ _ _ ?_ ?_ ?_ <| step _ _ _ _ _ _ 8 (by omega) _ _ _ _ ?_ ?_ ?_ <|
    step _ _ _ _ _ _ 7 (by omega) _ _ _ _ ?_ ?_ ?_ <| step _ _ _ _ _ _ 6 (by omega) _ _ _ _ ?_ ?_ ?_ <|
    step _ _ _ _ _ _ 5 (by omega) _ _ _ _ ?_ ?_ ?_ <| step _ _ _ _ _ _ 4 (by omega) _ _ _ _ ?_ ?_ ?_ <|
    step _ _ _ _ _ _ 3 (by omega) _ _ _ _ ?_ ?_ ?_ <| step _ _ _ _ _ _ 2 (by omega) _ _ _ _ ?_ ?_ ?_ <|
    step _ _ _ _ _ _ 1 (by omega) _ _ _ _ ?_ ?_ ?_ <| first _ _ _ _ _ _ _ _ _ ?_ ?_ ?_
  all_goals (intro l k; pointwise; blk_ext)

theorem in0 (c : Dev nD) (t : Fin cfg0.N) (r : Fin 512) (k : Fin 1024) :
    (iblk m c 0 t : Vec Ideal S512x1024 .f32) (ix2 r k) = m ((c : Thread nD τ).loc main_arg0) (ix2 ⟨t.val * 512 + r.val, by have := t.isLt; have : cfg0.N = 32 := N_0; omega⟩ k) := by
  blk_point [iblk, V, idx t]

theorem in1 (c : Dev nD) (t : Fin cfg0.N) (k : Fin 1024) :
    (iblk m c 1 t : Vec Ideal S1x1024 .f32) (ix2 0 k) = m ((c : Thread nD τ).loc main_arg1) (ix1 k) := by
  blk_point [iblk, idx t]

theorem in2 (c : Dev nD) (t : Fin cfg0.N) (l : Fin 1024) (f : Fin 5632) :
    (iblk m c 2 t : Vec Ideal S1024x5632 .bf16) (ix2 l f) = m ((c : Thread nD τ).loc main_arg2) (ix2 l f) := by
  blk_point [iblk, idx t]

theorem in3 (c : Dev nD) (t : Fin cfg0.N) (f : Fin 2816) (q : Fin 1024) :
    (iblk m c 3 t : Vec Ideal S2816x1024 .bf16) (ix2 f q) = m ((c : Thread nD τ).loc main_arg3) (ix2 f q) := by
  blk_point [iblk, idx t]

theorem in4 (c : Dev nD) (t : Fin cfg0.N) (k : Fin 1024) :
    (iblk m c 4 t : Vec Ideal S1x1024 .f32) (ix2 0 k) = m ((c : Thread nD τ).loc main_arg4) (ix1 k) := by
  blk_point [iblk, idx t]

/-- The result at a row and a column, of the five arguments. -/
def result (x : Vec Ideal S16384x1024 .f32) (g : Vec Ideal S1024 .f32) (wu : Vec Ideal S1024x5632 .f32) (wd : Vec Ideal S2816x1024 .f32)
    (gf : Vec Ideal S1024 .f32) (a : Fin 16384) (b : Fin 1024) : EReal :=
  Row.norm (Row.out (fun k => x (ix2 a k)) (fun k => g (ix1 k)) (fun l f => wu (ix2 l f)) (fun f q => wd (ix2 f q))) (fun k => gf (ix1 k)) b

theorem final (c : Dev nD) : (dats m 0 c).arrAt 5 (cfgs 0).N = fun i =>
    result (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  blk_simp
  obtain ⟨r, q, rfl⟩ : ∃ (r : Fin 512) (q : Fin 1024), y = ix2 r q := ⟨y 0, y 1, eq_ix2 y⟩
  rw [after0_5]
  refine (block m c t r q).trans ?_
  simp only [upto_all, in0, in1, in2, in3, in4]
  refine congrArg₂ (result _ _ _ _ _) (x := ⟨t.val * 512 + r.val, by have h : t.val < 32 := lt_of_lt_of_eq t.isLt N_0; omega⟩) (y := q) (Fin.ext ?_) (Fin.ext ?_)
  all_goals (blk_simp [idx t] <;> try omega)

end Cert.FfnFinalIdeal.Pure

end
-- ==== Proof.FfnFinalRef.lean ====
module

public import proofs.«01_k».proof.Proof.FfnPure
public import proofs.«01_k».proof.Proof.Gen.FfnFinalRefIdeal.Read

@[expose] public section

set_option maxRecDepth 16384

noncomputable section

namespace Cert.FfnFinalRefIdeal.Pure

open Cert.FfnFinalRefIdeal Cert.FfnFinalRefIdeal.Gen Cert.FfnFinalRefIdeal.Read Idealize.ShloMosaic

variable (x0 : FVec Ideal S16384x1024 .f32) (x1 : FVec Ideal S1024 .f32) (x2 : FVec Ideal S1024x5632 .f32) (x3 : FVec Ideal S2816x1024 .f32)

theorem norm_at (r : Fin 16384) (k : Fin 1024) :
    val_main_v12 (F := Ideal) x0 x1 (ix2 r k) = Row.norm (fun l => x0 (ix2 r l)) (fun l => x1 (ix1 l)) k := by
  unfold Row.norm
  pointwise! [val_main_v12, val_main_v11, val_main_v10, val_main_v9, val_main_v8, val_main_v7, val_main_v6, val_main_v5,
    val_main_cst_1, val_main_v4, val_main_v3, val_main_cst_0, val_main_v2, val_main_v1, val_main_cst, val_main_v0]

theorem proj_at (r : Fin 16384) (f : Fin 5632) : val_main_v13 (F := Ideal) x0 x1 x2 (ix2 r f)
    = Row.dot (Row.norm (fun l => x0 (ix2 r l)) fun l => x1 (ix1 l)) fun l => x2 (ix2 l f) := by
  unfold Row.dot
  simp only [← norm_at]
  pointwise! [val_main_v13]

theorem hidden_at (r : Fin 16384) (f : Fin 2816) : val_main_v17 (F := Ideal) x0 x1 x2 (ix2 r f)
    = Row.swiglu (Row.dot (Row.norm (fun l => x0 (ix2 r l)) fun l => x1 (ix1 l)) fun l => x2 (ix2 l ⟨f.val, by omega⟩))
        (Row.dot (Row.norm (fun l => x0 (ix2 r l)) fun l => x1 (ix1 l)) fun l => x2 (ix2 l ⟨2816 + f.val, by omega⟩)) := by
  unfold Row.swiglu
  simp only [← proj_at]
  pointwise! [val_main_v17, val_main_v16, val_main_call0_v5, val_main_call0_v4, val_main_call0_cst_0, val_main_call0_v3,
    val_main_call0_v2, val_main_call0_cst, val_main_call0_v1, val_main_call0_v0, val_main_v15, val_main_v14]

theorem ref_at (r : Fin 16384) (q : Fin 1024) : val_main_v21 (F := Ideal) x0 x1 x2 x3 (ix2 r q)
    = Row.out (fun l => x0 (ix2 r l)) (fun l => x1 (ix1 l)) (fun l f => x2 (ix2 l f)) (fun f q => x3 (ix2 f q)) q := by
  unfold Row.out
  simp only [← hidden_at]
  pointwise! [val_main_v21, val_main_v20, val_main_v19, val_main_cst_2, val_main_v18]

theorem last_at (x4 : FVec Ideal S1024 .f32) (r : Fin 16384) (k : Fin 1024) : val_main_v34 (F := Ideal) x0 x1 x2 x3 x4 (ix2 r k)
    = Row.norm (Row.out (fun l => x0 (ix2 r l)) (fun l => x1 (ix1 l)) (fun l f => x2 (ix2 l f)) (fun f q => x3 (ix2 f q))) (fun l => x4 (ix1 l)) k := by
  unfold Row.norm
  simp only [← ref_at]
  pointwise! [val_main_v34, val_main_v33, val_main_v32, val_main_v31, val_main_v30, val_main_v29, val_main_v28, val_main_v27,
    val_main_cst_5, val_main_v26, val_main_v25, val_main_cst_4, val_main_v24, val_main_v23, val_main_cst_3, val_main_v22]

end Cert.FfnFinalRefIdeal.Pure

end
-- ==== Proof.FfnFinalClaim.lean ====
module

public import proofs.«01_k».proof.Proof.FfnFinalFinal
public import proofs.«01_k».proof.Proof.FfnFinalRef
public import proofs.«01_k».proof.Proof.Gen.FfnFinalRefIdeal.Run
public import proofs.«01_k».proof.Defs
public import Idealize.ShloMosaic.Lib.Claim

@[expose] public section

set_option maxRecDepth 16384

noncomputable section

namespace Cert.FfnFinalClaim

open Idealize.ShloMosaic Idealize.SL.Sem

/-- The kernel's result and the reference's are the same function of the arguments. -/
theorem same : Cert.algebraic_FfnFinalIdeal_FfnFinalRefIdeal := by
  pair_intro
  · run_from Cert.FfnFinalIdeal.Gen.run_main m g
  · hlo_run
    rw [Cert.FfnFinalIdeal.Pure.final]
    funext i
    rw [eq_ix2 i]
    exact Cert.FfnFinalRefIdeal.Pure.last_at _ _ _ _ _ _ _

end Cert.FfnFinalClaim

end
-- ==== Proof.RopePure.lean ====
/- One row of the rotary projection as plain mathematics: the row's queries, keys and values are dot products with the
   weights' columns, and each head's 64 lanes of a query or a key are turned, lane `l` of the first half with lane
   `l + 32`, by the angle whose cosines and sines are `c` and `s`. -/
module

public import proofs.«01_k».proof.Proof.FfnPure

@[expose] public section

noncomputable section

namespace Cert.Rope

open Idealize.ShloMosaic

/-- Every head's two halves turned by the angle. -/
def turn (z : Fin 1024 → EReal) (c s : Fin 32 → EReal) (l : Fin 1024) : EReal :=
  if h : l.val % 64 < 32 then z l * c ⟨l.val % 32, by omega⟩ - z ⟨l.val + 32, by omega⟩ * s ⟨l.val % 32, by omega⟩
  else z l * c ⟨l.val % 32, by omega⟩ + z ⟨l.val - 32, by omega⟩ * s ⟨l.val % 32, by omega⟩

/-- One row of queries, keys and values: the first two turned, the last as they are. -/
def row (y : Fin 1024 → EReal) (w : Fin 1024 → Fin 3072 → EReal) (c s : Fin 32 → EReal) (l : Fin 3072) : EReal :=
  if h₁ : l.val < 1024 then turn (fun k => Row.dot y fun i => w i ⟨k.val, by omega⟩) c s ⟨l.val, h₁⟩
  else if h₂ : l.val < 2048 then turn (fun k => Row.dot y fun i => w i ⟨1024 + k.val, by omega⟩) c s ⟨l.val - 1024, by omega⟩
  else Row.dot y fun i => w i l

/-- The angle of position `t` at frequency `k`. -/
def angle (t : ℕ) (k : Fin 32) : EReal :=
  FloatOps.sitofp (F := Ideal) .f32 (BitVec.ofNat 32 t)
    * Ideal.pow (Ideal.ofBits .f32 0x461C4000#32)
        (Ideal.div (-(FloatOps.sitofp (F := Ideal) .f32 (BitVec.ofNat 32 k.val))) (Ideal.ofBits .f32 0x42000000#32))

/-- The kernel's way of turning: it adds the partner lane times the sine, negated on the first half. -/
theorem turn_eq (z : Fin 1024 → EReal) (c s : Fin 32 → EReal) (l : Fin 1024) : turn z c s l =
    z l * c ⟨l.val % 32, by omega⟩ +
      (if h : l.val % 64 < 32 then z ⟨l.val + 32, by omega⟩ else z ⟨l.val - 32, by omega⟩)
        * (if l.val % 64 < 32 then -s ⟨l.val % 32, by omega⟩ else s ⟨l.val % 32, by omega⟩) := by
  unfold turn
  split_ifs with h
  · rw [mul_neg, sub_eq_add_neg]
  · rfl

end Cert.Rope

end
-- ==== Proof.Qkv1Read.lean ====
module

public import proofs.«01_k».proof.Proof.RopePure
public import proofs.«01_k».proof.Proof.Gen.Qkv1Ideal.Skeleton
public import Idealize.ShloMosaic.Lib.KernelVsHost

@[expose] public section

set_option maxRecDepth 16384

noncomputable section

open Idealize.ShloMosaic

namespace Cert.Qkv1Ideal.Pure

open Cert.Qkv1Ideal Cert.Qkv1Ideal.Gen

/-- One tile of 128 lanes, two heads, turned. -/
def spin (M : IVec S512x128 1) (cs sn X : FVec Ideal S512x128 .f32) : FVec Ideal S512x128 .f32 :=
  addf (mulf X cs) (mulf (select M (dynamicRotate 1 96#32 none X rotates_S512x128_d1)
    (dynamicRotate 1 32#32 none X rotates_S512x128_d1)) sn)

theorem cut : ∀ n : Fin 8, S512x1024.Slices ![0, n.val * 128] S512x128 := by decide

/-- The eight tiles of a row's queries or keys. -/
def wheel (M : IVec S512x128 1) (cs sn : FVec Ideal S512x128 .f32) (Z : FVec Ideal S512x1024 .f32) : FVec Ideal S512x1024 .f32 :=
  concatenate S512x1024 1 (List.ofFn fun n : Fin 8 => ⟨S512x128, spin M cs sn (extractStridedSlice S512x128 ![0, n.val * 128] Z (cut n))⟩)
    concatenates_S512x128_S512x128_S512x128_S512x128_S512x128_S512x128_S512x128_S512x128_S512x1024_d1

theorem mask_at (r : Fin 512) (l : Fin 128) : k0_pay20 (ix2 r l) = if l.val % 64 < 32 then 1#1 else 0#1 := by
  have h : ∀ l : Fin 128, k0_pay20 (ix2 0 l) = if l.val % 64 < 32 then 1#1 else 0#1 := by decide +kernel
  exact h l

theorem forward_at (X : FVec Ideal S512x128 .f32) (r : Fin 512) (l : Fin 128) (h : l.val % 64 < 32) :
    dynamicRotate 1 96#32 none X rotates_S512x128_d1 (ix2 r l) = X (ix2 r ⟨l.val + 32, by omega⟩) := by
  refine dynamicRotate_apply _ _ _ _ _ _ fun b => ?_
  match b with
  | 0 => rfl
  | 1 => show l.val + 32 = (l.val + 128 - 96 % 128) % 128; omega

theorem back_at (X : FVec Ideal S512x128 .f32) (r : Fin 512) (l : Fin 128) (h : ¬l.val % 64 < 32) :
    dynamicRotate 1 32#32 none X rotates_S512x128_d1 (ix2 r l) = X (ix2 r ⟨l.val - 32, by omega⟩) := by
  refine dynamicRotate_apply _ _ _ _ _ _ fun b => ?_
  match b with
  | 0 => rfl
  | 1 => show l.val - 32 = (l.val + 128 - 32 % 128) % 128; omega

theorem spin_at (cs sn X : FVec Ideal S512x128 .f32) (r : Fin 512) (l : Fin 128) :
    spin k0_pay20 cs sn X (ix2 r l) = X (ix2 r l) * cs (ix2 r l)
      + (if h : l.val % 64 < 32 then X (ix2 r ⟨l.val + 32, by omega⟩) else X (ix2 r ⟨l.val - 32, by omega⟩)) * sn (ix2 r l) := by
  refine Eq.trans (b := X (ix2 r l) * cs (ix2 r l) + (if k0_pay20 (ix2 r l) = 1#1 then dynamicRotate 1 96#32 none X rotates_S512x128_d1 (ix2 r l)
    else dynamicRotate 1 32#32 none X rotates_S512x128_d1 (ix2 r l)) * sn (ix2 r l)) rfl ?_
  rw [mask_at]
  by_cases h : l.val % 64 < 32
  · rw [if_pos h, if_pos rfl, dif_pos h, forward_at X r l h]
  · rw [if_neg h, if_neg (by decide), dif_neg h, back_at X r l h]

theorem wheel_at (cs sn : FVec Ideal S512x128 .f32) (Z : FVec Ideal S512x1024 .f32) (r : Fin 512) (l : Fin 1024) :
    wheel k0_pay20 cs sn Z (ix2 r l) = Z (ix2 r l) * cs (ix2 r ⟨l.val % 128, by omega⟩)
      + (if h : l.val % 64 < 32 then Z (ix2 r ⟨l.val + 32, by omega⟩) else Z (ix2 r ⟨l.val - 32, by omega⟩))
          * sn (ix2 r ⟨l.val % 128, by omega⟩) := by
  have e : wheel k0_pay20 cs sn Z (ix2 r l) = spin k0_pay20 cs sn (extractStridedSlice S512x128 ![0, l.val / 128 * 128] Z
      (cut ⟨l.val / 128, by omega⟩)) (ix2 r ⟨l.val % 128, by omega⟩) := by
    refine concatenate_ofFn_apply (t := S512x1024) (s₁ := S512x128) (1 : Fin 2) (fun n : Fin 8 => spin k0_pay20 cs sn (extractStridedSlice S512x128 ![0, n.val * 128] Z (cut n)))
      _ rfl 128 rfl (ix2 r l) ⟨l.val / 128, by omega⟩ rfl _ rfl fun b hb => ?_
    match b with
    | 0 => rfl
    | 1 => exact absurd rfl hb
  have c : ∀ k : Fin 128, (extractStridedSlice S512x128 ![0, l.val / 128 * 128] Z (cut ⟨l.val / 128, by omega⟩)) (ix2 r k)
      = Z (ix2 r ⟨l.val / 128 * 128 + k.val, by omega⟩) := fun k => by
    pointwise
  rw [e, spin_at, c]
  by_cases h : l.val % 64 < 32
  · have h' : l.val % 128 % 64 < 32 := by omega
    rw [dif_pos h', dif_pos h, c]
    congr 3 <;> congr 1 <;> exact Fin.ext (by simp <;> omega)
  · have h' : ¬l.val % 128 % 64 < 32 := by omega
    rw [dif_neg h', dif_neg h, c]
    congr 3 <;> congr 1 <;> exact Fin.ext (by simp <;> omega)

theorem norm_at (X : Vec Ideal S1x512x1024 .f32) (g : Vec Ideal S1x1024 .f32) (r : Fin 512) (k : Fin 1024) :
    k0_pay4 (F := Ideal) X g (ix2 r k) = Row.norm (fun l => X (ix3 0 r l)) (fun l => g (ix2 0 l)) k := by
  unfold Row.norm
  pointwise! [k0_pay4]

theorem proj_at (Y : Vec Ideal S512x1024 .bf16) (W : Vec Ideal S1024x3072 .bf16) (r : Fin 512) (f : Fin 3072) :
    k0_pay7 (F := Ideal) Y W (ix2 r f) = Row.dot (fun l => Y (ix2 r l)) fun l => W (ix2 l f) := by
  unfold Row.dot
  pointwise! [k0_pay7]

/-- The queries' (`o = 0`) or keys' (`o = 1024`) lanes of a block of projected rows, turned. -/
theorem wheel_row (Z : FVec Ideal S512x3072 .f32) (o : ℕ) (ho : S512x3072.Slices ![0, o] S512x1024) (ho' : o ≤ 2048)
    (cs sn : FVec Ideal S512x128 .f32) (c s : Fin 32 → EReal) (r : Fin 512) (l : Fin 1024)
    (hc : ∀ k : Fin 128, cs (ix2 r k) = c ⟨k.val % 32, by omega⟩)
    (hs : ∀ k : Fin 128, sn (ix2 r k) = if k.val % 64 < 32 then -s ⟨k.val % 32, by omega⟩ else s ⟨k.val % 32, by omega⟩) :
    wheel k0_pay20 cs sn (extractStridedSlice S512x1024 ![0, o] Z ho) (ix2 r l)
      = Rope.turn (fun k => Z (ix2 r ⟨o + k.val, by omega⟩)) c s l := by
  have e : ∀ k : Fin 1024, extractStridedSlice S512x1024 ![0, o] Z ho (ix2 r k) = Z (ix2 r ⟨o + k.val, by omega⟩) := fun k => by
    pointwise
  rw [wheel_at, Rope.turn_eq, hc, hs]
  simp only [e]
  have h1 : l.val % 128 % 64 = l.val % 64 := by omega
  have h2 : l.val % 128 % 32 = l.val % 32 := by omega
  simp only [h1, h2]

/-- One row of a block's queries, keys and values, of the block's projected rows, cosines and signed sines. -/
def tile (Z : FVec Ideal S512x3072 .f32) (cs sn : FVec Ideal S512x128 .f32) (r : Fin 512) (l : Fin 3072) : EReal :=
  if h₁ : l.val < 1024 then wheel k0_pay20 cs sn (extractStridedSlice S512x1024 ![0, 0] Z slices_S512x3072_o0_0_S512x1024) (ix2 r ⟨l.val, h₁⟩)
  else if h₂ : l.val < 2048 then wheel k0_pay20 cs sn (extractStridedSlice S512x1024 ![0, 1024] Z slices_S512x3072_o0_1024_S512x1024) (ix2 r ⟨l.val - 1024, by omega⟩)
  else Z (ix2 r l)

theorem tile_at (Y : Vec Ideal S512x1024 .bf16) (W : Vec Ideal S1024x3072 .bf16)
    (cs sn : FVec Ideal S512x128 .f32) (c s : Fin 32 → EReal) (r : Fin 512) (l : Fin 3072)
    (hc : ∀ k : Fin 128, cs (ix2 r k) = c ⟨k.val % 32, by omega⟩)
    (hs : ∀ k : Fin 128, sn (ix2 r k) = if k.val % 64 < 32 then -s ⟨k.val % 32, by omega⟩ else s ⟨k.val % 32, by omega⟩) :
    tile (k0_pay7 (F := Ideal) Y W) cs sn r l = Rope.row (fun k => Y (ix2 r k)) (fun k f => W (ix2 k f)) c s l := by
  unfold tile Rope.row
  split_ifs with h₁ h₂
  · rw [wheel_row _ 0 _ (by omega) cs sn c s r _ hc hs]
    simp only [proj_at, Nat.zero_add]
  · rw [wheel_row _ 1024 _ (by omega) cs sn c s r _ hc hs]
    simp only [proj_at]
  · rw [proj_at]

end Cert.Qkv1Ideal.Pure

end
-- ==== Proof.Qkv1Final.lean ====
module

public import proofs.«01_k».proof.Proof.Qkv1Read
public import proofs.«01_k».proof.Proof.Gen.Qkv1Ideal.Value
public import Idealize.ShloMosaic.Lib.Pipeline.ValueKit

@[expose] public section

set_option maxRecDepth 16384

noncomputable section

namespace Cert.Qkv1Ideal.Pure

open Cert.Qkv1Ideal Cert.Qkv1Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 16, 0] ∧ win0_1.index t = ![0, 0] ∧ win0_2.index t = ![0, 0]
    ∧ win0_3.index t = ![t.val % 16, 0] ∧ win0_4.index t = ![t.val % 16, 0] ∧ win0_5.index t = ![t.val / 16, 0, t.val % 16, 0] :=
  (by decide +kernel : ∀ t : Fin grid0.N, _)

theorem block (c : Dev nD) (t : Fin cfg0.N) (r : Fin 512) (l : Fin 3072) :
    outsAt0 m c t (ix4 0 0 r l) = tile (k0_pay7 (k0_pay4 (iblk m c 0 t) (iblk m c 1 t)) (iblk m c 2 t)) (k0_pay5 (iblk m c 3 t)) (k0_pay6 (iblk m c 4 t)) r l := by
  unfold outsAt0; frame_out
  canon_tiles x h
  all_goals
    obtain ⟨a, b, r', k, rfl⟩ : ∃ (a b : Fin 1) (r' : Fin 512) (k : Fin 1024), x = ix4 a b r' k := ⟨x 0, x 1, x 2, x 3, eq_ix4 x⟩
    obtain rfl : a = 0 := by omega
    obtain rfl : b = 0 := by omega
    obtain rfl : r = r' := Fin.ext h2
  · replace h3 : l.val = 2048 + k.val := h3
    rw [show l = ⟨2048 + k.val, by omega⟩ from Fin.ext h3]
    unfold tile
    rw [dif_neg (by simp <;> omega), dif_neg (by simp)]
    pointwise [k0_pay3]
  · replace h3 : l.val = 1024 + k.val := h3
    rw [show l = ⟨1024 + k.val, by omega⟩ from Fin.ext h3]
    unfold tile
    rw [dif_neg (by simp), dif_pos (by simp <;> omega)]
    refine Eq.trans (b := shapeCast S1x1x512x1024 (wheel k0_pay20 (k0_pay5 (iblk m c 3 t)) (k0_pay6 (iblk m c 4 t)) (k0_pay19 (k0_pay7 (k0_pay4 (iblk m c 0 t) (iblk m c 1 t)) (iblk m c 2 t)))) shapeCasts_S512x1024_S1x1x512x1024 (ix4 0 0 r k)) rfl ?_
    have e : (⟨1024 + k.val - 1024, by omega⟩ : Fin 1024) = k := Fin.ext (by simp)
    rw [e]
    pointwise
    rfl
  · replace h3 : l.val = k.val := h3
    rw [show l = ⟨k.val, by omega⟩ from Fin.ext h3]
    unfold tile
    rw [dif_pos k.isLt]
    refine Eq.trans (b := shapeCast S1x1x512x1024 (wheel k0_pay20 (k0_pay5 (iblk m c 3 t)) (k0_pay6 (iblk m c 4 t)) (k0_pay8 (k0_pay4 (iblk m c 0 t) (iblk m c 1 t)) (iblk m c 2 t))) shapeCasts_S512x1024_S1x1x512x1024 (ix4 0 0 r k)) rfl ?_
    pointwise
    rfl

theorem in0 (c : Dev nD) (t : Fin cfg0.N) (r : Fin 512) (k : Fin 1024) :
    (iblk m c 0 t : Vec Ideal S1x512x1024 .f32) (ix3 0 r k) = (m ((c : Thread nD τ).loc main_arg0) : Vec Ideal S2x8192x1024 .f32)
      (ix3 ⟨t.val / 16, by have := t.isLt; have : cfg0.N = 32 := N_0; omega⟩ ⟨t.val % 16 * 512 + r.val, by omega⟩ k) := by
  blk_point [iblk, V, idx t]

theorem in1 (c : Dev nD) (t : Fin cfg0.N) (k : Fin 1024) :
    (iblk m c 1 t : Vec Ideal S1x1024 .f32) (ix2 0 k) = m ((c : Thread nD τ).loc main_arg1) (ix1 k) := by
  blk_point [iblk, idx t]

theorem in2 (c : Dev nD) (t : Fin cfg0.N) (l : Fin 1024) (f : Fin 3072) :
    (iblk m c 2 t : Vec Ideal S1024x3072 .bf16) (ix2 l f) = (m ((c : Thread nD τ).loc main_arg2) : Vec Ideal S1024x9216 .f32) (ix2 l ⟨0 * 3072 + f.val, by omega⟩) := by
  blk_point [iblk, idx t]

theorem cos_at (c : Dev nD) (p : Fin 8192) (k : Fin 128) :
    (V m c main_v22 : Vec Ideal S8192x128 .f32) (ix2 p k) = Ideal.cos (Rope.angle p.val ⟨k.val % 32, by omega⟩) := by
  unfold Rope.angle
  entry_read
  pointwise
  by_cases h : k.val % 64 < 32
  · have e : k.val % 64 = k.val % 32 := by omega
    rw [dif_pos h, e]
  · have e : k.val % 64 - 32 = k.val % 32 := by omega
    rw [dif_neg h, e]

theorem sin_at (c : Dev nD) (p : Fin 8192) (k : Fin 128) :
    (V m c main_v27 : Vec Ideal S8192x128 .f32) (ix2 p k) = if k.val % 64 < 32 then -Ideal.sin (Rope.angle p.val ⟨k.val % 32, by omega⟩)
      else Ideal.sin (Rope.angle p.val ⟨k.val % 32, by omega⟩) := by
  unfold Rope.angle
  entry_read
  pointwise
  by_cases h : k.val % 64 < 32
  · have e : k.val % 64 = k.val % 32 := by omega
    rw [dif_pos h, if_pos h, e]
  · have e : k.val % 64 - 32 = k.val % 32 := by omega
    rw [dif_neg h, if_neg h, e]

theorem in3 (c : Dev nD) (t : Fin cfg0.N) (r : Fin 512) (k : Fin 128) :
    k0_pay5 (F := Ideal) (iblk m c 3 t) (ix2 r k) = Ideal.cos (Rope.angle (t.val % 16 * 512 + r.val) ⟨k.val % 32, by omega⟩) := by
  refine Eq.trans ?_ (cos_at m c ⟨t.val % 16 * 512 + r.val, by omega⟩ k)
  unfold k0_pay5
  pointwise
  generalize hV : V m c main_v22 = A
  refine Eq.trans (b := ((cfg0.win 3).blk t).view.read (Elt Ideal) A (ix2 r k)) (by rw [← hV]; rfl) ?_
  blk_ext [idx t]

theorem in4 (c : Dev nD) (t : Fin cfg0.N) (r : Fin 512) (k : Fin 128) :
    k0_pay6 (F := Ideal) (iblk m c 4 t) (ix2 r k) = if k.val % 64 < 32 then -Ideal.sin (Rope.angle (t.val % 16 * 512 + r.val) ⟨k.val % 32, by omega⟩)
      else Ideal.sin (Rope.angle (t.val % 16 * 512 + r.val) ⟨k.val % 32, by omega⟩) := by
  refine Eq.trans ?_ (sin_at m c ⟨t.val % 16 * 512 + r.val, by omega⟩ k)
  unfold k0_pay6
  pointwise
  generalize hV : V m c main_v27 = A
  refine Eq.trans (b := ((cfg0.win 4).blk t).view.read (Elt Ideal) A (ix2 r k)) (by rw [← hV]; rfl) ?_
  blk_ext [idx t]

/-- The result's entry, of the three arguments: position `t` of batch `b` is row `t` of the one stream. -/
def result (x : Vec Ideal S2x8192x1024 .f32) (g : Vec Ideal S1024 .f32) (w : Vec Ideal S1024x9216 .f32) (b : Fin 2) (p : Fin 8192) (l : Fin 3072) : EReal :=
  Rope.row (Row.norm (fun k => x (ix3 b p k)) fun k => g (ix1 k)) (fun k f => w (ix2 k ⟨0 * 3072 + f.val, by omega⟩))
    (fun k => Ideal.cos (Rope.angle p.val k)) (fun k => Ideal.sin (Rope.angle p.val k)) l

theorem entry (c : Dev nD) (t : Fin cfg0.N) (r : Fin 512) (l : Fin 3072) : outsAt0 m c t (ix4 0 0 r l)
    = result (m ((c : Thread nD τ).loc main_arg0)) (m ((c : Thread nD τ).loc main_arg1)) (m ((c : Thread nD τ).loc main_arg2))
        ⟨t.val / 16, by have := t.isLt; have : cfg0.N = 32 := N_0; omega⟩ ⟨t.val % 16 * 512 + r.val, by omega⟩ l := by
  rw [block, tile_at _ _ _ _ (fun k => Ideal.cos (Rope.angle (t.val % 16 * 512 + r.val) k)) (fun k => Ideal.sin (Rope.angle (t.val % 16 * 512 + r.val) k)) r l (in3 m c t r) (in4 m c t r)]
  simp only [norm_at, in0, in1, in2]
  rfl

theorem final (c : Dev nD) : (dats m 0 c).arrAt 5 (cfgs 0).N = fun i =>
    result (m ((c : Thread nD τ).loc main_arg0)) (m ((c : Thread nD τ).loc main_arg1)) (m ((c : Thread nD τ).loc main_arg2)) (i 0) (i 2) (i 3) := by
  refine (dats m 0 c).arrAt_eq_of_covers 5 _ (by decide +kernel) fun t hf y => ?_
  blk_simp
  obtain ⟨a, b, r, l, rfl⟩ : ∃ (a b : Fin 1) (r : Fin 512) (l : Fin 3072), y = ix4 a b r l := ⟨y 0, y 1, y 2, y 3, eq_ix4 y⟩
  obtain rfl : a = 0 := by omega
  obtain rfl : b = 0 := by omega
  rw [after0_5]
  refine (entry m c t r l).trans ?_
  have e : ∀ (b b' : Fin 2) (p p' : Fin 8192) (l l' : Fin 3072), b = b' → p = p' → l = l' →
      result (m ((c : Thread nD τ).loc main_arg0)) (m ((c : Thread nD τ).loc main_arg1)) (m ((c : Thread nD τ).loc main_arg2)) b p l
        = result (m ((c : Thread nD τ).loc main_arg0)) (m ((c : Thread nD τ).loc main_arg1)) (m ((c : Thread nD τ).loc main_arg2)) b' p' l' := by
    rintro _ _ _ _ _ _ rfl rfl rfl; rfl
  refine e _ _ _ _ _ _ (Fin.ext ?_) (Fin.ext ?_) (Fin.ext ?_)
  all_goals (blk_simp [idx t] <;> first | omega | simp)

end Cert.Qkv1Ideal.Pure

end
-- ==== Proof.Qkv1Ref.lean ====
module

public import proofs.«01_k».proof.Proof.RopePure
public import proofs.«01_k».proof.Proof.Gen.Qkv1RefIdeal.Read

@[expose] public section

set_option maxRecDepth 16384

noncomputable section

namespace Cert.Qkv1RefIdeal.Pure

open Cert.Qkv1RefIdeal Cert.Qkv1RefIdeal.Gen Cert.Qkv1RefIdeal.Read Idealize.ShloMosaic

variable (x0 : FVec Ideal S2x8192x1024 .f32) (x1 : FVec Ideal S1024 .f32) (x2 : FVec Ideal S1024x9216 .f32)

theorem norm_at (b : Fin 2) (t : Fin 8192) (k : Fin 1024) :
    val_main_v13 (F := Ideal) x0 x1 (ix3 b t k) = Row.norm (fun l => x0 (ix3 b t l)) (fun l => x1 (ix1 l)) k := by
  unfold Row.norm
  pointwise! [val_main_v13, val_main_v12, val_main_v11, val_main_v10, val_main_v9, val_main_v8, val_main_v7, val_main_v6, val_main_v5,
    val_main_cst_1, val_main_v4, val_main_v3, val_main_cst_0, val_main_v2, val_main_v1, val_main_cst]

/-- A row's projection to the group's lane `f`. -/
def z (b : Fin 2) (t : Fin 8192) (f : Fin 3072) : EReal :=
  Row.dot (Row.norm (fun l => x0 (ix3 b t l)) fun l => x1 (ix1 l)) fun l => x2 (ix2 l ⟨0 * 3072 + f.val, by omega⟩)

theorem proj_at (b : Fin 2) (t : Fin 8192) (f : Fin 3072) : val_main_v15 (F := Ideal) x0 x1 x2 (ix3 b t f) = z x0 x1 x2 b t f := by
  unfold z Row.dot
  simp only [← norm_at]
  pointwise! [val_main_v15, val_main_v14]

theorem parts_at (b : Fin 2) (t : Fin 8192) (p : Fin 3) (h : Fin 16) (d : Fin 64) :
    val_main_v18 (F := Ideal) x0 x1 x2 (ix5 b t p h d) = z x0 x1 x2 b t ⟨p.val * 1024 + (h.val * 64 + d.val), by omega⟩ := by
  rw [← proj_at]
  pointwise [val_main_v18]
  exact congrArg (fun f => val_main_v15 (F := Ideal) x0 x1 x2 (ix3 b t f)) (Fin.ext (by simp <;> omega))

theorem angle_at (t : Fin 8192) (k : Fin 32) : val_main_v32 (F := Ideal) (ix2 t k) = Rope.angle t.val k := by
  unfold Rope.angle
  pointwise! [val_main_v32, val_main_v31, val_main_v30, val_main_v29, val_main_v28, val_main_v27, val_main_v26, val_main_v25, val_main_cst_3,
    val_main_v24, val_main_v23, val_main_cst_2, val_main_v22, val_main_v21, val_main_v0]

theorem angle_at' (t : Fin 8192) (k : Fin 32) : val_main_v67 (F := Ideal) (ix2 t k) = Rope.angle t.val k := by
  unfold Rope.angle
  pointwise! [val_main_v67, val_main_v66, val_main_v65, val_main_v64, val_main_v63, val_main_v62, val_main_v61, val_main_v60, val_main_cst_5,
    val_main_v59, val_main_v58, val_main_cst_4, val_main_v57, val_main_v56, val_main_v0]

/-! The queries. -/

theorem q_in (b : Fin 2) (t : Fin 8192) (h : Fin 16) (d : Fin 64) : val_main_v20 (F := Ideal) x0 x1 x2 (ix4 b t h d)
    = z x0 x1 x2 b t ⟨h.val * 64 + d.val, by omega⟩ := by
  pointwise [val_main_v20, val_main_v19]
  rw [parts_at]
  exact congrArg (z x0 x1 x2 b t) (Fin.ext (by simp))

theorem q_lo (b : Fin 2) (t : Fin 8192) (h : Fin 16) (k : Fin 32) : val_main_v37 (F := Ideal) x0 x1 x2 (ix4 b t h k)
    = z x0 x1 x2 b t ⟨h.val * 64 + k.val, by omega⟩ := by
  refine Eq.trans (b := val_main_v20 (F := Ideal) x0 x1 x2 (ix4 b t h ⟨k.val, by omega⟩)) ?_ (q_in x0 x1 x2 b t h ⟨k.val, by omega⟩)
  rw [val_main_v37_apply]
  refine congrArg (val_main_v20 (F := Ideal) x0 x1 x2) (funext fun a => ?_)
  fin_cases a <;> rfl

theorem q_hi (b : Fin 2) (t : Fin 8192) (h : Fin 16) (k : Fin 32) : val_main_v38 (F := Ideal) x0 x1 x2 (ix4 b t h k)
    = z x0 x1 x2 b t ⟨h.val * 64 + (32 + k.val), by omega⟩ := by
  refine Eq.trans (b := val_main_v20 (F := Ideal) x0 x1 x2 (ix4 b t h ⟨32 + k.val, by omega⟩)) ?_ (q_in x0 x1 x2 b t h ⟨32 + k.val, by omega⟩)
  rw [val_main_v38_apply]
  refine congrArg (val_main_v20 (F := Ideal) x0 x1 x2) (funext fun a => ?_)
  fin_cases a <;> rfl

theorem q_cos (t : Fin 8192) (k : Fin 32) : val_main_v34 (F := Ideal) (ix3 t 0 k) = Ideal.cos (Rope.angle t.val k) := by
  rw [← angle_at]
  pointwise! [val_main_v34, val_main_v33]

theorem q_sin (t : Fin 8192) (k : Fin 32) : val_main_v36 (F := Ideal) (ix3 t 0 k) = Ideal.sin (Rope.angle t.val k) := by
  rw [← angle_at]
  pointwise! [val_main_v36, val_main_v35]

theorem q_cos1 (b : Fin 2) (t : Fin 8192) (h : Fin 16) (k : Fin 32) : val_main_v40 (F := Ideal) (ix4 b t h k) = Ideal.cos (Rope.angle t.val k) := by
  rw [← q_cos]
  pointwise! [val_main_v40, val_main_v39]

theorem q_cos2 (b : Fin 2) (t : Fin 8192) (h : Fin 16) (k : Fin 32) : val_main_v47 (F := Ideal) (ix4 b t h k) = Ideal.cos (Rope.angle t.val k) := by
  rw [← q_cos]
  pointwise! [val_main_v47, val_main_v46]

theorem q_sin1 (b : Fin 2) (t : Fin 8192) (h : Fin 16) (k : Fin 32) : val_main_v43 (F := Ideal) (ix4 b t h k) = Ideal.sin (Rope.angle t.val k) := by
  rw [← q_sin]
  pointwise! [val_main_v43, val_main_v42]

theorem q_sin2 (b : Fin 2) (t : Fin 8192) (h : Fin 16) (k : Fin 32) : val_main_v50 (F := Ideal) (ix4 b t h k) = Ideal.sin (Rope.angle t.val k) := by
  rw [← q_sin]
  pointwise! [val_main_v50, val_main_v49]

theorem q_first (b : Fin 2) (t : Fin 8192) (h : Fin 16) (k : Fin 32) : val_main_v45 (F := Ideal) x0 x1 x2 (ix4 b t h k)
    = z x0 x1 x2 b t ⟨h.val * 64 + k.val, by omega⟩ * Ideal.cos (Rope.angle t.val k)
      - z x0 x1 x2 b t ⟨h.val * 64 + (32 + k.val), by omega⟩ * Ideal.sin (Rope.angle t.val k) := by
  pointwise [val_main_v45, val_main_v41, val_main_v44]
  simp only [q_lo, q_hi, q_cos1, q_sin1]

theorem q_second (b : Fin 2) (t : Fin 8192) (h : Fin 16) (k : Fin 32) : val_main_v52 (F := Ideal) x0 x1 x2 (ix4 b t h k)
    = z x0 x1 x2 b t ⟨h.val * 64 + (32 + k.val), by omega⟩ * Ideal.cos (Rope.angle t.val k)
      + z x0 x1 x2 b t ⟨h.val * 64 + k.val, by omega⟩ * Ideal.sin (Rope.angle t.val k) := by
  pointwise [val_main_v52, val_main_v48, val_main_v51]
  simp only [q_lo, q_hi, q_cos2, q_sin2]

theorem q_at (b : Fin 2) (t : Fin 8192) (h : Fin 16) (d : Fin 64) : val_main_v53 (F := Ideal) x0 x1 x2 (ix4 b t h d)
    = Rope.turn (fun k => z x0 x1 x2 b t ⟨k.val, by omega⟩) (fun k => Ideal.cos (Rope.angle t.val k))
        (fun k => Ideal.sin (Rope.angle t.val k)) ⟨h.val * 64 + d.val, by omega⟩ := by
  unfold Rope.turn
  pointwise [val_main_v53]
  by_cases hd : d.val < 32
  · have h1 : (h.val * 64 + d.val) % 64 < 32 := by omega
    rw [dif_pos hd, dif_pos h1, q_first]
    have e1 : h.val * 64 + (32 + d.val) = h.val * 64 + d.val + 32 := by omega
    have e2 : (h.val * 64 + d.val) % 32 = d.val := by omega
    simp only [e1, e2]
  · have h1 : ¬(h.val * 64 + d.val) % 64 < 32 := by omega
    rw [dif_neg hd, dif_neg h1, q_second]
    have e1 : h.val * 64 + (32 + (d.val - 32)) = h.val * 64 + d.val := by omega
    have e2 : h.val * 64 + (d.val - 32) = h.val * 64 + d.val - 32 := by omega
    have e3 : (h.val * 64 + d.val) % 32 = d.val - 32 := by omega
    simp only [e1, e2, e3]

/-! The keys. -/

theorem k_in (b : Fin 2) (t : Fin 8192) (h : Fin 16) (d : Fin 64) : val_main_v55 (F := Ideal) x0 x1 x2 (ix4 b t h d)
    = z x0 x1 x2 b t ⟨1024 + (h.val * 64 + d.val), by omega⟩ := by
  pointwise [val_main_v55, val_main_v54]
  rw [parts_at]
  exact congrArg (z x0 x1 x2 b t) (Fin.ext (by simp))

theorem k_lo (b : Fin 2) (t : Fin 8192) (h : Fin 16) (k : Fin 32) : val_main_v72 (F := Ideal) x0 x1 x2 (ix4 b t h k)
    = z x0 x1 x2 b t ⟨1024 + (h.val * 64 + k.val), by omega⟩ := by
  refine Eq.trans (b := val_main_v55 (F := Ideal) x0 x1 x2 (ix4 b t h ⟨k.val, by omega⟩)) ?_ (k_in x0 x1 x2 b t h ⟨k.val, by omega⟩)
  rw [val_main_v72_apply]
  refine congrArg (val_main_v55 (F := Ideal) x0 x1 x2) (funext fun a => ?_)
  fin_cases a <;> rfl

theorem k_hi (b : Fin 2) (t : Fin 8192) (h : Fin 16) (k : Fin 32) : val_main_v73 (F := Ideal) x0 x1 x2 (ix4 b t h k)
    = z x0 x1 x2 b t ⟨1024 + (h.val * 64 + (32 + k.val)), by omega⟩ := by
  refine Eq.trans (b := val_main_v55 (F := Ideal) x0 x1 x2 (ix4 b t h ⟨32 + k.val, by omega⟩)) ?_ (k_in x0 x1 x2 b t h ⟨32 + k.val, by omega⟩)
  rw [val_main_v73_apply]
  refine congrArg (val_main_v55 (F := Ideal) x0 x1 x2) (funext fun a => ?_)
  fin_cases a <;> rfl

theorem k_cos (t : Fin 8192) (k : Fin 32) : val_main_v69 (F := Ideal) (ix3 t 0 k) = Ideal.cos (Rope.angle t.val k) := by
  rw [← angle_at']
  pointwise! [val_main_v69, val_main_v68]

theorem k_sin (t : Fin 8192) (k : Fin 32) : val_main_v71 (F := Ideal) (ix3 t 0 k) = Ideal.sin (Rope.angle t.val k) := by
  rw [← angle_at']
  pointwise! [val_main_v71, val_main_v70]

theorem k_cos1 (b : Fin 2) (t : Fin 8192) (h : Fin 16) (k : Fin 32) : val_main_v75 (F := Ideal) (ix4 b t h k) = Ideal.cos (Rope.angle t.val k) := by
  rw [← k_cos]
  pointwise! [val_main_v75, val_main_v74]

theorem k_cos2 (b : Fin 2) (t : Fin 8192) (h : Fin 16) (k : Fin 32) : val_main_v82 (F := Ideal) (ix4 b t h k) = Ideal.cos (Rope.angle t.val k) := by
  rw [← k_cos]
  pointwise! [val_main_v82, val_main_v81]

theorem k_sin1 (b : Fin 2) (t : Fin 8192) (h : Fin 16) (k : Fin 32) : val_main_v78 (F := Ideal) (ix4 b t h k) = Ideal.sin (Rope.angle t.val k) := by
  rw [← k_sin]
  pointwise! [val_main_v78, val_main_v77]

theorem k_sin2 (b : Fin 2) (t : Fin 8192) (h : Fin 16) (k : Fin 32) : val_main_v85 (F := Ideal) (ix4 b t h k) = Ideal.sin (Rope.angle t.val k) := by
  rw [← k_sin]
  pointwise! [val_main_v85, val_main_v84]

theorem k_first (b : Fin 2) (t : Fin 8192) (h : Fin 16) (k : Fin 32) : val_main_v80 (F := Ideal) x0 x1 x2 (ix4 b t h k)
    = z x0 x1 x2 b t ⟨1024 + (h.val * 64 + k.val), by omega⟩ * Ideal.cos (Rope.angle t.val k)
      - z x0 x1 x2 b t ⟨1024 + (h.val * 64 + (32 + k.val)), by omega⟩ * Ideal.sin (Rope.angle t.val k) := by
  pointwise [val_main_v80, val_main_v76, val_main_v79]
  simp only [k_lo, k_hi, k_cos1, k_sin1]

theorem k_second (b : Fin 2) (t : Fin 8192) (h : Fin 16) (k : Fin 32) : val_main_v87 (F := Ideal) x0 x1 x2 (ix4 b t h k)
    = z x0 x1 x2 b t ⟨1024 + (h.val * 64 + (32 + k.val)), by omega⟩ * Ideal.cos (Rope.angle t.val k)
      + z x0 x1 x2 b t ⟨1024 + (h.val * 64 + k.val), by omega⟩ * Ideal.sin (Rope.angle t.val k) := by
  pointwise [val_main_v87, val_main_v83, val_main_v86]
  simp only [k_lo, k_hi, k_cos2, k_sin2]

theorem k_at (b : Fin 2) (t : Fin 8192) (h : Fin 16) (d : Fin 64) : val_main_v88 (F := Ideal) x0 x1 x2 (ix4 b t h d)
    = Rope.turn (fun k => z x0 x1 x2 b t ⟨1024 + k.val, by omega⟩) (fun k => Ideal.cos (Rope.angle t.val k))
        (fun k => Ideal.sin (Rope.angle t.val k)) ⟨h.val * 64 + d.val, by omega⟩ := by
  unfold Rope.turn
  pointwise [val_main_v88]
  by_cases hd : d.val < 32
  · have h1 : (h.val * 64 + d.val) % 64 < 32 := by omega
    rw [dif_pos hd, dif_pos h1, k_first]
    have e1 : h.val * 64 + (32 + d.val) = h.val * 64 + d.val + 32 := by omega
    have e2 : (h.val * 64 + d.val) % 32 = d.val := by omega
    simp only [e1, e2]
  · have h1 : ¬(h.val * 64 + d.val) % 64 < 32 := by omega
    rw [dif_neg hd, dif_neg h1, k_second]
    have e1 : h.val * 64 + (32 + (d.val - 32)) = h.val * 64 + d.val := by omega
    have e2 : h.val * 64 + (d.val - 32) = h.val * 64 + d.val - 32 := by omega
    have e3 : (h.val * 64 + d.val) % 32 = d.val - 32 := by omega
    simp only [e1, e2, e3]

/-! The values, and the three laid side by side in their streams. -/

theorem v_at (b : Fin 2) (t : Fin 8192) (h : Fin 16) (d : Fin 64) : val_main_v90 (F := Ideal) x0 x1 x2 (ix4 b t h d)
    = z x0 x1 x2 b t ⟨2048 + (h.val * 64 + d.val), by omega⟩ := by
  pointwise [val_main_v90, val_main_v89]
  rw [parts_at]
  exact congrArg (z x0 x1 x2 b t) (Fin.ext (by simp))

theorem one_91 (b : Fin 2) (t : Fin 8192) (h : Fin 16) (d : Fin 64) : val_main_v91 (F := Ideal) x0 x1 x2 (ix5 b t 0 h d)
    = val_main_v53 (F := Ideal) x0 x1 x2 (ix4 b t h d) := by
  rw [val_main_v91_apply]
  refine congrArg (val_main_v53 (F := Ideal) x0 x1 x2) (funext fun a => ?_)
  fin_cases a <;> rfl

theorem one_92 (b : Fin 2) (t : Fin 8192) (h : Fin 16) (d : Fin 64) : val_main_v92 (F := Ideal) x0 x1 x2 (ix5 b t 0 h d)
    = val_main_v88 (F := Ideal) x0 x1 x2 (ix4 b t h d) := by
  rw [val_main_v92_apply]
  refine congrArg (val_main_v88 (F := Ideal) x0 x1 x2) (funext fun a => ?_)
  fin_cases a <;> rfl

theorem one_93 (b : Fin 2) (t : Fin 8192) (h : Fin 16) (d : Fin 64) : val_main_v93 (F := Ideal) x0 x1 x2 (ix5 b t 0 h d)
    = val_main_v90 (F := Ideal) x0 x1 x2 (ix4 b t h d) := by
  rw [val_main_v93_apply]
  refine congrArg (val_main_v90 (F := Ideal) x0 x1 x2) (funext fun a => ?_)
  fin_cases a <;> rfl

theorem stack_at (b : Fin 2) (t : Fin 8192) (p : Fin 3) (h : Fin 16) (d : Fin 64) : val_main_v94 (F := Ideal) x0 x1 x2 (ix5 b t p h d)
    = if p.val < 1 then val_main_v53 (F := Ideal) x0 x1 x2 (ix4 b t h d) else if p.val - 1 < 1 then val_main_v88 (F := Ideal) x0 x1 x2 (ix4 b t h d)
      else val_main_v90 (F := Ideal) x0 x1 x2 (ix4 b t h d) := by
  rw [← one_91, ← one_92, ← one_93]
  unfold val_main_v94
  generalize val_main_v91 (F := Ideal) x0 x1 x2 = q
  generalize val_main_v92 (F := Ideal) x0 x1 x2 = k
  generalize val_main_v93 (F := Ideal) x0 x1 x2 = v
  pointwise
  split_ifs <;> first
    | exact congrArg (fun a => q (ix5 b t a h d)) (Subsingleton.elim _ _)
    | exact congrArg (fun a => k (ix5 b t a h d)) (Subsingleton.elim _ _)
    | exact congrArg (fun a => v (ix5 b t a h d)) (Subsingleton.elim _ _)

theorem fold_at (b : Fin 2) (j : Fin 8192) (a : Fin 1) (l : Fin 3072) : val_main_v95 (F := Ideal) x0 x1 x2 (ix4 b j a l)
    = val_main_v94 (F := Ideal) x0 x1 x2 (ix5 b ⟨j.val * 1 + a.val, by omega⟩ ⟨l.val / 1024, by omega⟩ ⟨l.val / 64 % 16, by omega⟩ ⟨l.val % 64, by omega⟩) := by
  pointwise! [val_main_v95]

theorem row_at (b : Fin 2) (a : Fin 1) (j : Fin 8192) (l : Fin 3072) : val_main_v96 (F := Ideal) x0 x1 x2 (ix4 b a j l)
    = Rope.row (Row.norm (fun k => x0 (ix3 b ⟨j.val * 1 + a.val, by omega⟩ k)) fun k => x1 (ix1 k)) (fun k f => x2 (ix2 k ⟨0 * 3072 + f.val, by omega⟩))
        (fun k => Ideal.cos (Rope.angle (j.val * 1 + a.val) k)) (fun k => Ideal.sin (Rope.angle (j.val * 1 + a.val) k)) l := by
  refine Eq.trans (b := val_main_v95 (F := Ideal) x0 x1 x2 (ix4 b j a l)) ?_ ?_
  · rw [val_main_v96_apply]
    refine congrArg (val_main_v95 (F := Ideal) x0 x1 x2) (funext fun a => ?_)
    fin_cases a <;> rfl
  rw [fold_at, stack_at]
  unfold Rope.row
  by_cases h1 : l.val < 1024
  · have c1 : l.val / 1024 < 1 := by omega
    have e : l.val / 64 % 16 * 64 + l.val % 64 = l.val := by omega
    rw [if_pos c1, dif_pos h1, q_at]
    simp only [e]
    rfl
  · have c1 : ¬l.val / 1024 < 1 := by omega
    rw [if_neg c1, dif_neg h1]
    by_cases h2 : l.val < 2048
    · have c2 : l.val / 1024 - 1 < 1 := by omega
      have e : l.val / 64 % 16 * 64 + l.val % 64 = l.val - 1024 := by omega
      rw [if_pos c2, dif_pos h2, k_at]
      simp only [e, z]
    · have c2 : ¬l.val / 1024 - 1 < 1 := by omega
      have e : 2048 + (l.val / 64 % 16 * 64 + l.val % 64) = l.val := by omega
      rw [if_neg c2, dif_neg h2, v_at]
      simp only [e, z]

end Cert.Qkv1RefIdeal.Pure

end
-- ==== Proof.Qkv1Claim.lean ====
module

public import proofs.«01_k».proof.Proof.Qkv1Final
public import proofs.«01_k».proof.Proof.Qkv1Ref
public import proofs.«01_k».proof.Defs

@[expose] public section

set_option maxRecDepth 16384

noncomputable section

namespace Cert.Qkv1Claim

open Idealize.ShloMosaic Idealize.SL.Sem
open Cert.Qkv1Ideal

theorem ref_eq (x : Vec Ideal S2x8192x1024 .f32) (g : Vec Ideal S1024 .f32) (w : Vec Ideal S1024x9216 .f32) :
    Cert.Qkv1RefIdeal.Read.val_main_v96 (F := Ideal) x g w = fun i => Pure.result x g w (i 0) (i 2) (i 3) := by
  funext i
  obtain ⟨b, a, j, l, rfl⟩ : ∃ (b : Fin 2) (a : Fin 1) (j : Fin 8192) (l : Fin 3072), i = ix4 b a j l := ⟨i 0, i 1, i 2, i 3, eq_ix4 i⟩
  refine (Cert.Qkv1RefIdeal.Pure.row_at x g w b a j l).trans ?_
  have hj : j.val * 1 + a.val = j.val := by omega
  have hf : ∀ f : Fin 3072, 0 * 3072 + f.val = f.val := fun f => by omega
  show _ = Pure.result x g w b j l
  unfold Pure.result
  simp only [hj, hf]

theorem same : Cert.algebraic_Qkv1Ideal_Qkv1RefIdeal := by
  pair_intro
  · run_from Cert.Qkv1Ideal.Gen.run_main m g
  · refine θ_run_mono (Cert.Qkv1RefIdeal.Value.run m' g') fun r h c => ⟨(h c).1.trans ?_, (h c).2⟩
    rw [Cert.Qkv1RefIdeal.Read.val_main_v96_eq, (hagree c).1, (hagree c).2.1, (hagree c).2.2, Pure.final]
    exact ref_eq _ _ _

end Cert.Qkv1Claim

end
-- ==== Proof.Qkv4Read.lean ====
module

public import proofs.«01_k».proof.Proof.RopePure
public import proofs.«01_k».proof.Proof.Gen.Qkv4Ideal.Skeleton
public import Idealize.ShloMosaic.Lib.KernelVsHost

@[expose] public section

set_option maxRecDepth 16384

noncomputable section

open Idealize.ShloMosaic

namespace Cert.Qkv4Ideal.Pure

open Cert.Qkv4Ideal Cert.Qkv4Ideal.Gen

/-- One tile of 128 lanes, two heads, turned. -/
def spin (M : IVec S512x128 1) (cs sn X : FVec Ideal S512x128 .f32) : FVec Ideal S512x128 .f32 :=
  addf (mulf X cs) (mulf (select M (dynamicRotate 1 96#32 none X rotates_S512x128_d1)
    (dynamicRotate 1 32#32 none X rotates_S512x128_d1)) sn)

theorem cut : ∀ n : Fin 8, S512x1024.Slices ![0, n.val * 128] S512x128 := by decide

/-- The eight tiles of a row's queries or keys. -/
def wheel (M : IVec S512x128 1) (cs sn : FVec Ideal S512x128 .f32) (Z : FVec Ideal S512x1024 .f32) : FVec Ideal S512x1024 .f32 :=
  concatenate S512x1024 1 (List.ofFn fun n : Fin 8 => ⟨S512x128, spin M cs sn (extractStridedSlice S512x128 ![0, n.val * 128] Z (cut n))⟩)
    concatenates_S512x128_S512x128_S512x128_S512x128_S512x128_S512x128_S512x128_S512x128_S512x1024_d1

theorem mask_at (r : Fin 512) (l : Fin 128) : k0_pay56 (ix2 r l) = if l.val % 64 < 32 then 1#1 else 0#1 := by
  have h : ∀ l : Fin 128, k0_pay56 (ix2 0 l) = if l.val % 64 < 32 then 1#1 else 0#1 := by decide +kernel
  exact h l

theorem forward_at (X : FVec Ideal S512x128 .f32) (r : Fin 512) (l : Fin 128) (h : l.val % 64 < 32) :
    dynamicRotate 1 96#32 none X rotates_S512x128_d1 (ix2 r l) = X (ix2 r ⟨l.val + 32, by omega⟩) := by
  refine dynamicRotate_apply _ _ _ _ _ _ fun b => ?_
  match b with
  | 0 => rfl
  | 1 => show l.val + 32 = (l.val + 128 - 96 % 128) % 128; omega

theorem back_at (X : FVec Ideal S512x128 .f32) (r : Fin 512) (l : Fin 128) (h : ¬l.val % 64 < 32) :
    dynamicRotate 1 32#32 none X rotates_S512x128_d1 (ix2 r l) = X (ix2 r ⟨l.val - 32, by omega⟩) := by
  refine dynamicRotate_apply _ _ _ _ _ _ fun b => ?_
  match b with
  | 0 => rfl
  | 1 => show l.val - 32 = (l.val + 128 - 32 % 128) % 128; omega

theorem spin_at (cs sn X : FVec Ideal S512x128 .f32) (r : Fin 512) (l : Fin 128) :
    spin k0_pay56 cs sn X (ix2 r l) = X (ix2 r l) * cs (ix2 r l)
      + (if h : l.val % 64 < 32 then X (ix2 r ⟨l.val + 32, by omega⟩) else X (ix2 r ⟨l.val - 32, by omega⟩)) * sn (ix2 r l) := by
  refine Eq.trans (b := X (ix2 r l) * cs (ix2 r l) + (if k0_pay56 (ix2 r l) = 1#1 then dynamicRotate 1 96#32 none X rotates_S512x128_d1 (ix2 r l)
    else dynamicRotate 1 32#32 none X rotates_S512x128_d1 (ix2 r l)) * sn (ix2 r l)) rfl ?_
  rw [mask_at]
  by_cases h : l.val % 64 < 32
  · rw [if_pos h, if_pos rfl, dif_pos h, forward_at X r l h]
  · rw [if_neg h, if_neg (by decide), dif_neg h, back_at X r l h]

theorem wheel_at (cs sn : FVec Ideal S512x128 .f32) (Z : FVec Ideal S512x1024 .f32) (r : Fin 512) (l : Fin 1024) :
    wheel k0_pay56 cs sn Z (ix2 r l) = Z (ix2 r l) * cs (ix2 r ⟨l.val % 128, by omega⟩)
      + (if h : l.val % 64 < 32 then Z (ix2 r ⟨l.val + 32, by omega⟩) else Z (ix2 r ⟨l.val - 32, by omega⟩))
          * sn (ix2 r ⟨l.val % 128, by omega⟩) := by
  have e : wheel k0_pay56 cs sn Z (ix2 r l) = spin k0_pay56 cs sn (extractStridedSlice S512x128 ![0, l.val / 128 * 128] Z
      (cut ⟨l.val / 128, by omega⟩)) (ix2 r ⟨l.val % 128, by omega⟩) := by
    refine concatenate_ofFn_apply (t := S512x1024) (s₁ := S512x128) (1 : Fin 2) (fun n : Fin 8 => spin k0_pay56 cs sn (extractStridedSlice S512x128 ![0, n.val * 128] Z (cut n)))
      _ rfl 128 rfl (ix2 r l) ⟨l.val / 128, by omega⟩ rfl _ rfl fun b hb => ?_
    match b with
    | 0 => rfl
    | 1 => exact absurd rfl hb
  have c : ∀ k : Fin 128, (extractStridedSlice S512x128 ![0, l.val / 128 * 128] Z (cut ⟨l.val / 128, by omega⟩)) (ix2 r k)
      = Z (ix2 r ⟨l.val / 128 * 128 + k.val, by omega⟩) := fun k => by
    pointwise
  rw [e, spin_at, c]
  by_cases h : l.val % 64 < 32
  · have h' : l.val % 128 % 64 < 32 := by omega
    rw [dif_pos h', dif_pos h, c]
    congr 3 <;> congr 1 <;> exact Fin.ext (by simp <;> omega)
  · have h' : ¬l.val % 128 % 64 < 32 := by omega
    rw [dif_neg h', dif_neg h, c]
    congr 3 <;> congr 1 <;> exact Fin.ext (by simp <;> omega)

theorem norm_at (X : Vec Ideal S1x512x1024 .f32) (g : Vec Ideal S1x1024 .f32) (r : Fin 512) (k : Fin 1024) :
    k0_pay4 (F := Ideal) X g (ix2 r k) = Row.norm (fun l => X (ix3 0 r l)) (fun l => g (ix2 0 l)) k := by
  unfold Row.norm
  pointwise! [k0_pay4]

theorem proj_at (Y : Vec Ideal S512x1024 .bf16) (W : Vec Ideal S1024x3072 .bf16) (r : Fin 512) (f : Fin 3072) :
    k0_pay54 (F := Ideal) Y W (ix2 r f) = Row.dot (fun l => Y (ix2 r l)) fun l => W (ix2 l f) := by
  unfold Row.dot
  pointwise! [k0_pay54]

/-- The queries' (`o = 0`) or keys' (`o = 1024`) lanes of a block of projected rows, turned. -/
theorem wheel_row (Z : FVec Ideal S512x3072 .f32) (o : ℕ) (ho : S512x3072.Slices ![0, o] S512x1024) (ho' : o ≤ 2048)
    (cs sn : FVec Ideal S512x128 .f32) (c s : Fin 32 → EReal) (r : Fin 512) (l : Fin 1024)
    (hc : ∀ k : Fin 128, cs (ix2 r k) = c ⟨k.val % 32, by omega⟩)
    (hs : ∀ k : Fin 128, sn (ix2 r k) = if k.val % 64 < 32 then -s ⟨k.val % 32, by omega⟩ else s ⟨k.val % 32, by omega⟩) :
    wheel k0_pay56 cs sn (extractStridedSlice S512x1024 ![0, o] Z ho) (ix2 r l)
      = Rope.turn (fun k => Z (ix2 r ⟨o + k.val, by omega⟩)) c s l := by
  have e : ∀ k : Fin 1024, extractStridedSlice S512x1024 ![0, o] Z ho (ix2 r k) = Z (ix2 r ⟨o + k.val, by omega⟩) := fun k => by
    pointwise
  rw [wheel_at, Rope.turn_eq, hc, hs]
  simp only [e]
  have h1 : l.val % 128 % 64 = l.val % 64 := by omega
  have h2 : l.val % 128 % 32 = l.val % 32 := by omega
  simp only [h1, h2]

/-- One row of a block's queries, keys and values, of the block's projected rows, cosines and signed sines. -/
def tile (Z : FVec Ideal S512x3072 .f32) (cs sn : FVec Ideal S512x128 .f32) (r : Fin 512) (l : Fin 3072) : EReal :=
  if h₁ : l.val < 1024 then wheel k0_pay56 cs sn (extractStridedSlice S512x1024 ![0, 0] Z slices_S512x3072_o0_0_S512x1024) (ix2 r ⟨l.val, h₁⟩)
  else if h₂ : l.val < 2048 then wheel k0_pay56 cs sn (extractStridedSlice S512x1024 ![0, 1024] Z slices_S512x3072_o0_1024_S512x1024) (ix2 r ⟨l.val - 1024, by omega⟩)
  else Z (ix2 r l)

theorem tile_at (Y : Vec Ideal S512x1024 .bf16) (W : Vec Ideal S1024x3072 .bf16)
    (cs sn : FVec Ideal S512x128 .f32) (c s : Fin 32 → EReal) (r : Fin 512) (l : Fin 3072)
    (hc : ∀ k : Fin 128, cs (ix2 r k) = c ⟨k.val % 32, by omega⟩)
    (hs : ∀ k : Fin 128, sn (ix2 r k) = if k.val % 64 < 32 then -s ⟨k.val % 32, by omega⟩ else s ⟨k.val % 32, by omega⟩) :
    tile (k0_pay54 (F := Ideal) Y W) cs sn r l = Rope.row (fun k => Y (ix2 r k)) (fun k f => W (ix2 k f)) c s l := by
  unfold tile Rope.row
  split_ifs with h₁ h₂
  · rw [wheel_row _ 0 _ (by omega) cs sn c s r _ hc hs]
    simp only [proj_at, Nat.zero_add]
  · rw [wheel_row _ 1024 _ (by omega) cs sn c s r _ hc hs]
    simp only [proj_at]
  · rw [proj_at]

end Cert.Qkv4Ideal.Pure

end
-- ==== Proof.Qkv4Rows.lean ====
module

public import proofs.«01_k».proof.Proof.Qkv4Read
public import proofs.«01_k».proof.Proof.Gen.Qkv4Ideal.Frame
public import Idealize.ShloMosaic.Lib.Pipeline.ValueKit

@[expose] public section

set_option maxRecDepth 16384

noncomputable section

open Idealize.ShloMosaic

namespace Cert.Qkv4Ideal.Pure

open Cert.Qkv4Ideal Cert.Qkv4Ideal.Gen

/-- The normalized rows as they are set down: eight slabs of 128 lanes, the last one first. -/
def slabs (X : Vec Ideal S1x512x1024 .f32) (g : Vec Ideal S1x1024 .f32) : List (View.Piece (Elt Ideal) S8x512x128 .f32) :=
  [⟨Rect.unit (s := S8x512x128) ![7, 0, 0] S1x512x128.size inb_S8x512x128_S1x512x128_7_0_0, k0_pay13 (k0_pay4 X g)⟩,
   ⟨Rect.unit (s := S8x512x128) ![6, 0, 0] S1x512x128.size inb_S8x512x128_S1x512x128_6_0_0, k0_pay12 (k0_pay4 X g)⟩,
   ⟨Rect.unit (s := S8x512x128) ![5, 0, 0] S1x512x128.size inb_S8x512x128_S1x512x128_5_0_0, k0_pay11 (k0_pay4 X g)⟩,
   ⟨Rect.unit (s := S8x512x128) ![4, 0, 0] S1x512x128.size inb_S8x512x128_S1x512x128_4_0_0, k0_pay10 (k0_pay9 X g)⟩,
   ⟨Rect.unit (s := S8x512x128) ![3, 0, 0] S1x512x128.size inb_S8x512x128_S1x512x128_3_0_0, k0_pay8 X g⟩,
   ⟨Rect.unit (s := S8x512x128) ![2, 0, 0] S1x512x128.size inb_S8x512x128_S1x512x128_2_0_0, k0_pay7 X g⟩,
   ⟨Rect.unit (s := S8x512x128) ![1, 0, 0] S1x512x128.size inb_S8x512x128_S1x512x128_1_0_0, k0_pay6 X g⟩,
   ⟨Rect.unit (s := S8x512x128) ![0, 0, 0] S1x512x128.size inb_S8x512x128_S1x512x128_0_0_0, k0_pay5 X g⟩]

/-- The value of the slabs at an index: the row's lane. -/
def lane (Z : FVec Ideal S512x1024 .f32) (y : S8x512x128.Idx) : EReal :=
  Z (ix2 (y 1) ⟨(y 0).val * 128 + (y 2).val, by
    have h0 : (y 0).val < 8 := (y 0).isLt
    have h2 : (y 2).val < 128 := (y 2).isLt
    omega⟩)

theorem slab (Z : FVec Ideal S512x1024 .f32) (n o : ℕ) (hn : n < 8) (ho : o = n * 128) (hs : S512x1024.Slices ![0, o] S512x128)
    (hc : S512x128.ShapeCasts S1x512x128) (hb : ∀ a, (![n, 0, 0] : Fin 3 → Nat) a + S1x512x128.size a ≤ S8x512x128.size a) (x : S1x512x128.Idx) :
    shapeCast S1x512x128 (extractStridedSlice S512x128 ![0, o] Z hs) hc x = lane Z ((Rect.unit (s := S8x512x128) ![n, 0, 0] S1x512x128.size hb).emb x) := by
  subst ho
  obtain ⟨a, r, l, rfl⟩ : ∃ (a : Fin 1) (r : Fin 512) (l : Fin 128), x = ix3 a r l := ⟨x 0, x 1, x 2, eq_ix3 x⟩
  obtain rfl : a = 0 := by omega
  refine Eq.trans (b := Z (ix2 r ⟨n * 128 + l.val, by omega⟩)) ?_ ?_
  · pointwise
  · unfold lane
    refine congrArg Z (congrArg₂ ix2 (Fin.ext ?_) (Fin.ext ?_))
    · show r.val = 0 + 1 * r.val; omega
    · show n * 128 + l.val = (n + 1 * 0) * 128 + (0 + 1 * l.val); omega

theorem slab_at (X : Vec Ideal S1x512x1024 .f32) (g : Vec Ideal S1x1024 .f32) (y : S8x512x128.Idx) :
    View.canon (slabs X g) y = lane (k0_pay4 X g) y := by
  refine View.canon_apply_of_pieces (lane (k0_pay4 X g)) (slabs X g) ?_ y (View.cover_of_tiledL (slabs X g) S1x512x128.size (by sl_kernel_rfl) y)
  unfold slabs
  refine List.forall_mem_cons.mpr ⟨fun x => slab (k0_pay4 X g) 7 896 (by decide) rfl slices_S512x1024_o0_896_S512x128 shapeCasts_S512x128_S1x512x128 inb_S8x512x128_S1x512x128_7_0_0 x, ?_⟩
  refine List.forall_mem_cons.mpr ⟨fun x => slab (k0_pay4 X g) 6 768 (by decide) rfl slices_S512x1024_o0_768_S512x128 shapeCasts_S512x128_S1x512x128 inb_S8x512x128_S1x512x128_6_0_0 x, ?_⟩
  refine List.forall_mem_cons.mpr ⟨fun x => slab (k0_pay4 X g) 5 640 (by decide) rfl slices_S512x1024_o0_640_S512x128 shapeCasts_S512x128_S1x512x128 inb_S8x512x128_S1x512x128_5_0_0 x, ?_⟩
  refine List.forall_mem_cons.mpr ⟨fun x => slab (k0_pay4 X g) 4 512 (by decide) rfl slices_S512x1024_o0_512_S512x128 shapeCasts_S512x128_S1x512x128 inb_S8x512x128_S1x512x128_4_0_0 x, ?_⟩
  refine List.forall_mem_cons.mpr ⟨fun x => slab (k0_pay4 X g) 3 384 (by decide) rfl slices_S512x1024_o0_384_S512x128 shapeCasts_S512x128_S1x512x128 inb_S8x512x128_S1x512x128_3_0_0 x, ?_⟩
  refine List.forall_mem_cons.mpr ⟨fun x => slab (k0_pay4 X g) 2 256 (by decide) rfl slices_S512x1024_o0_256_S512x128 shapeCasts_S512x128_S1x512x128 inb_S8x512x128_S1x512x128_2_0_0 x, ?_⟩
  refine List.forall_mem_cons.mpr ⟨fun x => slab (k0_pay4 X g) 1 128 (by decide) rfl slices_S512x1024_o0_128_S512x128 shapeCasts_S512x128_S1x512x128 inb_S8x512x128_S1x512x128_1_0_0 x, ?_⟩
  refine List.forall_mem_cons.mpr ⟨fun x => slab (k0_pay4 X g) 0 0 (by decide) rfl slices_S512x1024_o0_0_S512x128 shapeCasts_S512x128_S1x512x128 inb_S8x512x128_S1x512x128_0_0_0 x, ?_⟩
  exact fun p h => absurd h List.not_mem_nil

/-- The gathered rows as they are set down, strip by strip, the last one first. -/
def strips (X : Vec Ideal S1x512x1024 .f32) (g : Vec Ideal S1x1024 .f32) : List (View.Piece (Elt Ideal) S512x1024 .bf16) :=
  [⟨Rect.unit (s := S512x1024) ![384, 896] S128x128.size inb_S512x1024_S128x128_384_896, k0_pay51 ((View.whole cc0_scratch0).readCov (slabs X g) (⟨![7, 3, 0], S1x128x128.size, ![1, 4, 1], inb_S8x512x128_S1x128x128_7_3_0_s_1_4_1⟩ : LoadRect S8x512x128))⟩,
   ⟨Rect.unit (s := S512x1024) ![384, 768] S128x128.size inb_S512x1024_S128x128_384_768, k0_pay50 ((View.whole cc0_scratch0).readCov (slabs X g) (⟨![6, 3, 0], S1x128x128.size, ![1, 4, 1], inb_S8x512x128_S1x128x128_6_3_0_s_1_4_1⟩ : LoadRect S8x512x128))⟩,
   ⟨Rect.unit (s := S512x1024) ![384, 640] S128x128.size inb_S512x1024_S128x128_384_640, k0_pay49 ((View.whole cc0_scratch0).readCov (slabs X g) (⟨![5, 3, 0], S1x128x128.size, ![1, 4, 1], inb_S8x512x128_S1x128x128_5_3_0_s_1_4_1⟩ : LoadRect S8x512x128))⟩,
   ⟨Rect.unit (s := S512x1024) ![384, 512] S128x128.size inb_S512x1024_S128x128_384_512, k0_pay48 ((View.whole cc0_scratch0).readCov (slabs X g) (⟨![4, 3, 0], S1x128x128.size, ![1, 4, 1], inb_S8x512x128_S1x128x128_4_3_0_s_1_4_1⟩ : LoadRect S8x512x128))⟩,
   ⟨Rect.unit (s := S512x1024) ![384, 384] S128x128.size inb_S512x1024_S128x128_384_384, k0_pay47 (k0_pay46 ((View.whole cc0_scratch0).readCov (slabs X g) (⟨![3, 3, 0], S1x128x128.size, ![1, 4, 1], inb_S8x512x128_S1x128x128_3_3_0_s_1_4_1⟩ : LoadRect S8x512x128)))⟩,
   ⟨Rect.unit (s := S512x1024) ![384, 256] S128x128.size inb_S512x1024_S128x128_384_256, k0_pay45 ((View.whole cc0_scratch0).readCov (slabs X g) (⟨![2, 3, 0], S1x128x128.size, ![1, 4, 1], inb_S8x512x128_S1x128x128_2_3_0_s_1_4_1⟩ : LoadRect S8x512x128))⟩,
   ⟨Rect.unit (s := S512x1024) ![384, 128] S128x128.size inb_S512x1024_S128x128_384_128, k0_pay44 ((View.whole cc0_scratch0).readCov (slabs X g) (⟨![1, 3, 0], S1x128x128.size, ![1, 4, 1], inb_S8x512x128_S1x128x128_1_3_0_s_1_4_1⟩ : LoadRect S8x512x128))⟩,
   ⟨Rect.unit (s := S512x1024) ![384, 0] S128x128.size inb_S512x1024_S128x128_384_0, k0_pay43 ((View.whole cc0_scratch0).readCov (slabs X g) (⟨![0, 3, 0], S1x128x128.size, ![1, 4, 1], inb_S8x512x128_S1x128x128_0_3_0_s_1_4_1⟩ : LoadRect S8x512x128))⟩,
   ⟨Rect.unit (s := S512x1024) ![256, 896] S128x128.size inb_S512x1024_S128x128_256_896, k0_pay42 ((View.whole cc0_scratch0).readCov (slabs X g) (⟨![7, 2, 0], S1x128x128.size, ![1, 4, 1], inb_S8x512x128_S1x128x128_7_2_0_s_1_4_1⟩ : LoadRect S8x512x128))⟩,
   ⟨Rect.unit (s := S512x1024) ![256, 768] S128x128.size inb_S512x1024_S128x128_256_768, k0_pay41 (k0_pay40 ((View.whole cc0_scratch0).readCov (slabs X g) (⟨![6, 2, 0], S1x128x128.size, ![1, 4, 1], inb_S8x512x128_S1x128x128_6_2_0_s_1_4_1⟩ : LoadRect S8x512x128)))⟩,
   ⟨Rect.unit (s := S512x1024) ![256, 640] S128x128.size inb_S512x1024_S128x128_256_640, k0_pay39 ((View.whole cc0_scratch0).readCov (slabs X g) (⟨![5, 2, 0], S1x128x128.size, ![1, 4, 1], inb_S8x512x128_S1x128x128_5_2_0_s_1_4_1⟩ : LoadRect S8x512x128))⟩,
   ⟨Rect.unit (s := S512x1024) ![256, 512] S128x128.size inb_S512x1024_S128x128_256_512, k0_pay38 ((View.whole cc0_scratch0).readCov (slabs X g) (⟨![4, 2, 0], S1x128x128.size, ![1, 4, 1], inb_S8x512x128_S1x128x128_4_2_0_s_1_4_1⟩ : LoadRect S8x512x128))⟩,
   ⟨Rect.unit (s := S512x1024) ![256, 384] S128x128.size inb_S512x1024_S128x128_256_384, k0_pay37 ((View.whole cc0_scratch0).readCov (slabs X g) (⟨![3, 2, 0], S1x128x128.size, ![1, 4, 1], inb_S8x512x128_S1x128x128_3_2_0_s_1_4_1⟩ : LoadRect S8x512x128))⟩,
   ⟨Rect.unit (s := S512x1024) ![256, 256] S128x128.size inb_S512x1024_S128x128_256_256, k0_pay36 ((View.whole cc0_scratch0).readCov (slabs X g) (⟨![2, 2, 0], S1x128x128.size, ![1, 4, 1], inb_S8x512x128_S1x128x128_2_2_0_s_1_4_1⟩ : LoadRect S8x512x128))⟩,
   ⟨Rect.unit (s := S512x1024) ![256, 128] S128x128.size inb_S512x1024_S128x128_256_128, k0_pay35 (k0_pay34 ((View.whole cc0_scratch0).readCov (slabs X g) (⟨![1, 2, 0], S1x128x128.size, ![1, 4, 1], inb_S8x512x128_S1x128x128_1_2_0_s_1_4_1⟩ : LoadRect S8x512x128)))⟩,
   ⟨Rect.unit (s := S512x1024) ![256, 0] S128x128.size inb_S512x1024_S128x128_256_0, k0_pay33 ((View.whole cc0_scratch0).readCov (slabs X g) (⟨![0, 2, 0], S1x128x128.size, ![1, 4, 1], inb_S8x512x128_S1x128x128_0_2_0_s_1_4_1⟩ : LoadRect S8x512x128))⟩,
   ⟨Rect.unit (s := S512x1024) ![128, 896] S128x128.size inb_S512x1024_S128x128_128_896, k0_pay32 ((View.whole cc0_scratch0).readCov (slabs X g) (⟨![7, 1, 0], S1x128x128.size, ![1, 4, 1], inb_S8x512x128_S1x128x128_7_1_0_s_1_4_1⟩ : LoadRect S8x512x128))⟩,
   ⟨Rect.unit (s := S512x1024) ![128, 768] S128x128.size inb_S512x1024_S128x128_128_768, k0_pay31 ((View.whole cc0_scratch0).readCov (slabs X g) (⟨![6, 1, 0], S1x128x128.size, ![1, 4, 1], inb_S8x512x128_S1x128x128_6_1_0_s_1_4_1⟩ : LoadRect S8x512x128))⟩,
   ⟨Rect.unit (s := S512x1024) ![128, 640] S128x128.size inb_S512x1024_S128x128_128_640, k0_pay30 ((View.whole cc0_scratch0).readCov (slabs X g) (⟨![5, 1, 0], S1x128x128.size, ![1, 4, 1], inb_S8x512x128_S1x128x128_5_1_0_s_1_4_1⟩ : LoadRect S8x512x128))⟩,
   ⟨Rect.unit (s := S512x1024) ![128, 512] S128x128.size inb_S512x1024_S128x128_128_512, k0_pay29 (k0_pay28 ((View.whole cc0_scratch0).readCov (slabs X g) (⟨![4, 1, 0], S1x128x128.size, ![1, 4, 1], inb_S8x512x128_S1x128x128_4_1_0_s_1_4_1⟩ : LoadRect S8x512x128)))⟩,
   ⟨Rect.unit (s := S512x1024) ![128, 384] S128x128.size inb_S512x1024_S128x128_128_384, k0_pay27 ((View.whole cc0_scratch0).readCov (slabs X g) (⟨![3, 1, 0], S1x128x128.size, ![1, 4, 1], inb_S8x512x128_S1x128x128_3_1_0_s_1_4_1⟩ : LoadRect S8x512x128))⟩,
   ⟨Rect.unit (s := S512x1024) ![128, 256] S128x128.size inb_S512x1024_S128x128_128_256, k0_pay26 ((View.whole cc0_scratch0).readCov (slabs X g) (⟨![2, 1, 0], S1x128x128.size, ![1, 4, 1], inb_S8x512x128_S1x128x128_2_1_0_s_1_4_1⟩ : LoadRect S8x512x128))⟩,
   ⟨Rect.unit (s := S512x1024) ![128, 128] S128x128.size inb_S512x1024_S128x128_128_128, k0_pay25 ((View.whole cc0_scratch0).readCov (slabs X g) (⟨![1, 1, 0], S1x128x128.size, ![1, 4, 1], inb_S8x512x128_S1x128x128_1_1_0_s_1_4_1⟩ : LoadRect S8x512x128))⟩,
   ⟨Rect.unit (s := S512x1024) ![128, 0] S128x128.size inb_S512x1024_S128x128_128_0, k0_pay24 ((View.whole cc0_scratch0).readCov (slabs X g) (⟨![0, 1, 0], S1x128x128.size, ![1, 4, 1], inb_S8x512x128_S1x128x128_0_1_0_s_1_4_1⟩ : LoadRect S8x512x128))⟩,
   ⟨Rect.unit (s := S512x1024) ![0, 896] S128x128.size inb_S512x1024_S128x128_0_896, k0_pay23 (k0_pay22 ((View.whole cc0_scratch0).readCov (slabs X g) (⟨![7, 0, 0], S1x128x128.size, ![1, 4, 1], inb_S8x512x128_S1x128x128_7_0_0_s_1_4_1⟩ : LoadRect S8x512x128)))⟩,
   ⟨Rect.unit (s := S512x1024) ![0, 768] S128x128.size inb_S512x1024_S128x128_0_768, k0_pay21 ((View.whole cc0_scratch0).readCov (slabs X g) (⟨![6, 0, 0], S1x128x128.size, ![1, 4, 1], inb_S8x512x128_S1x128x128_6_0_0_s_1_4_1⟩ : LoadRect S8x512x128))⟩,
   ⟨Rect.unit (s := S512x1024) ![0, 640] S128x128.size inb_S512x1024_S128x128_0_640, k0_pay20 ((View.whole cc0_scratch0).readCov (slabs X g) (⟨![5, 0, 0], S1x128x128.size, ![1, 4, 1], inb_S8x512x128_S1x128x128_5_0_0_s_1_4_1⟩ : LoadRect S8x512x128))⟩,
   ⟨Rect.unit (s := S512x1024) ![0, 512] S128x128.size inb_S512x1024_S128x128_0_512, k0_pay19 ((View.whole cc0_scratch0).readCov (slabs X g) (⟨![4, 0, 0], S1x128x128.size, ![1, 4, 1], inb_S8x512x128_S1x128x128_4_0_0_s_1_4_1⟩ : LoadRect S8x512x128))⟩,
   ⟨Rect.unit (s := S512x1024) ![0, 384] S128x128.size inb_S512x1024_S128x128_0_384, k0_pay18 ((View.whole cc0_scratch0).readCov (slabs X g) (⟨![3, 0, 0], S1x128x128.size, ![1, 4, 1], inb_S8x512x128_S1x128x128_3_0_0_s_1_4_1⟩ : LoadRect S8x512x128))⟩,
   ⟨Rect.unit (s := S512x1024) ![0, 256] S128x128.size inb_S512x1024_S128x128_0_256, k0_pay17 (k0_pay16 ((View.whole cc0_scratch0).readCov (slabs X g) (⟨![2, 0, 0], S1x128x128.size, ![1, 4, 1], inb_S8x512x128_S1x128x128_2_0_0_s_1_4_1⟩ : LoadRect S8x512x128)))⟩,
   ⟨Rect.unit (s := S512x1024) ![0, 128] S128x128.size inb_S512x1024_S128x128_0_128, k0_pay15 ((View.whole cc0_scratch0).readCov (slabs X g) (⟨![1, 0, 0], S1x128x128.size, ![1, 4, 1], inb_S8x512x128_S1x128x128_1_0_0_s_1_4_1⟩ : LoadRect S8x512x128))⟩,
   ⟨Rect.unit (s := S512x1024) ![0, 0] S128x128.size inb_S512x1024_S128x128_0_0, k0_pay14 ((View.whole cc0_scratch0).readCov (slabs X g) (⟨![0, 0, 0], S1x128x128.size, ![1, 4, 1], inb_S8x512x128_S1x128x128_0_0_0_s_1_4_1⟩ : LoadRect S8x512x128))⟩]

/-- The value of the strips at an index: row `q * 128 + r` is row `r * 4 + q` of the block. -/
def turn (Z : FVec Ideal S512x1024 .f32) (y : S512x1024.Idx) : EReal :=
  Z (ix2 ⟨(y 0).val % 128 * 4 + (y 0).val / 128, by
    have h0 : (y 0).val < 512 := (y 0).isLt
    omega⟩ (y 1))

theorem thin (Q : FVec Ideal S1x128x128 .f32) (hc : S1x128x128.ShapeCasts S128x128) (hc' : S128x128.ShapeCasts S128x128) (r : Fin 128) (l : Fin 128) :
    shapeCast S128x128 (truncf .bf16 (shapeCast S128x128 Q hc : FVec Ideal S128x128 .f32) bitsLt_bf16_f32) hc' (ix2 r l) = Q (ix3 0 r l) := by
  pointwise

theorem strip (P : FVec Ideal S1x128x128 .f32 → FVec Ideal S128x128 .bf16) (hP : ∀ Q r l, P Q (ix2 r l) = Q (ix3 0 r l))
    (X : Vec Ideal S1x512x1024 .f32) (g : Vec Ideal S1x1024 .f32) (n q o₁ o₂ : ℕ) (hn : n < 8) (hq : q < 4) (h₁ : o₁ = q * 128) (h₂ : o₂ = n * 128)
    (hb : ∀ a, S1x128x128.size a = 0 ∨ (![n, q, 0] : Fin 3 → Nat) a + (![1, 4, 1] : Fin 3 → Nat) a * (S1x128x128.size a - 1) < S8x512x128.size a)
    (hb' : ∀ a, (![o₁, o₂] : Fin 2 → Nat) a + S128x128.size a ≤ S512x1024.size a) (x : S128x128.Idx) :
    P ((View.whole cc0_scratch0).readCov (slabs X g) (⟨![n, q, 0], S1x128x128.size, ![1, 4, 1], hb⟩ : LoadRect S8x512x128)) x
      = turn (k0_pay4 X g) ((Rect.unit (s := S512x1024) ![o₁, o₂] S128x128.size hb').emb x) := by
  subst h₁ h₂
  have hQ : ∀ (r : Fin 128) (l : Fin 128), ((View.whole cc0_scratch0).readCov (slabs X g) (⟨![n, q, 0], S1x128x128.size, ![1, 4, 1], hb⟩ : LoadRect S8x512x128) : FVec Ideal S1x128x128 .f32) (ix3 0 r l)
      = k0_pay4 X g (ix2 ⟨r.val * 4 + q, by omega⟩ ⟨n * 128 + l.val, by omega⟩) := fun r l => by
    rw [View.readCov_eq_canon']
    refine (slab_at X g _).trans ?_
    unfold lane
    refine congrArg (k0_pay4 X g) (congrArg₂ ix2 (Fin.ext ?_) (Fin.ext ?_))
    · show q + 4 * r.val = r.val * 4 + q; omega
    · show (n + 1 * 0) * 128 + (0 + 1 * l.val) = n * 128 + l.val; omega
  obtain ⟨r, l, rfl⟩ : ∃ (r : Fin 128) (l : Fin 128), x = ix2 r l := ⟨x 0, x 1, eq_ix2 x⟩
  refine Eq.trans (b := k0_pay4 X g (ix2 ⟨r.val * 4 + q, by omega⟩ ⟨n * 128 + l.val, by omega⟩)) ?_ ?_
  · exact (hP _ r l).trans (hQ r l)
  · unfold turn
    refine congrArg (k0_pay4 X g) (congrArg₂ ix2 (Fin.ext ?_) (Fin.ext ?_))
    · show r.val * 4 + q = (q * 128 + 1 * r.val) % 128 * 4 + (q * 128 + 1 * r.val) / 128; omega
    · show n * 128 + l.val = n * 128 + 1 * l.val; omega

/-- A strip holds the rows it names. -/
def Good (X : Vec Ideal S1x512x1024 .f32) (g : Vec Ideal S1x1024 .f32) (p : View.Piece (Elt Ideal) S512x1024 .bf16) : Prop :=
  ∀ x, p.2 x = turn (k0_pay4 X g) (p.1.emb x)

theorem good (P : FVec Ideal S1x128x128 .f32 → FVec Ideal S128x128 .bf16) (hP : ∀ Q r l, P Q (ix2 r l) = Q (ix3 0 r l))
    (X : Vec Ideal S1x512x1024 .f32) (g : Vec Ideal S1x1024 .f32) (n q o₁ o₂ : ℕ) (hn : n < 8) (hq : q < 4) (h₁ : o₁ = q * 128) (h₂ : o₂ = n * 128)
    (hb : ∀ a, S1x128x128.size a = 0 ∨ (![n, q, 0] : Fin 3 → Nat) a + (![1, 4, 1] : Fin 3 → Nat) a * (S1x128x128.size a - 1) < S8x512x128.size a)
    (hb' : ∀ a, (![o₁, o₂] : Fin 2 → Nat) a + S128x128.size a ≤ S512x1024.size a) :
    Good X g ⟨Rect.unit (s := S512x1024) ![o₁, o₂] S128x128.size hb', P ((View.whole cc0_scratch0).readCov (slabs X g) (⟨![n, q, 0], S1x128x128.size, ![1, 4, 1], hb⟩ : LoadRect S8x512x128))⟩ :=
  fun x => strip P hP X g n q o₁ o₂ hn hq h₁ h₂ hb hb' x

/-- The gathered rows, read as a whole. -/
def rows (X : Vec Ideal S1x512x1024 .f32) (g : Vec Ideal S1x1024 .f32) : Vec Ideal S512x1024 .bf16 :=
  (View.whole cc0_scratch1).readCov (strips X g) (Rect.unit (s := S512x1024) ![0, 0] S512x1024.size inb_S512x1024_S512x1024_0_0).toLoadRect

theorem goods (X : Vec Ideal S1x512x1024 .f32) (g : Vec Ideal S1x1024 .f32) : ∀ p ∈ strips X g, Good X g p := by
  unfold strips
  refine List.forall_mem_cons.mpr ⟨good (k0_pay51 (F := Ideal)) (fun Q r l => thin Q _ _ r l) X g 7 3 384 896 (by decide) (by decide) rfl rfl inb_S8x512x128_S1x128x128_7_3_0_s_1_4_1 inb_S512x1024_S128x128_384_896, ?_⟩
  refine List.forall_mem_cons.mpr ⟨good (k0_pay50 (F := Ideal)) (fun Q r l => thin Q _ _ r l) X g 6 3 384 768 (by decide) (by decide) rfl rfl inb_S8x512x128_S1x128x128_6_3_0_s_1_4_1 inb_S512x1024_S128x128_384_768, ?_⟩
  refine List.forall_mem_cons.mpr ⟨good (k0_pay49 (F := Ideal)) (fun Q r l => thin Q _ _ r l) X g 5 3 384 640 (by decide) (by decide) rfl rfl inb_S8x512x128_S1x128x128_5_3_0_s_1_4_1 inb_S512x1024_S128x128_384_640, ?_⟩
  refine List.forall_mem_cons.mpr ⟨good (k0_pay48 (F := Ideal)) (fun Q r l => thin Q _ _ r l) X g 4 3 384 512 (by decide) (by decide) rfl rfl inb_S8x512x128_S1x128x128_4_3_0_s_1_4_1 inb_S512x1024_S128x128_384_512, ?_⟩
  refine List.forall_mem_cons.mpr ⟨good (fun Q => k0_pay47 (F := Ideal) (k0_pay46 (F := Ideal) Q)) (fun Q r l => thin Q _ _ r l) X g 3 3 384 384 (by decide) (by decide) rfl rfl inb_S8x512x128_S1x128x128_3_3_0_s_1_4_1 inb_S512x1024_S128x128_384_384, ?_⟩
  refine List.forall_mem_cons.mpr ⟨good (k0_pay45 (F := Ideal)) (fun Q r l => thin Q _ _ r l) X g 2 3 384 256 (by decide) (by decide) rfl rfl inb_S8x512x128_S1x128x128_2_3_0_s_1_4_1 inb_S512x1024_S128x128_384_256, ?_⟩
  refine List.forall_mem_cons.mpr ⟨good (k0_pay44 (F := Ideal)) (fun Q r l => thin Q _ _ r l) X g 1 3 384 128 (by decide) (by decide) rfl rfl inb_S8x512x128_S1x128x128_1_3_0_s_1_4_1 inb_S512x1024_S128x128_384_128, ?_⟩
  refine List.forall_mem_cons.mpr ⟨good (k0_pay43 (F := Ideal)) (fun Q r l => thin Q _ _ r l) X g 0 3 384 0 (by decide) (by decide) rfl rfl inb_S8x512x128_S1x128x128_0_3_0_s_1_4_1 inb_S512x1024_S128x128_384_0, ?_⟩
  refine List.forall_mem_cons.mpr ⟨good (k0_pay42 (F := Ideal)) (fun Q r l => thin Q _ _ r l) X g 7 2 256 896 (by decide) (by decide) rfl rfl inb_S8x512x128_S1x128x128_7_2_0_s_1_4_1 inb_S512x1024_S128x128_256_896, ?_⟩
  refine List.forall_mem_cons.mpr ⟨good (fun Q => k0_pay41 (F := Ideal) (k0_pay40 (F := Ideal) Q)) (fun Q r l => thin Q _ _ r l) X g 6 2 256 768 (by decide) (by decide) rfl rfl inb_S8x512x128_S1x128x128_6_2_0_s_1_4_1 inb_S512x1024_S128x128_256_768, ?_⟩
  refine List.forall_mem_cons.mpr ⟨good (k0_pay39 (F := Ideal)) (fun Q r l => thin Q _ _ r l) X g 5 2 256 640 (by decide) (by decide) rfl rfl inb_S8x512x128_S1x128x128_5_2_0_s_1_4_1 inb_S512x1024_S128x128_256_640, ?_⟩
  refine List.forall_mem_cons.mpr ⟨good (k0_pay38 (F := Ideal)) (fun Q r l => thin Q _ _ r l) X g 4 2 256 512 (by decide) (by decide) rfl rfl inb_S8x512x128_S1x128x128_4_2_0_s_1_4_1 inb_S512x1024_S128x128_256_512, ?_⟩
  refine List.forall_mem_cons.mpr ⟨good (k0_pay37 (F := Ideal)) (fun Q r l => thin Q _ _ r l) X g 3 2 256 384 (by decide) (by decide) rfl rfl inb_S8x512x128_S1x128x128_3_2_0_s_1_4_1 inb_S512x1024_S128x128_256_384, ?_⟩
  refine List.forall_mem_cons.mpr ⟨good (k0_pay36 (F := Ideal)) (fun Q r l => thin Q _ _ r l) X g 2 2 256 256 (by decide) (by decide) rfl rfl inb_S8x512x128_S1x128x128_2_2_0_s_1_4_1 inb_S512x1024_S128x128_256_256, ?_⟩
  refine List.forall_mem_cons.mpr ⟨good (fun Q => k0_pay35 (F := Ideal) (k0_pay34 (F := Ideal) Q)) (fun Q r l => thin Q _ _ r l) X g 1 2 256 128 (by decide) (by decide) rfl rfl inb_S8x512x128_S1x128x128_1_2_0_s_1_4_1 inb_S512x1024_S128x128_256_128, ?_⟩
  refine List.forall_mem_cons.mpr ⟨good (k0_pay33 (F := Ideal)) (fun Q r l => thin Q _ _ r l) X g 0 2 256 0 (by decide) (by decide) rfl rfl inb_S8x512x128_S1x128x128_0_2_0_s_1_4_1 inb_S512x1024_S128x128_256_0, ?_⟩
  refine List.forall_mem_cons.mpr ⟨good (k0_pay32 (F := Ideal)) (fun Q r l => thin Q _ _ r l) X g 7 1 128 896 (by decide) (by decide) rfl rfl inb_S8x512x128_S1x128x128_7_1_0_s_1_4_1 inb_S512x1024_S128x128_128_896, ?_⟩
  refine List.forall_mem_cons.mpr ⟨good (k0_pay31 (F := Ideal)) (fun Q r l => thin Q _ _ r l) X g 6 1 128 768 (by decide) (by decide) rfl rfl inb_S8x512x128_S1x128x128_6_1_0_s_1_4_1 inb_S512x1024_S128x128_128_768, ?_⟩
  refine List.forall_mem_cons.mpr ⟨good (k0_pay30 (F := Ideal)) (fun Q r l => thin Q _ _ r l) X g 5 1 128 640 (by decide) (by decide) rfl rfl inb_S8x512x128_S1x128x128_5_1_0_s_1_4_1 inb_S512x1024_S128x128_128_640, ?_⟩
  refine List.forall_mem_cons.mpr ⟨good (fun Q => k0_pay29 (F := Ideal) (k0_pay28 (F := Ideal) Q)) (fun Q r l => thin Q _ _ r l) X g 4 1 128 512 (by decide) (by decide) rfl rfl inb_S8x512x128_S1x128x128_4_1_0_s_1_4_1 inb_S512x1024_S128x128_128_512, ?_⟩
  refine List.forall_mem_cons.mpr ⟨good (k0_pay27 (F := Ideal)) (fun Q r l => thin Q _ _ r l) X g 3 1 128 384 (by decide) (by decide) rfl rfl inb_S8x512x128_S1x128x128_3_1_0_s_1_4_1 inb_S512x1024_S128x128_128_384, ?_⟩
  refine List.forall_mem_cons.mpr ⟨good (k0_pay26 (F := Ideal)) (fun Q r l => thin Q _ _ r l) X g 2 1 128 256 (by decide) (by decide) rfl rfl inb_S8x512x128_S1x128x128_2_1_0_s_1_4_1 inb_S512x1024_S128x128_128_256, ?_⟩
  refine List.forall_mem_cons.mpr ⟨good (k0_pay25 (F := Ideal)) (fun Q r l => thin Q _ _ r l) X g 1 1 128 128 (by decide) (by decide) rfl rfl inb_S8x512x128_S1x128x128_1_1_0_s_1_4_1 inb_S512x1024_S128x128_128_128, ?_⟩
  refine List.forall_mem_cons.mpr ⟨good (k0_pay24 (F := Ideal)) (fun Q r l => thin Q _ _ r l) X g 0 1 128 0 (by decide) (by decide) rfl rfl inb_S8x512x128_S1x128x128_0_1_0_s_1_4_1 inb_S512x1024_S128x128_128_0, ?_⟩
  refine List.forall_mem_cons.mpr ⟨good (fun Q => k0_pay23 (F := Ideal) (k0_pay22 (F := Ideal) Q)) (fun Q r l => thin Q _ _ r l) X g 7 0 0 896 (by decide) (by decide) rfl rfl inb_S8x512x128_S1x128x128_7_0_0_s_1_4_1 inb_S512x1024_S128x128_0_896, ?_⟩
  refine List.forall_mem_cons.mpr ⟨good (k0_pay21 (F := Ideal)) (fun Q r l => thin Q _ _ r l) X g 6 0 0 768 (by decide) (by decide) rfl rfl inb_S8x512x128_S1x128x128_6_0_0_s_1_4_1 inb_S512x1024_S128x128_0_768, ?_⟩
  refine List.forall_mem_cons.mpr ⟨good (k0_pay20 (F := Ideal)) (fun Q r l => thin Q _ _ r l) X g 5 0 0 640 (by decide) (by decide) rfl rfl inb_S8x512x128_S1x128x128_5_0_0_s_1_4_1 inb_S512x1024_S128x128_0_640, ?_⟩
  refine List.forall_mem_cons.mpr ⟨good (k0_pay19 (F := Ideal)) (fun Q r l => thin Q _ _ r l) X g 4 0 0 512 (by decide) (by decide) rfl rfl inb_S8x512x128_S1x128x128_4_0_0_s_1_4_1 inb_S512x1024_S128x128_0_512, ?_⟩
  refine List.forall_mem_cons.mpr ⟨good (k0_pay18 (F := Ideal)) (fun Q r l => thin Q _ _ r l) X g 3 0 0 384 (by decide) (by decide) rfl rfl inb_S8x512x128_S1x128x128_3_0_0_s_1_4_1 inb_S512x1024_S128x128_0_384, ?_⟩
  refine List.forall_mem_cons.mpr ⟨good (fun Q => k0_pay17 (F := Ideal) (k0_pay16 (F := Ideal) Q)) (fun Q r l => thin Q _ _ r l) X g 2 0 0 256 (by decide) (by decide) rfl rfl inb_S8x512x128_S1x128x128_2_0_0_s_1_4_1 inb_S512x1024_S128x128_0_256, ?_⟩
  refine List.forall_mem_cons.mpr ⟨good (k0_pay15 (F := Ideal)) (fun Q r l => thin Q _ _ r l) X g 1 0 0 128 (by decide) (by decide) rfl rfl inb_S8x512x128_S1x128x128_1_0_0_s_1_4_1 inb_S512x1024_S128x128_0_128, ?_⟩
  refine List.forall_mem_cons.mpr ⟨good (k0_pay14 (F := Ideal)) (fun Q r l => thin Q _ _ r l) X g 0 0 0 0 (by decide) (by decide) rfl rfl inb_S8x512x128_S1x128x128_0_0_0_s_1_4_1 inb_S512x1024_S128x128_0_0, ?_⟩
  exact fun p h => absurd h List.not_mem_nil

theorem strips_at (X : Vec Ideal S1x512x1024 .f32) (g : Vec Ideal S1x1024 .f32) (y : S512x1024.Idx) :
    View.canon (strips X g) y = turn (k0_pay4 X g) y := by
  refine View.canon_apply_of_pieces (turn (k0_pay4 X g)) (strips X g) ?_ y (View.cover_of_tiledL (strips X g) S128x128.size (by sl_kernel_rfl) y)
  exact goods X g

theorem rows_at (X : Vec Ideal S1x512x1024 .f32) (g : Vec Ideal S1x1024 .f32) (r : Fin 128) (q : Fin 4) (k : Fin 1024) :
    rows X g (ix2 ⟨q.val * 128 + r.val, by omega⟩ k) = k0_pay4 X g (ix2 ⟨r.val * 4 + q.val, by omega⟩ k) := by
  unfold rows
  rw [View.readCov_eq_canon']
  refine (strips_at X g _).trans ?_
  unfold turn
  refine congrArg (k0_pay4 X g) (congrArg₂ ix2 (Fin.ext ?_) (Fin.ext ?_))
  · show (0 + 1 * (q.val * 128 + r.val)) % 128 * 4 + (0 + 1 * (q.val * 128 + r.val)) / 128 = r.val * 4 + q.val; omega
  · show 0 + 1 * k.val = k.val; omega

end Cert.Qkv4Ideal.Pure

end
-- ==== Proof.Qkv4Final.lean ====
module

public import proofs.«01_k».proof.Proof.Qkv4Rows
public import proofs.«01_k».proof.Proof.Gen.Qkv4Ideal.Value
public import Idealize.ShloMosaic.Lib.Pipeline.ValueKit

@[expose] public section

set_option maxRecDepth 16384

noncomputable section

namespace Cert.Qkv4Ideal.Pure

open Cert.Qkv4Ideal Cert.Qkv4Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 16, 0] ∧ win0_1.index t = ![0, 0] ∧ win0_2.index t = ![0, 1]
    ∧ win0_3.index t = ![t.val % 16, 0] ∧ win0_4.index t = ![t.val % 16, 0] ∧ win0_5.index t = ![t.val / 16, 0, t.val % 16, 0] :=
  (by decide +kernel : ∀ t : Fin grid0.N, _)

theorem out_piece (U : FVec Ideal S512x1024 .f32) (q o : ℕ) (hq : q < 4) (ho : o = q * 128) (hs : S512x1024.Slices ![o, 0] S128x1024)
    (hc : S128x1024.ShapeCasts S1x1x128x1024) (r : Fin 128) (k : Fin 1024) :
    shapeCast S1x1x128x1024 (extractStridedSlice S128x1024 ![o, 0] U hs) hc (ix4 0 0 r k) = U (ix2 ⟨q * 128 + r.val, by omega⟩ k) := by
  subst ho
  pointwise

theorem tile_q (Z : FVec Ideal S512x3072 .f32) (cs sn : FVec Ideal S512x128 .f32) (r : Fin 512) (k : Fin 1024) :
    wheel k0_pay56 cs sn (extractStridedSlice S512x1024 ![0, 0] Z slices_S512x3072_o0_0_S512x1024) (ix2 r k) = tile Z cs sn r ⟨k.val, by omega⟩ := by
  unfold tile
  rw [dif_pos k.isLt]

theorem tile_k (Z : FVec Ideal S512x3072 .f32) (cs sn : FVec Ideal S512x128 .f32) (r : Fin 512) (k : Fin 1024) :
    wheel k0_pay56 cs sn (extractStridedSlice S512x1024 ![0, 1024] Z slices_S512x3072_o0_1024_S512x1024) (ix2 r k) = tile Z cs sn r ⟨1024 + k.val, by omega⟩ := by
  unfold tile
  rw [dif_neg (by simp), dif_pos (by simp <;> omega)]
  have e : (⟨1024 + k.val - 1024, by omega⟩ : Fin 1024) = k := Fin.ext (by simp)
  rw [e]

theorem tile_v (Z : FVec Ideal S512x3072 .f32) (cs sn : FVec Ideal S512x128 .f32) (r : Fin 512) (k : Fin 1024) :
    extractStridedSlice S512x1024 ![0, 2048] Z slices_S512x3072_o0_2048_S512x1024 (ix2 r k) = tile Z cs sn r ⟨2048 + k.val, by omega⟩ := by
  unfold tile
  rw [dif_neg (by simp <;> omega), dif_neg (by simp)]
  pointwise

theorem out_0 (Y : Vec Ideal S512x1024 .bf16) (W : Vec Ideal S1024x3072 .bf16) (cs sn : Vec Ideal S512x128 .f32) (r : Fin 128) (k : Fin 1024) :
    k0_pay3 (k0_pay72 (k0_pay54 Y W)) (ix4 0 0 r k) = tile (k0_pay54 Y W) (k0_pay52 cs) (k0_pay53 sn) ⟨3 * 128 + r.val, by omega⟩ ⟨2048 + k.val, by omega⟩ := by
  refine Eq.trans ?_ ((out_piece (extractStridedSlice S512x1024 ![0, 2048] (k0_pay54 Y W) slices_S512x3072_o0_2048_S512x1024) 3 384 (by decide) rfl slices_S512x1024_o384_0_S128x1024 shapeCasts_S128x1024_S1x1x128x1024 r k).trans (tile_v (k0_pay54 Y W) (k0_pay52 cs) (k0_pay53 sn) ⟨3 * 128 + r.val, by omega⟩ k))
  rfl

theorem out_1 (Y : Vec Ideal S512x1024 .bf16) (W : Vec Ideal S1024x3072 .bf16) (cs sn : Vec Ideal S512x128 .f32) (r : Fin 128) (k : Fin 1024) :
    k0_pay2 (k0_pay72 (k0_pay54 Y W)) (ix4 0 0 r k) = tile (k0_pay54 Y W) (k0_pay52 cs) (k0_pay53 sn) ⟨2 * 128 + r.val, by omega⟩ ⟨2048 + k.val, by omega⟩ := by
  refine Eq.trans ?_ ((out_piece (extractStridedSlice S512x1024 ![0, 2048] (k0_pay54 Y W) slices_S512x3072_o0_2048_S512x1024) 2 256 (by decide) rfl slices_S512x1024_o256_0_S128x1024 shapeCasts_S128x1024_S1x1x128x1024 r k).trans (tile_v (k0_pay54 Y W) (k0_pay52 cs) (k0_pay53 sn) ⟨2 * 128 + r.val, by omega⟩ k))
  rfl

theorem out_2 (Y : Vec Ideal S512x1024 .bf16) (W : Vec Ideal S1024x3072 .bf16) (cs sn : Vec Ideal S512x128 .f32) (r : Fin 128) (k : Fin 1024) :
    k0_pay1 (k0_pay83 (k0_pay72 (k0_pay54 Y W))) (ix4 0 0 r k) = tile (k0_pay54 Y W) (k0_pay52 cs) (k0_pay53 sn) ⟨1 * 128 + r.val, by omega⟩ ⟨2048 + k.val, by omega⟩ := by
  refine Eq.trans ?_ ((out_piece (extractStridedSlice S512x1024 ![0, 2048] (k0_pay54 Y W) slices_S512x3072_o0_2048_S512x1024) 1 128 (by decide) rfl slices_S512x1024_o128_0_S128x1024 shapeCasts_S128x1024_S1x1x128x1024 r k).trans (tile_v (k0_pay54 Y W) (k0_pay52 cs) (k0_pay53 sn) ⟨1 * 128 + r.val, by omega⟩ k))
  rfl

theorem out_3 (Y : Vec Ideal S512x1024 .bf16) (W : Vec Ideal S1024x3072 .bf16) (cs sn : Vec Ideal S512x128 .f32) (r : Fin 128) (k : Fin 1024) :
    k0_pay82 (k0_pay72 (k0_pay54 Y W)) (ix4 0 0 r k) = tile (k0_pay54 Y W) (k0_pay52 cs) (k0_pay53 sn) ⟨0 * 128 + r.val, by omega⟩ ⟨2048 + k.val, by omega⟩ := by
  refine Eq.trans ?_ ((out_piece (extractStridedSlice S512x1024 ![0, 2048] (k0_pay54 Y W) slices_S512x3072_o0_2048_S512x1024) 0 0 (by decide) rfl slices_S512x1024_o0_0_S128x1024 shapeCasts_S128x1024_S1x1x128x1024 r k).trans (tile_v (k0_pay54 Y W) (k0_pay52 cs) (k0_pay53 sn) ⟨0 * 128 + r.val, by omega⟩ k))
  rfl

theorem out_4 (Y : Vec Ideal S512x1024 .bf16) (W : Vec Ideal S1024x3072 .bf16) (cs sn : Vec Ideal S512x128 .f32) (r : Fin 128) (k : Fin 1024) :
    k0_pay81 (k0_pay71 (k0_pay52 cs) (k0_pay53 sn) (k0_pay62 (k0_pay54 Y W)) (k0_pay64 ((Scalar.select (Scalar.cmpi .eq 64#32 0#32) 1#32 64#32)) k0_pay63) (k0_pay65 (k0_pay52 cs) (k0_pay53 sn) (k0_pay62 (k0_pay54 Y W)) ((Scalar.select (Scalar.cmpi .eq 64#32 0#32) 1#32 64#32)) k0_pay63) (k0_pay66 (k0_pay52 cs) (k0_pay53 sn) (k0_pay62 (k0_pay54 Y W)) ((Scalar.select (Scalar.cmpi .eq 64#32 0#32) 1#32 64#32)) k0_pay63) (k0_pay67 (k0_pay52 cs) (k0_pay53 sn) (k0_pay62 (k0_pay54 Y W)) ((Scalar.select (Scalar.cmpi .eq 64#32 0#32) 1#32 64#32)) k0_pay63) (k0_pay68 (k0_pay52 cs) (k0_pay53 sn) (k0_pay62 (k0_pay54 Y W)) ((Scalar.select (Scalar.cmpi .eq 64#32 0#32) 1#32 64#32)) k0_pay63) (k0_pay69 (k0_pay62 (k0_pay54 Y W))) (k0_pay70 (k0_pay62 (k0_pay54 Y W)) ((Scalar.select (Scalar.cmpi .eq 64#32 0#32) 1#32 64#32)) k0_pay63)) (ix4 0 0 r k) = tile (k0_pay54 Y W) (k0_pay52 cs) (k0_pay53 sn) ⟨3 * 128 + r.val, by omega⟩ ⟨1024 + k.val, by omega⟩ := by
  refine Eq.trans ?_ ((out_piece (wheel k0_pay56 (k0_pay52 cs) (k0_pay53 sn) (extractStridedSlice S512x1024 ![0, 1024] (k0_pay54 Y W) slices_S512x3072_o0_1024_S512x1024)) 3 384 (by decide) rfl slices_S512x1024_o384_0_S128x1024 shapeCasts_S128x1024_S1x1x128x1024 r k).trans (tile_k (k0_pay54 Y W) (k0_pay52 cs) (k0_pay53 sn) ⟨3 * 128 + r.val, by omega⟩ k))
  rfl

theorem out_5 (Y : Vec Ideal S512x1024 .bf16) (W : Vec Ideal S1024x3072 .bf16) (cs sn : Vec Ideal S512x128 .f32) (r : Fin 128) (k : Fin 1024) :
    k0_pay80 (k0_pay71 (k0_pay52 cs) (k0_pay53 sn) (k0_pay62 (k0_pay54 Y W)) (k0_pay64 ((Scalar.select (Scalar.cmpi .eq 64#32 0#32) 1#32 64#32)) k0_pay63) (k0_pay65 (k0_pay52 cs) (k0_pay53 sn) (k0_pay62 (k0_pay54 Y W)) ((Scalar.select (Scalar.cmpi .eq 64#32 0#32) 1#32 64#32)) k0_pay63) (k0_pay66 (k0_pay52 cs) (k0_pay53 sn) (k0_pay62 (k0_pay54 Y W)) ((Scalar.select (Scalar.cmpi .eq 64#32 0#32) 1#32 64#32)) k0_pay63) (k0_pay67 (k0_pay52 cs) (k0_pay53 sn) (k0_pay62 (k0_pay54 Y W)) ((Scalar.select (Scalar.cmpi .eq 64#32 0#32) 1#32 64#32)) k0_pay63) (k0_pay68 (k0_pay52 cs) (k0_pay53 sn) (k0_pay62 (k0_pay54 Y W)) ((Scalar.select (Scalar.cmpi .eq 64#32 0#32) 1#32 64#32)) k0_pay63) (k0_pay69 (k0_pay62 (k0_pay54 Y W))) (k0_pay70 (k0_pay62 (k0_pay54 Y W)) ((Scalar.select (Scalar.cmpi .eq 64#32 0#32) 1#32 64#32)) k0_pay63)) (ix4 0 0 r k) = tile (k0_pay54 Y W) (k0_pay52 cs) (k0_pay53 sn) ⟨2 * 128 + r.val, by omega⟩ ⟨1024 + k.val, by omega⟩ := by
  refine Eq.trans ?_ ((out_piece (wheel k0_pay56 (k0_pay52 cs) (k0_pay53 sn) (extractStridedSlice S512x1024 ![0, 1024] (k0_pay54 Y W) slices_S512x3072_o0_1024_S512x1024)) 2 256 (by decide) rfl slices_S512x1024_o256_0_S128x1024 shapeCasts_S128x1024_S1x1x128x1024 r k).trans (tile_k (k0_pay54 Y W) (k0_pay52 cs) (k0_pay53 sn) ⟨2 * 128 + r.val, by omega⟩ k))
  rfl

theorem out_6 (Y : Vec Ideal S512x1024 .bf16) (W : Vec Ideal S1024x3072 .bf16) (cs sn : Vec Ideal S512x128 .f32) (r : Fin 128) (k : Fin 1024) :
    k0_pay79 (k0_pay71 (k0_pay52 cs) (k0_pay53 sn) (k0_pay62 (k0_pay54 Y W)) (k0_pay64 ((Scalar.select (Scalar.cmpi .eq 64#32 0#32) 1#32 64#32)) k0_pay63) (k0_pay65 (k0_pay52 cs) (k0_pay53 sn) (k0_pay62 (k0_pay54 Y W)) ((Scalar.select (Scalar.cmpi .eq 64#32 0#32) 1#32 64#32)) k0_pay63) (k0_pay66 (k0_pay52 cs) (k0_pay53 sn) (k0_pay62 (k0_pay54 Y W)) ((Scalar.select (Scalar.cmpi .eq 64#32 0#32) 1#32 64#32)) k0_pay63) (k0_pay67 (k0_pay52 cs) (k0_pay53 sn) (k0_pay62 (k0_pay54 Y W)) ((Scalar.select (Scalar.cmpi .eq 64#32 0#32) 1#32 64#32)) k0_pay63) (k0_pay68 (k0_pay52 cs) (k0_pay53 sn) (k0_pay62 (k0_pay54 Y W)) ((Scalar.select (Scalar.cmpi .eq 64#32 0#32) 1#32 64#32)) k0_pay63) (k0_pay69 (k0_pay62 (k0_pay54 Y W))) (k0_pay70 (k0_pay62 (k0_pay54 Y W)) ((Scalar.select (Scalar.cmpi .eq 64#32 0#32) 1#32 64#32)) k0_pay63)) (ix4 0 0 r k) = tile (k0_pay54 Y W) (k0_pay52 cs) (k0_pay53 sn) ⟨1 * 128 + r.val, by omega⟩ ⟨1024 + k.val, by omega⟩ := by
  refine Eq.trans ?_ ((out_piece (wheel k0_pay56 (k0_pay52 cs) (k0_pay53 sn) (extractStridedSlice S512x1024 ![0, 1024] (k0_pay54 Y W) slices_S512x3072_o0_1024_S512x1024)) 1 128 (by decide) rfl slices_S512x1024_o128_0_S128x1024 shapeCasts_S128x1024_S1x1x128x1024 r k).trans (tile_k (k0_pay54 Y W) (k0_pay52 cs) (k0_pay53 sn) ⟨1 * 128 + r.val, by omega⟩ k))
  rfl

theorem out_7 (Y : Vec Ideal S512x1024 .bf16) (W : Vec Ideal S1024x3072 .bf16) (cs sn : Vec Ideal S512x128 .f32) (r : Fin 128) (k : Fin 1024) :
    k0_pay78 (k0_pay71 (k0_pay52 cs) (k0_pay53 sn) (k0_pay62 (k0_pay54 Y W)) (k0_pay64 ((Scalar.select (Scalar.cmpi .eq 64#32 0#32) 1#32 64#32)) k0_pay63) (k0_pay65 (k0_pay52 cs) (k0_pay53 sn) (k0_pay62 (k0_pay54 Y W)) ((Scalar.select (Scalar.cmpi .eq 64#32 0#32) 1#32 64#32)) k0_pay63) (k0_pay66 (k0_pay52 cs) (k0_pay53 sn) (k0_pay62 (k0_pay54 Y W)) ((Scalar.select (Scalar.cmpi .eq 64#32 0#32) 1#32 64#32)) k0_pay63) (k0_pay67 (k0_pay52 cs) (k0_pay53 sn) (k0_pay62 (k0_pay54 Y W)) ((Scalar.select (Scalar.cmpi .eq 64#32 0#32) 1#32 64#32)) k0_pay63) (k0_pay68 (k0_pay52 cs) (k0_pay53 sn) (k0_pay62 (k0_pay54 Y W)) ((Scalar.select (Scalar.cmpi .eq 64#32 0#32) 1#32 64#32)) k0_pay63) (k0_pay69 (k0_pay62 (k0_pay54 Y W))) (k0_pay70 (k0_pay62 (k0_pay54 Y W)) ((Scalar.select (Scalar.cmpi .eq 64#32 0#32) 1#32 64#32)) k0_pay63)) (ix4 0 0 r k) = tile (k0_pay54 Y W) (k0_pay52 cs) (k0_pay53 sn) ⟨0 * 128 + r.val, by omega⟩ ⟨1024 + k.val, by omega⟩ := by
  refine Eq.trans ?_ ((out_piece (wheel k0_pay56 (k0_pay52 cs) (k0_pay53 sn) (extractStridedSlice S512x1024 ![0, 1024] (k0_pay54 Y W) slices_S512x3072_o0_1024_S512x1024)) 0 0 (by decide) rfl slices_S512x1024_o0_0_S128x1024 shapeCasts_S128x1024_S1x1x128x1024 r k).trans (tile_k (k0_pay54 Y W) (k0_pay52 cs) (k0_pay53 sn) ⟨0 * 128 + r.val, by omega⟩ k))
  rfl

theorem out_8 (Y : Vec Ideal S512x1024 .bf16) (W : Vec Ideal S1024x3072 .bf16) (cs sn : Vec Ideal S512x128 .f32) (r : Fin 128) (k : Fin 1024) :
    k0_pay77 (k0_pay76 (k0_pay61 (k0_pay52 cs) (k0_pay53 sn) (k0_pay55 Y W) k0_pay56 (k0_pay57 Y W cs sn) (k0_pay58 Y W cs sn) (k0_pay59 Y W) (k0_pay60 Y W) 32#32)) (ix4 0 0 r k) = tile (k0_pay54 Y W) (k0_pay52 cs) (k0_pay53 sn) ⟨3 * 128 + r.val, by omega⟩ ⟨k.val, by omega⟩ := by
  refine Eq.trans ?_ ((out_piece (wheel k0_pay56 (k0_pay52 cs) (k0_pay53 sn) (extractStridedSlice S512x1024 ![0, 0] (k0_pay54 Y W) slices_S512x3072_o0_0_S512x1024)) 3 384 (by decide) rfl slices_S512x1024_o384_0_S128x1024 shapeCasts_S128x1024_S1x1x128x1024 r k).trans (tile_q (k0_pay54 Y W) (k0_pay52 cs) (k0_pay53 sn) ⟨3 * 128 + r.val, by omega⟩ k))
  rfl

theorem out_9 (Y : Vec Ideal S512x1024 .bf16) (W : Vec Ideal S1024x3072 .bf16) (cs sn : Vec Ideal S512x128 .f32) (r : Fin 128) (k : Fin 1024) :
    k0_pay75 (k0_pay61 (k0_pay52 cs) (k0_pay53 sn) (k0_pay55 Y W) k0_pay56 (k0_pay57 Y W cs sn) (k0_pay58 Y W cs sn) (k0_pay59 Y W) (k0_pay60 Y W) 32#32) (ix4 0 0 r k) = tile (k0_pay54 Y W) (k0_pay52 cs) (k0_pay53 sn) ⟨2 * 128 + r.val, by omega⟩ ⟨k.val, by omega⟩ := by
  refine Eq.trans ?_ ((out_piece (wheel k0_pay56 (k0_pay52 cs) (k0_pay53 sn) (extractStridedSlice S512x1024 ![0, 0] (k0_pay54 Y W) slices_S512x3072_o0_0_S512x1024)) 2 256 (by decide) rfl slices_S512x1024_o256_0_S128x1024 shapeCasts_S128x1024_S1x1x128x1024 r k).trans (tile_q (k0_pay54 Y W) (k0_pay52 cs) (k0_pay53 sn) ⟨2 * 128 + r.val, by omega⟩ k))
  rfl

theorem out_10 (Y : Vec Ideal S512x1024 .bf16) (W : Vec Ideal S1024x3072 .bf16) (cs sn : Vec Ideal S512x128 .f32) (r : Fin 128) (k : Fin 1024) :
    k0_pay74 (k0_pay61 (k0_pay52 cs) (k0_pay53 sn) (k0_pay55 Y W) k0_pay56 (k0_pay57 Y W cs sn) (k0_pay58 Y W cs sn) (k0_pay59 Y W) (k0_pay60 Y W) 32#32) (ix4 0 0 r k) = tile (k0_pay54 Y W) (k0_pay52 cs) (k0_pay53 sn) ⟨1 * 128 + r.val, by omega⟩ ⟨k.val, by omega⟩ := by
  refine Eq.trans ?_ ((out_piece (wheel k0_pay56 (k0_pay52 cs) (k0_pay53 sn) (extractStridedSlice S512x1024 ![0, 0] (k0_pay54 Y W) slices_S512x3072_o0_0_S512x1024)) 1 128 (by decide) rfl slices_S512x1024_o128_0_S128x1024 shapeCasts_S128x1024_S1x1x128x1024 r k).trans (tile_q (k0_pay54 Y W) (k0_pay52 cs) (k0_pay53 sn) ⟨1 * 128 + r.val, by omega⟩ k))
  rfl

theorem out_11 (Y : Vec Ideal S512x1024 .bf16) (W : Vec Ideal S1024x3072 .bf16) (cs sn : Vec Ideal S512x128 .f32) (r : Fin 128) (k : Fin 1024) :
    k0_pay73 (k0_pay61 (k0_pay52 cs) (k0_pay53 sn) (k0_pay55 Y W) k0_pay56 (k0_pay57 Y W cs sn) (k0_pay58 Y W cs sn) (k0_pay59 Y W) (k0_pay60 Y W) 32#32) (ix4 0 0 r k) = tile (k0_pay54 Y W) (k0_pay52 cs) (k0_pay53 sn) ⟨0 * 128 + r.val, by omega⟩ ⟨k.val, by omega⟩ := by
  refine Eq.trans ?_ ((out_piece (wheel k0_pay56 (k0_pay52 cs) (k0_pay53 sn) (extractStridedSlice S512x1024 ![0, 0] (k0_pay54 Y W) slices_S512x3072_o0_0_S512x1024)) 0 0 (by decide) rfl slices_S512x1024_o0_0_S128x1024 shapeCasts_S128x1024_S1x1x128x1024 r k).trans (tile_q (k0_pay54 Y W) (k0_pay52 cs) (k0_pay53 sn) ⟨0 * 128 + r.val, by omega⟩ k))
  rfl

theorem block (c : Dev nD) (t : Fin cfg0.N) (q : Fin 4) (r : Fin 128) (l : Fin 3072) :
    outsAt0 m c t (ix4 0 q r l) = tile (k0_pay54 (rows (iblk m c 0 t) (iblk m c 1 t)) (iblk m c 2 t)) (k0_pay52 (iblk m c 3 t)) (k0_pay53 (iblk m c 4 t)) ⟨q.val * 128 + r.val, by omega⟩ l := by
  unfold outsAt0; frame_out
  canon_tiles x h
  all_goals
    obtain ⟨a, b, r', k, rfl⟩ : ∃ (a b : Fin 1) (r' : Fin 128) (k : Fin 1024), x = ix4 a b r' k := ⟨x 0, x 1, x 2, x 3, eq_ix4 x⟩
    obtain rfl : a = 0 := by omega
    obtain rfl : b = 0 := by omega
    obtain rfl : r = r' := Fin.ext h2
  · obtain rfl : q = 3 := Fin.ext h1
    rw [show l = ⟨2048 + k.val, by omega⟩ from Fin.ext h3]
    refine (out_0 _ (iblk m c 2 t) (iblk m c 3 t) (iblk m c 4 t) r k).trans ?_
    sl_kernel_rfl
  · obtain rfl : q = 2 := Fin.ext h1
    rw [show l = ⟨2048 + k.val, by omega⟩ from Fin.ext h3]
    refine (out_1 _ (iblk m c 2 t) (iblk m c 3 t) (iblk m c 4 t) r k).trans ?_
    sl_kernel_rfl
  · obtain rfl : q = 1 := Fin.ext h1
    rw [show l = ⟨2048 + k.val, by omega⟩ from Fin.ext h3]
    refine (out_2 _ (iblk m c 2 t) (iblk m c 3 t) (iblk m c 4 t) r k).trans ?_
    sl_kernel_rfl
  · obtain rfl : q = 0 := Fin.ext h1
    rw [show l = ⟨2048 + k.val, by omega⟩ from Fin.ext h3]
    refine (out_3 _ (iblk m c 2 t) (iblk m c 3 t) (iblk m c 4 t) r k).trans ?_
    sl_kernel_rfl
  · obtain rfl : q = 3 := Fin.ext h1
    rw [show l = ⟨1024 + k.val, by omega⟩ from Fin.ext h3]
    refine (out_4 _ (iblk m c 2 t) (iblk m c 3 t) (iblk m c 4 t) r k).trans ?_
    sl_kernel_rfl
  · obtain rfl : q = 2 := Fin.ext h1
    rw [show l = ⟨1024 + k.val, by omega⟩ from Fin.ext h3]
    refine (out_5 _ (iblk m c 2 t) (iblk m c 3 t) (iblk m c 4 t) r k).trans ?_
    sl_kernel_rfl
  · obtain rfl : q = 1 := Fin.ext h1
    rw [show l = ⟨1024 + k.val, by omega⟩ from Fin.ext h3]
    refine (out_6 _ (iblk m c 2 t) (iblk m c 3 t) (iblk m c 4 t) r k).trans ?_
    sl_kernel_rfl
  · obtain rfl : q = 0 := Fin.ext h1
    rw [show l = ⟨1024 + k.val, by omega⟩ from Fin.ext h3]
    refine (out_7 _ (iblk m c 2 t) (iblk m c 3 t) (iblk m c 4 t) r k).trans ?_
    sl_kernel_rfl
  · obtain rfl : q = 3 := Fin.ext h1
    rw [show l = ⟨k.val, by omega⟩ from Fin.ext h3]
    refine (out_8 _ (iblk m c 2 t) (iblk m c 3 t) (iblk m c 4 t) r k).trans ?_
    sl_kernel_rfl
  · obtain rfl : q = 2 := Fin.ext h1
    rw [show l = ⟨k.val, by omega⟩ from Fin.ext h3]
    refine (out_9 _ (iblk m c 2 t) (iblk m c 3 t) (iblk m c 4 t) r k).trans ?_
    sl_kernel_rfl
  · obtain rfl : q = 1 := Fin.ext h1
    rw [show l = ⟨k.val, by omega⟩ from Fin.ext h3]
    refine (out_10 _ (iblk m c 2 t) (iblk m c 3 t) (iblk m c 4 t) r k).trans ?_
    sl_kernel_rfl
  · obtain rfl : q = 0 := Fin.ext h1
    rw [show l = ⟨k.val, by omega⟩ from Fin.ext h3]
    refine (out_11 _ (iblk m c 2 t) (iblk m c 3 t) (iblk m c 4 t) r k).trans ?_
    sl_kernel_rfl

theorem in0 (c : Dev nD) (t : Fin cfg0.N) (r : Fin 512) (k : Fin 1024) :
    (iblk m c 0 t : Vec Ideal S1x512x1024 .f32) (ix3 0 r k) = (m ((c : Thread nD τ).loc main_arg0) : Vec Ideal S2x8192x1024 .f32)
      (ix3 ⟨t.val / 16, by have := t.isLt; have : cfg0.N = 32 := N_0; omega⟩ ⟨t.val % 16 * 512 + r.val, by omega⟩ k) := by
  blk_point [iblk, V, idx t]

theorem in1 (c : Dev nD) (t : Fin cfg0.N) (k : Fin 1024) :
    (iblk m c 1 t : Vec Ideal S1x1024 .f32) (ix2 0 k) = m ((c : Thread nD τ).loc main_arg1) (ix1 k) := by
  blk_point [iblk, idx t]

theorem in2 (c : Dev nD) (t : Fin cfg0.N) (l : Fin 1024) (f : Fin 3072) :
    (iblk m c 2 t : Vec Ideal S1024x3072 .bf16) (ix2 l f) = (m ((c : Thread nD τ).loc main_arg2) : Vec Ideal S1024x9216 .f32) (ix2 l ⟨1 * 3072 + f.val, by omega⟩) := by
  blk_point [iblk, idx t]

/-- The position whose angles row `p` of the tables holds. -/
def place (p : Fin 8192) : ℕ := p.val / 512 * 512 + p.val % 128 * 4 + p.val / 128 % 4

theorem place_lt (p : Fin 8192) : place p < 8192 := by unfold place; omega

theorem place_at (t r q : ℕ) (hr : r < 128) (hq : q < 4) (h : t % 16 * 512 + (q * 128 + r) < 8192) :
    place ⟨t % 16 * 512 + (q * 128 + r), h⟩ = (t % 16 * 128 + r) * 4 + q := by
  show (t % 16 * 512 + (q * 128 + r)) / 512 * 512 + (t % 16 * 512 + (q * 128 + r)) % 128 * 4 + (t % 16 * 512 + (q * 128 + r)) / 128 % 4 = _
  omega

theorem cos_at (c : Dev nD) (p : Fin 8192) (k : Fin 128) :
    (V m c main_v22 : Vec Ideal S8192x128 .f32) (ix2 p k) = Ideal.cos (Rope.angle (place p) ⟨k.val % 32, by omega⟩) := by
  unfold Rope.angle place
  entry_read
  pointwise
  by_cases h : k.val % 64 < 32
  · have e : k.val % 64 = k.val % 32 := by omega
    rw [dif_pos h, e]
  · have e : k.val % 64 - 32 = k.val % 32 := by omega
    rw [dif_neg h, e]

theorem sin_at (c : Dev nD) (p : Fin 8192) (k : Fin 128) :
    (V m c main_v27 : Vec Ideal S8192x128 .f32) (ix2 p k) = if k.val % 64 < 32 then -Ideal.sin (Rope.angle (place p) ⟨k.val % 32, by omega⟩)
      else Ideal.sin (Rope.angle (place p) ⟨k.val % 32, by omega⟩) := by
  unfold Rope.angle place
  entry_read
  pointwise
  by_cases h : k.val % 64 < 32
  · have e : k.val % 64 = k.val % 32 := by omega
    rw [dif_pos h, if_pos h, e]
  · have e : k.val % 64 - 32 = k.val % 32 := by omega
    rw [dif_neg h, if_neg h, e]

theorem in3 (c : Dev nD) (t : Fin cfg0.N) (r : Fin 512) (k : Fin 128) :
    k0_pay52 (F := Ideal) (iblk m c 3 t) (ix2 r k) = Ideal.cos (Rope.angle (place ⟨t.val % 16 * 512 + r.val, by omega⟩) ⟨k.val % 32, by omega⟩) := by
  refine Eq.trans ?_ (cos_at m c ⟨t.val % 16 * 512 + r.val, by omega⟩ k)
  unfold k0_pay52
  pointwise
  generalize hV : V m c main_v22 = A
  refine Eq.trans (b := ((cfg0.win 3).blk t).view.read (Elt Ideal) A (ix2 r k)) (by rw [← hV]; rfl) ?_
  blk_ext [idx t]

theorem in4 (c : Dev nD) (t : Fin cfg0.N) (r : Fin 512) (k : Fin 128) :
    k0_pay53 (F := Ideal) (iblk m c 4 t) (ix2 r k) = if k.val % 64 < 32 then -Ideal.sin (Rope.angle (place ⟨t.val % 16 * 512 + r.val, by omega⟩) ⟨k.val % 32, by omega⟩)
      else Ideal.sin (Rope.angle (place ⟨t.val % 16 * 512 + r.val, by omega⟩) ⟨k.val % 32, by omega⟩) := by
  refine Eq.trans ?_ (sin_at m c ⟨t.val % 16 * 512 + r.val, by omega⟩ k)
  unfold k0_pay53
  pointwise
  generalize hV : V m c main_v27 = A
  refine Eq.trans (b := ((cfg0.win 4).blk t).view.read (Elt Ideal) A (ix2 r k)) (by rw [← hV]; rfl) ?_
  blk_ext [idx t]

/-- The result's entry, of the three arguments: row `j` of stream `q` is position `j * 4 + q`. -/
def result (x : Vec Ideal S2x8192x1024 .f32) (g : Vec Ideal S1024 .f32) (w : Vec Ideal S1024x9216 .f32) (b : Fin 2) (q : Fin 4) (j : Fin 2048) (l : Fin 3072) : EReal :=
  Rope.row (Row.norm (fun k => x (ix3 b ⟨j.val * 4 + q.val, by omega⟩ k)) fun k => g (ix1 k)) (fun k f => w (ix2 k ⟨1 * 3072 + f.val, by omega⟩))
    (fun k => Ideal.cos (Rope.angle (j.val * 4 + q.val) k)) (fun k => Ideal.sin (Rope.angle (j.val * 4 + q.val) k)) l

theorem entry (c : Dev nD) (t : Fin cfg0.N) (q : Fin 4) (r : Fin 128) (l : Fin 3072) : outsAt0 m c t (ix4 0 q r l)
    = result (m ((c : Thread nD τ).loc main_arg0)) (m ((c : Thread nD τ).loc main_arg1)) (m ((c : Thread nD τ).loc main_arg2))
        ⟨t.val / 16, by have := t.isLt; have : cfg0.N = 32 := N_0; omega⟩ q ⟨t.val % 16 * 128 + r.val, by omega⟩ l := by
  have hp := place_at t.val r.val q.val r.isLt q.isLt (by omega)
  rw [block, tile_at _ _ _ _ (fun k => Ideal.cos (Rope.angle ((t.val % 16 * 128 + r.val) * 4 + q.val) k)) (fun k => Ideal.sin (Rope.angle ((t.val % 16 * 128 + r.val) * 4 + q.val) k)) ⟨q.val * 128 + r.val, by omega⟩ l
    (fun k => by rw [← hp]; exact in3 m c t ⟨q.val * 128 + r.val, by omega⟩ k) (fun k => by rw [← hp]; exact in4 m c t ⟨q.val * 128 + r.val, by omega⟩ k)]
  have hx : ∀ h : t.val % 16 * 512 + (r.val * 4 + q.val) < 8192, (⟨t.val % 16 * 512 + (r.val * 4 + q.val), h⟩ : Fin 8192) = ⟨(t.val % 16 * 128 + r.val) * 4 + q.val, by omega⟩ :=
    fun h => Fin.ext (by show t.val % 16 * 512 + (r.val * 4 + q.val) = (t.val % 16 * 128 + r.val) * 4 + q.val; omega)
  simp only [rows_at, norm_at, in0, in1, in2, hx]
  rfl

theorem final (c : Dev nD) : (dats m 0 c).arrAt 5 (cfgs 0).N = fun i =>
    result (m ((c : Thread nD τ).loc main_arg0)) (m ((c : Thread nD τ).loc main_arg1)) (m ((c : Thread nD τ).loc main_arg2)) (i 0) (i 1) (i 2) (i 3) := by
  refine (dats m 0 c).arrAt_eq_of_covers 5 _ (by decide +kernel) fun t hf y => ?_
  blk_simp
  obtain ⟨a, q, r, l, rfl⟩ : ∃ (a : Fin 1) (q : Fin 4) (r : Fin 128) (l : Fin 3072), y = ix4 a q r l := ⟨y 0, y 1, y 2, y 3, eq_ix4 y⟩
  obtain rfl : a = 0 := by omega
  rw [after0_5]
  refine (entry m c t q r l).trans ?_
  have e : ∀ (b b' : Fin 2) (q q' : Fin 4) (p p' : Fin 2048) (l l' : Fin 3072), b = b' → q = q' → p = p' → l = l' →
      result (m ((c : Thread nD τ).loc main_arg0)) (m ((c : Thread nD τ).loc main_arg1)) (m ((c : Thread nD τ).loc main_arg2)) b q p l
        = result (m ((c : Thread nD τ).loc main_arg0)) (m ((c : Thread nD τ).loc main_arg1)) (m ((c : Thread nD τ).loc main_arg2)) b' q' p' l' := by
    rintro _ _ _ _ _ _ _ _ rfl rfl rfl rfl; rfl
  refine e _ _ _ _ _ _ _ _ (Fin.ext ?_) (Fin.ext ?_) (Fin.ext ?_) (Fin.ext ?_)
  all_goals (blk_simp [idx t] <;> first | omega | simp)

end Cert.Qkv4Ideal.Pure

end
-- ==== Proof.Qkv4Ref.lean ====
module

public import proofs.«01_k».proof.Proof.RopePure
public import proofs.«01_k».proof.Proof.Gen.Qkv4RefIdeal.Read

@[expose] public section

set_option maxRecDepth 16384

noncomputable section

namespace Cert.Qkv4RefIdeal.Pure

open Cert.Qkv4RefIdeal Cert.Qkv4RefIdeal.Gen Cert.Qkv4RefIdeal.Read Idealize.ShloMosaic

variable (x0 : FVec Ideal S2x8192x1024 .f32) (x1 : FVec Ideal S1024 .f32) (x2 : FVec Ideal S1024x9216 .f32)

theorem norm_at (b : Fin 2) (t : Fin 8192) (k : Fin 1024) :
    val_main_v13 (F := Ideal) x0 x1 (ix3 b t k) = Row.norm (fun l => x0 (ix3 b t l)) (fun l => x1 (ix1 l)) k := by
  unfold Row.norm
  pointwise! [val_main_v13, val_main_v12, val_main_v11, val_main_v10, val_main_v9, val_main_v8, val_main_v7, val_main_v6, val_main_v5,
    val_main_cst_1, val_main_v4, val_main_v3, val_main_cst_0, val_main_v2, val_main_v1, val_main_cst]

/-- A row's projection to the group's lane `f`. -/
def z (b : Fin 2) (t : Fin 8192) (f : Fin 3072) : EReal :=
  Row.dot (Row.norm (fun l => x0 (ix3 b t l)) fun l => x1 (ix1 l)) fun l => x2 (ix2 l ⟨1 * 3072 + f.val, by omega⟩)

theorem proj_at (b : Fin 2) (t : Fin 8192) (f : Fin 3072) : val_main_v16 (F := Ideal) x0 x1 x2 (ix3 b t f) = z x0 x1 x2 b t f := by
  unfold z Row.dot
  simp only [← norm_at]
  pointwise! [val_main_v16, val_main_v14]

theorem parts_at (b : Fin 2) (t : Fin 8192) (p : Fin 3) (h : Fin 16) (d : Fin 64) :
    val_main_v18 (F := Ideal) x0 x1 x2 (ix5 b t p h d) = z x0 x1 x2 b t ⟨p.val * 1024 + (h.val * 64 + d.val), by omega⟩ := by
  rw [← proj_at]
  pointwise [val_main_v18]
  exact congrArg (fun f => val_main_v16 (F := Ideal) x0 x1 x2 (ix3 b t f)) (Fin.ext (by simp <;> omega))

theorem angle_at (t : Fin 8192) (k : Fin 32) : val_main_v32 (F := Ideal) (ix2 t k) = Rope.angle t.val k := by
  unfold Rope.angle
  pointwise! [val_main_v32, val_main_v31, val_main_v30, val_main_v29, val_main_v28, val_main_v27, val_main_v26, val_main_v25, val_main_cst_3,
    val_main_v24, val_main_v23, val_main_cst_2, val_main_v22, val_main_v21, val_main_v0]

theorem angle_at' (t : Fin 8192) (k : Fin 32) : val_main_v67 (F := Ideal) (ix2 t k) = Rope.angle t.val k := by
  unfold Rope.angle
  pointwise! [val_main_v67, val_main_v66, val_main_v65, val_main_v64, val_main_v63, val_main_v62, val_main_v61, val_main_v60, val_main_cst_5,
    val_main_v59, val_main_v58, val_main_cst_4, val_main_v57, val_main_v56, val_main_v0]

/-! The queries. -/

theorem q_in (b : Fin 2) (t : Fin 8192) (h : Fin 16) (d : Fin 64) : val_main_v20 (F := Ideal) x0 x1 x2 (ix4 b t h d)
    = z x0 x1 x2 b t ⟨h.val * 64 + d.val, by omega⟩ := by
  pointwise [val_main_v20, val_main_v19]
  rw [parts_at]
  exact congrArg (z x0 x1 x2 b t) (Fin.ext (by simp))

theorem q_lo (b : Fin 2) (t : Fin 8192) (h : Fin 16) (k : Fin 32) : val_main_v37 (F := Ideal) x0 x1 x2 (ix4 b t h k)
    = z x0 x1 x2 b t ⟨h.val * 64 + k.val, by omega⟩ := by
  refine Eq.trans (b := val_main_v20 (F := Ideal) x0 x1 x2 (ix4 b t h ⟨k.val, by omega⟩)) ?_ (q_in x0 x1 x2 b t h ⟨k.val, by omega⟩)
  rw [val_main_v37_apply]
  refine congrArg (val_main_v20 (F := Ideal) x0 x1 x2) (funext fun a => ?_)
  fin_cases a <;> rfl

theorem q_hi (b : Fin 2) (t : Fin 8192) (h : Fin 16) (k : Fin 32) : val_main_v38 (F := Ideal) x0 x1 x2 (ix4 b t h k)
    = z x0 x1 x2 b t ⟨h.val * 64 + (32 + k.val), by omega⟩ := by
  refine Eq.trans (b := val_main_v20 (F := Ideal) x0 x1 x2 (ix4 b t h ⟨32 + k.val, by omega⟩)) ?_ (q_in x0 x1 x2 b t h ⟨32 + k.val, by omega⟩)
  rw [val_main_v38_apply]
  refine congrArg (val_main_v20 (F := Ideal) x0 x1 x2) (funext fun a => ?_)
  fin_cases a <;> rfl

theorem q_cos (t : Fin 8192) (k : Fin 32) : val_main_v34 (F := Ideal) (ix3 t 0 k) = Ideal.cos (Rope.angle t.val k) := by
  rw [← angle_at]
  pointwise! [val_main_v34, val_main_v33]

theorem q_sin (t : Fin 8192) (k : Fin 32) : val_main_v36 (F := Ideal) (ix3 t 0 k) = Ideal.sin (Rope.angle t.val k) := by
  rw [← angle_at]
  pointwise! [val_main_v36, val_main_v35]

theorem q_cos1 (b : Fin 2) (t : Fin 8192) (h : Fin 16) (k : Fin 32) : val_main_v40 (F := Ideal) (ix4 b t h k) = Ideal.cos (Rope.angle t.val k) := by
  rw [← q_cos]
  pointwise! [val_main_v40, val_main_v39]

theorem q_cos2 (b : Fin 2) (t : Fin 8192) (h : Fin 16) (k : Fin 32) : val_main_v47 (F := Ideal) (ix4 b t h k) = Ideal.cos (Rope.angle t.val k) := by
  rw [← q_cos]
  pointwise! [val_main_v47, val_main_v46]

theorem q_sin1 (b : Fin 2) (t : Fin 8192) (h : Fin 16) (k : Fin 32) : val_main_v43 (F := Ideal) (ix4 b t h k) = Ideal.sin (Rope.angle t.val k) := by
  rw [← q_sin]
  pointwise! [val_main_v43, val_main_v42]

theorem q_sin2 (b : Fin 2) (t : Fin 8192) (h : Fin 16) (k : Fin 32) : val_main_v50 (F := Ideal) (ix4 b t h k) = Ideal.sin (Rope.angle t.val k) := by
  rw [← q_sin]
  pointwise! [val_main_v50, val_main_v49]

theorem q_first (b : Fin 2) (t : Fin 8192) (h : Fin 16) (k : Fin 32) : val_main_v45 (F := Ideal) x0 x1 x2 (ix4 b t h k)
    = z x0 x1 x2 b t ⟨h.val * 64 + k.val, by omega⟩ * Ideal.cos (Rope.angle t.val k)
      - z x0 x1 x2 b t ⟨h.val * 64 + (32 + k.val), by omega⟩ * Ideal.sin (Rope.angle t.val k) := by
  pointwise [val_main_v45, val_main_v41, val_main_v44]
  simp only [q_lo, q_hi, q_cos1, q_sin1]

theorem q_second (b : Fin 2) (t : Fin 8192) (h : Fin 16) (k : Fin 32) : val_main_v52 (F := Ideal) x0 x1 x2 (ix4 b t h k)
    = z x0 x1 x2 b t ⟨h.val * 64 + (32 + k.val), by omega⟩ * Ideal.cos (Rope.angle t.val k)
      + z x0 x1 x2 b t ⟨h.val * 64 + k.val, by omega⟩ * Ideal.sin (Rope.angle t.val k) := by
  pointwise [val_main_v52, val_main_v48, val_main_v51]
  simp only [q_lo, q_hi, q_cos2, q_sin2]

theorem q_at (b : Fin 2) (t : Fin 8192) (h : Fin 16) (d : Fin 64) : val_main_v53 (F := Ideal) x0 x1 x2 (ix4 b t h d)
    = Rope.turn (fun k => z x0 x1 x2 b t ⟨k.val, by omega⟩) (fun k => Ideal.cos (Rope.angle t.val k))
        (fun k => Ideal.sin (Rope.angle t.val k)) ⟨h.val * 64 + d.val, by omega⟩ := by
  unfold Rope.turn
  pointwise [val_main_v53]
  by_cases hd : d.val < 32
  · have h1 : (h.val * 64 + d.val) % 64 < 32 := by omega
    rw [dif_pos hd, dif_pos h1, q_first]
    have e1 : h.val * 64 + (32 + d.val) = h.val * 64 + d.val + 32 := by omega
    have e2 : (h.val * 64 + d.val) % 32 = d.val := by omega
    simp only [e1, e2]
  · have h1 : ¬(h.val * 64 + d.val) % 64 < 32 := by omega
    rw [dif_neg hd, dif_neg h1, q_second]
    have e1 : h.val * 64 + (32 + (d.val - 32)) = h.val * 64 + d.val := by omega
    have e2 : h.val * 64 + (d.val - 32) = h.val * 64 + d.val - 32 := by omega
    have e3 : (h.val * 64 + d.val) % 32 = d.val - 32 := by omega
    simp only [e1, e2, e3]

/-! The keys. -/

theorem k_in (b : Fin 2) (t : Fin 8192) (h : Fin 16) (d : Fin 64) : val_main_v55 (F := Ideal) x0 x1 x2 (ix4 b t h d)
    = z x0 x1 x2 b t ⟨1024 + (h.val * 64 + d.val), by omega⟩ := by
  pointwise [val_main_v55, val_main_v54]
  rw [parts_at]
  exact congrArg (z x0 x1 x2 b t) (Fin.ext (by simp))

theorem k_lo (b : Fin 2) (t : Fin 8192) (h : Fin 16) (k : Fin 32) : val_main_v72 (F := Ideal) x0 x1 x2 (ix4 b t h k)
    = z x0 x1 x2 b t ⟨1024 + (h.val * 64 + k.val), by omega⟩ := by
  refine Eq.trans (b := val_main_v55 (F := Ideal) x0 x1 x2 (ix4 b t h ⟨k.val, by omega⟩)) ?_ (k_in x0 x1 x2 b t h ⟨k.val, by omega⟩)
  rw [val_main_v72_apply]
  refine congrArg (val_main_v55 (F := Ideal) x0 x1 x2) (funext fun a => ?_)
  fin_cases a <;> rfl

theorem k_hi (b : Fin 2) (t : Fin 8192) (h : Fin 16) (k : Fin 32) : val_main_v73 (F := Ideal) x0 x1 x2 (ix4 b t h k)
    = z x0 x1 x2 b t ⟨1024 + (h.val * 64 + (32 + k.val)), by omega⟩ := by
  refine Eq.trans (b := val_main_v55 (F := Ideal) x0 x1 x2 (ix4 b t h ⟨32 + k.val, by omega⟩)) ?_ (k_in x0 x1 x2 b t h ⟨32 + k.val, by omega⟩)
  rw [val_main_v73_apply]
  refine congrArg (val_main_v55 (F := Ideal) x0 x1 x2) (funext fun a => ?_)
  fin_cases a <;> rfl

theorem k_cos (t : Fin 8192) (k : Fin 32) : val_main_v69 (F := Ideal) (ix3 t 0 k) = Ideal.cos (Rope.angle t.val k) := by
  rw [← angle_at']
  pointwise! [val_main_v69, val_main_v68]

theorem k_sin (t : Fin 8192) (k : Fin 32) : val_main_v71 (F := Ideal) (ix3 t 0 k) = Ideal.sin (Rope.angle t.val k) := by
  rw [← angle_at']
  pointwise! [val_main_v71, val_main_v70]

theorem k_cos1 (b : Fin 2) (t : Fin 8192) (h : Fin 16) (k : Fin 32) : val_main_v75 (F := Ideal) (ix4 b t h k) = Ideal.cos (Rope.angle t.val k) := by
  rw [← k_cos]
  pointwise! [val_main_v75, val_main_v74]

theorem k_cos2 (b : Fin 2) (t : Fin 8192) (h : Fin 16) (k : Fin 32) : val_main_v82 (F := Ideal) (ix4 b t h k) = Ideal.cos (Rope.angle t.val k) := by
  rw [← k_cos]
  pointwise! [val_main_v82, val_main_v81]

theorem k_sin1 (b : Fin 2) (t : Fin 8192) (h : Fin 16) (k : Fin 32) : val_main_v78 (F := Ideal) (ix4 b t h k) = Ideal.sin (Rope.angle t.val k) := by
  rw [← k_sin]
  pointwise! [val_main_v78, val_main_v77]

theorem k_sin2 (b : Fin 2) (t : Fin 8192) (h : Fin 16) (k : Fin 32) : val_main_v85 (F := Ideal) (ix4 b t h k) = Ideal.sin (Rope.angle t.val k) := by
  rw [← k_sin]
  pointwise! [val_main_v85, val_main_v84]

theorem k_first (b : Fin 2) (t : Fin 8192) (h : Fin 16) (k : Fin 32) : val_main_v80 (F := Ideal) x0 x1 x2 (ix4 b t h k)
    = z x0 x1 x2 b t ⟨1024 + (h.val * 64 + k.val), by omega⟩ * Ideal.cos (Rope.angle t.val k)
      - z x0 x1 x2 b t ⟨1024 + (h.val * 64 + (32 + k.val)), by omega⟩ * Ideal.sin (Rope.angle t.val k) := by
  pointwise [val_main_v80, val_main_v76, val_main_v79]
  simp only [k_lo, k_hi, k_cos1, k_sin1]

theorem k_second (b : Fin 2) (t : Fin 8192) (h : Fin 16) (k : Fin 32) : val_main_v87 (F := Ideal) x0 x1 x2 (ix4 b t h k)
    = z x0 x1 x2 b t ⟨1024 + (h.val * 64 + (32 + k.val)), by omega⟩ * Ideal.cos (Rope.angle t.val k)
      + z x0 x1 x2 b t ⟨1024 + (h.val * 64 + k.val), by omega⟩ * Ideal.sin (Rope.angle t.val k) := by
  pointwise [val_main_v87, val_main_v83, val_main_v86]
  simp only [k_lo, k_hi, k_cos2, k_sin2]

theorem k_at (b : Fin 2) (t : Fin 8192) (h : Fin 16) (d : Fin 64) : val_main_v88 (F := Ideal) x0 x1 x2 (ix4 b t h d)
    = Rope.turn (fun k => z x0 x1 x2 b t ⟨1024 + k.val, by omega⟩) (fun k => Ideal.cos (Rope.angle t.val k))
        (fun k => Ideal.sin (Rope.angle t.val k)) ⟨h.val * 64 + d.val, by omega⟩ := by
  unfold Rope.turn
  pointwise [val_main_v88]
  by_cases hd : d.val < 32
  · have h1 : (h.val * 64 + d.val) % 64 < 32 := by omega
    rw [dif_pos hd, dif_pos h1, k_first]
    have e1 : h.val * 64 + (32 + d.val) = h.val * 64 + d.val + 32 := by omega
    have e2 : (h.val * 64 + d.val) % 32 = d.val := by omega
    simp only [e1, e2]
  · have h1 : ¬(h.val * 64 + d.val) % 64 < 32 := by omega
    rw [dif_neg hd, dif_neg h1, k_second]
    have e1 : h.val * 64 + (32 + (d.val - 32)) = h.val * 64 + d.val := by omega
    have e2 : h.val * 64 + (d.val - 32) = h.val * 64 + d.val - 32 := by omega
    have e3 : (h.val * 64 + d.val) % 32 = d.val - 32 := by omega
    simp only [e1, e2, e3]

/-! The values, and the three laid side by side in their streams. -/

theorem v_at (b : Fin 2) (t : Fin 8192) (h : Fin 16) (d : Fin 64) : val_main_v90 (F := Ideal) x0 x1 x2 (ix4 b t h d)
    = z x0 x1 x2 b t ⟨2048 + (h.val * 64 + d.val), by omega⟩ := by
  pointwise [val_main_v90, val_main_v89]
  rw [parts_at]
  exact congrArg (z x0 x1 x2 b t) (Fin.ext (by simp))

theorem one_91 (b : Fin 2) (t : Fin 8192) (h : Fin 16) (d : Fin 64) : val_main_v91 (F := Ideal) x0 x1 x2 (ix5 b t 0 h d)
    = val_main_v53 (F := Ideal) x0 x1 x2 (ix4 b t h d) := by
  rw [val_main_v91_apply]
  refine congrArg (val_main_v53 (F := Ideal) x0 x1 x2) (funext fun a => ?_)
  fin_cases a <;> rfl

theorem one_92 (b : Fin 2) (t : Fin 8192) (h : Fin 16) (d : Fin 64) : val_main_v92 (F := Ideal) x0 x1 x2 (ix5 b t 0 h d)
    = val_main_v88 (F := Ideal) x0 x1 x2 (ix4 b t h d) := by
  rw [val_main_v92_apply]
  refine congrArg (val_main_v88 (F := Ideal) x0 x1 x2) (funext fun a => ?_)
  fin_cases a <;> rfl

theorem one_93 (b : Fin 2) (t : Fin 8192) (h : Fin 16) (d : Fin 64) : val_main_v93 (F := Ideal) x0 x1 x2 (ix5 b t 0 h d)
    = val_main_v90 (F := Ideal) x0 x1 x2 (ix4 b t h d) := by
  rw [val_main_v93_apply]
  refine congrArg (val_main_v90 (F := Ideal) x0 x1 x2) (funext fun a => ?_)
  fin_cases a <;> rfl

theorem stack_at (b : Fin 2) (t : Fin 8192) (p : Fin 3) (h : Fin 16) (d : Fin 64) : val_main_v94 (F := Ideal) x0 x1 x2 (ix5 b t p h d)
    = if p.val < 1 then val_main_v53 (F := Ideal) x0 x1 x2 (ix4 b t h d) else if p.val - 1 < 1 then val_main_v88 (F := Ideal) x0 x1 x2 (ix4 b t h d)
      else val_main_v90 (F := Ideal) x0 x1 x2 (ix4 b t h d) := by
  rw [← one_91, ← one_92, ← one_93]
  unfold val_main_v94
  generalize val_main_v91 (F := Ideal) x0 x1 x2 = q
  generalize val_main_v92 (F := Ideal) x0 x1 x2 = k
  generalize val_main_v93 (F := Ideal) x0 x1 x2 = v
  pointwise
  split_ifs <;> first
    | exact congrArg (fun a => q (ix5 b t a h d)) (Subsingleton.elim _ _)
    | exact congrArg (fun a => k (ix5 b t a h d)) (Subsingleton.elim _ _)
    | exact congrArg (fun a => v (ix5 b t a h d)) (Subsingleton.elim _ _)

theorem fold_at (b : Fin 2) (j : Fin 2048) (a : Fin 4) (l : Fin 3072) : val_main_v95 (F := Ideal) x0 x1 x2 (ix4 b j a l)
    = val_main_v94 (F := Ideal) x0 x1 x2 (ix5 b ⟨j.val * 4 + a.val, by omega⟩ ⟨l.val / 1024, by omega⟩ ⟨l.val / 64 % 16, by omega⟩ ⟨l.val % 64, by omega⟩) := by
  pointwise! [val_main_v95]

theorem row_at (b : Fin 2) (a : Fin 4) (j : Fin 2048) (l : Fin 3072) : val_main_v96 (F := Ideal) x0 x1 x2 (ix4 b a j l)
    = Rope.row (Row.norm (fun k => x0 (ix3 b ⟨j.val * 4 + a.val, by omega⟩ k)) fun k => x1 (ix1 k)) (fun k f => x2 (ix2 k ⟨1 * 3072 + f.val, by omega⟩))
        (fun k => Ideal.cos (Rope.angle (j.val * 4 + a.val) k)) (fun k => Ideal.sin (Rope.angle (j.val * 4 + a.val) k)) l := by
  refine Eq.trans (b := val_main_v95 (F := Ideal) x0 x1 x2 (ix4 b j a l)) ?_ ?_
  · rw [val_main_v96_apply]
    refine congrArg (val_main_v95 (F := Ideal) x0 x1 x2) (funext fun a => ?_)
    fin_cases a <;> rfl
  rw [fold_at, stack_at]
  unfold Rope.row
  by_cases h1 : l.val < 1024
  · have c1 : l.val / 1024 < 1 := by omega
    have e : l.val / 64 % 16 * 64 + l.val % 64 = l.val := by omega
    rw [if_pos c1, dif_pos h1, q_at]
    simp only [e]
    rfl
  · have c1 : ¬l.val / 1024 < 1 := by omega
    rw [if_neg c1, dif_neg h1]
    by_cases h2 : l.val < 2048
    · have c2 : l.val / 1024 - 1 < 1 := by omega
      have e : l.val / 64 % 16 * 64 + l.val % 64 = l.val - 1024 := by omega
      rw [if_pos c2, dif_pos h2, k_at]
      simp only [e, z]
    · have c2 : ¬l.val / 1024 - 1 < 1 := by omega
      have e : 2048 + (l.val / 64 % 16 * 64 + l.val % 64) = l.val := by omega
      rw [if_neg c2, dif_neg h2, v_at]
      simp only [e, z]

end Cert.Qkv4RefIdeal.Pure

end
-- ==== Proof.Qkv4Claim.lean ====
module

public import proofs.«01_k».proof.Proof.Qkv4Final
public import proofs.«01_k».proof.Proof.Qkv4Ref
public import proofs.«01_k».proof.Defs

@[expose] public section

set_option maxRecDepth 16384

noncomputable section

namespace Cert.Qkv4Claim

open Idealize.ShloMosaic Idealize.SL.Sem
open Cert.Qkv4Ideal

theorem ref_eq (x : Vec Ideal S2x8192x1024 .f32) (g : Vec Ideal S1024 .f32) (w : Vec Ideal S1024x9216 .f32) :
    Cert.Qkv4RefIdeal.Read.val_main_v96 (F := Ideal) x g w = fun i => Pure.result x g w (i 0) (i 1) (i 2) (i 3) := by
  funext i
  obtain ⟨b, a, j, l, rfl⟩ : ∃ (b : Fin 2) (a : Fin 4) (j : Fin 2048) (l : Fin 3072), i = ix4 b a j l := ⟨i 0, i 1, i 2, i 3, eq_ix4 i⟩
  refine (Cert.Qkv4RefIdeal.Pure.row_at x g w b a j l).trans ?_
  rfl

theorem same : Cert.algebraic_Qkv4Ideal_Qkv4RefIdeal := by
  pair_intro
  · run_from Cert.Qkv4Ideal.Gen.run_main m g
  · refine θ_run_mono (Cert.Qkv4RefIdeal.Value.run m' g') fun r h c => ⟨(h c).1.trans ?_, (h c).2⟩
    rw [Cert.Qkv4RefIdeal.Read.val_main_v96_eq, (hagree c).1, (hagree c).2.1, (hagree c).2.2, Pure.final]
    exact ref_eq _ _ _

end Cert.Qkv4Claim

end
-- ==== Proof.Qkv16Read.lean ====
module

public import proofs.«01_k».proof.Proof.RopePure
public import proofs.«01_k».proof.Proof.Gen.Qkv16Ideal.Skeleton
public import Idealize.ShloMosaic.Lib.KernelVsHost

@[expose] public section

set_option maxRecDepth 16384

noncomputable section

open Idealize.ShloMosaic

namespace Cert.Qkv16Ideal.Pure

open Cert.Qkv16Ideal Cert.Qkv16Ideal.Gen

/-- One tile of 128 lanes, two heads, turned. -/
def spin (M : IVec S512x128 1) (cs sn X : FVec Ideal S512x128 .f32) : FVec Ideal S512x128 .f32 :=
  addf (mulf X cs) (mulf (select M (dynamicRotate 1 96#32 none X rotates_S512x128_d1)
    (dynamicRotate 1 32#32 none X rotates_S512x128_d1)) sn)

theorem cut : ∀ n : Fin 8, S512x1024.Slices ![0, n.val * 128] S512x128 := by decide

/-- The eight tiles of a row's queries or keys. -/
def wheel (M : IVec S512x128 1) (cs sn : FVec Ideal S512x128 .f32) (Z : FVec Ideal S512x1024 .f32) : FVec Ideal S512x1024 .f32 :=
  concatenate S512x1024 1 (List.ofFn fun n : Fin 8 => ⟨S512x128, spin M cs sn (extractStridedSlice S512x128 ![0, n.val * 128] Z (cut n))⟩)
    concatenates_S512x128_S512x128_S512x128_S512x128_S512x128_S512x128_S512x128_S512x128_S512x1024_d1

theorem mask_at (r : Fin 512) (l : Fin 128) : k0_pay173 (ix2 r l) = if l.val % 64 < 32 then 1#1 else 0#1 := by
  have h : ∀ l : Fin 128, k0_pay173 (ix2 0 l) = if l.val % 64 < 32 then 1#1 else 0#1 := by decide +kernel
  exact h l

theorem forward_at (X : FVec Ideal S512x128 .f32) (r : Fin 512) (l : Fin 128) (h : l.val % 64 < 32) :
    dynamicRotate 1 96#32 none X rotates_S512x128_d1 (ix2 r l) = X (ix2 r ⟨l.val + 32, by omega⟩) := by
  refine dynamicRotate_apply _ _ _ _ _ _ fun b => ?_
  match b with
  | 0 => rfl
  | 1 => show l.val + 32 = (l.val + 128 - 96 % 128) % 128; omega

theorem back_at (X : FVec Ideal S512x128 .f32) (r : Fin 512) (l : Fin 128) (h : ¬l.val % 64 < 32) :
    dynamicRotate 1 32#32 none X rotates_S512x128_d1 (ix2 r l) = X (ix2 r ⟨l.val - 32, by omega⟩) := by
  refine dynamicRotate_apply _ _ _ _ _ _ fun b => ?_
  match b with
  | 0 => rfl
  | 1 => show l.val - 32 = (l.val + 128 - 32 % 128) % 128; omega

theorem spin_at (cs sn X : FVec Ideal S512x128 .f32) (r : Fin 512) (l : Fin 128) :
    spin k0_pay173 cs sn X (ix2 r l) = X (ix2 r l) * cs (ix2 r l)
      + (if h : l.val % 64 < 32 then X (ix2 r ⟨l.val + 32, by omega⟩) else X (ix2 r ⟨l.val - 32, by omega⟩)) * sn (ix2 r l) := by
  refine Eq.trans (b := X (ix2 r l) * cs (ix2 r l) + (if k0_pay173 (ix2 r l) = 1#1 then dynamicRotate 1 96#32 none X rotates_S512x128_d1 (ix2 r l)
    else dynamicRotate 1 32#32 none X rotates_S512x128_d1 (ix2 r l)) * sn (ix2 r l)) rfl ?_
  rw [mask_at]
  by_cases h : l.val % 64 < 32
  · rw [if_pos h, if_pos rfl, dif_pos h, forward_at X r l h]
  · rw [if_neg h, if_neg (by decide), dif_neg h, back_at X r l h]

theorem wheel_at (cs sn : FVec Ideal S512x128 .f32) (Z : FVec Ideal S512x1024 .f32) (r : Fin 512) (l : Fin 1024) :
    wheel k0_pay173 cs sn Z (ix2 r l) = Z (ix2 r l) * cs (ix2 r ⟨l.val % 128, by omega⟩)
      + (if h : l.val % 64 < 32 then Z (ix2 r ⟨l.val + 32, by omega⟩) else Z (ix2 r ⟨l.val - 32, by omega⟩))
          * sn (ix2 r ⟨l.val % 128, by omega⟩) := by
  have e : wheel k0_pay173 cs sn Z (ix2 r l) = spin k0_pay173 cs sn (extractStridedSlice S512x128 ![0, l.val / 128 * 128] Z
      (cut ⟨l.val / 128, by omega⟩)) (ix2 r ⟨l.val % 128, by omega⟩) := by
    refine concatenate_ofFn_apply (t := S512x1024) (s₁ := S512x128) (1 : Fin 2) (fun n : Fin 8 => spin k0_pay173 cs sn (extractStridedSlice S512x128 ![0, n.val * 128] Z (cut n)))
      _ rfl 128 rfl (ix2 r l) ⟨l.val / 128, by omega⟩ rfl _ rfl fun b hb => ?_
    match b with
    | 0 => rfl
    | 1 => exact absurd rfl hb
  have c : ∀ k : Fin 128, (extractStridedSlice S512x128 ![0, l.val / 128 * 128] Z (cut ⟨l.val / 128, by omega⟩)) (ix2 r k)
      = Z (ix2 r ⟨l.val / 128 * 128 + k.val, by omega⟩) := fun k => by
    pointwise
  rw [e, spin_at, c]
  by_cases h : l.val % 64 < 32
  · have h' : l.val % 128 % 64 < 32 := by omega
    rw [dif_pos h', dif_pos h, c]
    congr 3 <;> congr 1 <;> exact Fin.ext (by simp <;> omega)
  · have h' : ¬l.val % 128 % 64 < 32 := by omega
    rw [dif_neg h', dif_neg h, c]
    congr 3 <;> congr 1 <;> exact Fin.ext (by simp <;> omega)

theorem norm_at (X : Vec Ideal S1x512x1024 .f32) (g : Vec Ideal S1x1024 .f32) (r : Fin 512) (k : Fin 1024) :
    k0_pay5 (F := Ideal) X g (ix2 r k) = Row.norm (fun l => X (ix3 0 r l)) (fun l => g (ix2 0 l)) k := by
  unfold Row.norm
  pointwise! [k0_pay5]

theorem proj_at (Y : Vec Ideal S512x1024 .bf16) (W : Vec Ideal S1024x3072 .bf16) (r : Fin 512) (f : Fin 3072) :
    k0_pay171 (F := Ideal) Y W (ix2 r f) = Row.dot (fun l => Y (ix2 r l)) fun l => W (ix2 l f) := by
  unfold Row.dot
  pointwise! [k0_pay171]

/-- The queries' (`o = 0`) or keys' (`o = 1024`) lanes of a block of projected rows, turned. -/
theorem wheel_row (Z : FVec Ideal S512x3072 .f32) (o : ℕ) (ho : S512x3072.Slices ![0, o] S512x1024) (ho' : o ≤ 2048)
    (cs sn : FVec Ideal S512x128 .f32) (c s : Fin 32 → EReal) (r : Fin 512) (l : Fin 1024)
    (hc : ∀ k : Fin 128, cs (ix2 r k) = c ⟨k.val % 32, by omega⟩)
    (hs : ∀ k : Fin 128, sn (ix2 r k) = if k.val % 64 < 32 then -s ⟨k.val % 32, by omega⟩ else s ⟨k.val % 32, by omega⟩) :
    wheel k0_pay173 cs sn (extractStridedSlice S512x1024 ![0, o] Z ho) (ix2 r l)
      = Rope.turn (fun k => Z (ix2 r ⟨o + k.val, by omega⟩)) c s l := by
  have e : ∀ k : Fin 1024, extractStridedSlice S512x1024 ![0, o] Z ho (ix2 r k) = Z (ix2 r ⟨o + k.val, by omega⟩) := fun k => by
    pointwise
  rw [wheel_at, Rope.turn_eq, hc, hs]
  simp only [e]
  have h1 : l.val % 128 % 64 = l.val % 64 := by omega
  have h2 : l.val % 128 % 32 = l.val % 32 := by omega
  simp only [h1, h2]

/-- One row of a block's queries, keys and values, of the block's projected rows, cosines and signed sines. -/
def tile (Z : FVec Ideal S512x3072 .f32) (cs sn : FVec Ideal S512x128 .f32) (r : Fin 512) (l : Fin 3072) : EReal :=
  if h₁ : l.val < 1024 then wheel k0_pay173 cs sn (extractStridedSlice S512x1024 ![0, 0] Z slices_S512x3072_o0_0_S512x1024) (ix2 r ⟨l.val, h₁⟩)
  else if h₂ : l.val < 2048 then wheel k0_pay173 cs sn (extractStridedSlice S512x1024 ![0, 1024] Z slices_S512x3072_o0_1024_S512x1024) (ix2 r ⟨l.val - 1024, by omega⟩)
  else Z (ix2 r l)

theorem tile_at (Y : Vec Ideal S512x1024 .bf16) (W : Vec Ideal S1024x3072 .bf16)
    (cs sn : FVec Ideal S512x128 .f32) (c s : Fin 32 → EReal) (r : Fin 512) (l : Fin 3072)
    (hc : ∀ k : Fin 128, cs (ix2 r k) = c ⟨k.val % 32, by omega⟩)
    (hs : ∀ k : Fin 128, sn (ix2 r k) = if k.val % 64 < 32 then -s ⟨k.val % 32, by omega⟩ else s ⟨k.val % 32, by omega⟩) :
    tile (k0_pay171 (F := Ideal) Y W) cs sn r l = Rope.row (fun k => Y (ix2 r k)) (fun k f => W (ix2 k f)) c s l := by
  unfold tile Rope.row
  split_ifs with h₁ h₂
  · rw [wheel_row _ 0 _ (by omega) cs sn c s r _ hc hs]
    simp only [proj_at, Nat.zero_add]
  · rw [wheel_row _ 1024 _ (by omega) cs sn c s r _ hc hs]
    simp only [proj_at]
  · rw [proj_at]

end Cert.Qkv16Ideal.Pure

end
-- ==== Proof.Qkv16Rows.lean ====
module

public import proofs.«01_k».proof.Proof.Qkv16Read
public import proofs.«01_k».proof.Proof.Gen.Qkv16Ideal.Frame
public import Idealize.ShloMosaic.Lib.Pipeline.ValueKit

@[expose] public section

set_option maxRecDepth 16384

noncomputable section

open Idealize.ShloMosaic

namespace Cert.Qkv16Ideal.Pure

open Cert.Qkv16Ideal Cert.Qkv16Ideal.Gen

/-- The normalized rows as they are set down: eight slabs of 128 lanes, the last one first. -/
def slabs (X : Vec Ideal S1x512x1024 .f32) (g : Vec Ideal S1x1024 .f32) : List (View.Piece (Elt Ideal) S8x512x128 .f32) :=
  [⟨Rect.unit (s := S8x512x128) ![7, 0, 0] S1x512x128.size inb_S8x512x128_S1x512x128_7_0_0, k0_pay14 (k0_pay5 X g)⟩,
   ⟨Rect.unit (s := S8x512x128) ![6, 0, 0] S1x512x128.size inb_S8x512x128_S1x512x128_6_0_0, k0_pay13 (k0_pay5 X g)⟩,
   ⟨Rect.unit (s := S8x512x128) ![5, 0, 0] S1x512x128.size inb_S8x512x128_S1x512x128_5_0_0, k0_pay12 (k0_pay5 X g)⟩,
   ⟨Rect.unit (s := S8x512x128) ![4, 0, 0] S1x512x128.size inb_S8x512x128_S1x512x128_4_0_0, k0_pay11 (k0_pay10 X g)⟩,
   ⟨Rect.unit (s := S8x512x128) ![3, 0, 0] S1x512x128.size inb_S8x512x128_S1x512x128_3_0_0, k0_pay9 X g⟩,
   ⟨Rect.unit (s := S8x512x128) ![2, 0, 0] S1x512x128.size inb_S8x512x128_S1x512x128_2_0_0, k0_pay8 X g⟩,
   ⟨Rect.unit (s := S8x512x128) ![1, 0, 0] S1x512x128.size inb_S8x512x128_S1x512x128_1_0_0, k0_pay7 X g⟩,
   ⟨Rect.unit (s := S8x512x128) ![0, 0, 0] S1x512x128.size inb_S8x512x128_S1x512x128_0_0_0, k0_pay6 X g⟩]

/-- The value of the slabs at an index: the row's lane. -/
def lane (Z : FVec Ideal S512x1024 .f32) (y : S8x512x128.Idx) : EReal :=
  Z (ix2 (y 1) ⟨(y 0).val * 128 + (y 2).val, by
    have h0 : (y 0).val < 8 := (y 0).isLt
    have h2 : (y 2).val < 128 := (y 2).isLt
    omega⟩)

theorem slab (Z : FVec Ideal S512x1024 .f32) (n o : ℕ) (hn : n < 8) (ho : o = n * 128) (hs : S512x1024.Slices ![0, o] S512x128)
    (hc : S512x128.ShapeCasts S1x512x128) (hb : ∀ a, (![n, 0, 0] : Fin 3 → Nat) a + S1x512x128.size a ≤ S8x512x128.size a) (x : S1x512x128.Idx) :
    shapeCast S1x512x128 (extractStridedSlice S512x128 ![0, o] Z hs) hc x = lane Z ((Rect.unit (s := S8x512x128) ![n, 0, 0] S1x512x128.size hb).emb x) := by
  subst ho
  obtain ⟨a, r, l, rfl⟩ : ∃ (a : Fin 1) (r : Fin 512) (l : Fin 128), x = ix3 a r l := ⟨x 0, x 1, x 2, eq_ix3 x⟩
  obtain rfl : a = 0 := by omega
  refine Eq.trans (b := Z (ix2 r ⟨n * 128 + l.val, by omega⟩)) ?_ ?_
  · pointwise
  · unfold lane
    refine congrArg Z (congrArg₂ ix2 (Fin.ext ?_) (Fin.ext ?_))
    · show r.val = 0 + 1 * r.val; omega
    · show n * 128 + l.val = (n + 1 * 0) * 128 + (0 + 1 * l.val); omega

theorem slab_at (X : Vec Ideal S1x512x1024 .f32) (g : Vec Ideal S1x1024 .f32) (y : S8x512x128.Idx) :
    View.canon (slabs X g) y = lane (k0_pay5 X g) y := by
  refine View.canon_apply_of_pieces (lane (k0_pay5 X g)) (slabs X g) ?_ y (View.cover_of_tiledL (slabs X g) S1x512x128.size (by sl_kernel_rfl) y)
  unfold slabs
  refine List.forall_mem_cons.mpr ⟨fun x => slab (k0_pay5 X g) 7 896 (by decide) rfl slices_S512x1024_o0_896_S512x128 shapeCasts_S512x128_S1x512x128 inb_S8x512x128_S1x512x128_7_0_0 x, ?_⟩
  refine List.forall_mem_cons.mpr ⟨fun x => slab (k0_pay5 X g) 6 768 (by decide) rfl slices_S512x1024_o0_768_S512x128 shapeCasts_S512x128_S1x512x128 inb_S8x512x128_S1x512x128_6_0_0 x, ?_⟩
  refine List.forall_mem_cons.mpr ⟨fun x => slab (k0_pay5 X g) 5 640 (by decide) rfl slices_S512x1024_o0_640_S512x128 shapeCasts_S512x128_S1x512x128 inb_S8x512x128_S1x512x128_5_0_0 x, ?_⟩
  refine List.forall_mem_cons.mpr ⟨fun x => slab (k0_pay5 X g) 4 512 (by decide) rfl slices_S512x1024_o0_512_S512x128 shapeCasts_S512x128_S1x512x128 inb_S8x512x128_S1x512x128_4_0_0 x, ?_⟩
  refine List.forall_mem_cons.mpr ⟨fun x => slab (k0_pay5 X g) 3 384 (by decide) rfl slices_S512x1024_o0_384_S512x128 shapeCasts_S512x128_S1x512x128 inb_S8x512x128_S1x512x128_3_0_0 x, ?_⟩
  refine List.forall_mem_cons.mpr ⟨fun x => slab (k0_pay5 X g) 2 256 (by decide) rfl slices_S512x1024_o0_256_S512x128 shapeCasts_S512x128_S1x512x128 inb_S8x512x128_S1x512x128_2_0_0 x, ?_⟩
  refine List.forall_mem_cons.mpr ⟨fun x => slab (k0_pay5 X g) 1 128 (by decide) rfl slices_S512x1024_o0_128_S512x128 shapeCasts_S512x128_S1x512x128 inb_S8x512x128_S1x512x128_1_0_0 x, ?_⟩
  refine List.forall_mem_cons.mpr ⟨fun x => slab (k0_pay5 X g) 0 0 (by decide) rfl slices_S512x1024_o0_0_S512x128 shapeCasts_S512x128_S1x512x128 inb_S8x512x128_S1x512x128_0_0_0 x, ?_⟩
  exact fun p h => absurd h List.not_mem_nil

/-- The gathered rows as they are set down, strip by strip, the last one first. -/
def strips (X : Vec Ideal S1x512x1024 .f32) (g : Vec Ideal S1x1024 .f32) : List (View.Piece (Elt Ideal) S512x1024 .bf16) :=
  [⟨Rect.unit (s := S512x1024) ![480, 896] S32x128.size inb_S512x1024_S32x128_480_896, k0_pay168 (k0_pay167 ((View.whole cc0_scratch0).readCov (slabs X g) (⟨![7, 15, 0], S1x32x128.size, ![1, 16, 1], inb_S8x512x128_S1x32x128_7_15_0_s_1_16_1⟩ : LoadRect S8x512x128)))⟩,
   ⟨Rect.unit (s := S512x1024) ![480, 768] S32x128.size inb_S512x1024_S32x128_480_768, k0_pay166 ((View.whole cc0_scratch0).readCov (slabs X g) (⟨![6, 15, 0], S1x32x128.size, ![1, 16, 1], inb_S8x512x128_S1x32x128_6_15_0_s_1_16_1⟩ : LoadRect S8x512x128))⟩,
   ⟨Rect.unit (s := S512x1024) ![480, 640] S32x128.size inb_S512x1024_S32x128_480_640, k0_pay165 ((View.whole cc0_scratch0).readCov (slabs X g) (⟨![5, 15, 0], S1x32x128.size, ![1, 16, 1], inb_S8x512x128_S1x32x128_5_15_0_s_1_16_1⟩ : LoadRect S8x512x128))⟩,
   ⟨Rect.unit (s := S512x1024) ![480, 512] S32x128.size inb_S512x1024_S32x128_480_512, k0_pay164 ((View.whole cc0_scratch0).readCov (slabs X g) (⟨![4, 15, 0], S1x32x128.size, ![1, 16, 1], inb_S8x512x128_S1x32x128_4_15_0_s_1_16_1⟩ : LoadRect S8x512x128))⟩,
   ⟨Rect.unit (s := S512x1024) ![480, 384] S32x128.size inb_S512x1024_S32x128_480_384, k0_pay163 ((View.whole cc0_scratch0).readCov (slabs X g) (⟨![3, 15, 0], S1x32x128.size, ![1, 16, 1], inb_S8x512x128_S1x32x128_3_15_0_s_1_16_1⟩ : LoadRect S8x512x128))⟩,
   ⟨Rect.unit (s := S512x1024) ![480, 256] S32x128.size inb_S512x1024_S32x128_480_256, k0_pay162 (k0_pay161 ((View.whole cc0_scratch0).readCov (slabs X g) (⟨![2, 15, 0], S1x32x128.size, ![1, 16, 1], inb_S8x512x128_S1x32x128_2_15_0_s_1_16_1⟩ : LoadRect S8x512x128)))⟩,
   ⟨Rect.unit (s := S512x1024) ![480, 128] S32x128.size inb_S512x1024_S32x128_480_128, k0_pay160 ((View.whole cc0_scratch0).readCov (slabs X g) (⟨![1, 15, 0], S1x32x128.size, ![1, 16, 1], inb_S8x512x128_S1x32x128_1_15_0_s_1_16_1⟩ : LoadRect S8x512x128))⟩,
   ⟨Rect.unit (s := S512x1024) ![480, 0] S32x128.size inb_S512x1024_S32x128_480_0, k0_pay159 ((View.whole cc0_scratch0).readCov (slabs X g) (⟨![0, 15, 0], S1x32x128.size, ![1, 16, 1], inb_S8x512x128_S1x32x128_0_15_0_s_1_16_1⟩ : LoadRect S8x512x128))⟩,
   ⟨Rect.unit (s := S512x1024) ![448, 896] S32x128.size inb_S512x1024_S32x128_448_896, k0_pay158 ((View.whole cc0_scratch0).readCov (slabs X g) (⟨![7, 14, 0], S1x32x128.size, ![1, 16, 1], inb_S8x512x128_S1x32x128_7_14_0_s_1_16_1⟩ : LoadRect S8x512x128))⟩,
   ⟨Rect.unit (s := S512x1024) ![448, 768] S32x128.size inb_S512x1024_S32x128_448_768, k0_pay157 ((View.whole cc0_scratch0).readCov (slabs X g) (⟨![6, 14, 0], S1x32x128.size, ![1, 16, 1], inb_S8x512x128_S1x32x128_6_14_0_s_1_16_1⟩ : LoadRect S8x512x128))⟩,
   ⟨Rect.unit (s := S512x1024) ![448, 640] S32x128.size inb_S512x1024_S32x128_448_640, k0_pay156 (k0_pay155 ((View.whole cc0_scratch0).readCov (slabs X g) (⟨![5, 14, 0], S1x32x128.size, ![1, 16, 1], inb_S8x512x128_S1x32x128_5_14_0_s_1_16_1⟩ : LoadRect S8x512x128)))⟩,
   ⟨Rect.unit (s := S512x1024) ![448, 512] S32x128.size inb_S512x1024_S32x128_448_512, k0_pay154 ((View.whole cc0_scratch0).readCov (slabs X g) (⟨![4, 14, 0], S1x32x128.size, ![1, 16, 1], inb_S8x512x128_S1x32x128_4_14_0_s_1_16_1⟩ : LoadRect S8x512x128))⟩,
   ⟨Rect.unit (s := S512x1024) ![448, 384] S32x128.size inb_S512x1024_S32x128_448_384, k0_pay153 ((View.whole cc0_scratch0).readCov (slabs X g) (⟨![3, 14, 0], S1x32x128.size, ![1, 16, 1], inb_S8x512x128_S1x32x128_3_14_0_s_1_16_1⟩ : LoadRect S8x512x128))⟩,
   ⟨Rect.unit (s := S512x1024) ![448, 256] S32x128.size inb_S512x1024_S32x128_448_256, k0_pay152 ((View.whole cc0_scratch0).readCov (slabs X g) (⟨![2, 14, 0], S1x32x128.size, ![1, 16, 1], inb_S8x512x128_S1x32x128_2_14_0_s_1_16_1⟩ : LoadRect S8x512x128))⟩,
   ⟨Rect.unit (s := S512x1024) ![448, 128] S32x128.size inb_S512x1024_S32x128_448_128, k0_pay151 ((View.whole cc0_scratch0).readCov (slabs X g) (⟨![1, 14, 0], S1x32x128.size, ![1, 16, 1], inb_S8x512x128_S1x32x128_1_14_0_s_1_16_1⟩ : LoadRect S8x512x128))⟩,
   ⟨Rect.unit (s := S512x1024) ![448, 0] S32x128.size inb_S512x1024_S32x128_448_0, k0_pay150 (k0_pay149 ((View.whole cc0_scratch0).readCov (slabs X g) (⟨![0, 14, 0], S1x32x128.size, ![1, 16, 1], inb_S8x512x128_S1x32x128_0_14_0_s_1_16_1⟩ : LoadRect S8x512x128)))⟩,
   ⟨Rect.unit (s := S512x1024) ![416, 896] S32x128.size inb_S512x1024_S32x128_416_896, k0_pay148 ((View.whole cc0_scratch0).readCov (slabs X g) (⟨![7, 13, 0], S1x32x128.size, ![1, 16, 1], inb_S8x512x128_S1x32x128_7_13_0_s_1_16_1⟩ : LoadRect S8x512x128))⟩,
   ⟨Rect.unit (s := S512x1024) ![416, 768] S32x128.size inb_S512x1024_S32x128_416_768, k0_pay147 ((View.whole cc0_scratch0).readCov (slabs X g) (⟨![6, 13, 0], S1x32x128.size, ![1, 16, 1], inb_S8x512x128_S1x32x128_6_13_0_s_1_16_1⟩ : LoadRect S8x512x128))⟩,
   ⟨Rect.unit (s := S512x1024) ![416, 640] S32x128.size inb_S512x1024_S32x128_416_640, k0_pay146 ((View.whole cc0_scratch0).readCov (slabs X g) (⟨![5, 13, 0], S1x32x128.size, ![1, 16, 1], inb_S8x512x128_S1x32x128_5_13_0_s_1_16_1⟩ : LoadRect S8x512x128))⟩,
   ⟨Rect.unit (s := S512x1024) ![416, 512] S32x128.size inb_S512x1024_S32x128_416_512, k0_pay145 ((View.whole cc0_scratch0).readCov (slabs X g) (⟨![4, 13, 0], S1x32x128.size, ![1, 16, 1], inb_S8x512x128_S1x32x128_4_13_0_s_1_16_1⟩ : LoadRect S8x512x128))⟩,
   ⟨Rect.unit (s := S512x1024) ![416, 384] S32x128.size inb_S512x1024_S32x128_416_384, k0_pay144 (k0_pay143 ((View.whole cc0_scratch0).readCov (slabs X g) (⟨![3, 13, 0], S1x32x128.size, ![1, 16, 1], inb_S8x512x128_S1x32x128_3_13_0_s_1_16_1⟩ : LoadRect S8x512x128)))⟩,
   ⟨Rect.unit (s := S512x1024) ![416, 256] S32x128.size inb_S512x1024_S32x128_416_256, k0_pay142 ((View.whole cc0_scratch0).readCov (slabs X g) (⟨![2, 13, 0], S1x32x128.size, ![1, 16, 1], inb_S8x512x128_S1x32x128_2_13_0_s_1_16_1⟩ : LoadRect S8x512x128))⟩,
   ⟨Rect.unit (s := S512x1024) ![416, 128] S32x128.size inb_S512x1024_S32x128_416_128, k0_pay141 ((View.whole cc0_scratch0).readCov (slabs X g) (⟨![1, 13, 0], S1x32x128.size, ![1, 16, 1], inb_S8x512x128_S1x32x128_1_13_0_s_1_16_1⟩ : LoadRect S8x512x128))⟩,
   ⟨Rect.unit (s := S512x1024) ![416, 0] S32x128.size inb_S512x1024_S32x128_416_0, k0_pay140 ((View.whole cc0_scratch0).readCov (slabs X g) (⟨![0, 13, 0], S1x32x128.size, ![1, 16, 1], inb_S8x512x128_S1x32x128_0_13_0_s_1_16_1⟩ : LoadRect S8x512x128))⟩,
   ⟨Rect.unit (s := S512x1024) ![384, 896] S32x128.size inb_S512x1024_S32x128_384_896, k0_pay139 ((View.whole cc0_scratch0).readCov (slabs X g) (⟨![7, 12, 0], S1x32x128.size, ![1, 16, 1], inb_S8x512x128_S1x32x128_7_12_0_s_1_16_1⟩ : LoadRect S8x512x128))⟩,
   ⟨Rect.unit (s := S512x1024) ![384, 768] S32x128.size inb_S512x1024_S32x128_384_768, k0_pay138 (k0_pay137 ((View.whole cc0_scratch0).readCov (slabs X g) (⟨![6, 12, 0], S1x32x128.size, ![1, 16, 1], inb_S8x512x128_S1x32x128_6_12_0_s_1_16_1⟩ : LoadRect S8x512x128)))⟩,
   ⟨Rect.unit (s := S512x1024) ![384, 640] S32x128.size inb_S512x1024_S32x128_384_640, k0_pay136 ((View.whole cc0_scratch0).readCov (slabs X g) (⟨![5, 12, 0], S1x32x128.size, ![1, 16, 1], inb_S8x512x128_S1x32x128_5_12_0_s_1_16_1⟩ : LoadRect S8x512x128))⟩,
   ⟨Rect.unit (s := S512x1024) ![384, 512] S32x128.size inb_S512x1024_S32x128_384_512, k0_pay135 ((View.whole cc0_scratch0).readCov (slabs X g) (⟨![4, 12, 0], S1x32x128.size, ![1, 16, 1], inb_S8x512x128_S1x32x128_4_12_0_s_1_16_1⟩ : LoadRect S8x512x128))⟩,
   ⟨Rect.unit (s := S512x1024) ![384, 384] S32x128.size inb_S512x1024_S32x128_384_384, k0_pay134 ((View.whole cc0_scratch0).readCov (slabs X g) (⟨![3, 12, 0], S1x32x128.size, ![1, 16, 1], inb_S8x512x128_S1x32x128_3_12_0_s_1_16_1⟩ : LoadRect S8x512x128))⟩,
   ⟨Rect.unit (s := S512x1024) ![384, 256] S32x128.size inb_S512x1024_S32x128_384_256, k0_pay133 ((View.whole cc0_scratch0).readCov (slabs X g) (⟨![2, 12, 0], S1x32x128.size, ![1, 16, 1], inb_S8x512x128_S1x32x128_2_12_0_s_1_16_1⟩ : LoadRect S8x512x128))⟩,
   ⟨Rect.unit (s := S512x1024) ![384, 128] S32x128.size inb_S512x1024_S32x128_384_128, k0_pay132 (k0_pay131 ((View.whole cc0_scratch0).readCov (slabs X g) (⟨![1, 12, 0], S1x32x128.size, ![1, 16, 1], inb_S8x512x128_S1x32x128_1_12_0_s_1_16_1⟩ : LoadRect S8x512x128)))⟩,
   ⟨Rect.unit (s := S512x1024) ![384, 0] S32x128.size inb_S512x1024_S32x128_384_0, k0_pay130 ((View.whole cc0_scratch0).readCov (slabs X g) (⟨![0, 12, 0], S1x32x128.size, ![1, 16, 1], inb_S8x512x128_S1x32x128_0_12_0_s_1_16_1⟩ : LoadRect S8x512x128))⟩,
   ⟨Rect.unit (s := S512x1024) ![352, 896] S32x128.size inb_S512x1024_S32x128_352_896, k0_pay129 ((View.whole cc0_scratch0).readCov (slabs X g) (⟨![7, 11, 0], S1x32x128.size, ![1, 16, 1], inb_S8x512x128_S1x32x128_7_11_0_s_1_16_1⟩ : LoadRect S8x512x128))⟩,
   ⟨Rect.unit (s := S512x1024) ![352, 768] S32x128.size inb_S512x1024_S32x128_352_768, k0_pay128 ((View.whole cc0_scratch0).readCov (slabs X g) (⟨![6, 11, 0], S1x32x128.size, ![1, 16, 1], inb_S8x512x128_S1x32x128_6_11_0_s_1_16_1⟩ : LoadRect S8x512x128))⟩,
   ⟨Rect.unit (s := S512x1024) ![352, 640] S32x128.size inb_S512x1024_S32x128_352_640, k0_pay127 ((View.whole cc0_scratch0).readCov (slabs X g) (⟨![5, 11, 0], S1x32x128.size, ![1, 16, 1], inb_S8x512x128_S1x32x128_5_11_0_s_1_16_1⟩ : LoadRect S8x512x128))⟩,
   ⟨Rect.unit (s := S512x1024) ![352, 512] S32x128.size inb_S512x1024_S32x128_352_512, k0_pay126 (k0_pay125 ((View.whole cc0_scratch0).readCov (slabs X g) (⟨![4, 11, 0], S1x32x128.size, ![1, 16, 1], inb_S8x512x128_S1x32x128_4_11_0_s_1_16_1⟩ : LoadRect S8x512x128)))⟩,
   ⟨Rect.unit (s := S512x1024) ![352, 384] S32x128.size inb_S512x1024_S32x128_352_384, k0_pay124 ((View.whole cc0_scratch0).readCov (slabs X g) (⟨![3, 11, 0], S1x32x128.size, ![1, 16, 1], inb_S8x512x128_S1x32x128_3_11_0_s_1_16_1⟩ : LoadRect S8x512x128))⟩,
   ⟨Rect.unit (s := S512x1024) ![352, 256] S32x128.size inb_S512x1024_S32x128_352_256, k0_pay123 ((View.whole cc0_scratch0).readCov (slabs X g) (⟨![2, 11, 0], S1x32x128.size, ![1, 16, 1], inb_S8x512x128_S1x32x128_2_11_0_s_1_16_1⟩ : LoadRect S8x512x128))⟩,
   ⟨Rect.unit (s := S512x1024) ![352, 128] S32x128.size inb_S512x1024_S32x128_352_128, k0_pay122 ((View.whole cc0_scratch0).readCov (slabs X g) (⟨![1, 11, 0], S1x32x128.size, ![1, 16, 1], inb_S8x512x128_S1x32x128_1_11_0_s_1_16_1⟩ : LoadRect S8x512x128))⟩,
   ⟨Rect.unit (s := S512x1024) ![352, 0] S32x128.size inb_S512x1024_S32x128_352_0, k0_pay121 ((View.whole cc0_scratch0).readCov (slabs X g) (⟨![0, 11, 0], S1x32x128.size, ![1, 16, 1], inb_S8x512x128_S1x32x128_0_11_0_s_1_16_1⟩ : LoadRect S8x512x128))⟩,
   ⟨Rect.unit (s := S512x1024) ![320, 896] S32x128.size inb_S512x1024_S32x128_320_896, k0_pay120 (k0_pay119 ((View.whole cc0_scratch0).readCov (slabs X g) (⟨![7, 10, 0], S1x32x128.size, ![1, 16, 1], inb_S8x512x128_S1x32x128_7_10_0_s_1_16_1⟩ : LoadRect S8x512x128)))⟩,
   ⟨Rect.unit (s := S512x1024) ![320, 768] S32x128.size inb_S512x1024_S32x128_320_768, k0_pay118 ((View.whole cc0_scratch0).readCov (slabs X g) (⟨![6, 10, 0], S1x32x128.size, ![1, 16, 1], inb_S8x512x128_S1x32x128_6_10_0_s_1_16_1⟩ : LoadRect S8x512x128))⟩,
   ⟨Rect.unit (s := S512x1024) ![320, 640] S32x128.size inb_S512x1024_S32x128_320_640, k0_pay117 ((View.whole cc0_scratch0).readCov (slabs X g) (⟨![5, 10, 0], S1x32x128.size, ![1, 16, 1], inb_S8x512x128_S1x32x128_5_10_0_s_1_16_1⟩ : LoadRect S8x512x128))⟩,
   ⟨Rect.unit (s := S512x1024) ![320, 512] S32x128.size inb_S512x1024_S32x128_320_512, k0_pay116 ((View.whole cc0_scratch0).readCov (slabs X g) (⟨![4, 10, 0], S1x32x128.size, ![1, 16, 1], inb_S8x512x128_S1x32x128_4_10_0_s_1_16_1⟩ : LoadRect S8x512x128))⟩,
   ⟨Rect.unit (s := S512x1024) ![320, 384] S32x128.size inb_S512x1024_S32x128_320_384, k0_pay115 ((View.whole cc0_scratch0).readCov (slabs X g) (⟨![3, 10, 0], S1x32x128.size, ![1, 16, 1], inb_S8x512x128_S1x32x128_3_10_0_s_1_16_1⟩ : LoadRect S8x512x128))⟩,
   ⟨Rect.unit (s := S512x1024) ![320, 256] S32x128.size inb_S512x1024_S32x128_320_256, k0_pay114 (k0_pay113 ((View.whole cc0_scratch0).readCov (slabs X g) (⟨![2, 10, 0], S1x32x128.size, ![1, 16, 1], inb_S8x512x128_S1x32x128_2_10_0_s_1_16_1⟩ : LoadRect S8x512x128)))⟩,
   ⟨Rect.unit (s := S512x1024) ![320, 128] S32x128.size inb_S512x1024_S32x128_320_128, k0_pay112 ((View.whole cc0_scratch0).readCov (slabs X g) (⟨![1, 10, 0], S1x32x128.size, ![1, 16, 1], inb_S8x512x128_S1x32x128_1_10_0_s_1_16_1⟩ : LoadRect S8x512x128))⟩,
   ⟨Rect.unit (s := S512x1024) ![320, 0] S32x128.size inb_S512x1024_S32x128_320_0, k0_pay111 ((View.whole cc0_scratch0).readCov (slabs X g) (⟨![0, 10, 0], S1x32x128.size, ![1, 16, 1], inb_S8x512x128_S1x32x128_0_10_0_s_1_16_1⟩ : LoadRect S8x512x128))⟩,
   ⟨Rect.unit (s := S512x1024) ![288, 896] S32x128.size inb_S512x1024_S32x128_288_896, k0_pay110 ((View.whole cc0_scratch0).readCov (slabs X g) (⟨![7, 9, 0], S1x32x128.size, ![1, 16, 1], inb_S8x512x128_S1x32x128_7_9_0_s_1_16_1⟩ : LoadRect S8x512x128))⟩,
   ⟨Rect.unit (s := S512x1024) ![288, 768] S32x128.size inb_S512x1024_S32x128_288_768, k0_pay109 ((View.whole cc0_scratch0).readCov (slabs X g) (⟨![6, 9, 0], S1x32x128.size, ![1, 16, 1], inb_S8x512x128_S1x32x128_6_9_0_s_1_16_1⟩ : LoadRect S8x512x128))⟩,
   ⟨Rect.unit (s := S512x1024) ![288, 640] S32x128.size inb_S512x1024_S32x128_288_640, k0_pay108 (k0_pay107 ((View.whole cc0_scratch0).readCov (slabs X g) (⟨![5, 9, 0], S1x32x128.size, ![1, 16, 1], inb_S8x512x128_S1x32x128_5_9_0_s_1_16_1⟩ : LoadRect S8x512x128)))⟩,
   ⟨Rect.unit (s := S512x1024) ![288, 512] S32x128.size inb_S512x1024_S32x128_288_512, k0_pay106 ((View.whole cc0_scratch0).readCov (slabs X g) (⟨![4, 9, 0], S1x32x128.size, ![1, 16, 1], inb_S8x512x128_S1x32x128_4_9_0_s_1_16_1⟩ : LoadRect S8x512x128))⟩,
   ⟨Rect.unit (s := S512x1024) ![288, 384] S32x128.size inb_S512x1024_S32x128_288_384, k0_pay105 ((View.whole cc0_scratch0).readCov (slabs X g) (⟨![3, 9, 0], S1x32x128.size, ![1, 16, 1], inb_S8x512x128_S1x32x128_3_9_0_s_1_16_1⟩ : LoadRect S8x512x128))⟩,
   ⟨Rect.unit (s := S512x1024) ![288, 256] S32x128.size inb_S512x1024_S32x128_288_256, k0_pay104 ((View.whole cc0_scratch0).readCov (slabs X g) (⟨![2, 9, 0], S1x32x128.size, ![1, 16, 1], inb_S8x512x128_S1x32x128_2_9_0_s_1_16_1⟩ : LoadRect S8x512x128))⟩,
   ⟨Rect.unit (s := S512x1024) ![288, 128] S32x128.size inb_S512x1024_S32x128_288_128, k0_pay103 ((View.whole cc0_scratch0).readCov (slabs X g) (⟨![1, 9, 0], S1x32x128.size, ![1, 16, 1], inb_S8x512x128_S1x32x128_1_9_0_s_1_16_1⟩ : LoadRect S8x512x128))⟩,
   ⟨Rect.unit (s := S512x1024) ![288, 0] S32x128.size inb_S512x1024_S32x128_288_0, k0_pay102 (k0_pay101 ((View.whole cc0_scratch0).readCov (slabs X g) (⟨![0, 9, 0], S1x32x128.size, ![1, 16, 1], inb_S8x512x128_S1x32x128_0_9_0_s_1_16_1⟩ : LoadRect S8x512x128)))⟩,
   ⟨Rect.unit (s := S512x1024) ![256, 896] S32x128.size inb_S512x1024_S32x128_256_896, k0_pay100 ((View.whole cc0_scratch0).readCov (slabs X g) (⟨![7, 8, 0], S1x32x128.size, ![1, 16, 1], inb_S8x512x128_S1x32x128_7_8_0_s_1_16_1⟩ : LoadRect S8x512x128))⟩,
   ⟨Rect.unit (s := S512x1024) ![256, 768] S32x128.size inb_S512x1024_S32x128_256_768, k0_pay99 ((View.whole cc0_scratch0).readCov (slabs X g) (⟨![6, 8, 0], S1x32x128.size, ![1, 16, 1], inb_S8x512x128_S1x32x128_6_8_0_s_1_16_1⟩ : LoadRect S8x512x128))⟩,
   ⟨Rect.unit (s := S512x1024) ![256, 640] S32x128.size inb_S512x1024_S32x128_256_640, k0_pay98 ((View.whole cc0_scratch0).readCov (slabs X g) (⟨![5, 8, 0], S1x32x128.size, ![1, 16, 1], inb_S8x512x128_S1x32x128_5_8_0_s_1_16_1⟩ : LoadRect S8x512x128))⟩,
   ⟨Rect.unit (s := S512x1024) ![256, 512] S32x128.size inb_S512x1024_S32x128_256_512, k0_pay97 ((View.whole cc0_scratch0).readCov (slabs X g) (⟨![4, 8, 0], S1x32x128.size, ![1, 16, 1], inb_S8x512x128_S1x32x128_4_8_0_s_1_16_1⟩ : LoadRect S8x512x128))⟩,
   ⟨Rect.unit (s := S512x1024) ![256, 384] S32x128.size inb_S512x1024_S32x128_256_384, k0_pay96 (k0_pay95 ((View.whole cc0_scratch0).readCov (slabs X g) (⟨![3, 8, 0], S1x32x128.size, ![1, 16, 1], inb_S8x512x128_S1x32x128_3_8_0_s_1_16_1⟩ : LoadRect S8x512x128)))⟩,
   ⟨Rect.unit (s := S512x1024) ![256, 256] S32x128.size inb_S512x1024_S32x128_256_256, k0_pay94 ((View.whole cc0_scratch0).readCov (slabs X g) (⟨![2, 8, 0], S1x32x128.size, ![1, 16, 1], inb_S8x512x128_S1x32x128_2_8_0_s_1_16_1⟩ : LoadRect S8x512x128))⟩,
   ⟨Rect.unit (s := S512x1024) ![256, 128] S32x128.size inb_S512x1024_S32x128_256_128, k0_pay93 ((View.whole cc0_scratch0).readCov (slabs X g) (⟨![1, 8, 0], S1x32x128.size, ![1, 16, 1], inb_S8x512x128_S1x32x128_1_8_0_s_1_16_1⟩ : LoadRect S8x512x128))⟩,
   ⟨Rect.unit (s := S512x1024) ![256, 0] S32x128.size inb_S512x1024_S32x128_256_0, k0_pay92 ((View.whole cc0_scratch0).readCov (slabs X g) (⟨![0, 8, 0], S1x32x128.size, ![1, 16, 1], inb_S8x512x128_S1x32x128_0_8_0_s_1_16_1⟩ : LoadRect S8x512x128))⟩,
   ⟨Rect.unit (s := S512x1024) ![224, 896] S32x128.size inb_S512x1024_S32x128_224_896, k0_pay91 ((View.whole cc0_scratch0).readCov (slabs X g) (⟨![7, 7, 0], S1x32x128.size, ![1, 16, 1], inb_S8x512x128_S1x32x128_7_7_0_s_1_16_1⟩ : LoadRect S8x512x128))⟩,
   ⟨Rect.unit (s := S512x1024) ![224, 768] S32x128.size inb_S512x1024_S32x128_224_768, k0_pay90 (k0_pay89 ((View.whole cc0_scratch0).readCov (slabs X g) (⟨![6, 7, 0], S1x32x128.size, ![1, 16, 1], inb_S8x512x128_S1x32x128_6_7_0_s_1_16_1⟩ : LoadRect S8x512x128)))⟩,
   ⟨Rect.unit (s := S512x1024) ![224, 640] S32x128.size inb_S512x1024_S32x128_224_640, k0_pay88 ((View.whole cc0_scratch0).readCov (slabs X g) (⟨![5, 7, 0], S1x32x128.size, ![1, 16, 1], inb_S8x512x128_S1x32x128_5_7_0_s_1_16_1⟩ : LoadRect S8x512x128))⟩,
   ⟨Rect.unit (s := S512x1024) ![224, 512] S32x128.size inb_S512x1024_S32x128_224_512, k0_pay87 ((View.whole cc0_scratch0).readCov (slabs X g) (⟨![4, 7, 0], S1x32x128.size, ![1, 16, 1], inb_S8x512x128_S1x32x128_4_7_0_s_1_16_1⟩ : LoadRect S8x512x128))⟩,
   ⟨Rect.unit (s := S512x1024) ![224, 384] S32x128.size inb_S512x1024_S32x128_224_384, k0_pay86 ((View.whole cc0_scratch0).readCov (slabs X g) (⟨![3, 7, 0], S1x32x128.size, ![1, 16, 1], inb_S8x512x128_S1x32x128_3_7_0_s_1_16_1⟩ : LoadRect S8x512x128))⟩,
   ⟨Rect.unit (s := S512x1024) ![224, 256] S32x128.size inb_S512x1024_S32x128_224_256, k0_pay85 ((View.whole cc0_scratch0).readCov (slabs X g) (⟨![2, 7, 0], S1x32x128.size, ![1, 16, 1], inb_S8x512x128_S1x32x128_2_7_0_s_1_16_1⟩ : LoadRect S8x512x128))⟩,
   ⟨Rect.unit (s := S512x1024) ![224, 128] S32x128.size inb_S512x1024_S32x128_224_128, k0_pay84 (k0_pay83 ((View.whole cc0_scratch0).readCov (slabs X g) (⟨![1, 7, 0], S1x32x128.size, ![1, 16, 1], inb_S8x512x128_S1x32x128_1_7_0_s_1_16_1⟩ : LoadRect S8x512x128)))⟩,
   ⟨Rect.unit (s := S512x1024) ![224, 0] S32x128.size inb_S512x1024_S32x128_224_0, k0_pay82 ((View.whole cc0_scratch0).readCov (slabs X g) (⟨![0, 7, 0], S1x32x128.size, ![1, 16, 1], inb_S8x512x128_S1x32x128_0_7_0_s_1_16_1⟩ : LoadRect S8x512x128))⟩,
   ⟨Rect.unit (s := S512x1024) ![192, 896] S32x128.size inb_S512x1024_S32x128_192_896, k0_pay81 ((View.whole cc0_scratch0).readCov (slabs X g) (⟨![7, 6, 0], S1x32x128.size, ![1, 16, 1], inb_S8x512x128_S1x32x128_7_6_0_s_1_16_1⟩ : LoadRect S8x512x128))⟩,
   ⟨Rect.unit (s := S512x1024) ![192, 768] S32x128.size inb_S512x1024_S32x128_192_768, k0_pay80 ((View.whole cc0_scratch0).readCov (slabs X g) (⟨![6, 6, 0], S1x32x128.size, ![1, 16, 1], inb_S8x512x128_S1x32x128_6_6_0_s_1_16_1⟩ : LoadRect S8x512x128))⟩,
   ⟨Rect.unit (s := S512x1024) ![192, 640] S32x128.size inb_S512x1024_S32x128_192_640, k0_pay79 ((View.whole cc0_scratch0).readCov (slabs X g) (⟨![5, 6, 0], S1x32x128.size, ![1, 16, 1], inb_S8x512x128_S1x32x128_5_6_0_s_1_16_1⟩ : LoadRect S8x512x128))⟩,
   ⟨Rect.unit (s := S512x1024) ![192, 512] S32x128.size inb_S512x1024_S32x128_192_512, k0_pay78 (k0_pay77 ((View.whole cc0_scratch0).readCov (slabs X g) (⟨![4, 6, 0], S1x32x128.size, ![1, 16, 1], inb_S8x512x128_S1x32x128_4_6_0_s_1_16_1⟩ : LoadRect S8x512x128)))⟩,
   ⟨Rect.unit (s := S512x1024) ![192, 384] S32x128.size inb_S512x1024_S32x128_192_384, k0_pay76 ((View.whole cc0_scratch0).readCov (slabs X g) (⟨![3, 6, 0], S1x32x128.size, ![1, 16, 1], inb_S8x512x128_S1x32x128_3_6_0_s_1_16_1⟩ : LoadRect S8x512x128))⟩,
   ⟨Rect.unit (s := S512x1024) ![192, 256] S32x128.size inb_S512x1024_S32x128_192_256, k0_pay75 ((View.whole cc0_scratch0).readCov (slabs X g) (⟨![2, 6, 0], S1x32x128.size, ![1, 16, 1], inb_S8x512x128_S1x32x128_2_6_0_s_1_16_1⟩ : LoadRect S8x512x128))⟩,
   ⟨Rect.unit (s := S512x1024) ![192, 128] S32x128.size inb_S512x1024_S32x128_192_128, k0_pay74 ((View.whole cc0_scratch0).readCov (slabs X g) (⟨![1, 6, 0], S1x32x128.size, ![1, 16, 1], inb_S8x512x128_S1x32x128_1_6_0_s_1_16_1⟩ : LoadRect S8x512x128))⟩,
   ⟨Rect.unit (s := S512x1024) ![192, 0] S32x128.size inb_S512x1024_S32x128_192_0, k0_pay73 ((View.whole cc0_scratch0).readCov (slabs X g) (⟨![0, 6, 0], S1x32x128.size, ![1, 16, 1], inb_S8x512x128_S1x32x128_0_6_0_s_1_16_1⟩ : LoadRect S8x512x128))⟩,
   ⟨Rect.unit (s := S512x1024) ![160, 896] S32x128.size inb_S512x1024_S32x128_160_896, k0_pay72 (k0_pay71 ((View.whole cc0_scratch0).readCov (slabs X g) (⟨![7, 5, 0], S1x32x128.size, ![1, 16, 1], inb_S8x512x128_S1x32x128_7_5_0_s_1_16_1⟩ : LoadRect S8x512x128)))⟩,
   ⟨Rect.unit (s := S512x1024) ![160, 768] S32x128.size inb_S512x1024_S32x128_160_768, k0_pay70 ((View.whole cc0_scratch0).readCov (slabs X g) (⟨![6, 5, 0], S1x32x128.size, ![1, 16, 1], inb_S8x512x128_S1x32x128_6_5_0_s_1_16_1⟩ : LoadRect S8x512x128))⟩,
   ⟨Rect.unit (s := S512x1024) ![160, 640] S32x128.size inb_S512x1024_S32x128_160_640, k0_pay69 ((View.whole cc0_scratch0).readCov (slabs X g) (⟨![5, 5, 0], S1x32x128.size, ![1, 16, 1], inb_S8x512x128_S1x32x128_5_5_0_s_1_16_1⟩ : LoadRect S8x512x128))⟩,
   ⟨Rect.unit (s := S512x1024) ![160, 512] S32x128.size inb_S512x1024_S32x128_160_512, k0_pay68 ((View.whole cc0_scratch0).readCov (slabs X g) (⟨![4, 5, 0], S1x32x128.size, ![1, 16, 1], inb_S8x512x128_S1x32x128_4_5_0_s_1_16_1⟩ : LoadRect S8x512x128))⟩,
   ⟨Rect.unit (s := S512x1024) ![160, 384] S32x128.size inb_S512x1024_S32x128_160_384, k0_pay67 ((View.whole cc0_scratch0).readCov (slabs X g) (⟨![3, 5, 0], S1x32x128.size, ![1, 16, 1], inb_S8x512x128_S1x32x128_3_5_0_s_1_16_1⟩ : LoadRect S8x512x128))⟩,
   ⟨Rect.unit (s := S512x1024) ![160, 256] S32x128.size inb_S512x1024_S32x128_160_256, k0_pay66 (k0_pay65 ((View.whole cc0_scratch0).readCov (slabs X g) (⟨![2, 5, 0], S1x32x128.size, ![1, 16, 1], inb_S8x512x128_S1x32x128_2_5_0_s_1_16_1⟩ : LoadRect S8x512x128)))⟩,
   ⟨Rect.unit (s := S512x1024) ![160, 128] S32x128.size inb_S512x1024_S32x128_160_128, k0_pay64 ((View.whole cc0_scratch0).readCov (slabs X g) (⟨![1, 5, 0], S1x32x128.size, ![1, 16, 1], inb_S8x512x128_S1x32x128_1_5_0_s_1_16_1⟩ : LoadRect S8x512x128))⟩,
   ⟨Rect.unit (s := S512x1024) ![160, 0] S32x128.size inb_S512x1024_S32x128_160_0, k0_pay63 ((View.whole cc0_scratch0).readCov (slabs X g) (⟨![0, 5, 0], S1x32x128.size, ![1, 16, 1], inb_S8x512x128_S1x32x128_0_5_0_s_1_16_1⟩ : LoadRect S8x512x128))⟩,
   ⟨Rect.unit (s := S512x1024) ![128, 896] S32x128.size inb_S512x1024_S32x128_128_896, k0_pay62 ((View.whole cc0_scratch0).readCov (slabs X g) (⟨![7, 4, 0], S1x32x128.size, ![1, 16, 1], inb_S8x512x128_S1x32x128_7_4_0_s_1_16_1⟩ : LoadRect S8x512x128))⟩,
   ⟨Rect.unit (s := S512x1024) ![128, 768] S32x128.size inb_S512x1024_S32x128_128_768, k0_pay61 ((View.whole cc0_scratch0).readCov (slabs X g) (⟨![6, 4, 0], S1x32x128.size, ![1, 16, 1], inb_S8x512x128_S1x32x128_6_4_0_s_1_16_1⟩ : LoadRect S8x512x128))⟩,
   ⟨Rect.unit (s := S512x1024) ![128, 640] S32x128.size inb_S512x1024_S32x128_128_640, k0_pay60 (k0_pay59 ((View.whole cc0_scratch0).readCov (slabs X g) (⟨![5, 4, 0], S1x32x128.size, ![1, 16, 1], inb_S8x512x128_S1x32x128_5_4_0_s_1_16_1⟩ : LoadRect S8x512x128)))⟩,
   ⟨Rect.unit (s := S512x1024) ![128, 512] S32x128.size inb_S512x1024_S32x128_128_512, k0_pay58 ((View.whole cc0_scratch0).readCov (slabs X g) (⟨![4, 4, 0], S1x32x128.size, ![1, 16, 1], inb_S8x512x128_S1x32x128_4_4_0_s_1_16_1⟩ : LoadRect S8x512x128))⟩,
   ⟨Rect.unit (s := S512x1024) ![128, 384] S32x128.size inb_S512x1024_S32x128_128_384, k0_pay57 ((View.whole cc0_scratch0).readCov (slabs X g) (⟨![3, 4, 0], S1x32x128.size, ![1, 16, 1], inb_S8x512x128_S1x32x128_3_4_0_s_1_16_1⟩ : LoadRect S8x512x128))⟩,
   ⟨Rect.unit (s := S512x1024) ![128, 256] S32x128.size inb_S512x1024_S32x128_128_256, k0_pay56 ((View.whole cc0_scratch0).readCov (slabs X g) (⟨![2, 4, 0], S1x32x128.size, ![1, 16, 1], inb_S8x512x128_S1x32x128_2_4_0_s_1_16_1⟩ : LoadRect S8x512x128))⟩,
   ⟨Rect.unit (s := S512x1024) ![128, 128] S32x128.size inb_S512x1024_S32x128_128_128, k0_pay55 ((View.whole cc0_scratch0).readCov (slabs X g) (⟨![1, 4, 0], S1x32x128.size, ![1, 16, 1], inb_S8x512x128_S1x32x128_1_4_0_s_1_16_1⟩ : LoadRect S8x512x128))⟩,
   ⟨Rect.unit (s := S512x1024) ![128, 0] S32x128.size inb_S512x1024_S32x128_128_0, k0_pay54 (k0_pay53 ((View.whole cc0_scratch0).readCov (slabs X g) (⟨![0, 4, 0], S1x32x128.size, ![1, 16, 1], inb_S8x512x128_S1x32x128_0_4_0_s_1_16_1⟩ : LoadRect S8x512x128)))⟩,
   ⟨Rect.unit (s := S512x1024) ![96, 896] S32x128.size inb_S512x1024_S32x128_96_896, k0_pay52 ((View.whole cc0_scratch0).readCov (slabs X g) (⟨![7, 3, 0], S1x32x128.size, ![1, 16, 1], inb_S8x512x128_S1x32x128_7_3_0_s_1_16_1⟩ : LoadRect S8x512x128))⟩,
   ⟨Rect.unit (s := S512x1024) ![96, 768] S32x128.size inb_S512x1024_S32x128_96_768, k0_pay51 ((View.whole cc0_scratch0).readCov (slabs X g) (⟨![6, 3, 0], S1x32x128.size, ![1, 16, 1], inb_S8x512x128_S1x32x128_6_3_0_s_1_16_1⟩ : LoadRect S8x512x128))⟩,
   ⟨Rect.unit (s := S512x1024) ![96, 640] S32x128.size inb_S512x1024_S32x128_96_640, k0_pay50 ((View.whole cc0_scratch0).readCov (slabs X g) (⟨![5, 3, 0], S1x32x128.size, ![1, 16, 1], inb_S8x512x128_S1x32x128_5_3_0_s_1_16_1⟩ : LoadRect S8x512x128))⟩,
   ⟨Rect.unit (s := S512x1024) ![96, 512] S32x128.size inb_S512x1024_S32x128_96_512, k0_pay49 ((View.whole cc0_scratch0).readCov (slabs X g) (⟨![4, 3, 0], S1x32x128.size, ![1, 16, 1], inb_S8x512x128_S1x32x128_4_3_0_s_1_16_1⟩ : LoadRect S8x512x128))⟩,
   ⟨Rect.unit (s := S512x1024) ![96, 384] S32x128.size inb_S512x1024_S32x128_96_384, k0_pay48 (k0_pay47 ((View.whole cc0_scratch0).readCov (slabs X g) (⟨![3, 3, 0], S1x32x128.size, ![1, 16, 1], inb_S8x512x128_S1x32x128_3_3_0_s_1_16_1⟩ : LoadRect S8x512x128)))⟩,
   ⟨Rect.unit (s := S512x1024) ![96, 256] S32x128.size inb_S512x1024_S32x128_96_256, k0_pay46 ((View.whole cc0_scratch0).readCov (slabs X g) (⟨![2, 3, 0], S1x32x128.size, ![1, 16, 1], inb_S8x512x128_S1x32x128_2_3_0_s_1_16_1⟩ : LoadRect S8x512x128))⟩,
   ⟨Rect.unit (s := S512x1024) ![96, 128] S32x128.size inb_S512x1024_S32x128_96_128, k0_pay45 ((View.whole cc0_scratch0).readCov (slabs X g) (⟨![1, 3, 0], S1x32x128.size, ![1, 16, 1], inb_S8x512x128_S1x32x128_1_3_0_s_1_16_1⟩ : LoadRect S8x512x128))⟩,
   ⟨Rect.unit (s := S512x1024) ![96, 0] S32x128.size inb_S512x1024_S32x128_96_0, k0_pay44 ((View.whole cc0_scratch0).readCov (slabs X g) (⟨![0, 3, 0], S1x32x128.size, ![1, 16, 1], inb_S8x512x128_S1x32x128_0_3_0_s_1_16_1⟩ : LoadRect S8x512x128))⟩,
   ⟨Rect.unit (s := S512x1024) ![64, 896] S32x128.size inb_S512x1024_S32x128_64_896, k0_pay43 ((View.whole cc0_scratch0).readCov (slabs X g) (⟨![7, 2, 0], S1x32x128.size, ![1, 16, 1], inb_S8x512x128_S1x32x128_7_2_0_s_1_16_1⟩ : LoadRect S8x512x128))⟩,
   ⟨Rect.unit (s := S512x1024) ![64, 768] S32x128.size inb_S512x1024_S32x128_64_768, k0_pay42 (k0_pay41 ((View.whole cc0_scratch0).readCov (slabs X g) (⟨![6, 2, 0], S1x32x128.size, ![1, 16, 1], inb_S8x512x128_S1x32x128_6_2_0_s_1_16_1⟩ : LoadRect S8x512x128)))⟩,
   ⟨Rect.unit (s := S512x1024) ![64, 640] S32x128.size inb_S512x1024_S32x128_64_640, k0_pay40 ((View.whole cc0_scratch0).readCov (slabs X g) (⟨![5, 2, 0], S1x32x128.size, ![1, 16, 1], inb_S8x512x128_S1x32x128_5_2_0_s_1_16_1⟩ : LoadRect S8x512x128))⟩,
   ⟨Rect.unit (s := S512x1024) ![64, 512] S32x128.size inb_S512x1024_S32x128_64_512, k0_pay39 ((View.whole cc0_scratch0).readCov (slabs X g) (⟨![4, 2, 0], S1x32x128.size, ![1, 16, 1], inb_S8x512x128_S1x32x128_4_2_0_s_1_16_1⟩ : LoadRect S8x512x128))⟩,
   ⟨Rect.unit (s := S512x1024) ![64, 384] S32x128.size inb_S512x1024_S32x128_64_384, k0_pay38 ((View.whole cc0_scratch0).readCov (slabs X g) (⟨![3, 2, 0], S1x32x128.size, ![1, 16, 1], inb_S8x512x128_S1x32x128_3_2_0_s_1_16_1⟩ : LoadRect S8x512x128))⟩,
   ⟨Rect.unit (s := S512x1024) ![64, 256] S32x128.size inb_S512x1024_S32x128_64_256, k0_pay37 ((View.whole cc0_scratch0).readCov (slabs X g) (⟨![2, 2, 0], S1x32x128.size, ![1, 16, 1], inb_S8x512x128_S1x32x128_2_2_0_s_1_16_1⟩ : LoadRect S8x512x128))⟩,
   ⟨Rect.unit (s := S512x1024) ![64, 128] S32x128.size inb_S512x1024_S32x128_64_128, k0_pay36 (k0_pay35 ((View.whole cc0_scratch0).readCov (slabs X g) (⟨![1, 2, 0], S1x32x128.size, ![1, 16, 1], inb_S8x512x128_S1x32x128_1_2_0_s_1_16_1⟩ : LoadRect S8x512x128)))⟩,
   ⟨Rect.unit (s := S512x1024) ![64, 0] S32x128.size inb_S512x1024_S32x128_64_0, k0_pay34 ((View.whole cc0_scratch0).readCov (slabs X g) (⟨![0, 2, 0], S1x32x128.size, ![1, 16, 1], inb_S8x512x128_S1x32x128_0_2_0_s_1_16_1⟩ : LoadRect S8x512x128))⟩,
   ⟨Rect.unit (s := S512x1024) ![32, 896] S32x128.size inb_S512x1024_S32x128_32_896, k0_pay33 ((View.whole cc0_scratch0).readCov (slabs X g) (⟨![7, 1, 0], S1x32x128.size, ![1, 16, 1], inb_S8x512x128_S1x32x128_7_1_0_s_1_16_1⟩ : LoadRect S8x512x128))⟩,
   ⟨Rect.unit (s := S512x1024) ![32, 768] S32x128.size inb_S512x1024_S32x128_32_768, k0_pay32 ((View.whole cc0_scratch0).readCov (slabs X g) (⟨![6, 1, 0], S1x32x128.size, ![1, 16, 1], inb_S8x512x128_S1x32x128_6_1_0_s_1_16_1⟩ : LoadRect S8x512x128))⟩,
   ⟨Rect.unit (s := S512x1024) ![32, 640] S32x128.size inb_S512x1024_S32x128_32_640, k0_pay31 ((View.whole cc0_scratch0).readCov (slabs X g) (⟨![5, 1, 0], S1x32x128.size, ![1, 16, 1], inb_S8x512x128_S1x32x128_5_1_0_s_1_16_1⟩ : LoadRect S8x512x128))⟩,
   ⟨Rect.unit (s := S512x1024) ![32, 512] S32x128.size inb_S512x1024_S32x128_32_512, k0_pay30 (k0_pay29 ((View.whole cc0_scratch0).readCov (slabs X g) (⟨![4, 1, 0], S1x32x128.size, ![1, 16, 1], inb_S8x512x128_S1x32x128_4_1_0_s_1_16_1⟩ : LoadRect S8x512x128)))⟩,
   ⟨Rect.unit (s := S512x1024) ![32, 384] S32x128.size inb_S512x1024_S32x128_32_384, k0_pay28 ((View.whole cc0_scratch0).readCov (slabs X g) (⟨![3, 1, 0], S1x32x128.size, ![1, 16, 1], inb_S8x512x128_S1x32x128_3_1_0_s_1_16_1⟩ : LoadRect S8x512x128))⟩,
   ⟨Rect.unit (s := S512x1024) ![32, 256] S32x128.size inb_S512x1024_S32x128_32_256, k0_pay27 ((View.whole cc0_scratch0).readCov (slabs X g) (⟨![2, 1, 0], S1x32x128.size, ![1, 16, 1], inb_S8x512x128_S1x32x128_2_1_0_s_1_16_1⟩ : LoadRect S8x512x128))⟩,
   ⟨Rect.unit (s := S512x1024) ![32, 128] S32x128.size inb_S512x1024_S32x128_32_128, k0_pay26 ((View.whole cc0_scratch0).readCov (slabs X g) (⟨![1, 1, 0], S1x32x128.size, ![1, 16, 1], inb_S8x512x128_S1x32x128_1_1_0_s_1_16_1⟩ : LoadRect S8x512x128))⟩,
   ⟨Rect.unit (s := S512x1024) ![32, 0] S32x128.size inb_S512x1024_S32x128_32_0, k0_pay25 ((View.whole cc0_scratch0).readCov (slabs X g) (⟨![0, 1, 0], S1x32x128.size, ![1, 16, 1], inb_S8x512x128_S1x32x128_0_1_0_s_1_16_1⟩ : LoadRect S8x512x128))⟩,
   ⟨Rect.unit (s := S512x1024) ![0, 896] S32x128.size inb_S512x1024_S32x128_0_896, k0_pay24 (k0_pay23 ((View.whole cc0_scratch0).readCov (slabs X g) (⟨![7, 0, 0], S1x32x128.size, ![1, 16, 1], inb_S8x512x128_S1x32x128_7_0_0_s_1_16_1⟩ : LoadRect S8x512x128)))⟩,
   ⟨Rect.unit (s := S512x1024) ![0, 768] S32x128.size inb_S512x1024_S32x128_0_768, k0_pay22 ((View.whole cc0_scratch0).readCov (slabs X g) (⟨![6, 0, 0], S1x32x128.size, ![1, 16, 1], inb_S8x512x128_S1x32x128_6_0_0_s_1_16_1⟩ : LoadRect S8x512x128))⟩,
   ⟨Rect.unit (s := S512x1024) ![0, 640] S32x128.size inb_S512x1024_S32x128_0_640, k0_pay21 ((View.whole cc0_scratch0).readCov (slabs X g) (⟨![5, 0, 0], S1x32x128.size, ![1, 16, 1], inb_S8x512x128_S1x32x128_5_0_0_s_1_16_1⟩ : LoadRect S8x512x128))⟩,
   ⟨Rect.unit (s := S512x1024) ![0, 512] S32x128.size inb_S512x1024_S32x128_0_512, k0_pay20 ((View.whole cc0_scratch0).readCov (slabs X g) (⟨![4, 0, 0], S1x32x128.size, ![1, 16, 1], inb_S8x512x128_S1x32x128_4_0_0_s_1_16_1⟩ : LoadRect S8x512x128))⟩,
   ⟨Rect.unit (s := S512x1024) ![0, 384] S32x128.size inb_S512x1024_S32x128_0_384, k0_pay19 ((View.whole cc0_scratch0).readCov (slabs X g) (⟨![3, 0, 0], S1x32x128.size, ![1, 16, 1], inb_S8x512x128_S1x32x128_3_0_0_s_1_16_1⟩ : LoadRect S8x512x128))⟩,
   ⟨Rect.unit (s := S512x1024) ![0, 256] S32x128.size inb_S512x1024_S32x128_0_256, k0_pay18 (k0_pay17 ((View.whole cc0_scratch0).readCov (slabs X g) (⟨![2, 0, 0], S1x32x128.size, ![1, 16, 1], inb_S8x512x128_S1x32x128_2_0_0_s_1_16_1⟩ : LoadRect S8x512x128)))⟩,
   ⟨Rect.unit (s := S512x1024) ![0, 128] S32x128.size inb_S512x1024_S32x128_0_128, k0_pay16 ((View.whole cc0_scratch0).readCov (slabs X g) (⟨![1, 0, 0], S1x32x128.size, ![1, 16, 1], inb_S8x512x128_S1x32x128_1_0_0_s_1_16_1⟩ : LoadRect S8x512x128))⟩,
   ⟨Rect.unit (s := S512x1024) ![0, 0] S32x128.size inb_S512x1024_S32x128_0_0, k0_pay15 ((View.whole cc0_scratch0).readCov (slabs X g) (⟨![0, 0, 0], S1x32x128.size, ![1, 16, 1], inb_S8x512x128_S1x32x128_0_0_0_s_1_16_1⟩ : LoadRect S8x512x128))⟩]

/-- The value of the strips at an index: row `q * 32 + r` is row `r * 16 + q` of the block. -/
def turn (Z : FVec Ideal S512x1024 .f32) (y : S512x1024.Idx) : EReal :=
  Z (ix2 ⟨(y 0).val % 32 * 16 + (y 0).val / 32, by
    have h0 : (y 0).val < 512 := (y 0).isLt
    omega⟩ (y 1))

theorem thin (Q : FVec Ideal S1x32x128 .f32) (hc : S1x32x128.ShapeCasts S32x128) (hc' : S32x128.ShapeCasts S32x128) (r : Fin 32) (l : Fin 128) :
    shapeCast S32x128 (truncf .bf16 (shapeCast S32x128 Q hc : FVec Ideal S32x128 .f32) bitsLt_bf16_f32) hc' (ix2 r l) = Q (ix3 0 r l) := by
  pointwise

theorem strip (P : FVec Ideal S1x32x128 .f32 → FVec Ideal S32x128 .bf16) (hP : ∀ Q r l, P Q (ix2 r l) = Q (ix3 0 r l))
    (X : Vec Ideal S1x512x1024 .f32) (g : Vec Ideal S1x1024 .f32) (n q o₁ o₂ : ℕ) (hn : n < 8) (hq : q < 16) (h₁ : o₁ = q * 32) (h₂ : o₂ = n * 128)
    (hb : ∀ a, S1x32x128.size a = 0 ∨ (![n, q, 0] : Fin 3 → Nat) a + (![1, 16, 1] : Fin 3 → Nat) a * (S1x32x128.size a - 1) < S8x512x128.size a)
    (hb' : ∀ a, (![o₁, o₂] : Fin 2 → Nat) a + S32x128.size a ≤ S512x1024.size a) (x : S32x128.Idx) :
    P ((View.whole cc0_scratch0).readCov (slabs X g) (⟨![n, q, 0], S1x32x128.size, ![1, 16, 1], hb⟩ : LoadRect S8x512x128)) x
      = turn (k0_pay5 X g) ((Rect.unit (s := S512x1024) ![o₁, o₂] S32x128.size hb').emb x) := by
  subst h₁ h₂
  have hQ : ∀ (r : Fin 32) (l : Fin 128), ((View.whole cc0_scratch0).readCov (slabs X g) (⟨![n, q, 0], S1x32x128.size, ![1, 16, 1], hb⟩ : LoadRect S8x512x128) : FVec Ideal S1x32x128 .f32) (ix3 0 r l)
      = k0_pay5 X g (ix2 ⟨r.val * 16 + q, by omega⟩ ⟨n * 128 + l.val, by omega⟩) := fun r l => by
    rw [View.readCov_eq_canon']
    refine (slab_at X g _).trans ?_
    unfold lane
    refine congrArg (k0_pay5 X g) (congrArg₂ ix2 (Fin.ext ?_) (Fin.ext ?_))
    · show q + 16 * r.val = r.val * 16 + q; omega
    · show (n + 1 * 0) * 128 + (0 + 1 * l.val) = n * 128 + l.val; omega
  obtain ⟨r, l, rfl⟩ : ∃ (r : Fin 32) (l : Fin 128), x = ix2 r l := ⟨x 0, x 1, eq_ix2 x⟩
  refine Eq.trans (b := k0_pay5 X g (ix2 ⟨r.val * 16 + q, by omega⟩ ⟨n * 128 + l.val, by omega⟩)) ?_ ?_
  · exact (hP _ r l).trans (hQ r l)
  · unfold turn
    refine congrArg (k0_pay5 X g) (congrArg₂ ix2 (Fin.ext ?_) (Fin.ext ?_))
    · show r.val * 16 + q = (q * 32 + 1 * r.val) % 32 * 16 + (q * 32 + 1 * r.val) / 32; omega
    · show n * 128 + l.val = n * 128 + 1 * l.val; omega

/-- A strip holds the rows it names. -/
def Good (X : Vec Ideal S1x512x1024 .f32) (g : Vec Ideal S1x1024 .f32) (p : View.Piece (Elt Ideal) S512x1024 .bf16) : Prop :=
  ∀ x, p.2 x = turn (k0_pay5 X g) (p.1.emb x)

theorem good (P : FVec Ideal S1x32x128 .f32 → FVec Ideal S32x128 .bf16) (hP : ∀ Q r l, P Q (ix2 r l) = Q (ix3 0 r l))
    (X : Vec Ideal S1x512x1024 .f32) (g : Vec Ideal S1x1024 .f32) (n q o₁ o₂ : ℕ) (hn : n < 8) (hq : q < 16) (h₁ : o₁ = q * 32) (h₂ : o₂ = n * 128)
    (hb : ∀ a, S1x32x128.size a = 0 ∨ (![n, q, 0] : Fin 3 → Nat) a + (![1, 16, 1] : Fin 3 → Nat) a * (S1x32x128.size a - 1) < S8x512x128.size a)
    (hb' : ∀ a, (![o₁, o₂] : Fin 2 → Nat) a + S32x128.size a ≤ S512x1024.size a) :
    Good X g ⟨Rect.unit (s := S512x1024) ![o₁, o₂] S32x128.size hb', P ((View.whole cc0_scratch0).readCov (slabs X g) (⟨![n, q, 0], S1x32x128.size, ![1, 16, 1], hb⟩ : LoadRect S8x512x128))⟩ :=
  fun x => strip P hP X g n q o₁ o₂ hn hq h₁ h₂ hb hb' x

/-- The gathered rows, read as a whole. -/
def rows (X : Vec Ideal S1x512x1024 .f32) (g : Vec Ideal S1x1024 .f32) : Vec Ideal S512x1024 .bf16 :=
  (View.whole cc0_scratch1).readCov (strips X g) (Rect.unit (s := S512x1024) ![0, 0] S512x1024.size inb_S512x1024_S512x1024_0_0).toLoadRect

theorem goods (X : Vec Ideal S1x512x1024 .f32) (g : Vec Ideal S1x1024 .f32) : ∀ p ∈ strips X g, Good X g p := by
  unfold strips
  refine List.forall_mem_cons.mpr ⟨good (fun Q => k0_pay168 (F := Ideal) (k0_pay167 (F := Ideal) Q)) (fun Q r l => thin Q _ _ r l) X g 7 15 480 896 (by decide) (by decide) rfl rfl inb_S8x512x128_S1x32x128_7_15_0_s_1_16_1 inb_S512x1024_S32x128_480_896, ?_⟩
  refine List.forall_mem_cons.mpr ⟨good (k0_pay166 (F := Ideal)) (fun Q r l => thin Q _ _ r l) X g 6 15 480 768 (by decide) (by decide) rfl rfl inb_S8x512x128_S1x32x128_6_15_0_s_1_16_1 inb_S512x1024_S32x128_480_768, ?_⟩
  refine List.forall_mem_cons.mpr ⟨good (k0_pay165 (F := Ideal)) (fun Q r l => thin Q _ _ r l) X g 5 15 480 640 (by decide) (by decide) rfl rfl inb_S8x512x128_S1x32x128_5_15_0_s_1_16_1 inb_S512x1024_S32x128_480_640, ?_⟩
  refine List.forall_mem_cons.mpr ⟨good (k0_pay164 (F := Ideal)) (fun Q r l => thin Q _ _ r l) X g 4 15 480 512 (by decide) (by decide) rfl rfl inb_S8x512x128_S1x32x128_4_15_0_s_1_16_1 inb_S512x1024_S32x128_480_512, ?_⟩
  refine List.forall_mem_cons.mpr ⟨good (k0_pay163 (F := Ideal)) (fun Q r l => thin Q _ _ r l) X g 3 15 480 384 (by decide) (by decide) rfl rfl inb_S8x512x128_S1x32x128_3_15_0_s_1_16_1 inb_S512x1024_S32x128_480_384, ?_⟩
  refine List.forall_mem_cons.mpr ⟨good (fun Q => k0_pay162 (F := Ideal) (k0_pay161 (F := Ideal) Q)) (fun Q r l => thin Q _ _ r l) X g 2 15 480 256 (by decide) (by decide) rfl rfl inb_S8x512x128_S1x32x128_2_15_0_s_1_16_1 inb_S512x1024_S32x128_480_256, ?_⟩
  refine List.forall_mem_cons.mpr ⟨good (k0_pay160 (F := Ideal)) (fun Q r l => thin Q _ _ r l) X g 1 15 480 128 (by decide) (by decide) rfl rfl inb_S8x512x128_S1x32x128_1_15_0_s_1_16_1 inb_S512x1024_S32x128_480_128, ?_⟩
  refine List.forall_mem_cons.mpr ⟨good (k0_pay159 (F := Ideal)) (fun Q r l => thin Q _ _ r l) X g 0 15 480 0 (by decide) (by decide) rfl rfl inb_S8x512x128_S1x32x128_0_15_0_s_1_16_1 inb_S512x1024_S32x128_480_0, ?_⟩
  refine List.forall_mem_cons.mpr ⟨good (k0_pay158 (F := Ideal)) (fun Q r l => thin Q _ _ r l) X g 7 14 448 896 (by decide) (by decide) rfl rfl inb_S8x512x128_S1x32x128_7_14_0_s_1_16_1 inb_S512x1024_S32x128_448_896, ?_⟩
  refine List.forall_mem_cons.mpr ⟨good (k0_pay157 (F := Ideal)) (fun Q r l => thin Q _ _ r l) X g 6 14 448 768 (by decide) (by decide) rfl rfl inb_S8x512x128_S1x32x128_6_14_0_s_1_16_1 inb_S512x1024_S32x128_448_768, ?_⟩
  refine List.forall_mem_cons.mpr ⟨good (fun Q => k0_pay156 (F := Ideal) (k0_pay155 (F := Ideal) Q)) (fun Q r l => thin Q _ _ r l) X g 5 14 448 640 (by decide) (by decide) rfl rfl inb_S8x512x128_S1x32x128_5_14_0_s_1_16_1 inb_S512x1024_S32x128_448_640, ?_⟩
  refine List.forall_mem_cons.mpr ⟨good (k0_pay154 (F := Ideal)) (fun Q r l => thin Q _ _ r l) X g 4 14 448 512 (by decide) (by decide) rfl rfl inb_S8x512x128_S1x32x128_4_14_0_s_1_16_1 inb_S512x1024_S32x128_448_512, ?_⟩
  refine List.forall_mem_cons.mpr ⟨good (k0_pay153 (F := Ideal)) (fun Q r l => thin Q _ _ r l) X g 3 14 448 384 (by decide) (by decide) rfl rfl inb_S8x512x128_S1x32x128_3_14_0_s_1_16_1 inb_S512x1024_S32x128_448_384, ?_⟩
  refine List.forall_mem_cons.mpr ⟨good (k0_pay152 (F := Ideal)) (fun Q r l => thin Q _ _ r l) X g 2 14 448 256 (by decide) (by decide) rfl rfl inb_S8x512x128_S1x32x128_2_14_0_s_1_16_1 inb_S512x1024_S32x128_448_256, ?_⟩
  refine List.forall_mem_cons.mpr ⟨good (k0_pay151 (F := Ideal)) (fun Q r l => thin Q _ _ r l) X g 1 14 448 128 (by decide) (by decide) rfl rfl inb_S8x512x128_S1x32x128_1_14_0_s_1_16_1 inb_S512x1024_S32x128_448_128, ?_⟩
  refine List.forall_mem_cons.mpr ⟨good (fun Q => k0_pay150 (F := Ideal) (k0_pay149 (F := Ideal) Q)) (fun Q r l => thin Q _ _ r l) X g 0 14 448 0 (by decide) (by decide) rfl rfl inb_S8x512x128_S1x32x128_0_14_0_s_1_16_1 inb_S512x1024_S32x128_448_0, ?_⟩
  refine List.forall_mem_cons.mpr ⟨good (k0_pay148 (F := Ideal)) (fun Q r l => thin Q _ _ r l) X g 7 13 416 896 (by decide) (by decide) rfl rfl inb_S8x512x128_S1x32x128_7_13_0_s_1_16_1 inb_S512x1024_S32x128_416_896, ?_⟩
  refine List.forall_mem_cons.mpr ⟨good (k0_pay147 (F := Ideal)) (fun Q r l => thin Q _ _ r l) X g 6 13 416 768 (by decide) (by decide) rfl rfl inb_S8x512x128_S1x32x128_6_13_0_s_1_16_1 inb_S512x1024_S32x128_416_768, ?_⟩
  refine List.forall_mem_cons.mpr ⟨good (k0_pay146 (F := Ideal)) (fun Q r l => thin Q _ _ r l) X g 5 13 416 640 (by decide) (by decide) rfl rfl inb_S8x512x128_S1x32x128_5_13_0_s_1_16_1 inb_S512x1024_S32x128_416_640, ?_⟩
  refine List.forall_mem_cons.mpr ⟨good (k0_pay145 (F := Ideal)) (fun Q r l => thin Q _ _ r l) X g 4 13 416 512 (by decide) (by decide) rfl rfl inb_S8x512x128_S1x32x128_4_13_0_s_1_16_1 inb_S512x1024_S32x128_416_512, ?_⟩
  refine List.forall_mem_cons.mpr ⟨good (fun Q => k0_pay144 (F := Ideal) (k0_pay143 (F := Ideal) Q)) (fun Q r l => thin Q _ _ r l) X g 3 13 416 384 (by decide) (by decide) rfl rfl inb_S8x512x128_S1x32x128_3_13_0_s_1_16_1 inb_S512x1024_S32x128_416_384, ?_⟩
  refine List.forall_mem_cons.mpr ⟨good (k0_pay142 (F := Ideal)) (fun Q r l => thin Q _ _ r l) X g 2 13 416 256 (by decide) (by decide) rfl rfl inb_S8x512x128_S1x32x128_2_13_0_s_1_16_1 inb_S512x1024_S32x128_416_256, ?_⟩
  refine List.forall_mem_cons.mpr ⟨good (k0_pay141 (F := Ideal)) (fun Q r l => thin Q _ _ r l) X g 1 13 416 128 (by decide) (by decide) rfl rfl inb_S8x512x128_S1x32x128_1_13_0_s_1_16_1 inb_S512x1024_S32x128_416_128, ?_⟩
  refine List.forall_mem_cons.mpr ⟨good (k0_pay140 (F := Ideal)) (fun Q r l => thin Q _ _ r l) X g 0 13 416 0 (by decide) (by decide) rfl rfl inb_S8x512x128_S1x32x128_0_13_0_s_1_16_1 inb_S512x1024_S32x128_416_0, ?_⟩
  refine List.forall_mem_cons.mpr ⟨good (k0_pay139 (F := Ideal)) (fun Q r l => thin Q _ _ r l) X g 7 12 384 896 (by decide) (by decide) rfl rfl inb_S8x512x128_S1x32x128_7_12_0_s_1_16_1 inb_S512x1024_S32x128_384_896, ?_⟩
  refine List.forall_mem_cons.mpr ⟨good (fun Q => k0_pay138 (F := Ideal) (k0_pay137 (F := Ideal) Q)) (fun Q r l => thin Q _ _ r l) X g 6 12 384 768 (by decide) (by decide) rfl rfl inb_S8x512x128_S1x32x128_6_12_0_s_1_16_1 inb_S512x1024_S32x128_384_768, ?_⟩
  refine List.forall_mem_cons.mpr ⟨good (k0_pay136 (F := Ideal)) (fun Q r l => thin Q _ _ r l) X g 5 12 384 640 (by decide) (by decide) rfl rfl inb_S8x512x128_S1x32x128_5_12_0_s_1_16_1 inb_S512x1024_S32x128_384_640, ?_⟩
  refine List.forall_mem_cons.mpr ⟨good (k0_pay135 (F := Ideal)) (fun Q r l => thin Q _ _ r l) X g 4 12 384 512 (by decide) (by decide) rfl rfl inb_S8x512x128_S1x32x128_4_12_0_s_1_16_1 inb_S512x1024_S32x128_384_512, ?_⟩
  refine List.forall_mem_cons.mpr ⟨good (k0_pay134 (F := Ideal)) (fun Q r l => thin Q _ _ r l) X g 3 12 384 384 (by decide) (by decide) rfl rfl inb_S8x512x128_S1x32x128_3_12_0_s_1_16_1 inb_S512x1024_S32x128_384_384, ?_⟩
  refine List.forall_mem_cons.mpr ⟨good (k0_pay133 (F := Ideal)) (fun Q r l => thin Q _ _ r l) X g 2 12 384 256 (by decide) (by decide) rfl rfl inb_S8x512x128_S1x32x128_2_12_0_s_1_16_1 inb_S512x1024_S32x128_384_256, ?_⟩
  refine List.forall_mem_cons.mpr ⟨good (fun Q => k0_pay132 (F := Ideal) (k0_pay131 (F := Ideal) Q)) (fun Q r l => thin Q _ _ r l) X g 1 12 384 128 (by decide) (by decide) rfl rfl inb_S8x512x128_S1x32x128_1_12_0_s_1_16_1 inb_S512x1024_S32x128_384_128, ?_⟩
  refine List.forall_mem_cons.mpr ⟨good (k0_pay130 (F := Ideal)) (fun Q r l => thin Q _ _ r l) X g 0 12 384 0 (by decide) (by decide) rfl rfl inb_S8x512x128_S1x32x128_0_12_0_s_1_16_1 inb_S512x1024_S32x128_384_0, ?_⟩
  refine List.forall_mem_cons.mpr ⟨good (k0_pay129 (F := Ideal)) (fun Q r l => thin Q _ _ r l) X g 7 11 352 896 (by decide) (by decide) rfl rfl inb_S8x512x128_S1x32x128_7_11_0_s_1_16_1 inb_S512x1024_S32x128_352_896, ?_⟩
  refine List.forall_mem_cons.mpr ⟨good (k0_pay128 (F := Ideal)) (fun Q r l => thin Q _ _ r l) X g 6 11 352 768 (by decide) (by decide) rfl rfl inb_S8x512x128_S1x32x128_6_11_0_s_1_16_1 inb_S512x1024_S32x128_352_768, ?_⟩
  refine List.forall_mem_cons.mpr ⟨good (k0_pay127 (F := Ideal)) (fun Q r l => thin Q _ _ r l) X g 5 11 352 640 (by decide) (by decide) rfl rfl inb_S8x512x128_S1x32x128_5_11_0_s_1_16_1 inb_S512x1024_S32x128_352_640, ?_⟩
  refine List.forall_mem_cons.mpr ⟨good (fun Q => k0_pay126 (F := Ideal) (k0_pay125 (F := Ideal) Q)) (fun Q r l => thin Q _ _ r l) X g 4 11 352 512 (by decide) (by decide) rfl rfl inb_S8x512x128_S1x32x128_4_11_0_s_1_16_1 inb_S512x1024_S32x128_352_512, ?_⟩
  refine List.forall_mem_cons.mpr ⟨good (k0_pay124 (F := Ideal)) (fun Q r l => thin Q _ _ r l) X g 3 11 352 384 (by decide) (by decide) rfl rfl inb_S8x512x128_S1x32x128_3_11_0_s_1_16_1 inb_S512x1024_S32x128_352_384, ?_⟩
  refine List.forall_mem_cons.mpr ⟨good (k0_pay123 (F := Ideal)) (fun Q r l => thin Q _ _ r l) X g 2 11 352 256 (by decide) (by decide) rfl rfl inb_S8x512x128_S1x32x128_2_11_0_s_1_16_1 inb_S512x1024_S32x128_352_256, ?_⟩
  refine List.forall_mem_cons.mpr ⟨good (k0_pay122 (F := Ideal)) (fun Q r l => thin Q _ _ r l) X g 1 11 352 128 (by decide) (by decide) rfl rfl inb_S8x512x128_S1x32x128_1_11_0_s_1_16_1 inb_S512x1024_S32x128_352_128, ?_⟩
  refine List.forall_mem_cons.mpr ⟨good (k0_pay121 (F := Ideal)) (fun Q r l => thin Q _ _ r l) X g 0 11 352 0 (by decide) (by decide) rfl rfl inb_S8x512x128_S1x32x128_0_11_0_s_1_16_1 inb_S512x1024_S32x128_352_0, ?_⟩
  refine List.forall_mem_cons.mpr ⟨good (fun Q => k0_pay120 (F := Ideal) (k0_pay119 (F := Ideal) Q)) (fun Q r l => thin Q _ _ r l) X g 7 10 320 896 (by decide) (by decide) rfl rfl inb_S8x512x128_S1x32x128_7_10_0_s_1_16_1 inb_S512x1024_S32x128_320_896, ?_⟩
  refine List.forall_mem_cons.mpr ⟨good (k0_pay118 (F := Ideal)) (fun Q r l => thin Q _ _ r l) X g 6 10 320 768 (by decide) (by decide) rfl rfl inb_S8x512x128_S1x32x128_6_10_0_s_1_16_1 inb_S512x1024_S32x128_320_768, ?_⟩
  refine List.forall_mem_cons.mpr ⟨good (k0_pay117 (F := Ideal)) (fun Q r l => thin Q _ _ r l) X g 5 10 320 640 (by decide) (by decide) rfl rfl inb_S8x512x128_S1x32x128_5_10_0_s_1_16_1 inb_S512x1024_S32x128_320_640, ?_⟩
  refine List.forall_mem_cons.mpr ⟨good (k0_pay116 (F := Ideal)) (fun Q r l => thin Q _ _ r l) X g 4 10 320 512 (by decide) (by decide) rfl rfl inb_S8x512x128_S1x32x128_4_10_0_s_1_16_1 inb_S512x1024_S32x128_320_512, ?_⟩
  refine List.forall_mem_cons.mpr ⟨good (k0_pay115 (F := Ideal)) (fun Q r l => thin Q _ _ r l) X g 3 10 320 384 (by decide) (by decide) rfl rfl inb_S8x512x128_S1x32x128_3_10_0_s_1_16_1 inb_S512x1024_S32x128_320_384, ?_⟩
  refine List.forall_mem_cons.mpr ⟨good (fun Q => k0_pay114 (F := Ideal) (k0_pay113 (F := Ideal) Q)) (fun Q r l => thin Q _ _ r l) X g 2 10 320 256 (by decide) (by decide) rfl rfl inb_S8x512x128_S1x32x128_2_10_0_s_1_16_1 inb_S512x1024_S32x128_320_256, ?_⟩
  refine List.forall_mem_cons.mpr ⟨good (k0_pay112 (F := Ideal)) (fun Q r l => thin Q _ _ r l) X g 1 10 320 128 (by decide) (by decide) rfl rfl inb_S8x512x128_S1x32x128_1_10_0_s_1_16_1 inb_S512x1024_S32x128_320_128, ?_⟩
  refine List.forall_mem_cons.mpr ⟨good (k0_pay111 (F := Ideal)) (fun Q r l => thin Q _ _ r l) X g 0 10 320 0 (by decide) (by decide) rfl rfl inb_S8x512x128_S1x32x128_0_10_0_s_1_16_1 inb_S512x1024_S32x128_320_0, ?_⟩
  refine List.forall_mem_cons.mpr ⟨good (k0_pay110 (F := Ideal)) (fun Q r l => thin Q _ _ r l) X g 7 9 288 896 (by decide) (by decide) rfl rfl inb_S8x512x128_S1x32x128_7_9_0_s_1_16_1 inb_S512x1024_S32x128_288_896, ?_⟩
  refine List.forall_mem_cons.mpr ⟨good (k0_pay109 (F := Ideal)) (fun Q r l => thin Q _ _ r l) X g 6 9 288 768 (by decide) (by decide) rfl rfl inb_S8x512x128_S1x32x128_6_9_0_s_1_16_1 inb_S512x1024_S32x128_288_768, ?_⟩
  refine List.forall_mem_cons.mpr ⟨good (fun Q => k0_pay108 (F := Ideal) (k0_pay107 (F := Ideal) Q)) (fun Q r l => thin Q _ _ r l) X g 5 9 288 640 (by decide) (by decide) rfl rfl inb_S8x512x128_S1x32x128_5_9_0_s_1_16_1 inb_S512x1024_S32x128_288_640, ?_⟩
  refine List.forall_mem_cons.mpr ⟨good (k0_pay106 (F := Ideal)) (fun Q r l => thin Q _ _ r l) X g 4 9 288 512 (by decide) (by decide) rfl rfl inb_S8x512x128_S1x32x128_4_9_0_s_1_16_1 inb_S512x1024_S32x128_288_512, ?_⟩
  refine List.forall_mem_cons.mpr ⟨good (k0_pay105 (F := Ideal)) (fun Q r l => thin Q _ _ r l) X g 3 9 288 384 (by decide) (by decide) rfl rfl inb_S8x512x128_S1x32x128_3_9_0_s_1_16_1 inb_S512x1024_S32x128_288_384, ?_⟩
  refine List.forall_mem_cons.mpr ⟨good (k0_pay104 (F := Ideal)) (fun Q r l => thin Q _ _ r l) X g 2 9 288 256 (by decide) (by decide) rfl rfl inb_S8x512x128_S1x32x128_2_9_0_s_1_16_1 inb_S512x1024_S32x128_288_256, ?_⟩
  refine List.forall_mem_cons.mpr ⟨good (k0_pay103 (F := Ideal)) (fun Q r l => thin Q _ _ r l) X g 1 9 288 128 (by decide) (by decide) rfl rfl inb_S8x512x128_S1x32x128_1_9_0_s_1_16_1 inb_S512x1024_S32x128_288_128, ?_⟩
  refine List.forall_mem_cons.mpr ⟨good (fun Q => k0_pay102 (F := Ideal) (k0_pay101 (F := Ideal) Q)) (fun Q r l => thin Q _ _ r l) X g 0 9 288 0 (by decide) (by decide) rfl rfl inb_S8x512x128_S1x32x128_0_9_0_s_1_16_1 inb_S512x1024_S32x128_288_0, ?_⟩
  refine List.forall_mem_cons.mpr ⟨good (k0_pay100 (F := Ideal)) (fun Q r l => thin Q _ _ r l) X g 7 8 256 896 (by decide) (by decide) rfl rfl inb_S8x512x128_S1x32x128_7_8_0_s_1_16_1 inb_S512x1024_S32x128_256_896, ?_⟩
  refine List.forall_mem_cons.mpr ⟨good (k0_pay99 (F := Ideal)) (fun Q r l => thin Q _ _ r l) X g 6 8 256 768 (by decide) (by decide) rfl rfl inb_S8x512x128_S1x32x128_6_8_0_s_1_16_1 inb_S512x1024_S32x128_256_768, ?_⟩
  refine List.forall_mem_cons.mpr ⟨good (k0_pay98 (F := Ideal)) (fun Q r l => thin Q _ _ r l) X g 5 8 256 640 (by decide) (by decide) rfl rfl inb_S8x512x128_S1x32x128_5_8_0_s_1_16_1 inb_S512x1024_S32x128_256_640, ?_⟩
  refine List.forall_mem_cons.mpr ⟨good (k0_pay97 (F := Ideal)) (fun Q r l => thin Q _ _ r l) X g 4 8 256 512 (by decide) (by decide) rfl rfl inb_S8x512x128_S1x32x128_4_8_0_s_1_16_1 inb_S512x1024_S32x128_256_512, ?_⟩
  refine List.forall_mem_cons.mpr ⟨good (fun Q => k0_pay96 (F := Ideal) (k0_pay95 (F := Ideal) Q)) (fun Q r l => thin Q _ _ r l) X g 3 8 256 384 (by decide) (by decide) rfl rfl inb_S8x512x128_S1x32x128_3_8_0_s_1_16_1 inb_S512x1024_S32x128_256_384, ?_⟩
  refine List.forall_mem_cons.mpr ⟨good (k0_pay94 (F := Ideal)) (fun Q r l => thin Q _ _ r l) X g 2 8 256 256 (by decide) (by decide) rfl rfl inb_S8x512x128_S1x32x128_2_8_0_s_1_16_1 inb_S512x1024_S32x128_256_256, ?_⟩
  refine List.forall_mem_cons.mpr ⟨good (k0_pay93 (F := Ideal)) (fun Q r l => thin Q _ _ r l) X g 1 8 256 128 (by decide) (by decide) rfl rfl inb_S8x512x128_S1x32x128_1_8_0_s_1_16_1 inb_S512x1024_S32x128_256_128, ?_⟩
  refine List.forall_mem_cons.mpr ⟨good (k0_pay92 (F := Ideal)) (fun Q r l => thin Q _ _ r l) X g 0 8 256 0 (by decide) (by decide) rfl rfl inb_S8x512x128_S1x32x128_0_8_0_s_1_16_1 inb_S512x1024_S32x128_256_0, ?_⟩
  refine List.forall_mem_cons.mpr ⟨good (k0_pay91 (F := Ideal)) (fun Q r l => thin Q _ _ r l) X g 7 7 224 896 (by decide) (by decide) rfl rfl inb_S8x512x128_S1x32x128_7_7_0_s_1_16_1 inb_S512x1024_S32x128_224_896, ?_⟩
  refine List.forall_mem_cons.mpr ⟨good (fun Q => k0_pay90 (F := Ideal) (k0_pay89 (F := Ideal) Q)) (fun Q r l => thin Q _ _ r l) X g 6 7 224 768 (by decide) (by decide) rfl rfl inb_S8x512x128_S1x32x128_6_7_0_s_1_16_1 inb_S512x1024_S32x128_224_768, ?_⟩
  refine List.forall_mem_cons.mpr ⟨good (k0_pay88 (F := Ideal)) (fun Q r l => thin Q _ _ r l) X g 5 7 224 640 (by decide) (by decide) rfl rfl inb_S8x512x128_S1x32x128_5_7_0_s_1_16_1 inb_S512x1024_S32x128_224_640, ?_⟩
  refine List.forall_mem_cons.mpr ⟨good (k0_pay87 (F := Ideal)) (fun Q r l => thin Q _ _ r l) X g 4 7 224 512 (by decide) (by decide) rfl rfl inb_S8x512x128_S1x32x128_4_7_0_s_1_16_1 inb_S512x1024_S32x128_224_512, ?_⟩
  refine List.forall_mem_cons.mpr ⟨good (k0_pay86 (F := Ideal)) (fun Q r l => thin Q _ _ r l) X g 3 7 224 384 (by decide) (by decide) rfl rfl inb_S8x512x128_S1x32x128_3_7_0_s_1_16_1 inb_S512x1024_S32x128_224_384, ?_⟩
  refine List.forall_mem_cons.mpr ⟨good (k0_pay85 (F := Ideal)) (fun Q r l => thin Q _ _ r l) X g 2 7 224 256 (by decide) (by decide) rfl rfl inb_S8x512x128_S1x32x128_2_7_0_s_1_16_1 inb_S512x1024_S32x128_224_256, ?_⟩
  refine List.forall_mem_cons.mpr ⟨good (fun Q => k0_pay84 (F := Ideal) (k0_pay83 (F := Ideal) Q)) (fun Q r l => thin Q _ _ r l) X g 1 7 224 128 (by decide) (by decide) rfl rfl inb_S8x512x128_S1x32x128_1_7_0_s_1_16_1 inb_S512x1024_S32x128_224_128, ?_⟩
  refine List.forall_mem_cons.mpr ⟨good (k0_pay82 (F := Ideal)) (fun Q r l => thin Q _ _ r l) X g 0 7 224 0 (by decide) (by decide) rfl rfl inb_S8x512x128_S1x32x128_0_7_0_s_1_16_1 inb_S512x1024_S32x128_224_0, ?_⟩
  refine List.forall_mem_cons.mpr ⟨good (k0_pay81 (F := Ideal)) (fun Q r l => thin Q _ _ r l) X g 7 6 192 896 (by decide) (by decide) rfl rfl inb_S8x512x128_S1x32x128_7_6_0_s_1_16_1 inb_S512x1024_S32x128_192_896, ?_⟩
  refine List.forall_mem_cons.mpr ⟨good (k0_pay80 (F := Ideal)) (fun Q r l => thin Q _ _ r l) X g 6 6 192 768 (by decide) (by decide) rfl rfl inb_S8x512x128_S1x32x128_6_6_0_s_1_16_1 inb_S512x1024_S32x128_192_768, ?_⟩
  refine List.forall_mem_cons.mpr ⟨good (k0_pay79 (F := Ideal)) (fun Q r l => thin Q _ _ r l) X g 5 6 192 640 (by decide) (by decide) rfl rfl inb_S8x512x128_S1x32x128_5_6_0_s_1_16_1 inb_S512x1024_S32x128_192_640, ?_⟩
  refine List.forall_mem_cons.mpr ⟨good (fun Q => k0_pay78 (F := Ideal) (k0_pay77 (F := Ideal) Q)) (fun Q r l => thin Q _ _ r l) X g 4 6 192 512 (by decide) (by decide) rfl rfl inb_S8x512x128_S1x32x128_4_6_0_s_1_16_1 inb_S512x1024_S32x128_192_512, ?_⟩
  refine List.forall_mem_cons.mpr ⟨good (k0_pay76 (F := Ideal)) (fun Q r l => thin Q _ _ r l) X g 3 6 192 384 (by decide) (by decide) rfl rfl inb_S8x512x128_S1x32x128_3_6_0_s_1_16_1 inb_S512x1024_S32x128_192_384, ?_⟩
  refine List.forall_mem_cons.mpr ⟨good (k0_pay75 (F := Ideal)) (fun Q r l => thin Q _ _ r l) X g 2 6 192 256 (by decide) (by decide) rfl rfl inb_S8x512x128_S1x32x128_2_6_0_s_1_16_1 inb_S512x1024_S32x128_192_256, ?_⟩
  refine List.forall_mem_cons.mpr ⟨good (k0_pay74 (F := Ideal)) (fun Q r l => thin Q _ _ r l) X g 1 6 192 128 (by decide) (by decide) rfl rfl inb_S8x512x128_S1x32x128_1_6_0_s_1_16_1 inb_S512x1024_S32x128_192_128, ?_⟩
  refine List.forall_mem_cons.mpr ⟨good (k0_pay73 (F := Ideal)) (fun Q r l => thin Q _ _ r l) X g 0 6 192 0 (by decide) (by decide) rfl rfl inb_S8x512x128_S1x32x128_0_6_0_s_1_16_1 inb_S512x1024_S32x128_192_0, ?_⟩
  refine List.forall_mem_cons.mpr ⟨good (fun Q => k0_pay72 (F := Ideal) (k0_pay71 (F := Ideal) Q)) (fun Q r l => thin Q _ _ r l) X g 7 5 160 896 (by decide) (by decide) rfl rfl inb_S8x512x128_S1x32x128_7_5_0_s_1_16_1 inb_S512x1024_S32x128_160_896, ?_⟩
  refine List.forall_mem_cons.mpr ⟨good (k0_pay70 (F := Ideal)) (fun Q r l => thin Q _ _ r l) X g 6 5 160 768 (by decide) (by decide) rfl rfl inb_S8x512x128_S1x32x128_6_5_0_s_1_16_1 inb_S512x1024_S32x128_160_768, ?_⟩
  refine List.forall_mem_cons.mpr ⟨good (k0_pay69 (F := Ideal)) (fun Q r l => thin Q _ _ r l) X g 5 5 160 640 (by decide) (by decide) rfl rfl inb_S8x512x128_S1x32x128_5_5_0_s_1_16_1 inb_S512x1024_S32x128_160_640, ?_⟩
  refine List.forall_mem_cons.mpr ⟨good (k0_pay68 (F := Ideal)) (fun Q r l => thin Q _ _ r l) X g 4 5 160 512 (by decide) (by decide) rfl rfl inb_S8x512x128_S1x32x128_4_5_0_s_1_16_1 inb_S512x1024_S32x128_160_512, ?_⟩
  refine List.forall_mem_cons.mpr ⟨good (k0_pay67 (F := Ideal)) (fun Q r l => thin Q _ _ r l) X g 3 5 160 384 (by decide) (by decide) rfl rfl inb_S8x512x128_S1x32x128_3_5_0_s_1_16_1 inb_S512x1024_S32x128_160_384, ?_⟩
  refine List.forall_mem_cons.mpr ⟨good (fun Q => k0_pay66 (F := Ideal) (k0_pay65 (F := Ideal) Q)) (fun Q r l => thin Q _ _ r l) X g 2 5 160 256 (by decide) (by decide) rfl rfl inb_S8x512x128_S1x32x128_2_5_0_s_1_16_1 inb_S512x1024_S32x128_160_256, ?_⟩
  refine List.forall_mem_cons.mpr ⟨good (k0_pay64 (F := Ideal)) (fun Q r l => thin Q _ _ r l) X g 1 5 160 128 (by decide) (by decide) rfl rfl inb_S8x512x128_S1x32x128_1_5_0_s_1_16_1 inb_S512x1024_S32x128_160_128, ?_⟩
  refine List.forall_mem_cons.mpr ⟨good (k0_pay63 (F := Ideal)) (fun Q r l => thin Q _ _ r l) X g 0 5 160 0 (by decide) (by decide) rfl rfl inb_S8x512x128_S1x32x128_0_5_0_s_1_16_1 inb_S512x1024_S32x128_160_0, ?_⟩
  refine List.forall_mem_cons.mpr ⟨good (k0_pay62 (F := Ideal)) (fun Q r l => thin Q _ _ r l) X g 7 4 128 896 (by decide) (by decide) rfl rfl inb_S8x512x128_S1x32x128_7_4_0_s_1_16_1 inb_S512x1024_S32x128_128_896, ?_⟩
  refine List.forall_mem_cons.mpr ⟨good (k0_pay61 (F := Ideal)) (fun Q r l => thin Q _ _ r l) X g 6 4 128 768 (by decide) (by decide) rfl rfl inb_S8x512x128_S1x32x128_6_4_0_s_1_16_1 inb_S512x1024_S32x128_128_768, ?_⟩
  refine List.forall_mem_cons.mpr ⟨good (fun Q => k0_pay60 (F := Ideal) (k0_pay59 (F := Ideal) Q)) (fun Q r l => thin Q _ _ r l) X g 5 4 128 640 (by decide) (by decide) rfl rfl inb_S8x512x128_S1x32x128_5_4_0_s_1_16_1 inb_S512x1024_S32x128_128_640, ?_⟩
  refine List.forall_mem_cons.mpr ⟨good (k0_pay58 (F := Ideal)) (fun Q r l => thin Q _ _ r l) X g 4 4 128 512 (by decide) (by decide) rfl rfl inb_S8x512x128_S1x32x128_4_4_0_s_1_16_1 inb_S512x1024_S32x128_128_512, ?_⟩
  refine List.forall_mem_cons.mpr ⟨good (k0_pay57 (F := Ideal)) (fun Q r l => thin Q _ _ r l) X g 3 4 128 384 (by decide) (by decide) rfl rfl inb_S8x512x128_S1x32x128_3_4_0_s_1_16_1 inb_S512x1024_S32x128_128_384, ?_⟩
  refine List.forall_mem_cons.mpr ⟨good (k0_pay56 (F := Ideal)) (fun Q r l => thin Q _ _ r l) X g 2 4 128 256 (by decide) (by decide) rfl rfl inb_S8x512x128_S1x32x128_2_4_0_s_1_16_1 inb_S512x1024_S32x128_128_256, ?_⟩
  refine List.forall_mem_cons.mpr ⟨good (k0_pay55 (F := Ideal)) (fun Q r l => thin Q _ _ r l) X g 1 4 128 128 (by decide) (by decide) rfl rfl inb_S8x512x128_S1x32x128_1_4_0_s_1_16_1 inb_S512x1024_S32x128_128_128, ?_⟩
  refine List.forall_mem_cons.mpr ⟨good (fun Q => k0_pay54 (F := Ideal) (k0_pay53 (F := Ideal) Q)) (fun Q r l => thin Q _ _ r l) X g 0 4 128 0 (by decide) (by decide) rfl rfl inb_S8x512x128_S1x32x128_0_4_0_s_1_16_1 inb_S512x1024_S32x128_128_0, ?_⟩
  refine List.forall_mem_cons.mpr ⟨good (k0_pay52 (F := Ideal)) (fun Q r l => thin Q _ _ r l) X g 7 3 96 896 (by decide) (by decide) rfl rfl inb_S8x512x128_S1x32x128_7_3_0_s_1_16_1 inb_S512x1024_S32x128_96_896, ?_⟩
  refine List.forall_mem_cons.mpr ⟨good (k0_pay51 (F := Ideal)) (fun Q r l => thin Q _ _ r l) X g 6 3 96 768 (by decide) (by decide) rfl rfl inb_S8x512x128_S1x32x128_6_3_0_s_1_16_1 inb_S512x1024_S32x128_96_768, ?_⟩
  refine List.forall_mem_cons.mpr ⟨good (k0_pay50 (F := Ideal)) (fun Q r l => thin Q _ _ r l) X g 5 3 96 640 (by decide) (by decide) rfl rfl inb_S8x512x128_S1x32x128_5_3_0_s_1_16_1 inb_S512x1024_S32x128_96_640, ?_⟩
  refine List.forall_mem_cons.mpr ⟨good (k0_pay49 (F := Ideal)) (fun Q r l => thin Q _ _ r l) X g 4 3 96 512 (by decide) (by decide) rfl rfl inb_S8x512x128_S1x32x128_4_3_0_s_1_16_1 inb_S512x1024_S32x128_96_512, ?_⟩
  refine List.forall_mem_cons.mpr ⟨good (fun Q => k0_pay48 (F := Ideal) (k0_pay47 (F := Ideal) Q)) (fun Q r l => thin Q _ _ r l) X g 3 3 96 384 (by decide) (by decide) rfl rfl inb_S8x512x128_S1x32x128_3_3_0_s_1_16_1 inb_S512x1024_S32x128_96_384, ?_⟩
  refine List.forall_mem_cons.mpr ⟨good (k0_pay46 (F := Ideal)) (fun Q r l => thin Q _ _ r l) X g 2 3 96 256 (by decide) (by decide) rfl rfl inb_S8x512x128_S1x32x128_2_3_0_s_1_16_1 inb_S512x1024_S32x128_96_256, ?_⟩
  refine List.forall_mem_cons.mpr ⟨good (k0_pay45 (F := Ideal)) (fun Q r l => thin Q _ _ r l) X g 1 3 96 128 (by decide) (by decide) rfl rfl inb_S8x512x128_S1x32x128_1_3_0_s_1_16_1 inb_S512x1024_S32x128_96_128, ?_⟩
  refine List.forall_mem_cons.mpr ⟨good (k0_pay44 (F := Ideal)) (fun Q r l => thin Q _ _ r l) X g 0 3 96 0 (by decide) (by decide) rfl rfl inb_S8x512x128_S1x32x128_0_3_0_s_1_16_1 inb_S512x1024_S32x128_96_0, ?_⟩
  refine List.forall_mem_cons.mpr ⟨good (k0_pay43 (F := Ideal)) (fun Q r l => thin Q _ _ r l) X g 7 2 64 896 (by decide) (by decide) rfl rfl inb_S8x512x128_S1x32x128_7_2_0_s_1_16_1 inb_S512x1024_S32x128_64_896, ?_⟩
  refine List.forall_mem_cons.mpr ⟨good (fun Q => k0_pay42 (F := Ideal) (k0_pay41 (F := Ideal) Q)) (fun Q r l => thin Q _ _ r l) X g 6 2 64 768 (by decide) (by decide) rfl rfl inb_S8x512x128_S1x32x128_6_2_0_s_1_16_1 inb_S512x1024_S32x128_64_768, ?_⟩
  refine List.forall_mem_cons.mpr ⟨good (k0_pay40 (F := Ideal)) (fun Q r l => thin Q _ _ r l) X g 5 2 64 640 (by decide) (by decide) rfl rfl inb_S8x512x128_S1x32x128_5_2_0_s_1_16_1 inb_S512x1024_S32x128_64_640, ?_⟩
  refine List.forall_mem_cons.mpr ⟨good (k0_pay39 (F := Ideal)) (fun Q r l => thin Q _ _ r l) X g 4 2 64 512 (by decide) (by decide) rfl rfl inb_S8x512x128_S1x32x128_4_2_0_s_1_16_1 inb_S512x1024_S32x128_64_512, ?_⟩
  refine List.forall_mem_cons.mpr ⟨good (k0_pay38 (F := Ideal)) (fun Q r l => thin Q _ _ r l) X g 3 2 64 384 (by decide) (by decide) rfl rfl inb_S8x512x128_S1x32x128_3_2_0_s_1_16_1 inb_S512x1024_S32x128_64_384, ?_⟩
  refine List.forall_mem_cons.mpr ⟨good (k0_pay37 (F := Ideal)) (fun Q r l => thin Q _ _ r l) X g 2 2 64 256 (by decide) (by decide) rfl rfl inb_S8x512x128_S1x32x128_2_2_0_s_1_16_1 inb_S512x1024_S32x128_64_256, ?_⟩
  refine List.forall_mem_cons.mpr ⟨good (fun Q => k0_pay36 (F := Ideal) (k0_pay35 (F := Ideal) Q)) (fun Q r l => thin Q _ _ r l) X g 1 2 64 128 (by decide) (by decide) rfl rfl inb_S8x512x128_S1x32x128_1_2_0_s_1_16_1 inb_S512x1024_S32x128_64_128, ?_⟩
  refine List.forall_mem_cons.mpr ⟨good (k0_pay34 (F := Ideal)) (fun Q r l => thin Q _ _ r l) X g 0 2 64 0 (by decide) (by decide) rfl rfl inb_S8x512x128_S1x32x128_0_2_0_s_1_16_1 inb_S512x1024_S32x128_64_0, ?_⟩
  refine List.forall_mem_cons.mpr ⟨good (k0_pay33 (F := Ideal)) (fun Q r l => thin Q _ _ r l) X g 7 1 32 896 (by decide) (by decide) rfl rfl inb_S8x512x128_S1x32x128_7_1_0_s_1_16_1 inb_S512x1024_S32x128_32_896, ?_⟩
  refine List.forall_mem_cons.mpr ⟨good (k0_pay32 (F := Ideal)) (fun Q r l => thin Q _ _ r l) X g 6 1 32 768 (by decide) (by decide) rfl rfl inb_S8x512x128_S1x32x128_6_1_0_s_1_16_1 inb_S512x1024_S32x128_32_768, ?_⟩
  refine List.forall_mem_cons.mpr ⟨good (k0_pay31 (F := Ideal)) (fun Q r l => thin Q _ _ r l) X g 5 1 32 640 (by decide) (by decide) rfl rfl inb_S8x512x128_S1x32x128_5_1_0_s_1_16_1 inb_S512x1024_S32x128_32_640, ?_⟩
  refine List.forall_mem_cons.mpr ⟨good (fun Q => k0_pay30 (F := Ideal) (k0_pay29 (F := Ideal) Q)) (fun Q r l => thin Q _ _ r l) X g 4 1 32 512 (by decide) (by decide) rfl rfl inb_S8x512x128_S1x32x128_4_1_0_s_1_16_1 inb_S512x1024_S32x128_32_512, ?_⟩
  refine List.forall_mem_cons.mpr ⟨good (k0_pay28 (F := Ideal)) (fun Q r l => thin Q _ _ r l) X g 3 1 32 384 (by decide) (by decide) rfl rfl inb_S8x512x128_S1x32x128_3_1_0_s_1_16_1 inb_S512x1024_S32x128_32_384, ?_⟩
  refine List.forall_mem_cons.mpr ⟨good (k0_pay27 (F := Ideal)) (fun Q r l => thin Q _ _ r l) X g 2 1 32 256 (by decide) (by decide) rfl rfl inb_S8x512x128_S1x32x128_2_1_0_s_1_16_1 inb_S512x1024_S32x128_32_256, ?_⟩
  refine List.forall_mem_cons.mpr ⟨good (k0_pay26 (F := Ideal)) (fun Q r l => thin Q _ _ r l) X g 1 1 32 128 (by decide) (by decide) rfl rfl inb_S8x512x128_S1x32x128_1_1_0_s_1_16_1 inb_S512x1024_S32x128_32_128, ?_⟩
  refine List.forall_mem_cons.mpr ⟨good (k0_pay25 (F := Ideal)) (fun Q r l => thin Q _ _ r l) X g 0 1 32 0 (by decide) (by decide) rfl rfl inb_S8x512x128_S1x32x128_0_1_0_s_1_16_1 inb_S512x1024_S32x128_32_0, ?_⟩
  refine List.forall_mem_cons.mpr ⟨good (fun Q => k0_pay24 (F := Ideal) (k0_pay23 (F := Ideal) Q)) (fun Q r l => thin Q _ _ r l) X g 7 0 0 896 (by decide) (by decide) rfl rfl inb_S8x512x128_S1x32x128_7_0_0_s_1_16_1 inb_S512x1024_S32x128_0_896, ?_⟩
  refine List.forall_mem_cons.mpr ⟨good (k0_pay22 (F := Ideal)) (fun Q r l => thin Q _ _ r l) X g 6 0 0 768 (by decide) (by decide) rfl rfl inb_S8x512x128_S1x32x128_6_0_0_s_1_16_1 inb_S512x1024_S32x128_0_768, ?_⟩
  refine List.forall_mem_cons.mpr ⟨good (k0_pay21 (F := Ideal)) (fun Q r l => thin Q _ _ r l) X g 5 0 0 640 (by decide) (by decide) rfl rfl inb_S8x512x128_S1x32x128_5_0_0_s_1_16_1 inb_S512x1024_S32x128_0_640, ?_⟩
  refine List.forall_mem_cons.mpr ⟨good (k0_pay20 (F := Ideal)) (fun Q r l => thin Q _ _ r l) X g 4 0 0 512 (by decide) (by decide) rfl rfl inb_S8x512x128_S1x32x128_4_0_0_s_1_16_1 inb_S512x1024_S32x128_0_512, ?_⟩
  refine List.forall_mem_cons.mpr ⟨good (k0_pay19 (F := Ideal)) (fun Q r l => thin Q _ _ r l) X g 3 0 0 384 (by decide) (by decide) rfl rfl inb_S8x512x128_S1x32x128_3_0_0_s_1_16_1 inb_S512x1024_S32x128_0_384, ?_⟩
  refine List.forall_mem_cons.mpr ⟨good (fun Q => k0_pay18 (F := Ideal) (k0_pay17 (F := Ideal) Q)) (fun Q r l => thin Q _ _ r l) X g 2 0 0 256 (by decide) (by decide) rfl rfl inb_S8x512x128_S1x32x128_2_0_0_s_1_16_1 inb_S512x1024_S32x128_0_256, ?_⟩
  refine List.forall_mem_cons.mpr ⟨good (k0_pay16 (F := Ideal)) (fun Q r l => thin Q _ _ r l) X g 1 0 0 128 (by decide) (by decide) rfl rfl inb_S8x512x128_S1x32x128_1_0_0_s_1_16_1 inb_S512x1024_S32x128_0_128, ?_⟩
  refine List.forall_mem_cons.mpr ⟨good (k0_pay15 (F := Ideal)) (fun Q r l => thin Q _ _ r l) X g 0 0 0 0 (by decide) (by decide) rfl rfl inb_S8x512x128_S1x32x128_0_0_0_s_1_16_1 inb_S512x1024_S32x128_0_0, ?_⟩
  exact fun p h => absurd h List.not_mem_nil

theorem strips_at (X : Vec Ideal S1x512x1024 .f32) (g : Vec Ideal S1x1024 .f32) (y : S512x1024.Idx) :
    View.canon (strips X g) y = turn (k0_pay5 X g) y := by
  refine View.canon_apply_of_pieces (turn (k0_pay5 X g)) (strips X g) ?_ y (View.cover_of_tiledL (strips X g) S32x128.size (by sl_kernel_rfl) y)
  exact goods X g

theorem rows_at (X : Vec Ideal S1x512x1024 .f32) (g : Vec Ideal S1x1024 .f32) (r : Fin 32) (q : Fin 16) (k : Fin 1024) :
    rows X g (ix2 ⟨q.val * 32 + r.val, by omega⟩ k) = k0_pay5 X g (ix2 ⟨r.val * 16 + q.val, by omega⟩ k) := by
  unfold rows
  rw [View.readCov_eq_canon']
  refine (strips_at X g _).trans ?_
  unfold turn
  refine congrArg (k0_pay5 X g) (congrArg₂ ix2 (Fin.ext ?_) (Fin.ext ?_))
  · show (0 + 1 * (q.val * 32 + r.val)) % 32 * 16 + (0 + 1 * (q.val * 32 + r.val)) / 32 = r.val * 16 + q.val; omega
  · show 0 + 1 * k.val = k.val; omega

end Cert.Qkv16Ideal.Pure

end
-- ==== Proof.Qkv16Final.lean ====
module

public import proofs.«01_k».proof.Proof.Qkv16Rows
public import proofs.«01_k».proof.Proof.Gen.Qkv16Ideal.Value
public import Idealize.ShloMosaic.Lib.Pipeline.ValueKit

@[expose] public section

set_option maxRecDepth 16384

noncomputable section

namespace Cert.Qkv16Ideal.Pure

open Cert.Qkv16Ideal Cert.Qkv16Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 16, 0] ∧ win0_1.index t = ![0, 0] ∧ win0_2.index t = ![0, 2]
    ∧ win0_3.index t = ![t.val % 16, 0] ∧ win0_4.index t = ![t.val % 16, 0] ∧ win0_5.index t = ![t.val / 16, 0, t.val % 16, 0] :=
  (by decide +kernel : ∀ t : Fin grid0.N, _)

theorem out_piece (U : FVec Ideal S512x1024 .f32) (q o : ℕ) (hq : q < 16) (ho : o = q * 32) (hs : S512x1024.Slices ![o, 0] S32x1024)
    (hc : S32x1024.ShapeCasts S1x1x32x1024) (r : Fin 32) (k : Fin 1024) :
    shapeCast S1x1x32x1024 (extractStridedSlice S32x1024 ![o, 0] U hs) hc (ix4 0 0 r k) = U (ix2 ⟨q * 32 + r.val, by omega⟩ k) := by
  subst ho
  pointwise

theorem tile_q (Z : FVec Ideal S512x3072 .f32) (cs sn : FVec Ideal S512x128 .f32) (r : Fin 512) (k : Fin 1024) :
    wheel k0_pay173 cs sn (extractStridedSlice S512x1024 ![0, 0] Z slices_S512x3072_o0_0_S512x1024) (ix2 r k) = tile Z cs sn r ⟨k.val, by omega⟩ := by
  unfold tile
  rw [dif_pos k.isLt]

theorem tile_k (Z : FVec Ideal S512x3072 .f32) (cs sn : FVec Ideal S512x128 .f32) (r : Fin 512) (k : Fin 1024) :
    wheel k0_pay173 cs sn (extractStridedSlice S512x1024 ![0, 1024] Z slices_S512x3072_o0_1024_S512x1024) (ix2 r k) = tile Z cs sn r ⟨1024 + k.val, by omega⟩ := by
  unfold tile
  rw [dif_neg (by simp), dif_pos (by simp <;> omega)]
  have e : (⟨1024 + k.val - 1024, by omega⟩ : Fin 1024) = k := Fin.ext (by simp)
  rw [e]

theorem tile_v (Z : FVec Ideal S512x3072 .f32) (cs sn : FVec Ideal S512x128 .f32) (r : Fin 512) (k : Fin 1024) :
    extractStridedSlice S512x1024 ![0, 2048] Z slices_S512x3072_o0_2048_S512x1024 (ix2 r k) = tile Z cs sn r ⟨2048 + k.val, by omega⟩ := by
  unfold tile
  rw [dif_neg (by simp <;> omega), dif_neg (by simp)]
  pointwise

theorem out_0 (Y : Vec Ideal S512x1024 .bf16) (W : Vec Ideal S1024x3072 .bf16) (cs sn : Vec Ideal S512x128 .f32) (r : Fin 32) (k : Fin 1024) :
    k0_pay4 ((k0_pay194 (k0_pay171 Y W))) (ix4 0 0 r k) = tile (k0_pay171 Y W) (k0_pay169 cs) (k0_pay170 sn) ⟨15 * 32 + r.val, by omega⟩ ⟨2048 + k.val, by omega⟩ := by
  refine Eq.trans ?_ ((out_piece (extractStridedSlice S512x1024 ![0, 2048] (k0_pay171 Y W) slices_S512x3072_o0_2048_S512x1024) 15 480 (by decide) rfl slices_S512x1024_o480_0_S32x1024 shapeCasts_S32x1024_S1x1x32x1024 r k).trans (tile_v (k0_pay171 Y W) (k0_pay169 cs) (k0_pay170 sn) ⟨15 * 32 + r.val, by omega⟩ k))
  rfl

theorem out_1 (Y : Vec Ideal S512x1024 .bf16) (W : Vec Ideal S1024x3072 .bf16) (cs sn : Vec Ideal S512x128 .f32) (r : Fin 32) (k : Fin 1024) :
    k0_pay3 ((k0_pay194 (k0_pay171 Y W))) (ix4 0 0 r k) = tile (k0_pay171 Y W) (k0_pay169 cs) (k0_pay170 sn) ⟨14 * 32 + r.val, by omega⟩ ⟨2048 + k.val, by omega⟩ := by
  refine Eq.trans ?_ ((out_piece (extractStridedSlice S512x1024 ![0, 2048] (k0_pay171 Y W) slices_S512x3072_o0_2048_S512x1024) 14 448 (by decide) rfl slices_S512x1024_o448_0_S32x1024 shapeCasts_S32x1024_S1x1x32x1024 r k).trans (tile_v (k0_pay171 Y W) (k0_pay169 cs) (k0_pay170 sn) ⟨14 * 32 + r.val, by omega⟩ k))
  rfl

theorem out_2 (Y : Vec Ideal S512x1024 .bf16) (W : Vec Ideal S1024x3072 .bf16) (cs sn : Vec Ideal S512x128 .f32) (r : Fin 32) (k : Fin 1024) :
    k0_pay2 ((k0_pay194 (k0_pay171 Y W))) (ix4 0 0 r k) = tile (k0_pay171 Y W) (k0_pay169 cs) (k0_pay170 sn) ⟨13 * 32 + r.val, by omega⟩ ⟨2048 + k.val, by omega⟩ := by
  refine Eq.trans ?_ ((out_piece (extractStridedSlice S512x1024 ![0, 2048] (k0_pay171 Y W) slices_S512x3072_o0_2048_S512x1024) 13 416 (by decide) rfl slices_S512x1024_o416_0_S32x1024 shapeCasts_S32x1024_S1x1x32x1024 r k).trans (tile_v (k0_pay171 Y W) (k0_pay169 cs) (k0_pay170 sn) ⟨13 * 32 + r.val, by omega⟩ k))
  rfl

theorem out_3 (Y : Vec Ideal S512x1024 .bf16) (W : Vec Ideal S1024x3072 .bf16) (cs sn : Vec Ideal S512x128 .f32) (r : Fin 32) (k : Fin 1024) :
    k0_pay1 (k0_pay246 (k0_pay194 (k0_pay171 Y W))) (ix4 0 0 r k) = tile (k0_pay171 Y W) (k0_pay169 cs) (k0_pay170 sn) ⟨12 * 32 + r.val, by omega⟩ ⟨2048 + k.val, by omega⟩ := by
  refine Eq.trans ?_ ((out_piece (extractStridedSlice S512x1024 ![0, 2048] (k0_pay171 Y W) slices_S512x3072_o0_2048_S512x1024) 12 384 (by decide) rfl slices_S512x1024_o384_0_S32x1024 shapeCasts_S32x1024_S1x1x32x1024 r k).trans (tile_v (k0_pay171 Y W) (k0_pay169 cs) (k0_pay170 sn) ⟨12 * 32 + r.val, by omega⟩ k))
  rfl

theorem out_4 (Y : Vec Ideal S512x1024 .bf16) (W : Vec Ideal S1024x3072 .bf16) (cs sn : Vec Ideal S512x128 .f32) (r : Fin 32) (k : Fin 1024) :
    k0_pay245 (k0_pay194 (k0_pay171 Y W)) (ix4 0 0 r k) = tile (k0_pay171 Y W) (k0_pay169 cs) (k0_pay170 sn) ⟨11 * 32 + r.val, by omega⟩ ⟨2048 + k.val, by omega⟩ := by
  refine Eq.trans ?_ ((out_piece (extractStridedSlice S512x1024 ![0, 2048] (k0_pay171 Y W) slices_S512x3072_o0_2048_S512x1024) 11 352 (by decide) rfl slices_S512x1024_o352_0_S32x1024 shapeCasts_S32x1024_S1x1x32x1024 r k).trans (tile_v (k0_pay171 Y W) (k0_pay169 cs) (k0_pay170 sn) ⟨11 * 32 + r.val, by omega⟩ k))
  rfl

theorem out_5 (Y : Vec Ideal S512x1024 .bf16) (W : Vec Ideal S1024x3072 .bf16) (cs sn : Vec Ideal S512x128 .f32) (r : Fin 32) (k : Fin 1024) :
    k0_pay244 (k0_pay194 (k0_pay171 Y W)) (ix4 0 0 r k) = tile (k0_pay171 Y W) (k0_pay169 cs) (k0_pay170 sn) ⟨10 * 32 + r.val, by omega⟩ ⟨2048 + k.val, by omega⟩ := by
  refine Eq.trans ?_ ((out_piece (extractStridedSlice S512x1024 ![0, 2048] (k0_pay171 Y W) slices_S512x3072_o0_2048_S512x1024) 10 320 (by decide) rfl slices_S512x1024_o320_0_S32x1024 shapeCasts_S32x1024_S1x1x32x1024 r k).trans (tile_v (k0_pay171 Y W) (k0_pay169 cs) (k0_pay170 sn) ⟨10 * 32 + r.val, by omega⟩ k))
  rfl

theorem out_6 (Y : Vec Ideal S512x1024 .bf16) (W : Vec Ideal S1024x3072 .bf16) (cs sn : Vec Ideal S512x128 .f32) (r : Fin 32) (k : Fin 1024) :
    k0_pay243 (k0_pay242 (k0_pay194 (k0_pay171 Y W))) (ix4 0 0 r k) = tile (k0_pay171 Y W) (k0_pay169 cs) (k0_pay170 sn) ⟨9 * 32 + r.val, by omega⟩ ⟨2048 + k.val, by omega⟩ := by
  refine Eq.trans ?_ ((out_piece (extractStridedSlice S512x1024 ![0, 2048] (k0_pay171 Y W) slices_S512x3072_o0_2048_S512x1024) 9 288 (by decide) rfl slices_S512x1024_o288_0_S32x1024 shapeCasts_S32x1024_S1x1x32x1024 r k).trans (tile_v (k0_pay171 Y W) (k0_pay169 cs) (k0_pay170 sn) ⟨9 * 32 + r.val, by omega⟩ k))
  rfl

theorem out_7 (Y : Vec Ideal S512x1024 .bf16) (W : Vec Ideal S1024x3072 .bf16) (cs sn : Vec Ideal S512x128 .f32) (r : Fin 32) (k : Fin 1024) :
    k0_pay241 (k0_pay194 (k0_pay171 Y W)) (ix4 0 0 r k) = tile (k0_pay171 Y W) (k0_pay169 cs) (k0_pay170 sn) ⟨8 * 32 + r.val, by omega⟩ ⟨2048 + k.val, by omega⟩ := by
  refine Eq.trans ?_ ((out_piece (extractStridedSlice S512x1024 ![0, 2048] (k0_pay171 Y W) slices_S512x3072_o0_2048_S512x1024) 8 256 (by decide) rfl slices_S512x1024_o256_0_S32x1024 shapeCasts_S32x1024_S1x1x32x1024 r k).trans (tile_v (k0_pay171 Y W) (k0_pay169 cs) (k0_pay170 sn) ⟨8 * 32 + r.val, by omega⟩ k))
  rfl

theorem out_8 (Y : Vec Ideal S512x1024 .bf16) (W : Vec Ideal S1024x3072 .bf16) (cs sn : Vec Ideal S512x128 .f32) (r : Fin 32) (k : Fin 1024) :
    k0_pay240 (k0_pay194 (k0_pay171 Y W)) (ix4 0 0 r k) = tile (k0_pay171 Y W) (k0_pay169 cs) (k0_pay170 sn) ⟨7 * 32 + r.val, by omega⟩ ⟨2048 + k.val, by omega⟩ := by
  refine Eq.trans ?_ ((out_piece (extractStridedSlice S512x1024 ![0, 2048] (k0_pay171 Y W) slices_S512x3072_o0_2048_S512x1024) 7 224 (by decide) rfl slices_S512x1024_o224_0_S32x1024 shapeCasts_S32x1024_S1x1x32x1024 r k).trans (tile_v (k0_pay171 Y W) (k0_pay169 cs) (k0_pay170 sn) ⟨7 * 32 + r.val, by omega⟩ k))
  rfl

theorem out_9 (Y : Vec Ideal S512x1024 .bf16) (W : Vec Ideal S1024x3072 .bf16) (cs sn : Vec Ideal S512x128 .f32) (r : Fin 32) (k : Fin 1024) :
    k0_pay239 (k0_pay194 (k0_pay171 Y W)) (ix4 0 0 r k) = tile (k0_pay171 Y W) (k0_pay169 cs) (k0_pay170 sn) ⟨6 * 32 + r.val, by omega⟩ ⟨2048 + k.val, by omega⟩ := by
  refine Eq.trans ?_ ((out_piece (extractStridedSlice S512x1024 ![0, 2048] (k0_pay171 Y W) slices_S512x3072_o0_2048_S512x1024) 6 192 (by decide) rfl slices_S512x1024_o192_0_S32x1024 shapeCasts_S32x1024_S1x1x32x1024 r k).trans (tile_v (k0_pay171 Y W) (k0_pay169 cs) (k0_pay170 sn) ⟨6 * 32 + r.val, by omega⟩ k))
  rfl

theorem out_10 (Y : Vec Ideal S512x1024 .bf16) (W : Vec Ideal S1024x3072 .bf16) (cs sn : Vec Ideal S512x128 .f32) (r : Fin 32) (k : Fin 1024) :
    k0_pay238 (k0_pay194 (k0_pay171 Y W)) (ix4 0 0 r k) = tile (k0_pay171 Y W) (k0_pay169 cs) (k0_pay170 sn) ⟨5 * 32 + r.val, by omega⟩ ⟨2048 + k.val, by omega⟩ := by
  refine Eq.trans ?_ ((out_piece (extractStridedSlice S512x1024 ![0, 2048] (k0_pay171 Y W) slices_S512x3072_o0_2048_S512x1024) 5 160 (by decide) rfl slices_S512x1024_o160_0_S32x1024 shapeCasts_S32x1024_S1x1x32x1024 r k).trans (tile_v (k0_pay171 Y W) (k0_pay169 cs) (k0_pay170 sn) ⟨5 * 32 + r.val, by omega⟩ k))
  rfl

theorem out_11 (Y : Vec Ideal S512x1024 .bf16) (W : Vec Ideal S1024x3072 .bf16) (cs sn : Vec Ideal S512x128 .f32) (r : Fin 32) (k : Fin 1024) :
    k0_pay237 (k0_pay194 (k0_pay171 Y W)) (ix4 0 0 r k) = tile (k0_pay171 Y W) (k0_pay169 cs) (k0_pay170 sn) ⟨4 * 32 + r.val, by omega⟩ ⟨2048 + k.val, by omega⟩ := by
  refine Eq.trans ?_ ((out_piece (extractStridedSlice S512x1024 ![0, 2048] (k0_pay171 Y W) slices_S512x3072_o0_2048_S512x1024) 4 128 (by decide) rfl slices_S512x1024_o128_0_S32x1024 shapeCasts_S32x1024_S1x1x32x1024 r k).trans (tile_v (k0_pay171 Y W) (k0_pay169 cs) (k0_pay170 sn) ⟨4 * 32 + r.val, by omega⟩ k))
  rfl

theorem out_12 (Y : Vec Ideal S512x1024 .bf16) (W : Vec Ideal S1024x3072 .bf16) (cs sn : Vec Ideal S512x128 .f32) (r : Fin 32) (k : Fin 1024) :
    k0_pay236 (k0_pay235 (k0_pay194 (k0_pay171 Y W))) (ix4 0 0 r k) = tile (k0_pay171 Y W) (k0_pay169 cs) (k0_pay170 sn) ⟨3 * 32 + r.val, by omega⟩ ⟨2048 + k.val, by omega⟩ := by
  refine Eq.trans ?_ ((out_piece (extractStridedSlice S512x1024 ![0, 2048] (k0_pay171 Y W) slices_S512x3072_o0_2048_S512x1024) 3 96 (by decide) rfl slices_S512x1024_o96_0_S32x1024 shapeCasts_S32x1024_S1x1x32x1024 r k).trans (tile_v (k0_pay171 Y W) (k0_pay169 cs) (k0_pay170 sn) ⟨3 * 32 + r.val, by omega⟩ k))
  rfl

theorem out_13 (Y : Vec Ideal S512x1024 .bf16) (W : Vec Ideal S1024x3072 .bf16) (cs sn : Vec Ideal S512x128 .f32) (r : Fin 32) (k : Fin 1024) :
    k0_pay234 (k0_pay194 (k0_pay171 Y W)) (ix4 0 0 r k) = tile (k0_pay171 Y W) (k0_pay169 cs) (k0_pay170 sn) ⟨2 * 32 + r.val, by omega⟩ ⟨2048 + k.val, by omega⟩ := by
  refine Eq.trans ?_ ((out_piece (extractStridedSlice S512x1024 ![0, 2048] (k0_pay171 Y W) slices_S512x3072_o0_2048_S512x1024) 2 64 (by decide) rfl slices_S512x1024_o64_0_S32x1024 shapeCasts_S32x1024_S1x1x32x1024 r k).trans (tile_v (k0_pay171 Y W) (k0_pay169 cs) (k0_pay170 sn) ⟨2 * 32 + r.val, by omega⟩ k))
  rfl

theorem out_14 (Y : Vec Ideal S512x1024 .bf16) (W : Vec Ideal S1024x3072 .bf16) (cs sn : Vec Ideal S512x128 .f32) (r : Fin 32) (k : Fin 1024) :
    k0_pay233 (k0_pay194 (k0_pay171 Y W)) (ix4 0 0 r k) = tile (k0_pay171 Y W) (k0_pay169 cs) (k0_pay170 sn) ⟨1 * 32 + r.val, by omega⟩ ⟨2048 + k.val, by omega⟩ := by
  refine Eq.trans ?_ ((out_piece (extractStridedSlice S512x1024 ![0, 2048] (k0_pay171 Y W) slices_S512x3072_o0_2048_S512x1024) 1 32 (by decide) rfl slices_S512x1024_o32_0_S32x1024 shapeCasts_S32x1024_S1x1x32x1024 r k).trans (tile_v (k0_pay171 Y W) (k0_pay169 cs) (k0_pay170 sn) ⟨1 * 32 + r.val, by omega⟩ k))
  rfl

theorem out_15 (Y : Vec Ideal S512x1024 .bf16) (W : Vec Ideal S1024x3072 .bf16) (cs sn : Vec Ideal S512x128 .f32) (r : Fin 32) (k : Fin 1024) :
    k0_pay232 (k0_pay194 (k0_pay171 Y W)) (ix4 0 0 r k) = tile (k0_pay171 Y W) (k0_pay169 cs) (k0_pay170 sn) ⟨0 * 32 + r.val, by omega⟩ ⟨2048 + k.val, by omega⟩ := by
  refine Eq.trans ?_ ((out_piece (extractStridedSlice S512x1024 ![0, 2048] (k0_pay171 Y W) slices_S512x3072_o0_2048_S512x1024) 0 0 (by decide) rfl slices_S512x1024_o0_0_S32x1024 shapeCasts_S32x1024_S1x1x32x1024 r k).trans (tile_v (k0_pay171 Y W) (k0_pay169 cs) (k0_pay170 sn) ⟨0 * 32 + r.val, by omega⟩ k))
  rfl

theorem out_16 (Y : Vec Ideal S512x1024 .bf16) (W : Vec Ideal S1024x3072 .bf16) (cs sn : Vec Ideal S512x128 .f32) (r : Fin 32) (k : Fin 1024) :
    k0_pay231 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨15 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 15 480 (by decide) rfl slices_S512x1024_o480_0_S32x1024 shapeCasts_S32x1024_S1x1x32x1024 r k).trans (tile_k (k0_pay171 Y W) (k0_pay169 cs) (k0_pay170 sn) ⟨15 * 32 + r.val, by omega⟩ k))
  rfl

theorem out_17 (Y : Vec Ideal S512x1024 .bf16) (W : Vec Ideal S1024x3072 .bf16) (cs sn : Vec Ideal S512x128 .f32) (r : Fin 32) (k : Fin 1024) :
    k0_pay230 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨14 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 14 448 (by decide) rfl slices_S512x1024_o448_0_S32x1024 shapeCasts_S32x1024_S1x1x32x1024 r k).trans (tile_k (k0_pay171 Y W) (k0_pay169 cs) (k0_pay170 sn) ⟨14 * 32 + r.val, by omega⟩ k))
  rfl

theorem out_18 (Y : Vec Ideal S512x1024 .bf16) (W : Vec Ideal S1024x3072 .bf16) (cs sn : Vec Ideal S512x128 .f32) (r : Fin 32) (k : Fin 1024) :
    k0_pay229 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨13 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 13 416 (by decide) rfl slices_S512x1024_o416_0_S32x1024 shapeCasts_S32x1024_S1x1x32x1024 r k).trans (tile_k (k0_pay171 Y W) (k0_pay169 cs) (k0_pay170 sn) ⟨13 * 32 + r.val, by omega⟩ k))
  rfl

theorem out_19 (Y : Vec Ideal S512x1024 .bf16) (W : Vec Ideal S1024x3072 .bf16) (cs sn : Vec Ideal S512x128 .f32) (r : Fin 32) (k : Fin 1024) :
    k0_pay228 (k0_pay227 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W)))) (ix4 0 0 r k) = tile (k0_pay171 Y W) (k0_pay169 cs) (k0_pay170 sn) ⟨12 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 12 384 (by decide) rfl slices_S512x1024_o384_0_S32x1024 shapeCasts_S32x1024_S1x1x32x1024 r k).trans (tile_k (k0_pay171 Y W) (k0_pay169 cs) (k0_pay170 sn) ⟨12 * 32 + r.val, by omega⟩ k))
  rfl

theorem out_20 (Y : Vec Ideal S512x1024 .bf16) (W : Vec Ideal S1024x3072 .bf16) (cs sn : Vec Ideal S512x128 .f32) (r : Fin 32) (k : Fin 1024) :
    k0_pay226 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨11 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 11 352 (by decide) rfl slices_S512x1024_o352_0_S32x1024 shapeCasts_S32x1024_S1x1x32x1024 r k).trans (tile_k (k0_pay171 Y W) (k0_pay169 cs) (k0_pay170 sn) ⟨11 * 32 + r.val, by omega⟩ k))
  rfl

theorem out_21 (Y : Vec Ideal S512x1024 .bf16) (W : Vec Ideal S1024x3072 .bf16) (cs sn : Vec Ideal S512x128 .f32) (r : Fin 32) (k : Fin 1024) :
    k0_pay225 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨10 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 10 320 (by decide) rfl slices_S512x1024_o320_0_S32x1024 shapeCasts_S32x1024_S1x1x32x1024 r k).trans (tile_k (k0_pay171 Y W) (k0_pay169 cs) (k0_pay170 sn) ⟨10 * 32 + r.val, by omega⟩ k))
  rfl

theorem out_22 (Y : Vec Ideal S512x1024 .bf16) (W : Vec Ideal S1024x3072 .bf16) (cs sn : Vec Ideal S512x128 .f32) (r : Fin 32) (k : Fin 1024) :
    k0_pay224 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨9 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 9 288 (by decide) rfl slices_S512x1024_o288_0_S32x1024 shapeCasts_S32x1024_S1x1x32x1024 r k).trans (tile_k (k0_pay171 Y W) (k0_pay169 cs) (k0_pay170 sn) ⟨9 * 32 + r.val, by omega⟩ k))
  rfl

theorem out_23 (Y : Vec Ideal S512x1024 .bf16) (W : Vec Ideal S1024x3072 .bf16) (cs sn : Vec Ideal S512x128 .f32) (r : Fin 32) (k : Fin 1024) :
    k0_pay223 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨8 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 8 256 (by decide) rfl slices_S512x1024_o256_0_S32x1024 shapeCasts_S32x1024_S1x1x32x1024 r k).trans (tile_k (k0_pay171 Y W) (k0_pay169 cs) (k0_pay170 sn) ⟨8 * 32 + r.val, by omega⟩ k))
  rfl

theorem out_24 (Y : Vec Ideal S512x1024 .bf16) (W : Vec Ideal S1024x3072 .bf16) (cs sn : Vec Ideal S512x128 .f32) (r : Fin 32) (k : Fin 1024) :
    k0_pay222 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨7 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 7 224 (by decide) rfl slices_S512x1024_o224_0_S32x1024 shapeCasts_S32x1024_S1x1x32x1024 r k).trans (tile_k (k0_pay171 Y W) (k0_pay169 cs) (k0_pay170 sn) ⟨7 * 32 + r.val, by omega⟩ k))
  rfl

theorem out_25 (Y : Vec Ideal S512x1024 .bf16) (W : Vec Ideal S1024x3072 .bf16) (cs sn : Vec Ideal S512x128 .f32) (r : Fin 32) (k : Fin 1024) :
    k0_pay221 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨6 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 6 192 (by decide) rfl slices_S512x1024_o192_0_S32x1024 shapeCasts_S32x1024_S1x1x32x1024 r k).trans (tile_k (k0_pay171 Y W) (k0_pay169 cs) (k0_pay170 sn) ⟨6 * 32 + r.val, by omega⟩ k))
  rfl

theorem out_26 (Y : Vec Ideal S512x1024 .bf16) (W : Vec Ideal S1024x3072 .bf16) (cs sn : Vec Ideal S512x128 .f32) (r : Fin 32) (k : Fin 1024) :
    k0_pay220 (k0_pay219 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W)))) (ix4 0 0 r k) = tile (k0_pay171 Y W) (k0_pay169 cs) (k0_pay170 sn) ⟨5 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 5 160 (by decide) rfl slices_S512x1024_o160_0_S32x1024 shapeCasts_S32x1024_S1x1x32x1024 r k).trans (tile_k (k0_pay171 Y W) (k0_pay169 cs) (k0_pay170 sn) ⟨5 * 32 + r.val, by omega⟩ k))
  rfl

theorem out_27 (Y : Vec Ideal S512x1024 .bf16) (W : Vec Ideal S1024x3072 .bf16) (cs sn : Vec Ideal S512x128 .f32) (r : Fin 32) (k : Fin 1024) :
    k0_pay218 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨4 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 4 128 (by decide) rfl slices_S512x1024_o128_0_S32x1024 shapeCasts_S32x1024_S1x1x32x1024 r k).trans (tile_k (k0_pay171 Y W) (k0_pay169 cs) (k0_pay170 sn) ⟨4 * 32 + r.val, by omega⟩ k))
  rfl

theorem out_28 (Y : Vec Ideal S512x1024 .bf16) (W : Vec Ideal S1024x3072 .bf16) (cs sn : Vec Ideal S512x128 .f32) (r : Fin 32) (k : Fin 1024) :
    k0_pay217 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨3 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 3 96 (by decide) rfl slices_S512x1024_o96_0_S32x1024 shapeCasts_S32x1024_S1x1x32x1024 r k).trans (tile_k (k0_pay171 Y W) (k0_pay169 cs) (k0_pay170 sn) ⟨3 * 32 + r.val, by omega⟩ k))
  rfl

theorem out_29 (Y : Vec Ideal S512x1024 .bf16) (W : Vec Ideal S1024x3072 .bf16) (cs sn : Vec Ideal S512x128 .f32) (r : Fin 32) (k : Fin 1024) :
    k0_pay216 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨2 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 2 64 (by decide) rfl slices_S512x1024_o64_0_S32x1024 shapeCasts_S32x1024_S1x1x32x1024 r k).trans (tile_k (k0_pay171 Y W) (k0_pay169 cs) (k0_pay170 sn) ⟨2 * 32 + r.val, by omega⟩ k))
  rfl

theorem out_30 (Y : Vec Ideal S512x1024 .bf16) (W : Vec Ideal S1024x3072 .bf16) (cs sn : Vec Ideal S512x128 .f32) (r : Fin 32) (k : Fin 1024) :
    k0_pay215 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨1 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 1 32 (by decide) rfl slices_S512x1024_o32_0_S32x1024 shapeCasts_S32x1024_S1x1x32x1024 r k).trans (tile_k (k0_pay171 Y W) (k0_pay169 cs) (k0_pay170 sn) ⟨1 * 32 + r.val, by omega⟩ k))
  rfl

theorem out_31 (Y : Vec Ideal S512x1024 .bf16) (W : Vec Ideal S1024x3072 .bf16) (cs sn : Vec Ideal S512x128 .f32) (r : Fin 32) (k : Fin 1024) :
    k0_pay214 (k0_pay193 (k0_pay169 cs) (k0_pay170 sn) (k0_pay186 (k0_pay171 Y W)) k0_pay187 (k0_pay188 (k0_pay169 cs) (k0_pay170 sn) (k0_pay171 Y W)) (k0_pay189 (k0_pay169 cs) (k0_pay170 sn) (k0_pay171 Y W)) (k0_pay190 (k0_pay169 cs) (k0_pay170 sn) (k0_pay171 Y W)) (k0_pay191 (k0_pay171 Y W)) (k0_pay192 (k0_pay171 Y W))) (ix4 0 0 r k) = tile (k0_pay171 Y W) (k0_pay169 cs) (k0_pay170 sn) ⟨0 * 32 + r.val, by omega⟩ ⟨1024 + k.val, by omega⟩ := by
  refine Eq.trans ?_ ((out_piece (wheel k0_pay173 (k0_pay169 cs) (k0_pay170 sn) (extractStridedSlice S512x1024 ![0, 1024] (k0_pay171 Y W) slices_S512x3072_o0_1024_S512x1024)) 0 0 (by decide) rfl slices_S512x1024_o0_0_S32x1024 shapeCasts_S32x1024_S1x1x32x1024 r k).trans (tile_k (k0_pay171 Y W) (k0_pay169 cs) (k0_pay170 sn) ⟨0 * 32 + r.val, by omega⟩ k))
  rfl

theorem out_32 (Y : Vec Ideal S512x1024 .bf16) (W : Vec Ideal S1024x3072 .bf16) (cs sn : Vec Ideal S512x128 .f32) (r : Fin 32) (k : Fin 1024) :
    k0_pay213 (k0_pay212 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W)))) (ix4 0 0 r k) = tile (k0_pay171 Y W) (k0_pay169 cs) (k0_pay170 sn) ⟨15 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 15 480 (by decide) rfl slices_S512x1024_o480_0_S32x1024 shapeCasts_S32x1024_S1x1x32x1024 r k).trans (tile_q (k0_pay171 Y W) (k0_pay169 cs) (k0_pay170 sn) ⟨15 * 32 + r.val, by omega⟩ k))
  rfl

theorem out_33 (Y : Vec Ideal S512x1024 .bf16) (W : Vec Ideal S1024x3072 .bf16) (cs sn : Vec Ideal S512x128 .f32) (r : Fin 32) (k : Fin 1024) :
    k0_pay211 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨14 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 14 448 (by decide) rfl slices_S512x1024_o448_0_S32x1024 shapeCasts_S32x1024_S1x1x32x1024 r k).trans (tile_q (k0_pay171 Y W) (k0_pay169 cs) (k0_pay170 sn) ⟨14 * 32 + r.val, by omega⟩ k))
  rfl

theorem out_34 (Y : Vec Ideal S512x1024 .bf16) (W : Vec Ideal S1024x3072 .bf16) (cs sn : Vec Ideal S512x128 .f32) (r : Fin 32) (k : Fin 1024) :
    k0_pay210 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨13 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 13 416 (by decide) rfl slices_S512x1024_o416_0_S32x1024 shapeCasts_S32x1024_S1x1x32x1024 r k).trans (tile_q (k0_pay171 Y W) (k0_pay169 cs) (k0_pay170 sn) ⟨13 * 32 + r.val, by omega⟩ k))
  rfl

theorem out_35 (Y : Vec Ideal S512x1024 .bf16) (W : Vec Ideal S1024x3072 .bf16) (cs sn : Vec Ideal S512x128 .f32) (r : Fin 32) (k : Fin 1024) :
    k0_pay209 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨12 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 12 384 (by decide) rfl slices_S512x1024_o384_0_S32x1024 shapeCasts_S32x1024_S1x1x32x1024 r k).trans (tile_q (k0_pay171 Y W) (k0_pay169 cs) (k0_pay170 sn) ⟨12 * 32 + r.val, by omega⟩ k))
  rfl

theorem out_36 (Y : Vec Ideal S512x1024 .bf16) (W : Vec Ideal S1024x3072 .bf16) (cs sn : Vec Ideal S512x128 .f32) (r : Fin 32) (k : Fin 1024) :
    k0_pay208 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨11 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 11 352 (by decide) rfl slices_S512x1024_o352_0_S32x1024 shapeCasts_S32x1024_S1x1x32x1024 r k).trans (tile_q (k0_pay171 Y W) (k0_pay169 cs) (k0_pay170 sn) ⟨11 * 32 + r.val, by omega⟩ k))
  rfl

theorem out_37 (Y : Vec Ideal S512x1024 .bf16) (W : Vec Ideal S1024x3072 .bf16) (cs sn : Vec Ideal S512x128 .f32) (r : Fin 32) (k : Fin 1024) :
    k0_pay207 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨10 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 10 320 (by decide) rfl slices_S512x1024_o320_0_S32x1024 shapeCasts_S32x1024_S1x1x32x1024 r k).trans (tile_q (k0_pay171 Y W) (k0_pay169 cs) (k0_pay170 sn) ⟨10 * 32 + r.val, by omega⟩ k))
  rfl

theorem out_38 (Y : Vec Ideal S512x1024 .bf16) (W : Vec Ideal S1024x3072 .bf16) (cs sn : Vec Ideal S512x128 .f32) (r : Fin 32) (k : Fin 1024) :
    k0_pay206 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨9 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 9 288 (by decide) rfl slices_S512x1024_o288_0_S32x1024 shapeCasts_S32x1024_S1x1x32x1024 r k).trans (tile_q (k0_pay171 Y W) (k0_pay169 cs) (k0_pay170 sn) ⟨9 * 32 + r.val, by omega⟩ k))
  rfl

theorem out_39 (Y : Vec Ideal S512x1024 .bf16) (W : Vec Ideal S1024x3072 .bf16) (cs sn : Vec Ideal S512x128 .f32) (r : Fin 32) (k : Fin 1024) :
    k0_pay205 (k0_pay204 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W)))) (ix4 0 0 r k) = tile (k0_pay171 Y W) (k0_pay169 cs) (k0_pay170 sn) ⟨8 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 8 256 (by decide) rfl slices_S512x1024_o256_0_S32x1024 shapeCasts_S32x1024_S1x1x32x1024 r k).trans (tile_q (k0_pay171 Y W) (k0_pay169 cs) (k0_pay170 sn) ⟨8 * 32 + r.val, by omega⟩ k))
  rfl

theorem out_40 (Y : Vec Ideal S512x1024 .bf16) (W : Vec Ideal S1024x3072 .bf16) (cs sn : Vec Ideal S512x128 .f32) (r : Fin 32) (k : Fin 1024) :
    k0_pay203 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨7 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 7 224 (by decide) rfl slices_S512x1024_o224_0_S32x1024 shapeCasts_S32x1024_S1x1x32x1024 r k).trans (tile_q (k0_pay171 Y W) (k0_pay169 cs) (k0_pay170 sn) ⟨7 * 32 + r.val, by omega⟩ k))
  rfl

theorem out_41 (Y : Vec Ideal S512x1024 .bf16) (W : Vec Ideal S1024x3072 .bf16) (cs sn : Vec Ideal S512x128 .f32) (r : Fin 32) (k : Fin 1024) :
    k0_pay202 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨6 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 6 192 (by decide) rfl slices_S512x1024_o192_0_S32x1024 shapeCasts_S32x1024_S1x1x32x1024 r k).trans (tile_q (k0_pay171 Y W) (k0_pay169 cs) (k0_pay170 sn) ⟨6 * 32 + r.val, by omega⟩ k))
  rfl

theorem out_42 (Y : Vec Ideal S512x1024 .bf16) (W : Vec Ideal S1024x3072 .bf16) (cs sn : Vec Ideal S512x128 .f32) (r : Fin 32) (k : Fin 1024) :
    k0_pay201 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨5 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 5 160 (by decide) rfl slices_S512x1024_o160_0_S32x1024 shapeCasts_S32x1024_S1x1x32x1024 r k).trans (tile_q (k0_pay171 Y W) (k0_pay169 cs) (k0_pay170 sn) ⟨5 * 32 + r.val, by omega⟩ k))
  rfl

theorem out_43 (Y : Vec Ideal S512x1024 .bf16) (W : Vec Ideal S1024x3072 .bf16) (cs sn : Vec Ideal S512x128 .f32) (r : Fin 32) (k : Fin 1024) :
    k0_pay200 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨4 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 4 128 (by decide) rfl slices_S512x1024_o128_0_S32x1024 shapeCasts_S32x1024_S1x1x32x1024 r k).trans (tile_q (k0_pay171 Y W) (k0_pay169 cs) (k0_pay170 sn) ⟨4 * 32 + r.val, by omega⟩ k))
  rfl

theorem out_44 (Y : Vec Ideal S512x1024 .bf16) (W : Vec Ideal S1024x3072 .bf16) (cs sn : Vec Ideal S512x128 .f32) (r : Fin 32) (k : Fin 1024) :
    k0_pay199 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨3 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 3 96 (by decide) rfl slices_S512x1024_o96_0_S32x1024 shapeCasts_S32x1024_S1x1x32x1024 r k).trans (tile_q (k0_pay171 Y W) (k0_pay169 cs) (k0_pay170 sn) ⟨3 * 32 + r.val, by omega⟩ k))
  rfl

theorem out_45 (Y : Vec Ideal S512x1024 .bf16) (W : Vec Ideal S1024x3072 .bf16) (cs sn : Vec Ideal S512x128 .f32) (r : Fin 32) (k : Fin 1024) :
    k0_pay198 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨2 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 2 64 (by decide) rfl slices_S512x1024_o64_0_S32x1024 shapeCasts_S32x1024_S1x1x32x1024 r k).trans (tile_q (k0_pay171 Y W) (k0_pay169 cs) (k0_pay170 sn) ⟨2 * 32 + r.val, by omega⟩ k))
  rfl

theorem out_46 (Y : Vec Ideal S512x1024 .bf16) (W : Vec Ideal S1024x3072 .bf16) (cs sn : Vec Ideal S512x128 .f32) (r : Fin 32) (k : Fin 1024) :
    k0_pay197 (k0_pay196 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W)))) (ix4 0 0 r k) = tile (k0_pay171 Y W) (k0_pay169 cs) (k0_pay170 sn) ⟨1 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 1 32 (by decide) rfl slices_S512x1024_o32_0_S32x1024 shapeCasts_S32x1024_S1x1x32x1024 r k).trans (tile_q (k0_pay171 Y W) (k0_pay169 cs) (k0_pay170 sn) ⟨1 * 32 + r.val, by omega⟩ k))
  rfl

theorem out_47 (Y : Vec Ideal S512x1024 .bf16) (W : Vec Ideal S1024x3072 .bf16) (cs sn : Vec Ideal S512x128 .f32) (r : Fin 32) (k : Fin 1024) :
    k0_pay195 (k0_pay185 (k0_pay170 sn) (k0_pay174 Y W cs sn) (k0_pay176 (k0_pay169 cs) (k0_pay170 sn) k0_pay173 (k0_pay175 Y W)) (k0_pay177 (k0_pay169 cs) (k0_pay170 sn) (k0_pay172 Y W) k0_pay173) (k0_pay178 (k0_pay169 cs) (k0_pay170 sn) (k0_pay172 Y W) k0_pay173) (k0_pay179 (k0_pay169 cs) (k0_pay170 sn) (k0_pay172 Y W) k0_pay173) (k0_pay180 (k0_pay169 cs) (k0_pay170 sn) (k0_pay172 Y W) k0_pay173) (k0_pay181 (k0_pay169 cs) (k0_pay170 sn) (k0_pay172 Y W) k0_pay173) (k0_pay183 (k0_pay172 Y W) k0_pay173) (k0_pay184 (k0_pay169 cs) (k0_pay172 Y W))) (ix4 0 0 r k) = tile (k0_pay171 Y W) (k0_pay169 cs) (k0_pay170 sn) ⟨0 * 32 + r.val, by omega⟩ ⟨k.val, by omega⟩ := by
  refine Eq.trans ?_ ((out_piece (wheel k0_pay173 (k0_pay169 cs) (k0_pay170 sn) (extractStridedSlice S512x1024 ![0, 0] (k0_pay171 Y W) slices_S512x3072_o0_0_S512x1024)) 0 0 (by decide) rfl slices_S512x1024_o0_0_S32x1024 shapeCasts_S32x1024_S1x1x32x1024 r k).trans (tile_q (k0_pay171 Y W) (k0_pay169 cs) (k0_pay170 sn) ⟨0 * 32 + r.val, by omega⟩ k))
  rfl

set_option maxHeartbeats 10000000 in
theorem block (c : Dev nD) (t : Fin cfg0.N) (q : Fin 16) (r : Fin 32) (l : Fin 3072) :
    outsAt0 m c t (ix4 0 q r l) = tile (k0_pay171 (rows (iblk m c 0 t) (iblk m c 1 t)) (iblk m c 2 t)) (k0_pay169 (iblk m c 3 t)) (k0_pay170 (iblk m c 4 t)) ⟨q.val * 32 + r.val, by omega⟩ l := by
  unfold outsAt0; frame_out
  canon_tiles x h
  all_goals
    obtain ⟨a, b, r', k, rfl⟩ : ∃ (a b : Fin 1) (r' : Fin 32) (k : Fin 1024), x = ix4 a b r' k := ⟨x 0, x 1, x 2, x 3, eq_ix4 x⟩
    obtain rfl : a = 0 := by omega
    obtain rfl : b = 0 := by omega
    obtain rfl : r = r' := Fin.ext h2
  · obtain rfl : q = 15 := Fin.ext h1
    rw [show l = ⟨2048 + k.val, by omega⟩ from Fin.ext h3]
    refine (out_0 _ (iblk m c 2 t) (iblk m c 3 t) (iblk m c 4 t) r k).trans ?_
    sl_kernel_rfl
  · obtain rfl : q = 14 := Fin.ext h1
    rw [show l = ⟨2048 + k.val, by omega⟩ from Fin.ext h3]
    refine (out_1 _ (iblk m c 2 t) (iblk m c 3 t) (iblk m c 4 t) r k).trans ?_
    sl_kernel_rfl
  · obtain rfl : q = 13 := Fin.ext h1
    rw [show l = ⟨2048 + k.val, by omega⟩ from Fin.ext h3]
    refine (out_2 _ (iblk m c 2 t) (iblk m c 3 t) (iblk m c 4 t) r k).trans ?_
    sl_kernel_rfl
  · obtain rfl : q = 12 := Fin.ext h1
    rw [show l = ⟨2048 + k.val, by omega⟩ from Fin.ext h3]
    refine (out_3 _ (iblk m c 2 t) (iblk m c 3 t) (iblk m c 4 t) r k).trans ?_
    sl_kernel_rfl
  · obtain rfl : q = 11 := Fin.ext h1
    rw [show l = ⟨2048 + k.val, by omega⟩ from Fin.ext h3]
    refine (out_4 _ (iblk m c 2 t) (iblk m c 3 t) (iblk m c 4 t) r k).trans ?_
    sl_kernel_rfl
  · obtain rfl : q = 10 := Fin.ext h1
    rw [show l = ⟨2048 + k.val, by omega⟩ from Fin.ext h3]
    refine (out_5 _ (iblk m c 2 t) (iblk m c 3 t) (iblk m c 4 t) r k).trans ?_
    sl_kernel_rfl
  · obtain rfl : q = 9 := Fin.ext h1
    rw [show l = ⟨2048 + k.val, by omega⟩ from Fin.ext h3]
    refine (out_6 _ (iblk m c 2 t) (iblk m c 3 t) (iblk m c 4 t) r k).trans ?_
    sl_kernel_rfl
  · obtain rfl : q = 8 := Fin.ext h1
    rw [show l = ⟨2048 + k.val, by omega⟩ from Fin.ext h3]
    refine (out_7 _ (iblk m c 2 t) (iblk m c 3 t) (iblk m c 4 t) r k).trans ?_
    sl_kernel_rfl
  · obtain rfl : q = 7 := Fin.ext h1
    rw [show l = ⟨2048 + k.val, by omega⟩ from Fin.ext h3]
    refine (out_8 _ (iblk m c 2 t) (iblk m c 3 t) (iblk m c 4 t) r k).trans ?_
    sl_kernel_rfl
  · obtain rfl : q = 6 := Fin.ext h1
    rw [show l = ⟨2048 + k.val, by omega⟩ from Fin.ext h3]
    refine (out_9 _ (iblk m c 2 t) (iblk m c 3 t) (iblk m c 4 t) r k).trans ?_
    sl_kernel_rfl
  · obtain rfl : q = 5 := Fin.ext h1
    rw [show l = ⟨2048 + k.val, by omega⟩ from Fin.ext h3]
    refine (out_10 _ (iblk m c 2 t) (iblk m c 3 t) (iblk m c 4 t) r k).trans ?_
    sl_kernel_rfl
  · obtain rfl : q = 4 := Fin.ext h1
    rw [show l = ⟨2048 + k.val, by omega⟩ from Fin.ext h3]
    refine (out_11 _ (iblk m c 2 t) (iblk m c 3 t) (iblk m c 4 t) r k).trans ?_
    sl_kernel_rfl
  · obtain rfl : q = 3 := Fin.ext h1
    rw [show l = ⟨2048 + k.val, by omega⟩ from Fin.ext h3]
    refine (out_12 _ (iblk m c 2 t) (iblk m c 3 t) (iblk m c 4 t) r k).trans ?_
    sl_kernel_rfl
  · obtain rfl : q = 2 := Fin.ext h1
    rw [show l = ⟨2048 + k.val, by omega⟩ from Fin.ext h3]
    refine (out_13 _ (iblk m c 2 t) (iblk m c 3 t) (iblk m c 4 t) r k).trans ?_
    sl_kernel_rfl
  · obtain rfl : q = 1 := Fin.ext h1
    rw [show l = ⟨2048 + k.val, by omega⟩ from Fin.ext h3]
    refine (out_14 _ (iblk m c 2 t) (iblk m c 3 t) (iblk m c 4 t) r k).trans ?_
    sl_kernel_rfl
  · obtain rfl : q = 0 := Fin.ext h1
    rw [show l = ⟨2048 + k.val, by omega⟩ from Fin.ext h3]
    refine (out_15 _ (iblk m c 2 t) (iblk m c 3 t) (iblk m c 4 t) r k).trans ?_
    sl_kernel_rfl
  · obtain rfl : q = 15 := Fin.ext h1
    rw [show l = ⟨1024 + k.val, by omega⟩ from Fin.ext h3]
    refine (out_16 _ (iblk m c 2 t) (iblk m c 3 t) (iblk m c 4 t) r k).trans ?_
    sl_kernel_rfl
  · obtain rfl : q = 14 := Fin.ext h1
    rw [show l = ⟨1024 + k.val, by omega⟩ from Fin.ext h3]
    refine (out_17 _ (iblk m c 2 t) (iblk m c 3 t) (iblk m c 4 t) r k).trans ?_
    sl_kernel_rfl
  · obtain rfl : q = 13 := Fin.ext h1
    rw [show l = ⟨1024 + k.val, by omega⟩ from Fin.ext h3]
    refine (out_18 _ (iblk m c 2 t) (iblk m c 3 t) (iblk m c 4 t) r k).trans ?_
    sl_kernel_rfl
  · obtain rfl : q = 12 := Fin.ext h1
    rw [show l = ⟨1024 + k.val, by omega⟩ from Fin.ext h3]
    refine (out_19 _ (iblk m c 2 t) (iblk m c 3 t) (iblk m c 4 t) r k).trans ?_
    sl_kernel_rfl
  · obtain rfl : q = 11 := Fin.ext h1
    rw [show l = ⟨1024 + k.val, by omega⟩ from Fin.ext h3]
    refine (out_20 _ (iblk m c 2 t) (iblk m c 3 t) (iblk m c 4 t) r k).trans ?_
    sl_kernel_rfl
  · obtain rfl : q = 10 := Fin.ext h1
    rw [show l = ⟨1024 + k.val, by omega⟩ from Fin.ext h3]
    refine (out_21 _ (iblk m c 2 t) (iblk m c 3 t) (iblk m c 4 t) r k).trans ?_
    sl_kernel_rfl
  · obtain rfl : q = 9 := Fin.ext h1
    rw [show l = ⟨1024 + k.val, by omega⟩ from Fin.ext h3]
    refine (out_22 _ (iblk m c 2 t) (iblk m c 3 t) (iblk m c 4 t) r k).trans ?_
    sl_kernel_rfl
  · obtain rfl : q = 8 := Fin.ext h1
    rw [show l = ⟨1024 + k.val, by omega⟩ from Fin.ext h3]
    refine (out_23 _ (iblk m c 2 t) (iblk m c 3 t) (iblk m c 4 t) r k).trans ?_
    sl_kernel_rfl
  · obtain rfl : q = 7 := Fin.ext h1
    rw [show l = ⟨1024 + k.val, by omega⟩ from Fin.ext h3]
    refine (out_24 _ (iblk m c 2 t) (iblk m c 3 t) (iblk m c 4 t) r k).trans ?_
    sl_kernel_rfl
  · obtain rfl : q = 6 := Fin.ext h1
    rw [show l = ⟨1024 + k.val, by omega⟩ from Fin.ext h3]
    refine (out_25 _ (iblk m c 2 t) (iblk m c 3 t) (iblk m c 4 t) r k).trans ?_
    sl_kernel_rfl
  · obtain rfl : q = 5 := Fin.ext h1
    rw [show l = ⟨1024 + k.val, by omega⟩ from Fin.ext h3]
    refine (out_26 _ (iblk m c 2 t) (iblk m c 3 t) (iblk m c 4 t) r k).trans ?_
    sl_kernel_rfl
  · obtain rfl : q = 4 := Fin.ext h1
    rw [show l = ⟨1024 + k.val, by omega⟩ from Fin.ext h3]
    refine (out_27 _ (iblk m c 2 t) (iblk m c 3 t) (iblk m c 4 t) r k).trans ?_
    sl_kernel_rfl
  · obtain rfl : q = 3 := Fin.ext h1
    rw [show l = ⟨1024 + k.val, by omega⟩ from Fin.ext h3]
    refine (out_28 _ (iblk m c 2 t) (iblk m c 3 t) (iblk m c 4 t) r k).trans ?_
    sl_kernel_rfl
  · obtain rfl : q = 2 := Fin.ext h1
    rw [show l = ⟨1024 + k.val, by omega⟩ from Fin.ext h3]
    refine (out_29 _ (iblk m c 2 t) (iblk m c 3 t) (iblk m c 4 t) r k).trans ?_
    sl_kernel_rfl
  · obtain rfl : q = 1 := Fin.ext h1
    rw [show l = ⟨1024 + k.val, by omega⟩ from Fin.ext h3]
    refine (out_30 _ (iblk m c 2 t) (iblk m c 3 t) (iblk m c 4 t) r k).trans ?_
    sl_kernel_rfl
  · obtain rfl : q = 0 := Fin.ext h1
    rw [show l = ⟨1024 + k.val, by omega⟩ from Fin.ext h3]
    refine (out_31 _ (iblk m c 2 t) (iblk m c 3 t) (iblk m c 4 t) r k).trans ?_
    sl_kernel_rfl
  · obtain rfl : q = 15 := Fin.ext h1
    rw [show l = ⟨k.val, by omega⟩ from Fin.ext h3]
    refine (out_32 _ (iblk m c 2 t) (iblk m c 3 t) (iblk m c 4 t) r k).trans ?_
    sl_kernel_rfl
  · obtain rfl : q = 14 := Fin.ext h1
    rw [show l = ⟨k.val, by omega⟩ from Fin.ext h3]
    refine (out_33 _ (iblk m c 2 t) (iblk m c 3 t) (iblk m c 4 t) r k).trans ?_
    sl_kernel_rfl
  · obtain rfl : q = 13 := Fin.ext h1
    rw [show l = ⟨k.val, by omega⟩ from Fin.ext h3]
    refine (out_34 _ (iblk m c 2 t) (iblk m c 3 t) (iblk m c 4 t) r k).trans ?_
    sl_kernel_rfl
  · obtain rfl : q = 12 := Fin.ext h1
    rw [show l = ⟨k.val, by omega⟩ from Fin.ext h3]
    refine (out_35 _ (iblk m c 2 t) (iblk m c 3 t) (iblk m c 4 t) r k).trans ?_
    sl_kernel_rfl
  · obtain rfl : q = 11 := Fin.ext h1
    rw [show l = ⟨k.val, by omega⟩ from Fin.ext h3]
    refine (out_36 _ (iblk m c 2 t) (iblk m c 3 t) (iblk m c 4 t) r k).trans ?_
    sl_kernel_rfl
  · obtain rfl : q = 10 := Fin.ext h1
    rw [show l = ⟨k.val, by omega⟩ from Fin.ext h3]
    refine (out_37 _ (iblk m c 2 t) (iblk m c 3 t) (iblk m c 4 t) r k).trans ?_
    sl_kernel_rfl
  · obtain rfl : q = 9 := Fin.ext h1
    rw [show l = ⟨k.val, by omega⟩ from Fin.ext h3]
    refine (out_38 _ (iblk m c 2 t) (iblk m c 3 t) (iblk m c 4 t) r k).trans ?_
    sl_kernel_rfl
  · obtain rfl : q = 8 := Fin.ext h1
    rw [show l = ⟨k.val, by omega⟩ from Fin.ext h3]
    refine (out_39 _ (iblk m c 2 t) (iblk m c 3 t) (iblk m c 4 t) r k).trans ?_
    sl_kernel_rfl
  · obtain rfl : q = 7 := Fin.ext h1
    rw [show l = ⟨k.val, by omega⟩ from Fin.ext h3]
    refine (out_40 _ (iblk m c 2 t) (iblk m c 3 t) (iblk m c 4 t) r k).trans ?_
    sl_kernel_rfl
  · obtain rfl : q = 6 := Fin.ext h1
    rw [show l = ⟨k.val, by omega⟩ from Fin.ext h3]
    refine (out_41 _ (iblk m c 2 t) (iblk m c 3 t) (iblk m c 4 t) r k).trans ?_
    sl_kernel_rfl
  · obtain rfl : q = 5 := Fin.ext h1
    rw [show l = ⟨k.val, by omega⟩ from Fin.ext h3]
    refine (out_42 _ (iblk m c 2 t) (iblk m c 3 t) (iblk m c 4 t) r k).trans ?_
    sl_kernel_rfl
  · obtain rfl : q = 4 := Fin.ext h1
    rw [show l = ⟨k.val, by omega⟩ from Fin.ext h3]
    refine (out_43 _ (iblk m c 2 t) (iblk m c 3 t) (iblk m c 4 t) r k).trans ?_
    sl_kernel_rfl
  · obtain rfl : q = 3 := Fin.ext h1
    rw [show l = ⟨k.val, by omega⟩ from Fin.ext h3]
    refine (out_44 _ (iblk m c 2 t) (iblk m c 3 t) (iblk m c 4 t) r k).trans ?_
    sl_kernel_rfl
  · obtain rfl : q = 2 := Fin.ext h1
    rw [show l = ⟨k.val, by omega⟩ from Fin.ext h3]
    refine (out_45 _ (iblk m c 2 t) (iblk m c 3 t) (iblk m c 4 t) r k).trans ?_
    sl_kernel_rfl
  · obtain rfl : q = 1 := Fin.ext h1
    rw [show l = ⟨k.val, by omega⟩ from Fin.ext h3]
    refine (out_46 _ (iblk m c 2 t) (iblk m c 3 t) (iblk m c 4 t) r k).trans ?_
    sl_kernel_rfl
  · obtain rfl : q = 0 := Fin.ext h1
    rw [show l = ⟨k.val, by omega⟩ from Fin.ext h3]
    refine (out_47 _ (iblk m c 2 t) (iblk m c 3 t) (iblk m c 4 t) r k).trans ?_
    sl_kernel_rfl

theorem in0 (c : Dev nD) (t : Fin cfg0.N) (r : Fin 512) (k : Fin 1024) :
    (iblk m c 0 t : Vec Ideal S1x512x1024 .f32) (ix3 0 r k) = (m ((c : Thread nD τ).loc main_arg0) : Vec Ideal S2x8192x1024 .f32)
      (ix3 ⟨t.val / 16, by have := t.isLt; have : cfg0.N = 32 := N_0; omega⟩ ⟨t.val % 16 * 512 + r.val, by omega⟩ k) := by
  blk_point [iblk, V, idx t]

theorem in1 (c : Dev nD) (t : Fin cfg0.N) (k : Fin 1024) :
    (iblk m c 1 t : Vec Ideal S1x1024 .f32) (ix2 0 k) = m ((c : Thread nD τ).loc main_arg1) (ix1 k) := by
  blk_point [iblk, idx t]

theorem in2 (c : Dev nD) (t : Fin cfg0.N) (l : Fin 1024) (f : Fin 3072) :
    (iblk m c 2 t : Vec Ideal S1024x3072 .bf16) (ix2 l f) = (m ((c : Thread nD τ).loc main_arg2) : Vec Ideal S1024x9216 .f32) (ix2 l ⟨2 * 3072 + f.val, by omega⟩) := by
  blk_point [iblk, idx t]

/-- The position whose angles row `p` of the tables holds. -/
def place (p : Fin 8192) : ℕ := p.val / 512 * 512 + p.val % 32 * 16 + p.val / 32 % 16

theorem place_lt (p : Fin 8192) : place p < 8192 := by unfold place; omega

theorem place_at (t r q : ℕ) (hr : r < 32) (hq : q < 16) (h : t % 16 * 512 + (q * 32 + r) < 8192) :
    place ⟨t % 16 * 512 + (q * 32 + r), h⟩ = (t % 16 * 32 + r) * 16 + q := by
  show (t % 16 * 512 + (q * 32 + r)) / 512 * 512 + (t % 16 * 512 + (q * 32 + r)) % 32 * 16 + (t % 16 * 512 + (q * 32 + r)) / 32 % 16 = _
  omega

theorem cos_at (c : Dev nD) (p : Fin 8192) (k : Fin 128) :
    (V m c main_v22 : Vec Ideal S8192x128 .f32) (ix2 p k) = Ideal.cos (Rope.angle (place p) ⟨k.val % 32, by omega⟩) := by
  unfold Rope.angle place
  entry_read
  pointwise
  by_cases h : k.val % 64 < 32
  · have e : k.val % 64 = k.val % 32 := by omega
    rw [dif_pos h, e]
  · have e : k.val % 64 - 32 = k.val % 32 := by omega
    rw [dif_neg h, e]

theorem sin_at (c : Dev nD) (p : Fin 8192) (k : Fin 128) :
    (V m c main_v27 : Vec Ideal S8192x128 .f32) (ix2 p k) = if k.val % 64 < 32 then -Ideal.sin (Rope.angle (place p) ⟨k.val % 32, by omega⟩)
      else Ideal.sin (Rope.angle (place p) ⟨k.val % 32, by omega⟩) := by
  unfold Rope.angle place
  entry_read
  pointwise
  by_cases h : k.val % 64 < 32
  · have e : k.val % 64 = k.val % 32 := by omega
    rw [dif_pos h, if_pos h, e]
  · have e : k.val % 64 - 32 = k.val % 32 := by omega
    rw [dif_neg h, if_neg h, e]

theorem in3 (c : Dev nD) (t : Fin cfg0.N) (r : Fin 512) (k : Fin 128) :
    k0_pay169 (F := Ideal) (iblk m c 3 t) (ix2 r k) = Ideal.cos (Rope.angle (place ⟨t.val % 16 * 512 + r.val, by omega⟩) ⟨k.val % 32, by omega⟩) := by
  refine Eq.trans ?_ (cos_at m c ⟨t.val % 16 * 512 + r.val, by omega⟩ k)
  unfold k0_pay169
  pointwise
  generalize hV : V m c main_v22 = A
  refine Eq.trans (b := ((cfg0.win 3).blk t).view.read (Elt Ideal) A (ix2 r k)) (by rw [← hV]; rfl) ?_
  blk_ext [idx t]

theorem in4 (c : Dev nD) (t : Fin cfg0.N) (r : Fin 512) (k : Fin 128) :
    k0_pay170 (F := Ideal) (iblk m c 4 t) (ix2 r k) = if k.val % 64 < 32 then -Ideal.sin (Rope.angle (place ⟨t.val % 16 * 512 + r.val, by omega⟩) ⟨k.val % 32, by omega⟩)
      else Ideal.sin (Rope.angle (place ⟨t.val % 16 * 512 + r.val, by omega⟩) ⟨k.val % 32, by omega⟩) := by
  refine Eq.trans ?_ (sin_at m c ⟨t.val % 16 * 512 + r.val, by omega⟩ k)
  unfold k0_pay170
  pointwise
  generalize hV : V m c main_v27 = A
  refine Eq.trans (b := ((cfg0.win 4).blk t).view.read (Elt Ideal) A (ix2 r k)) (by rw [← hV]; rfl) ?_
  blk_ext [idx t]

/-- The result's entry, of the three arguments: row `j` of stream `q` is position `j * 16 + q`. -/
def result (x : Vec Ideal S2x8192x1024 .f32) (g : Vec Ideal S1024 .f32) (w : Vec Ideal S1024x9216 .f32) (b : Fin 2) (q : Fin 16) (j : Fin 512) (l : Fin 3072) : EReal :=
  Rope.row (Row.norm (fun k => x (ix3 b ⟨j.val * 16 + q.val, by omega⟩ k)) fun k => g (ix1 k)) (fun k f => w (ix2 k ⟨2 * 3072 + f.val, by omega⟩))
    (fun k => Ideal.cos (Rope.angle (j.val * 16 + q.val) k)) (fun k => Ideal.sin (Rope.angle (j.val * 16 + q.val) k)) l

theorem entry (c : Dev nD) (t : Fin cfg0.N) (q : Fin 16) (r : Fin 32) (l : Fin 3072) : outsAt0 m c t (ix4 0 q r l)
    = result (m ((c : Thread nD τ).loc main_arg0)) (m ((c : Thread nD τ).loc main_arg1)) (m ((c : Thread nD τ).loc main_arg2))
        ⟨t.val / 16, by have := t.isLt; have : cfg0.N = 32 := N_0; omega⟩ q ⟨t.val % 16 * 32 + r.val, by omega⟩ l := by
  have hp := place_at t.val r.val q.val r.isLt q.isLt (by omega)
  rw [block, tile_at _ _ _ _ (fun k => Ideal.cos (Rope.angle ((t.val % 16 * 32 + r.val) * 16 + q.val) k)) (fun k => Ideal.sin (Rope.angle ((t.val % 16 * 32 + r.val) * 16 + q.val) k)) ⟨q.val * 32 + r.val, by omega⟩ l
    (fun k => by rw [← hp]; exact in3 m c t ⟨q.val * 32 + r.val, by omega⟩ k) (fun k => by rw [← hp]; exact in4 m c t ⟨q.val * 32 + r.val, by omega⟩ k)]
  have hx : ∀ h : t.val % 16 * 512 + (r.val * 16 + q.val) < 8192, (⟨t.val % 16 * 512 + (r.val * 16 + q.val), h⟩ : Fin 8192) = ⟨(t.val % 16 * 32 + r.val) * 16 + q.val, by omega⟩ :=
    fun h => Fin.ext (by show t.val % 16 * 512 + (r.val * 16 + q.val) = (t.val % 16 * 32 + r.val) * 16 + q.val; omega)
  simp only [rows_at, norm_at, in0, in1, in2, hx]
  rfl

theorem final (c : Dev nD) : (dats m 0 c).arrAt 5 (cfgs 0).N = fun i =>
    result (m ((c : Thread nD τ).loc main_arg0)) (m ((c : Thread nD τ).loc main_arg1)) (m ((c : Thread nD τ).loc main_arg2)) (i 0) (i 1) (i 2) (i 3) := by
  refine (dats m 0 c).arrAt_eq_of_covers 5 _ (by decide +kernel) fun t hf y => ?_
  blk_simp
  obtain ⟨a, q, r, l, rfl⟩ : ∃ (a : Fin 1) (q : Fin 16) (r : Fin 32) (l : Fin 3072), y = ix4 a q r l := ⟨y 0, y 1, y 2, y 3, eq_ix4 y⟩
  obtain rfl : a = 0 := by omega
  rw [after0_5]
  refine (entry m c t q r l).trans ?_
  have e : ∀ (b b' : Fin 2) (q q' : Fin 16) (p p' : Fin 512) (l l' : Fin 3072), b = b' → q = q' → p = p' → l = l' →
      result (m ((c : Thread nD τ).loc main_arg0)) (m ((c : Thread nD τ).loc main_arg1)) (m ((c : Thread nD τ).loc main_arg2)) b q p l
        = result (m ((c : Thread nD τ).loc main_arg0)) (m ((c : Thread nD τ).loc main_arg1)) (m ((c : Thread nD τ).loc main_arg2)) b' q' p' l' := by
    rintro _ _ _ _ _ _ _ _ rfl rfl rfl rfl; rfl
  refine e _ _ _ _ _ _ _ _ (Fin.ext ?_) (Fin.ext ?_) (Fin.ext ?_) (Fin.ext ?_)
  all_goals (blk_simp [idx t] <;> first | omega | simp)

end Cert.Qkv16Ideal.Pure

end
-- ==== Proof.Qkv16Ref.lean ====
module

public import proofs.«01_k».proof.Proof.RopePure
public import proofs.«01_k».proof.Proof.Gen.Qkv16RefIdeal.Read

@[expose] public section

set_option maxRecDepth 16384

noncomputable section

namespace Cert.Qkv16RefIdeal.Pure

open Cert.Qkv16RefIdeal Cert.Qkv16RefIdeal.Gen Cert.Qkv16RefIdeal.Read Idealize.ShloMosaic

variable (x0 : FVec Ideal S2x8192x1024 .f32) (x1 : FVec Ideal S1024 .f32) (x2 : FVec Ideal S1024x9216 .f32)

theorem norm_at (b : Fin 2) (t : Fin 8192) (k : Fin 1024) :
    val_main_v13 (F := Ideal) x0 x1 (ix3 b t k) = Row.norm (fun l => x0 (ix3 b t l)) (fun l => x1 (ix1 l)) k := by
  unfold Row.norm
  pointwise! [val_main_v13, val_main_v12, val_main_v11, val_main_v10, val_main_v9, val_main_v8, val_main_v7, val_main_v6, val_main_v5,
    val_main_cst_1, val_main_v4, val_main_v3, val_main_cst_0, val_main_v2, val_main_v1, val_main_cst]

/-- A row's projection to the group's lane `f`. -/
def z (b : Fin 2) (t : Fin 8192) (f : Fin 3072) : EReal :=
  Row.dot (Row.norm (fun l => x0 (ix3 b t l)) fun l => x1 (ix1 l)) fun l => x2 (ix2 l ⟨2 * 3072 + f.val, by omega⟩)

theorem proj_at (b : Fin 2) (t : Fin 8192) (f : Fin 3072) : val_main_v17 (F := Ideal) x0 x1 x2 (ix3 b t f) = z x0 x1 x2 b t f := by
  unfold z Row.dot
  simp only [← norm_at]
  pointwise! [val_main_v17, val_main_v14]

theorem parts_at (b : Fin 2) (t : Fin 8192) (p : Fin 3) (h : Fin 16) (d : Fin 64) :
    val_main_v18 (F := Ideal) x0 x1 x2 (ix5 b t p h d) = z x0 x1 x2 b t ⟨p.val * 1024 + (h.val * 64 + d.val), by omega⟩ := by
  rw [← proj_at]
  pointwise [val_main_v18]
  exact congrArg (fun f => val_main_v17 (F := Ideal) x0 x1 x2 (ix3 b t f)) (Fin.ext (by simp <;> omega))

theorem angle_at (t : Fin 8192) (k : Fin 32) : val_main_v32 (F := Ideal) (ix2 t k) = Rope.angle t.val k := by
  unfold Rope.angle
  pointwise! [val_main_v32, val_main_v31, val_main_v30, val_main_v29, val_main_v28, val_main_v27, val_main_v26, val_main_v25, val_main_cst_3,
    val_main_v24, val_main_v23, val_main_cst_2, val_main_v22, val_main_v21, val_main_v0]

theorem angle_at' (t : Fin 8192) (k : Fin 32) : val_main_v67 (F := Ideal) (ix2 t k) = Rope.angle t.val k := by
  unfold Rope.angle
  pointwise! [val_main_v67, val_main_v66, val_main_v65, val_main_v64, val_main_v63, val_main_v62, val_main_v61, val_main_v60, val_main_cst_5,
    val_main_v59, val_main_v58, val_main_cst_4, val_main_v57, val_main_v56, val_main_v0]

/-! The queries. -/

theorem q_in (b : Fin 2) (t : Fin 8192) (h : Fin 16) (d : Fin 64) : val_main_v20 (F := Ideal) x0 x1 x2 (ix4 b t h d)
    = z x0 x1 x2 b t ⟨h.val * 64 + d.val, by omega⟩ := by
  pointwise [val_main_v20, val_main_v19]
  rw [parts_at]
  exact congrArg (z x0 x1 x2 b t) (Fin.ext (by simp))

theorem q_lo (b : Fin 2) (t : Fin 8192) (h : Fin 16) (k : Fin 32) : val_main_v37 (F := Ideal) x0 x1 x2 (ix4 b t h k)
    = z x0 x1 x2 b t ⟨h.val * 64 + k.val, by omega⟩ := by
  refine Eq.trans (b := val_main_v20 (F := Ideal) x0 x1 x2 (ix4 b t h ⟨k.val, by omega⟩)) ?_ (q_in x0 x1 x2 b t h ⟨k.val, by omega⟩)
  rw [val_main_v37_apply]
  refine congrArg (val_main_v20 (F := Ideal) x0 x1 x2) (funext fun a => ?_)
  fin_cases a <;> rfl

theorem q_hi (b : Fin 2) (t : Fin 8192) (h : Fin 16) (k : Fin 32) : val_main_v38 (F := Ideal) x0 x1 x2 (ix4 b t h k)
    = z x0 x1 x2 b t ⟨h.val * 64 + (32 + k.val), by omega⟩ := by
  refine Eq.trans (b := val_main_v20 (F := Ideal) x0 x1 x2 (ix4 b t h ⟨32 + k.val, by omega⟩)) ?_ (q_in x0 x1 x2 b t h ⟨32 + k.val, by omega⟩)
  rw [val_main_v38_apply]
  refine congrArg (val_main_v20 (F := Ideal) x0 x1 x2) (funext fun a => ?_)
  fin_cases a <;> rfl

theorem q_cos (t : Fin 8192) (k : Fin 32) : val_main_v34 (F := Ideal) (ix3 t 0 k) = Ideal.cos (Rope.angle t.val k) := by
  rw [← angle_at]
  pointwise! [val_main_v34, val_main_v33]

theorem q_sin (t : Fin 8192) (k : Fin 32) : val_main_v36 (F := Ideal) (ix3 t 0 k) = Ideal.sin (Rope.angle t.val k) := by
  rw [← angle_at]
  pointwise! [val_main_v36, val_main_v35]

theorem q_cos1 (b : Fin 2) (t : Fin 8192) (h : Fin 16) (k : Fin 32) : val_main_v40 (F := Ideal) (ix4 b t h k) = Ideal.cos (Rope.angle t.val k) := by
  rw [← q_cos]
  pointwise! [val_main_v40, val_main_v39]

theorem q_cos2 (b : Fin 2) (t : Fin 8192) (h : Fin 16) (k : Fin 32) : val_main_v47 (F := Ideal) (ix4 b t h k) = Ideal.cos (Rope.angle t.val k) := by
  rw [← q_cos]
  pointwise! [val_main_v47, val_main_v46]

theorem q_sin1 (b : Fin 2) (t : Fin 8192) (h : Fin 16) (k : Fin 32) : val_main_v43 (F := Ideal) (ix4 b t h k) = Ideal.sin (Rope.angle t.val k) := by
  rw [← q_sin]
  pointwise! [val_main_v43, val_main_v42]

theorem q_sin2 (b : Fin 2) (t : Fin 8192) (h : Fin 16) (k : Fin 32) : val_main_v50 (F := Ideal) (ix4 b t h k) = Ideal.sin (Rope.angle t.val k) := by
  rw [← q_sin]
  pointwise! [val_main_v50, val_main_v49]

theorem q_first (b : Fin 2) (t : Fin 8192) (h : Fin 16) (k : Fin 32) : val_main_v45 (F := Ideal) x0 x1 x2 (ix4 b t h k)
    = z x0 x1 x2 b t ⟨h.val * 64 + k.val, by omega⟩ * Ideal.cos (Rope.angle t.val k)
      - z x0 x1 x2 b t ⟨h.val * 64 + (32 + k.val), by omega⟩ * Ideal.sin (Rope.angle t.val k) := by
  pointwise [val_main_v45, val_main_v41, val_main_v44]
  simp only [q_lo, q_hi, q_cos1, q_sin1]

theorem q_second (b : Fin 2) (t : Fin 8192) (h : Fin 16) (k : Fin 32) : val_main_v52 (F := Ideal) x0 x1 x2 (ix4 b t h k)
    = z x0 x1 x2 b t ⟨h.val * 64 + (32 + k.val), by omega⟩ * Ideal.cos (Rope.angle t.val k)
      + z x0 x1 x2 b t ⟨h.val * 64 + k.val, by omega⟩ * Ideal.sin (Rope.angle t.val k) := by
  pointwise [val_main_v52, val_main_v48, val_main_v51]
  simp only [q_lo, q_hi, q_cos2, q_sin2]

theorem q_at (b : Fin 2) (t : Fin 8192) (h : Fin 16) (d : Fin 64) : val_main_v53 (F := Ideal) x0 x1 x2 (ix4 b t h d)
    = Rope.turn (fun k => z x0 x1 x2 b t ⟨k.val, by omega⟩) (fun k => Ideal.cos (Rope.angle t.val k))
        (fun k => Ideal.sin (Rope.angle t.val k)) ⟨h.val * 64 + d.val, by omega⟩ := by
  unfold Rope.turn
  pointwise [val_main_v53]
  by_cases hd : d.val < 32
  · have h1 : (h.val * 64 + d.val) % 64 < 32 := by omega
    rw [dif_pos hd, dif_pos h1, q_first]
    have e1 : h.val * 64 + (32 + d.val) = h.val * 64 + d.val + 32 := by omega
    have e2 : (h.val * 64 + d.val) % 32 = d.val := by omega
    simp only [e1, e2]
  · have h1 : ¬(h.val * 64 + d.val) % 64 < 32 := by omega
    rw [dif_neg hd, dif_neg h1, q_second]
    have e1 : h.val * 64 + (32 + (d.val - 32)) = h.val * 64 + d.val := by omega
    have e2 : h.val * 64 + (d.val - 32) = h.val * 64 + d.val - 32 := by omega
    have e3 : (h.val * 64 + d.val) % 32 = d.val - 32 := by omega
    simp only [e1, e2, e3]

/-! The keys. -/

theorem k_in (b : Fin 2) (t : Fin 8192) (h : Fin 16) (d : Fin 64) : val_main_v55 (F := Ideal) x0 x1 x2 (ix4 b t h d)
    = z x0 x1 x2 b t ⟨1024 + (h.val * 64 + d.val), by omega⟩ := by
  pointwise [val_main_v55, val_main_v54]
  rw [parts_at]
  exact congrArg (z x0 x1 x2 b t) (Fin.ext (by simp))

theorem k_lo (b : Fin 2) (t : Fin 8192) (h : Fin 16) (k : Fin 32) : val_main_v72 (F := Ideal) x0 x1 x2 (ix4 b t h k)
    = z x0 x1 x2 b t ⟨1024 + (h.val * 64 + k.val), by omega⟩ := by
  refine Eq.trans (b := val_main_v55 (F := Ideal) x0 x1 x2 (ix4 b t h ⟨k.val, by omega⟩)) ?_ (k_in x0 x1 x2 b t h ⟨k.val, by omega⟩)
  rw [val_main_v72_apply]
  refine congrArg (val_main_v55 (F := Ideal) x0 x1 x2) (funext fun a => ?_)
  fin_cases a <;> rfl

theorem k_hi (b : Fin 2) (t : Fin 8192) (h : Fin 16) (k : Fin 32) : val_main_v73 (F := Ideal) x0 x1 x2 (ix4 b t h k)
    = z x0 x1 x2 b t ⟨1024 + (h.val * 64 + (32 + k.val)), by omega⟩ := by
  refine Eq.trans (b := val_main_v55 (F := Ideal) x0 x1 x2 (ix4 b t h ⟨32 + k.val, by omega⟩)) ?_ (k_in x0 x1 x2 b t h ⟨32 + k.val, by omega⟩)
  rw [val_main_v73_apply]
  refine congrArg (val_main_v55 (F := Ideal) x0 x1 x2) (funext fun a => ?_)
  fin_cases a <;> rfl

theorem k_cos (t : Fin 8192) (k : Fin 32) : val_main_v69 (F := Ideal) (ix3 t 0 k) = Ideal.cos (Rope.angle t.val k) := by
  rw [← angle_at']
  pointwise! [val_main_v69, val_main_v68]

theorem k_sin (t : Fin 8192) (k : Fin 32) : val_main_v71 (F := Ideal) (ix3 t 0 k) = Ideal.sin (Rope.angle t.val k) := by
  rw [← angle_at']
  pointwise! [val_main_v71, val_main_v70]

theorem k_cos1 (b : Fin 2) (t : Fin 8192) (h : Fin 16) (k : Fin 32) : val_main_v75 (F := Ideal) (ix4 b t h k) = Ideal.cos (Rope.angle t.val k) := by
  rw [← k_cos]
  pointwise! [val_main_v75, val_main_v74]

theorem k_cos2 (b : Fin 2) (t : Fin 8192) (h : Fin 16) (k : Fin 32) : val_main_v82 (F := Ideal) (ix4 b t h k) = Ideal.cos (Rope.angle t.val k) := by
  rw [← k_cos]
  pointwise! [val_main_v82, val_main_v81]

theorem k_sin1 (b : Fin 2) (t : Fin 8192) (h : Fin 16) (k : Fin 32) : val_main_v78 (F := Ideal) (ix4 b t h k) = Ideal.sin (Rope.angle t.val k) := by
  rw [← k_sin]
  pointwise! [val_main_v78, val_main_v77]

theorem k_sin2 (b : Fin 2) (t : Fin 8192) (h : Fin 16) (k : Fin 32) : val_main_v85 (F := Ideal) (ix4 b t h k) = Ideal.sin (Rope.angle t.val k) := by
  rw [← k_sin]
  pointwise! [val_main_v85, val_main_v84]

theorem k_first (b : Fin 2) (t : Fin 8192) (h : Fin 16) (k : Fin 32) : val_main_v80 (F := Ideal) x0 x1 x2 (ix4 b t h k)
    = z x0 x1 x2 b t ⟨1024 + (h.val * 64 + k.val), by omega⟩ * Ideal.cos (Rope.angle t.val k)
      - z x0 x1 x2 b t ⟨1024 + (h.val * 64 + (32 + k.val)), by omega⟩ * Ideal.sin (Rope.angle t.val k) := by
  pointwise [val_main_v80, val_main_v76, val_main_v79]
  simp only [k_lo, k_hi, k_cos1, k_sin1]

theorem k_second (b : Fin 2) (t : Fin 8192) (h : Fin 16) (k : Fin 32) : val_main_v87 (F := Ideal) x0 x1 x2 (ix4 b t h k)
    = z x0 x1 x2 b t ⟨1024 + (h.val * 64 + (32 + k.val)), by omega⟩ * Ideal.cos (Rope.angle t.val k)
      + z x0 x1 x2 b t ⟨1024 + (h.val * 64 + k.val), by omega⟩ * Ideal.sin (Rope.angle t.val k) := by
  pointwise [val_main_v87, val_main_v83, val_main_v86]
  simp only [k_lo, k_hi, k_cos2, k_sin2]

theorem k_at (b : Fin 2) (t : Fin 8192) (h : Fin 16) (d : Fin 64) : val_main_v88 (F := Ideal) x0 x1 x2 (ix4 b t h d)
    = Rope.turn (fun k => z x0 x1 x2 b t ⟨1024 + k.val, by omega⟩) (fun k => Ideal.cos (Rope.angle t.val k))
        (fun k => Ideal.sin (Rope.angle t.val k)) ⟨h.val * 64 + d.val, by omega⟩ := by
  unfold Rope.turn
  pointwise [val_main_v88]
  by_cases hd : d.val < 32
  · have h1 : (h.val * 64 + d.val) % 64 < 32 := by omega
    rw [dif_pos hd, dif_pos h1, k_first]
    have e1 : h.val * 64 + (32 + d.val) = h.val * 64 + d.val + 32 := by omega
    have e2 : (h.val * 64 + d.val) % 32 = d.val := by omega
    simp only [e1, e2]
  · have h1 : ¬(h.val * 64 + d.val) % 64 < 32 := by omega
    rw [dif_neg hd, dif_neg h1, k_second]
    have e1 : h.val * 64 + (32 + (d.val - 32)) = h.val * 64 + d.val := by omega
    have e2 : h.val * 64 + (d.val - 32) = h.val * 64 + d.val - 32 := by omega
    have e3 : (h.val * 64 + d.val) % 32 = d.val - 32 := by omega
    simp only [e1, e2, e3]

/-! The values, and the three laid side by side in their streams. -/

theorem v_at (b : Fin 2) (t : Fin 8192) (h : Fin 16) (d : Fin 64) : val_main_v90 (F := Ideal) x0 x1 x2 (ix4 b t h d)
    = z x0 x1 x2 b t ⟨2048 + (h.val * 64 + d.val), by omega⟩ := by
  pointwise [val_main_v90, val_main_v89]
  rw [parts_at]
  exact congrArg (z x0 x1 x2 b t) (Fin.ext (by simp))

theorem one_91 (b : Fin 2) (t : Fin 8192) (h : Fin 16) (d : Fin 64) : val_main_v91 (F := Ideal) x0 x1 x2 (ix5 b t 0 h d)
    = val_main_v53 (F := Ideal) x0 x1 x2 (ix4 b t h d) := by
  rw [val_main_v91_apply]
  refine congrArg (val_main_v53 (F := Ideal) x0 x1 x2) (funext fun a => ?_)
  fin_cases a <;> rfl

theorem one_92 (b : Fin 2) (t : Fin 8192) (h : Fin 16) (d : Fin 64) : val_main_v92 (F := Ideal) x0 x1 x2 (ix5 b t 0 h d)
    = val_main_v88 (F := Ideal) x0 x1 x2 (ix4 b t h d) := by
  rw [val_main_v92_apply]
  refine congrArg (val_main_v88 (F := Ideal) x0 x1 x2) (funext fun a => ?_)
  fin_cases a <;> rfl

theorem one_93 (b : Fin 2) (t : Fin 8192) (h : Fin 16) (d : Fin 64) : val_main_v93 (F := Ideal) x0 x1 x2 (ix5 b t 0 h d)
    = val_main_v90 (F := Ideal) x0 x1 x2 (ix4 b t h d) := by
  rw [val_main_v93_apply]
  refine congrArg (val_main_v90 (F := Ideal) x0 x1 x2) (funext fun a => ?_)
  fin_cases a <;> rfl

theorem stack_at (b : Fin 2) (t : Fin 8192) (p : Fin 3) (h : Fin 16) (d : Fin 64) : val_main_v94 (F := Ideal) x0 x1 x2 (ix5 b t p h d)
    = if p.val < 1 then val_main_v53 (F := Ideal) x0 x1 x2 (ix4 b t h d) else if p.val - 1 < 1 then val_main_v88 (F := Ideal) x0 x1 x2 (ix4 b t h d)
      else val_main_v90 (F := Ideal) x0 x1 x2 (ix4 b t h d) := by
  rw [← one_91, ← one_92, ← one_93]
  unfold val_main_v94
  generalize val_main_v91 (F := Ideal) x0 x1 x2 = q
  generalize val_main_v92 (F := Ideal) x0 x1 x2 = k
  generalize val_main_v93 (F := Ideal) x0 x1 x2 = v
  pointwise
  split_ifs <;> first
    | exact congrArg (fun a => q (ix5 b t a h d)) (Subsingleton.elim _ _)
    | exact congrArg (fun a => k (ix5 b t a h d)) (Subsingleton.elim _ _)
    | exact congrArg (fun a => v (ix5 b t a h d)) (Subsingleton.elim _ _)

theorem fold_at (b : Fin 2) (j : Fin 512) (a : Fin 16) (l : Fin 3072) : val_main_v95 (F := Ideal) x0 x1 x2 (ix4 b j a l)
    = val_main_v94 (F := Ideal) x0 x1 x2 (ix5 b ⟨j.val * 16 + a.val, by omega⟩ ⟨l.val / 1024, by omega⟩ ⟨l.val / 64 % 16, by omega⟩ ⟨l.val % 64, by omega⟩) := by
  pointwise! [val_main_v95]

theorem row_at (b : Fin 2) (a : Fin 16) (j : Fin 512) (l : Fin 3072) : val_main_v96 (F := Ideal) x0 x1 x2 (ix4 b a j l)
    = Rope.row (Row.norm (fun k => x0 (ix3 b ⟨j.val * 16 + a.val, by omega⟩ k)) fun k => x1 (ix1 k)) (fun k f => x2 (ix2 k ⟨2 * 3072 + f.val, by omega⟩))
        (fun k => Ideal.cos (Rope.angle (j.val * 16 + a.val) k)) (fun k => Ideal.sin (Rope.angle (j.val * 16 + a.val) k)) l := by
  refine Eq.trans (b := val_main_v95 (F := Ideal) x0 x1 x2 (ix4 b j a l)) ?_ ?_
  · rw [val_main_v96_apply]
    refine congrArg (val_main_v95 (F := Ideal) x0 x1 x2) (funext fun a => ?_)
    fin_cases a <;> rfl
  rw [fold_at, stack_at]
  unfold Rope.row
  by_cases h1 : l.val < 1024
  · have c1 : l.val / 1024 < 1 := by omega
    have e : l.val / 64 % 16 * 64 + l.val % 64 = l.val := by omega
    rw [if_pos c1, dif_pos h1, q_at]
    simp only [e]
    rfl
  · have c1 : ¬l.val / 1024 < 1 := by omega
    rw [if_neg c1, dif_neg h1]
    by_cases h2 : l.val < 2048
    · have c2 : l.val / 1024 - 1 < 1 := by omega
      have e : l.val / 64 % 16 * 64 + l.val % 64 = l.val - 1024 := by omega
      rw [if_pos c2, dif_pos h2, k_at]
      simp only [e, z]
    · have c2 : ¬l.val / 1024 - 1 < 1 := by omega
      have e : 2048 + (l.val / 64 % 16 * 64 + l.val % 64) = l.val := by omega
      rw [if_neg c2, dif_neg h2, v_at]
      simp only [e, z]

end Cert.Qkv16RefIdeal.Pure

end
-- ==== Proof.Qkv16Claim.lean ====
module

public import proofs.«01_k».proof.Proof.Qkv16Final
public import proofs.«01_k».proof.Proof.Qkv16Ref
public import proofs.«01_k».proof.Defs

@[expose] public section

set_option maxRecDepth 16384

noncomputable section

namespace Cert.Qkv16Claim

open Idealize.ShloMosaic Idealize.SL.Sem
open Cert.Qkv16Ideal

theorem ref_eq (x : Vec Ideal S2x8192x1024 .f32) (g : Vec Ideal S1024 .f32) (w : Vec Ideal S1024x9216 .f32) :
    Cert.Qkv16RefIdeal.Read.val_main_v96 (F := Ideal) x g w = fun i => Pure.result x g w (i 0) (i 1) (i 2) (i 3) := by
  funext i
  obtain ⟨b, a, j, l, rfl⟩ : ∃ (b : Fin 2) (a : Fin 16) (j : Fin 512) (l : Fin 3072), i = ix4 b a j l := ⟨i 0, i 1, i 2, i 3, eq_ix4 i⟩
  refine (Cert.Qkv16RefIdeal.Pure.row_at x g w b a j l).trans ?_
  rfl

theorem same : Cert.algebraic_Qkv16Ideal_Qkv16RefIdeal := by
  pair_intro
  · run_from Cert.Qkv16Ideal.Gen.run_main m g
  · refine θ_run_mono (Cert.Qkv16RefIdeal.Value.run m' g') fun r h c => ⟨(h c).1.trans ?_, (h c).2⟩
    rw [Cert.Qkv16RefIdeal.Read.val_main_v96_eq, (hagree c).1, (hagree c).2.1, (hagree c).2.2, Pure.final]
    exact ref_eq _ _ _

end Cert.Qkv16Claim

end
-- ==== Proof.lean ====
/- The claims: frames, preservation and the equality of results with the mathematics, of each call. -/
module

public import proofs.«01_k».proof.Defs
public import proofs.«01_k».proof.Proof.Gen.Band1
public import proofs.«01_k».proof.Proof.Gen.Band1.Skeleton
public import proofs.«01_k».proof.Proof.Gen.Band1.Launch
public import proofs.«01_k».proof.Proof.Gen.Band1.Points
public import proofs.«01_k».proof.Proof.Gen.Band1.Frame
public import proofs.«01_k».proof.Proof.Gen.Band1Ideal
public import proofs.«01_k».proof.Proof.Gen.Band1Ideal.Skeleton
public import proofs.«01_k».proof.Proof.Gen.Band1Ideal.Launch
public import proofs.«01_k».proof.Proof.Gen.Band1Ideal.Points
public import proofs.«01_k».proof.Proof.Gen.Band1Ideal.Frame
public import proofs.«01_k».proof.Proof.Gen.Band1Ideal.Value
public import proofs.«01_k».proof.Proof.Gen.Band1RefIdeal
public import proofs.«01_k».proof.Proof.Gen.Band1RefIdeal.Run
public import proofs.«01_k».proof.Proof.Gen.Band1RefIdeal.Read
public import proofs.«01_k».proof.Proof.Gen.Band4
public import proofs.«01_k».proof.Proof.Gen.Band4.Skeleton
public import proofs.«01_k».proof.Proof.Gen.Band4.Launch
public import proofs.«01_k».proof.Proof.Gen.Band4.Points
public import proofs.«01_k».proof.Proof.Gen.Band4.Frame
public import proofs.«01_k».proof.Proof.Gen.Band4Ideal
public import proofs.«01_k».proof.Proof.Gen.Band4Ideal.Skeleton
public import proofs.«01_k».proof.Proof.Gen.Band4Ideal.Launch
public import proofs.«01_k».proof.Proof.Gen.Band4Ideal.Points
public import proofs.«01_k».proof.Proof.Gen.Band4Ideal.Frame
public import proofs.«01_k».proof.Proof.Gen.Band4Ideal.Value
public import proofs.«01_k».proof.Proof.Gen.Band4RefIdeal
public import proofs.«01_k».proof.Proof.Gen.Band4RefIdeal.Run
public import proofs.«01_k».proof.Proof.Gen.Band4RefIdeal.Read
public import proofs.«01_k».proof.Proof.Gen.Band16
public import proofs.«01_k».proof.Proof.Gen.Band16.Skeleton
public import proofs.«01_k».proof.Proof.Gen.Band16.Launch
public import proofs.«01_k».proof.Proof.Gen.Band16.Points
public import proofs.«01_k».proof.Proof.Gen.Band16.Frame
public import proofs.«01_k».proof.Proof.Gen.Band16Ideal
public import proofs.«01_k».proof.Proof.Gen.Band16Ideal.Skeleton
public import proofs.«01_k».proof.Proof.Gen.Band16Ideal.Launch
public import proofs.«01_k».proof.Proof.Gen.Band16Ideal.Points
public import proofs.«01_k».proof.Proof.Gen.Band16Ideal.Frame
public import proofs.«01_k».proof.Proof.Gen.Band16Ideal.Value
public import proofs.«01_k».proof.Proof.Gen.Band16RefIdeal
public import proofs.«01_k».proof.Proof.Gen.Band16RefIdeal.Run
public import proofs.«01_k».proof.Proof.Gen.Band16RefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnFinalIdeal.Value
public import proofs.«01_k».proof.Proof.Gen.FfnFinalRefIdeal
public import proofs.«01_k».proof.Proof.Gen.FfnFinalRefIdeal.Run
public import proofs.«01_k».proof.Proof.Gen.FfnFinalRefIdeal.Read
public import proofs.«01_k».proof.Proof.Gen.Qkv1
public import proofs.«01_k».proof.Proof.Gen.Qkv1.Skeleton
public import proofs.«01_k».proof.Proof.Gen.Qkv1.Launch
public import proofs.«01_k».proof.Proof.Gen.Qkv1.Points
public import proofs.«01_k».proof.Proof.Gen.Qkv1.Frame
public import proofs.«01_k».proof.Proof.Gen.Qkv1Ideal
public import proofs.«01_k».proof.Proof.Gen.Qkv1Ideal.Skeleton
public import proofs.«01_k».proof.Proof.Gen.Qkv1Ideal.Launch
public import proofs.«01_k».proof.Proof.Gen.Qkv1Ideal.Points
public import proofs.«01_k».proof.Proof.Gen.Qkv1Ideal.Frame
public import proofs.«01_k».proof.Proof.Gen.Qkv1Ideal.Value
public import proofs.«01_k».proof.Proof.Gen.Qkv1RefIdeal
public import proofs.«01_k».proof.Proof.Gen.Qkv1RefIdeal.Run
public import proofs.«01_k».proof.Proof.Gen.Qkv1RefIdeal.Read
public import proofs.«01_k».proof.Proof.Gen.Qkv4
public import proofs.«01_k».proof.Proof.Gen.Qkv4.Skeleton
public import proofs.«01_k».proof.Proof.Gen.Qkv4.Launch
public import proofs.«01_k».proof.Proof.Gen.Qkv4.Points
public import proofs.«01_k».proof.Proof.Gen.Qkv4.Frame
public import proofs.«01_k».proof.Proof.Gen.Qkv4Ideal
public import proofs.«01_k».proof.Proof.Gen.Qkv4Ideal.Skeleton
public import proofs.«01_k».proof.Proof.Gen.Qkv4Ideal.Launch
public import proofs.«01_k».proof.Proof.Gen.Qkv4Ideal.Points
public import proofs.«01_k».proof.Proof.Gen.Qkv4Ideal.Frame
public import proofs.«01_k».proof.Proof.Gen.Qkv4Ideal.Value
public import proofs.«01_k».proof.Proof.Gen.Qkv4RefIdeal
public import proofs.«01_k».proof.Proof.Gen.Qkv4RefIdeal.Run
public import proofs.«01_k».proof.Proof.Gen.Qkv4RefIdeal.Read
public import proofs.«01_k».proof.Proof.Gen.Qkv16
public import proofs.«01_k».proof.Proof.Gen.Qkv16.Skeleton
public import proofs.«01_k».proof.Proof.Gen.Qkv16.Launch
public import proofs.«01_k».proof.Proof.Gen.Qkv16.Points
public import proofs.«01_k».proof.Proof.Gen.Qkv16.Frame
public import proofs.«01_k».proof.Proof.Gen.Qkv16Ideal
public import proofs.«01_k».proof.Proof.Gen.Qkv16Ideal.Skeleton
public import proofs.«01_k».proof.Proof.Gen.Qkv16Ideal.Launch
public import proofs.«01_k».proof.Proof.Gen.Qkv16Ideal.Points
public import proofs.«01_k».proof.Proof.Gen.Qkv16Ideal.Frame
public import proofs.«01_k».proof.Proof.Gen.Qkv16Ideal.Value
public import proofs.«01_k».proof.Proof.Gen.Qkv16RefIdeal
public import proofs.«01_k».proof.Proof.Gen.Qkv16RefIdeal.Run
public import proofs.«01_k».proof.Proof.Gen.Qkv16RefIdeal.Read
public import proofs.«01_k».proof.Proof.Gen.Pre_finite1
public import proofs.«01_k».proof.Proof.Gen.Pre_finite4
public import proofs.«01_k».proof.Proof.Gen.Pre_finite16
public import proofs.«01_k».proof.Proof.RefFrames
public import proofs.«01_k».proof.Proof.Band1Claim
public import proofs.«01_k».proof.Proof.Band4Claim
public import proofs.«01_k».proof.Proof.Band16Claim
public import proofs.«01_k».proof.Proof.FfnClaim
public import proofs.«01_k».proof.Proof.FfnFinalClaim
public import proofs.«01_k».proof.Proof.Qkv1Claim
public import proofs.«01_k».proof.Proof.Qkv4Claim
public import proofs.«01_k».proof.Proof.Qkv16Claim
public import Idealize.ShloMosaic.Adequacy
public import Idealize.ShloMosaic.Init

@[expose] public section

noncomputable section

namespace Cert.Proof

open Idealize.ShloMosaic Idealize.SL.Sem

theorem claim : Cert.Claim := ⟨Cert.Band1.Gen.facts, Cert.Band1Ideal.Gen.facts, Cert.Band1RefIdeal.Gen.facts, Cert.Band4.Gen.facts, Cert.Band4Ideal.Gen.facts, Cert.Band4RefIdeal.Gen.facts, Cert.Band16.Gen.facts, Cert.Band16Ideal.Gen.facts, Cert.Band16RefIdeal.Gen.facts, Cert.Ffn.Gen.facts, Cert.FfnIdeal.Gen.facts, Cert.FfnRefIdeal.Gen.facts, Cert.FfnFinal.Gen.facts, Cert.FfnFinalIdeal.Gen.facts, Cert.FfnFinalRefIdeal.Gen.facts, Cert.Qkv1.Gen.facts, Cert.Qkv1Ideal.Gen.facts, Cert.Qkv1RefIdeal.Gen.facts, Cert.Qkv4.Gen.facts, Cert.Qkv4Ideal.Gen.facts, Cert.Qkv4RefIdeal.Gen.facts, Cert.Qkv16.Gen.facts, Cert.Qkv16Ideal.Gen.facts, Cert.Qkv16RefIdeal.Gen.facts, Cert.Pre_finite1.Gen.facts, Cert.Pre_finite4.Gen.facts, Cert.Pre_finite16.Gen.facts,
  fun m ρ _ => Cert.Band1.Gen.frame m ρ, fun m ρ _ => Cert.Band1Ideal.Gen.frame m ρ, fun m ρ _ => Cert.Band1Ideal.Gen.frame m ρ, Cert.RefFrames.band1, Cert.RefFrames.band1_pre,
  fun m ρ _ => Cert.Band4.Gen.frame m ρ, fun m ρ _ => Cert.Band4Ideal.Gen.frame m ρ, fun m ρ _ => Cert.Band4Ideal.Gen.frame m ρ, Cert.RefFrames.band4, Cert.RefFrames.band4_pre,
  fun m ρ _ => Cert.Band16.Gen.frame m ρ, fun m ρ _ => Cert.Band16Ideal.Gen.frame m ρ, fun m ρ _ => Cert.Band16Ideal.Gen.frame m ρ, Cert.RefFrames.band16, Cert.RefFrames.band16_pre,
  fun m ρ _ => Cert.Ffn.Gen.frame m ρ, fun m ρ _ => Cert.FfnIdeal.Gen.frame m ρ, Cert.RefFrames.ffn,
  fun m ρ _ => Cert.FfnFinal.Gen.frame m ρ, fun m ρ _ => Cert.FfnFinalIdeal.Gen.frame m ρ, Cert.RefFrames.ffnFinal,
  fun m ρ _ => Cert.Qkv1.Gen.frame m ρ, fun m ρ _ => Cert.Qkv1Ideal.Gen.frame m ρ, Cert.RefFrames.qkv1,
  fun m ρ _ => Cert.Qkv4.Gen.frame m ρ, fun m ρ _ => Cert.Qkv4Ideal.Gen.frame m ρ, Cert.RefFrames.qkv4,
  fun m ρ _ => Cert.Qkv16.Gen.frame m ρ, fun m ρ _ => Cert.Qkv16Ideal.Gen.frame m ρ, Cert.RefFrames.qkv16,
  IdealRules.named_const.statement Cert.Band1Ideal.κ "mask" .f32 0xF149F2CA#32 ⊥ rfl, Cert.Band1Claim.same,
  IdealRules.named_const.statement Cert.Band4Ideal.κ "mask" .f32 0xF149F2CA#32 ⊥ rfl, Cert.Band4Claim.same,
  IdealRules.named_const.statement Cert.Band16Ideal.κ "mask" .f32 0xF149F2CA#32 ⊥ rfl, Cert.Band16Claim.same,
  trivial, Cert.FfnClaim.same,
  trivial, Cert.FfnFinalClaim.same,
  trivial, Cert.Qkv1Claim.same,
  trivial, Cert.Qkv4Claim.same,
  trivial, Cert.Qkv16Claim.same⟩

end Cert.Proof

end
